-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_some_choice [hPre_some_choice : Cert.Pre_some_choice.Facts] (m : (ℓ : Loc Cert.KernelIdeal.nD Cert.KernelIdeal.τ Cert.KernelIdeal.sig) → Buf (Elt Ideal) ℓ) : Prop :=
  ∀ c : Dev Cert.KernelIdeal.nD,
    (Cert.Pre_some_choice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_some_choice [hPre_some_choice : Cert.Pre_some_choice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_some_choice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_some_choice [hKernelIdeal : Cert.KernelIdeal.Facts] [hPre_some_choice : Cert.Pre_some_choice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_some_choice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_some_choice [hReferenceIdeal : Cert.ReferenceIdeal.Facts] [hPre_some_choice : Cert.Pre_some_choice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_some_choice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_some_choice [hKernelIdeal : Cert.KernelIdeal.Facts] [hReferenceIdeal : Cert.ReferenceIdeal.Facts] [hPre_some_choice : Cert.Pre_some_choice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_some_choice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v161) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_some_choice : Cert.Pre_some_choice.Facts),
    quiescent_Kernel (hKernel := hKernel)
    ∧ quiescent_KernelIdeal (hKernelIdeal := hKernelIdeal)
    ∧ quiescent_KernelIdeal_pre_some_choice (hKernelIdeal := hKernelIdeal) (hPre_some_choice := hPre_some_choice)
    ∧ quiescent_ReferenceIdeal (hReferenceIdeal := hReferenceIdeal)
    ∧ quiescent_ReferenceIdeal_pre_some_choice (hReferenceIdeal := hReferenceIdeal) (hPre_some_choice := hPre_some_choice)
    ∧ preserves_Kernel_KernelIdeal
    ∧ algebraic_KernelIdeal_ReferenceIdeal_pre_some_choice (hKernelIdeal := hKernelIdeal) (hReferenceIdeal := hReferenceIdeal) (hPre_some_choice := hPre_some_choice)
-- ==== Pre_some_choice.lean ====
abbrev S48x1x3072 : Shape := ⟨3, ![48, 1, 3072]⟩
abbrev S48x1x2 : Shape := ⟨3, ![48, 1, 2]⟩
abbrev S4x3072x7168 : Shape := ⟨3, ![4, 3072, 7168]⟩
abbrev S4x3072x224 : Shape := ⟨3, ![4, 3072, 224]⟩
abbrev S4x14336x1536 : Shape := ⟨3, ![4, 14336, 1536]⟩
abbrev S4x14336x48 : Shape := ⟨3, ![4, 14336, 48]⟩
abbrev S96x1 : Shape := ⟨2, ![96, 1]⟩
abbrev S4 : Shape := ⟨1, ![4]⟩
abbrev S1x4 : Shape := ⟨2, ![1, 4]⟩
abbrev S96x4 : Shape := ⟨2, ![96, 4]⟩
abbrev S_ : Shape := ⟨0, ![]⟩

class Facts : Prop where
  shapeCasts_S48x1x2_S96x1 : S48x1x2.ShapeCasts S96x1
  bcast_S4_S1x4_1 : S4.BroadcastsInDim S1x4 (![1] : Fin 1 → Fin S1x4.rank)
  bcast_S96x1_S96x4_0_1 : S96x1.BroadcastsInDim S96x4 (![0, 1] : Fin 2 → Fin S96x4.rank)
  bcast_S1x4_S96x4_0_1 : S1x4.BroadcastsInDim S96x4 (![0, 1] : Fin 2 → Fin S96x4.rank)
  reducesTo_S96x4_S_d0_1 : S96x4.ReducesTo [0, 1] S_
  h_S_ : 0 < S_.numel

variable [Facts]

def fn {F : FTy → Type} [FloatOps F] (main_arg0 : FVec F S48x1x3072 .bf16) (main_arg1 : IVec S48x1x2 32) (main_arg2 : FVec F S48x1x2 .f32) (main_arg3 : IVec S4x3072x7168 8) (main_arg4 : FVec F S4x3072x224 .f32) (main_arg5 : IVec S4x3072x7168 8) (main_arg6 : FVec F S4x3072x224 .f32) (main_arg7 : IVec S4x14336x1536 8) (main_arg8 : FVec F S4x14336x48 .f32) : IVec S_ 1 :=
  let main_v0 : IVec S96x1 32 := shapeCast S96x1 main_arg1 shapeCasts_S48x1x2_S96x1
  let main_v1 : IVec S4 32 := iotaInDim S4 32 0
  let main_v2 : IVec S1x4 32 := broadcastInDim S1x4 ![1] bcast_S4_S1x4_1 main_v1
  let main_v3 : IVec S96x4 32 := broadcastInDim S96x4 ![0, 1] bcast_S96x1_S96x4_0_1 main_v0
  let main_v4 : IVec S96x4 32 := broadcastInDim S96x4 ![0, 1] bcast_S1x4_S96x4_0_1 main_v2
  let main_v5 : IVec S96x4 1 := cmpi .eq main_v3 main_v4
  let main_c : IVec S_ 1 := constantI S_ 1 0#1
  let main_v6 : IVec S_ 1 := (fun x v => Host.reduce IntOp.ori x v reducesTo_S96x4_S_d0_1 h_S_) main_v5 main_c
  main_v6
-- ==== Kernel.lean ====
abbrev S48x1x3072 : Shape := ⟨3, ![48, 1, 3072]⟩
abbrev S48x1x2 : Shape := ⟨3, ![48, 1, 2]⟩
abbrev S4x3072x7168 : Shape := ⟨3, ![4, 3072, 7168]⟩
abbrev S4x3072x224 : Shape := ⟨3, ![4, 3072, 224]⟩
abbrev S4x14336x1536 : Shape := ⟨3, ![4, 14336, 1536]⟩
abbrev S4x14336x48 : Shape := ⟨3, ![4, 14336, 48]⟩
abbrev S2x32 : Shape := ⟨2, ![2, 32]⟩
abbrev S2x32x128 : Shape := ⟨3, ![2, 32, 128]⟩
abbrev S48x1536x2 : Shape := ⟨3, ![48, 1536, 2]⟩
abbrev S2x48x1536 : Shape := ⟨3, ![2, 48, 1536]⟩
abbrev S48x2 : Shape := ⟨2, ![48, 2]⟩
abbrev S96x1 : Shape := ⟨2, ![96, 1]⟩
abbrev S4 : Shape := ⟨1, ![4]⟩
abbrev S1x4 : Shape := ⟨2, ![1, 4]⟩
abbrev S96x4 : Shape := ⟨2, ![96, 4]⟩
abbrev S_ : Shape := ⟨0, ![]⟩
abbrev S1x3072x512 : Shape := ⟨3, ![1, 3072, 512]⟩
abbrev S1 : Shape := ⟨1, ![1]⟩
abbrev S1x3072x224 : Shape := ⟨3, ![1, 3072, 224]⟩
abbrev S1x1024x1536 : Shape := ⟨3, ![1, 1024, 1536]⟩
abbrev S1x1024x48 : Shape := ⟨3, ![1, 1024, 48]⟩
abbrev S2x48x512 : Shape := ⟨3, ![2, 48, 512]⟩
abbrev S32x128 : Shape := ⟨2, ![32, 128]⟩
abbrev S2x2x1536x128 : Shape := ⟨4, ![2, 2, 1536, 128]⟩
abbrev S2x1x512x128 : Shape := ⟨4, ![2, 1, 512, 128]⟩
abbrev S1x32x128 : Shape := ⟨3, ![1, 32, 128]⟩
abbrev S256x128 : Shape := ⟨2, ![256, 128]⟩
abbrev S16x128 : Shape := ⟨2, ![16, 128]⟩
abbrev S1x1x16x128 : Shape := ⟨4, ![1, 1, 16, 128]⟩
abbrev S1x32x96 : Shape := ⟨3, ![1, 32, 96]⟩
abbrev S32x96 : Shape := ⟨2, ![32, 96]⟩
abbrev S1x32x48 : Shape := ⟨3, ![1, 32, 48]⟩
abbrev S32x48 : Shape := ⟨2, ![32, 48]⟩
abbrev S48x256 : Shape := ⟨2, ![48, 256]⟩
abbrev S1x512x128 : Shape := ⟨3, ![1, 512, 128]⟩
abbrev S512x128 : Shape := ⟨2, ![512, 128]⟩
abbrev S128x128 : Shape := ⟨2, ![128, 128]⟩
abbrev S1x1x256x128 : Shape := ⟨4, ![1, 1, 256, 128]⟩
abbrev S256x128x1 : Shape := ⟨3, ![256, 128, 1]⟩
abbrev S512x128x1 : Shape := ⟨3, ![512, 128, 1]⟩
abbrev S32x128x1 : Shape := ⟨3, ![32, 128, 1]⟩
abbrev S256x256 : Shape := ⟨2, ![256, 256]⟩
abbrev S1x48x256 : Shape := ⟨3, ![1, 48, 256]⟩
abbrev S48 : Shape := ⟨1, ![48]⟩
abbrev S48x1 : Shape := ⟨2, ![48, 1]⟩
abbrev S1x48x1536 : Shape := ⟨3, ![1, 48, 1536]⟩
abbrev S48x1536 : Shape := ⟨2, ![48, 1536]⟩

abbrev nBuf : Space → Nat
  | .hbm => 33
  | .vmem => 23
  | .smem => 2
  | _ => 0

abbrev bufTy : (tb : Table) → Fin (tcTables nBuf tb) → BufTy
  | .hbm, ⟨0, _⟩ => ⟨S48x1x3072, .bf16⟩
  | .hbm, ⟨1, _⟩ => ⟨S48x1x2, .i32⟩
  | .hbm, ⟨2, _⟩ => ⟨S48x1x2, .f32⟩
  | .hbm, ⟨3, _⟩ => ⟨S4x3072x7168, .i8⟩
  | .hbm, ⟨4, _⟩ => ⟨S4x3072x224, .f32⟩
  | .hbm, ⟨5, _⟩ => ⟨S4x3072x7168, .i8⟩
  | .hbm, ⟨6, _⟩ => ⟨S4x3072x224, .f32⟩
  | .hbm, ⟨7, _⟩ => ⟨S4x14336x1536, .i8⟩
  | .hbm, ⟨8, _⟩ => ⟨S4x14336x48, .f32⟩
  | .hbm, ⟨9, _⟩ => ⟨S2x32, .i8⟩
  | .hbm, ⟨10, _⟩ => ⟨S2x32x128, .i8⟩
  | .hbm, ⟨11, _⟩ => ⟨S48x1536x2, .bf16⟩
  | .hbm, ⟨12, _⟩ => ⟨S2x48x1536, .bf16⟩
  | .hbm, ⟨13, _⟩ => ⟨S48x2, .i32⟩
  | .hbm, ⟨14, _⟩ => ⟨S96x1, .i32⟩
  | .hbm, ⟨15, _⟩ => ⟨S4, .i32⟩
  | .hbm, ⟨16, _⟩ => ⟨S1x4, .i32⟩
  | .hbm, ⟨17, _⟩ => ⟨S96x4, .i32⟩
  | .hbm, ⟨18, _⟩ => ⟨S96x4, .i32⟩
  | .hbm, ⟨19, _⟩ => ⟨S96x4, .i1⟩
  | .hbm, ⟨20, _⟩ => ⟨S_, .i1⟩
  | .hbm, ⟨21, _⟩ => ⟨S4, .i1⟩
  | .hbm, ⟨22, _⟩ => ⟨S_, .i32⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4, .i32⟩
  | .hbm, ⟨27, _⟩ => ⟨S4, .i32⟩
  | .hbm, ⟨28, _⟩ => ⟨S4, .i32⟩
  | .hbm, ⟨29, _⟩ => ⟨S4, .i32⟩
  | .hbm, ⟨30, _⟩ => ⟨S_, .i32⟩
  | .hbm, ⟨31, _⟩ => ⟨S48x2, .f32⟩
  | .hbm, ⟨32, _⟩ => ⟨S2x48x1536, .f32⟩
  | .local _ .vmem, ⟨0, _⟩ => ⟨S2x48x1536, .bf16⟩
  | .local _ .vmem, ⟨1, _⟩ => ⟨S48x2, .i32⟩
  | .local _ .vmem, ⟨2, _⟩ => ⟨S48x2, .f32⟩
  | .local _ .vmem, ⟨3, _⟩ => ⟨S2x32x128, .i8⟩
  | .local _ .vmem, ⟨4, _⟩ => ⟨S1x3072x512, .i8⟩
  | .local _ .vmem, ⟨5, _⟩ => ⟨S1x3072x512, .i8⟩
  | .local _ .vmem, ⟨6, _⟩ => ⟨S1x3072x224, .f32⟩
  | .local _ .vmem, ⟨7, _⟩ => ⟨S1x3072x224, .f32⟩
  | .local _ .vmem, ⟨8, _⟩ => ⟨S1x3072x512, .i8⟩
  | .local _ .vmem, ⟨9, _⟩ => ⟨S1x3072x512, .i8⟩
  | .local _ .vmem, ⟨10, _⟩ => ⟨S1x3072x224, .f32⟩
  | .local _ .vmem, ⟨11, _⟩ => ⟨S1x3072x224, .f32⟩
  | .local _ .vmem, ⟨12, _⟩ => ⟨S1x1024x1536, .i8⟩
  | .local _ .vmem, ⟨13, _⟩ => ⟨S1x1024x1536, .i8⟩
  | .local _ .vmem, ⟨14, _⟩ => ⟨S1x1024x48, .f32⟩
  | .local _ .vmem, ⟨15, _⟩ => ⟨S1x1024x48, .f32⟩
  | .local _ .vmem, ⟨16, _⟩ => ⟨S2x48x1536, .f32⟩
  | .local _ .vmem, ⟨17, _⟩ => ⟨S2x48x512, .bf16⟩
  | .local _ .vmem, ⟨18, _⟩ => ⟨S2x48x1536, .f32⟩
  | .local _ .vmem, ⟨19, _⟩ => ⟨S32x128, .f32⟩
  | .local _ .vmem, ⟨20, _⟩ => ⟨S2x2x1536x128, .bf16⟩
  | .local _ .vmem, ⟨21, _⟩ => ⟨S2x2x1536x128, .bf16⟩
  | .local _ .vmem, ⟨22, _⟩ => ⟨S2x1x512x128, .bf16⟩
  | .local _ .smem, ⟨0, _⟩ => ⟨S_, .i32⟩
  | .local _ .smem, ⟨1, _⟩ => ⟨S4, .i32⟩
  | _, _ => ⟨S48x1x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_v10 : Ref sig .tc := ⟨.hbm, 21, rfl⟩
abbrev main_c_1 : Ref sig .tc := ⟨.hbm, 22, rfl⟩
abbrev main_c_2 : Ref sig .tc := ⟨.hbm, 23, rfl⟩
abbrev main_call0_v0 : Ref sig .tc := ⟨.hbm, 24, rfl⟩
abbrev main_call0_v1 : Ref sig .tc := ⟨.hbm, 25, rfl⟩
abbrev main_v11 : Ref sig .tc := ⟨.hbm, 26, rfl⟩
abbrev main_call1_v0 : Ref sig .tc := ⟨.hbm, 27, rfl⟩
abbrev main_call1_v1_0 : Ref sig .tc := ⟨.hbm, 28, rfl⟩
abbrev main_v13 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v14 : Ref sig .tc := ⟨.smem, 0, rfl⟩
abbrev main_v12 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_scratch3 : Ref sig .tc := ⟨.vmem, 20, rfl⟩
abbrev cc0_scratch4 : Ref sig .tc := ⟨.vmem, 21, rfl⟩
abbrev cc0_scratch5 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![0, 14], ![true, false]⟩

abbrev pre0 : Pipeline.Prefetch sig := ⟨2, ![main_v14.idx, main_v12.idx], fun | 0 => main_v14.names | 1 => main_v12.names | ⟨_ + 2, h⟩ => absurd h (Nat.not_lt.2 (Nat.le_add_left _ _)), fun | 0 => rfl | 1 => rfl | ⟨_ + 2, h⟩ => absurd h (Nat.not_lt.2 (Nat.le_add_left _ _))⟩

def dynb0 (pf : pre0.Contents (Elt F)) : grid0.Bounds := ![(pf 0 fun a => a.elim0).toNat, 14]

def k0_off1 (b : grid0.Bounds) (i : (grid0.at b).Coords) : Fin 1 → Nat :=
  let arg0 : BitVec 32 := BitVec.ofNat 32 (i 0).val
  let v0 : Index := Scalar.indexCast arg0
  ![v0.toNat]

def k0_cond2 (i : grid0.Static) : BitVec 1 :=
  let arg1 : BitVec 32 := BitVec.ofNat 32 (i 1).val
  let c0_i32_11 : BitVec 32 := 0#32
  let v34 : BitVec 1 := Scalar.cmpi .eq arg1 c0_i32_11
  let v35 : BitVec 32 := Scalar.extui v34
  let c0_i32_12 : BitVec 32 := 0#32
  let v36 : BitVec 1 := Scalar.cmpi .ne v35 c0_i32_12
  v36

@[reducible] def k0_t1_loop : Scf.Loop 32 :=
  let c0_i32_33 : BitVec 32 := 0#32
  let c96_i32 : BitVec 32 := 96#32
  let v65 : BitVec 32 := Scalar.addi c0_i32_33 c96_i32
  let c1_i32_34 : BitVec 32 := 1#32
  ⟨c0_i32_33, v65, c1_i32_34⟩
def k0_mult1 (k0_t1 : Fin k0_t1_loop.trips) : BitVec 32 :=
  let c0_i32_33 : BitVec 32 := 0#32
  let c1_i32_34 : BitVec 32 := 1#32
  let arg20 : BitVec 32 := Scf.iv c0_i32_33 c1_i32_34 k0_t1
  let c32_i32_48 : BitVec 32 := 32#32
  let v69 : BitVec 32 := Scalar.muli arg20 c32_i32_48
  v69
def k0_off2 (k0_t1 : Fin k0_t1_loop.trips) : Fin 3 → Nat :=
  let c0_49 : Index := 0#32
  let c0_i32_33 : BitVec 32 := 0#32
  let c1_i32_34 : BitVec 32 := 1#32
  let arg20 : BitVec 32 := Scf.iv c0_i32_33 c1_i32_34 k0_t1
  let c32_i32_48 : BitVec 32 := 32#32
  let v69 : BitVec 32 := Scalar.muli arg20 c32_i32_48
  let v70 : BitVec 32 := v69
  let v71 : Index := Scalar.indexCast v70
  let c0_50 : Index := 0#32
  ![0, v71.toNat, 0]
def k0_mult2 (k0_t1 : Fin k0_t1_loop.trips) : BitVec 32 :=
  let c0_i32_33 : BitVec 32 := 0#32
  let c1_i32_34 : BitVec 32 := 1#32
  let arg20 : BitVec 32 := Scf.iv c0_i32_33 c1_i32_34 k0_t1
  let c2_i32_55 : BitVec 32 := 2#32
  let v79 : BitVec 32 := Scalar.muli arg20 c2_i32_55
  let c8_i32 : BitVec 32 := 8#32
  let v80 : BitVec 32 := Scalar.muli v79 c8_i32
  v80
def k0_off3 (k0_t1 : Fin k0_t1_loop.trips) : Fin 4 → Nat :=
  let c0_56 : Index := 0#32
  let c0_57 : Index := 0#32
  let c0_i32_33 : BitVec 32 := 0#32
  let c1_i32_34 : BitVec 32 := 1#32
  let arg20 : BitVec 32 := Scf.iv c0_i32_33 c1_i32_34 k0_t1
  let c2_i32_55 : BitVec 32 := 2#32
  let v79 : BitVec 32 := Scalar.muli arg20 c2_i32_55
  let c8_i32 : BitVec 32 := 8#32
  let v80 : BitVec 32 := Scalar.muli v79 c8_i32
  let v81 : BitVec 32 := v80
  let v82 : Index := Scalar.indexCast v81
  let c0_58 : Index := 0#32
  ![0, 0, v82.toNat, 0]
def k0_mult3 (k0_t1 : Fin k0_t1_loop.trips) : BitVec 32 :=
  let c0_i32_33 : BitVec 32 := 0#32
  let c1_i32_34 : BitVec 32 := 1#32
  let arg20 : BitVec 32 := Scf.iv c0_i32_33 c1_i32_34 k0_t1
  let c2_i32_61 : BitVec 32 := 2#32
  let v88 : BitVec 32 := Scalar.muli arg20 c2_i32_61
  let c8_i32_62 : BitVec 32 := 8#32
  let v89 : BitVec 32 := Scalar.muli v88 c8_i32_62
  v89
def k0_off4 (k0_t1 : Fin k0_t1_loop.trips) : Fin 4 → Nat :=
  let c1_63 : Index := 1#32
  let c0_64 : Index := 0#32
  let c0_i32_33 : BitVec 32 := 0#32
  let c1_i32_34 : BitVec 32 := 1#32
  let arg20 : BitVec 32 := Scf.iv c0_i32_33 c1_i32_34 k0_t1
  let c2_i32_61 : BitVec 32 := 2#32
  let v88 : BitVec 32 := Scalar.muli arg20 c2_i32_61
  let c8_i32_62 : BitVec 32 := 8#32
  let v89 : BitVec 32 := Scalar.muli v88 c8_i32_62
  let v90 : BitVec 32 := v89
  let v91 : Index := Scalar.indexCast v90
  let c0_65 : Index := 0#32
  ![1, 0, v91.toNat, 0]
@[reducible] def k0_t2_loop : Scf.Loop 32 :=
  let c0_i32_36 : BitVec 32 := 0#32
  let c96_i32_37 : BitVec 32 := 96#32
  let v66 : BitVec 32 := Scalar.addi c0_i32_36 c96_i32_37
  let c1_i32_38 : BitVec 32 := 1#32
  ⟨c0_i32_36, v66, c1_i32_38⟩
def k0_mult4 (k0_t2 : Fin k0_t2_loop.trips) : BitVec 32 :=
  let c0_i32_36 : BitVec 32 := 0#32
  let c1_i32_38 : BitVec 32 := 1#32
  let arg20 : BitVec 32 := Scf.iv c0_i32_36 c1_i32_38 k0_t2
  let c32_i32_48 : BitVec 32 := 32#32
  let v69 : BitVec 32 := Scalar.muli arg20 c32_i32_48
  v69
def k0_off5 (k0_t2 : Fin k0_t2_loop.trips) : Fin 3 → Nat :=
  let c0_49 : Index := 0#32
  let c0_i32_36 : BitVec 32 := 0#32
  let c1_i32_38 : BitVec 32 := 1#32
  let arg20 : BitVec 32 := Scf.iv c0_i32_36 c1_i32_38 k0_t2
  let c32_i32_48 : BitVec 32 := 32#32
  let v69 : BitVec 32 := Scalar.muli arg20 c32_i32_48
  let v70 : BitVec 32 := v69
  let v71 : Index := Scalar.indexCast v70
  let c0_50 : Index := 0#32
  ![0, v71.toNat, 0]
def k0_mult5 (k0_t2 : Fin k0_t2_loop.trips) : BitVec 32 :=
  let c0_i32_36 : BitVec 32 := 0#32
  let c1_i32_38 : BitVec 32 := 1#32
  let arg20 : BitVec 32 := Scf.iv c0_i32_36 c1_i32_38 k0_t2
  let c2_i32_55 : BitVec 32 := 2#32
  let v79 : BitVec 32 := Scalar.muli arg20 c2_i32_55
  let c8_i32 : BitVec 32 := 8#32
  let v80 : BitVec 32 := Scalar.muli v79 c8_i32
  v80
def k0_off6 (k0_t2 : Fin k0_t2_loop.trips) : Fin 4 → Nat :=
  let c0_56 : Index := 0#32
  let c0_57 : Index := 0#32
  let c0_i32_36 : BitVec 32 := 0#32
  let c1_i32_38 : BitVec 32 := 1#32
  let arg20 : BitVec 32 := Scf.iv c0_i32_36 c1_i32_38 k0_t2
  let c2_i32_55 : BitVec 32 := 2#32
  let v79 : BitVec 32 := Scalar.muli arg20 c2_i32_55
  let c8_i32 : BitVec 32 := 8#32
  let v80 : BitVec 32 := Scalar.muli v79 c8_i32
  let v81 : BitVec 32 := v80
  let v82 : Index := Scalar.indexCast v81
  let c0_58 : Index := 0#32
  ![0, 0, v82.toNat, 0]
def k0_mult6 (k0_t2 : Fin k0_t2_loop.trips) : BitVec 32 :=
  let c0_i32_36 : BitVec 32 := 0#32
  let c1_i32_38 : BitVec 32 := 1#32
  let arg20 : BitVec 32 := Scf.iv c0_i32_36 c1_i32_38 k0_t2
  let c2_i32_61 : BitVec 32 := 2#32
  let v88 : BitVec 32 := Scalar.muli arg20 c2_i32_61
  let c8_i32_62 : BitVec 32 := 8#32
  let v89 : BitVec 32 := Scalar.muli v88 c8_i32_62
  v89
def k0_off7 (k0_t2 : Fin k0_t2_loop.trips) : Fin 4 → Nat :=
  let c1_63 : Index := 1#32
  let c0_64 : Index := 0#32
  let c0_i32_36 : BitVec 32 := 0#32
  let c1_i32_38 : BitVec 32 := 1#32
  let arg20 : BitVec 32 := Scf.iv c0_i32_36 c1_i32_38 k0_t2
  let c2_i32_61 : BitVec 32 := 2#32
  let v88 : BitVec 32 := Scalar.muli arg20 c2_i32_61
  let c8_i32_62 : BitVec 32 := 8#32
  let v89 : BitVec 32 := Scalar.muli v88 c8_i32_62
  let v90 : BitVec 32 := v89
  let v91 : Index := Scalar.indexCast v90
  let c0_65 : Index := 0#32
  ![1, 0, v91.toNat, 0]
@[reducible] def k0_t3_loop : Scf.Loop 32 :=
  let c0_i32_40 : BitVec 32 := 0#32
  let c96_i32_41 : BitVec 32 := 96#32
  let v67 : BitVec 32 := Scalar.addi c0_i32_40 c96_i32_41
  let c1_i32_42 : BitVec 32 := 1#32
  ⟨c0_i32_40, v67, c1_i32_42⟩
def k0_mult7 (k0_t3 : Fin k0_t3_loop.trips) : BitVec 32 :=
  let c0_i32_40 : BitVec 32 := 0#32
  let c1_i32_42 : BitVec 32 := 1#32
  let arg20 : BitVec 32 := Scf.iv c0_i32_40 c1_i32_42 k0_t3
  let c32_i32_48 : BitVec 32 := 32#32
  let v69 : BitVec 32 := Scalar.muli arg20 c32_i32_48
  v69
def k0_off8 (k0_t3 : Fin k0_t3_loop.trips) : Fin 3 → Nat :=
  let c0_49 : Index := 0#32
  let c0_i32_40 : BitVec 32 := 0#32
  let c1_i32_42 : BitVec 32 := 1#32
  let arg20 : BitVec 32 := Scf.iv c0_i32_40 c1_i32_42 k0_t3
  let c32_i32_48 : BitVec 32 := 32#32
  let v69 : BitVec 32 := Scalar.muli arg20 c32_i32_48
  let v70 : BitVec 32 := v69
  let v71 : Index := Scalar.indexCast v70
  let c128 : Index := 128#32
  ![0, v71.toNat, 128]
def k0_mult8 (k0_t3 : Fin k0_t3_loop.trips) : BitVec 32 :=
  let c0_i32_40 : BitVec 32 := 0#32
  let c1_i32_42 : BitVec 32 := 1#32
  let arg20 : BitVec 32 := Scf.iv c0_i32_40 c1_i32_42 k0_t3
  let c2_i32_54 : BitVec 32 := 2#32
  let v79 : BitVec 32 := Scalar.muli arg20 c2_i32_54
  let c8_i32 : BitVec 32 := 8#32
  let v80 : BitVec 32 := Scalar.muli v79 c8_i32
  v80
def k0_off9 (k0_t3 : Fin k0_t3_loop.trips) : Fin 4 → Nat :=
  let c0_55 : Index := 0#32
  let c1_56 : Index := 1#32
  let c0_i32_40 : BitVec 32 := 0#32
  let c1_i32_42 : BitVec 32 := 1#32
  let arg20 : BitVec 32 := Scf.iv c0_i32_40 c1_i32_42 k0_t3
  let c2_i32_54 : BitVec 32 := 2#32
  let v79 : BitVec 32 := Scalar.muli arg20 c2_i32_54
  let c8_i32 : BitVec 32 := 8#32
  let v80 : BitVec 32 := Scalar.muli v79 c8_i32
  let v81 : BitVec 32 := v80
  let v82 : Index := Scalar.indexCast v81
  let c0_57 : Index := 0#32
  ![0, 1, v82.toNat, 0]
def k0_mult9 (k0_t3 : Fin k0_t3_loop.trips) : BitVec 32 :=
  let c0_i32_40 : BitVec 32 := 0#32
  let c1_i32_42 : BitVec 32 := 1#32
  let arg20 : BitVec 32 := Scf.iv c0_i32_40 c1_i32_42 k0_t3
  let c2_i32_60 : BitVec 32 := 2#32
  let v88 : BitVec 32 := Scalar.muli arg20 c2_i32_60
  let c8_i32_61 : BitVec 32 := 8#32
  let v89 : BitVec 32 := Scalar.muli v88 c8_i32_61
  v89
def k0_off10 (k0_t3 : Fin k0_t3_loop.trips) : Fin 4 → Nat :=
  let c1_62 : Index := 1#32
  let c1_63 : Index := 1#32
  let c0_i32_40 : BitVec 32 := 0#32
  let c1_i32_42 : BitVec 32 := 1#32
  let arg20 : BitVec 32 := Scf.iv c0_i32_40 c1_i32_42 k0_t3
  let c2_i32_60 : BitVec 32 := 2#32
  let v88 : BitVec 32 := Scalar.muli arg20 c2_i32_60
  let c8_i32_61 : BitVec 32 := 8#32
  let v89 : BitVec 32 := Scalar.muli v88 c8_i32_61
  let v90 : BitVec 32 := v89
  let v91 : Index := Scalar.indexCast v90
  let c0_64 : Index := 0#32
  ![1, 1, v91.toNat, 0]
@[reducible] def k0_t4_loop : Scf.Loop 32 :=
  let c0_i32_44 : BitVec 32 := 0#32
  let c96_i32_45 : BitVec 32 := 96#32
  let v68 : BitVec 32 := Scalar.addi c0_i32_44 c96_i32_45
  let c1_i32_46 : BitVec 32 := 1#32
  ⟨c0_i32_44, v68, c1_i32_46⟩
def k0_mult10 (k0_t4 : Fin k0_t4_loop.trips) : BitVec 32 :=
  let c0_i32_44 : BitVec 32 := 0#32
  let c1_i32_46 : BitVec 32 := 1#32
  let arg20 : BitVec 32 := Scf.iv c0_i32_44 c1_i32_46 k0_t4
  let c32_i32_48 : BitVec 32 := 32#32
  let v69 : BitVec 32 := Scalar.muli arg20 c32_i32_48
  v69
def k0_off11 (k0_t4 : Fin k0_t4_loop.trips) : Fin 3 → Nat :=
  let c0_49 : Index := 0#32
  let c0_i32_44 : BitVec 32 := 0#32
  let c1_i32_46 : BitVec 32 := 1#32
  let arg20 : BitVec 32 := Scf.iv c0_i32_44 c1_i32_46 k0_t4
  let c32_i32_48 : BitVec 32 := 32#32
  let v69 : BitVec 32 := Scalar.muli arg20 c32_i32_48
  let v70 : BitVec 32 := v69
  let v71 : Index := Scalar.indexCast v70
  let c128 : Index := 128#32
  ![0, v71.toNat, 128]
def k0_mult11 (k0_t4 : Fin k0_t4_loop.trips) : BitVec 32 :=
  let c0_i32_44 : BitVec 32 := 0#32
  let c1_i32_46 : BitVec 32 := 1#32
  let arg20 : BitVec 32 := Scf.iv c0_i32_44 c1_i32_46 k0_t4
  let c2_i32_54 : BitVec 32 := 2#32
  let v79 : BitVec 32 := Scalar.muli arg20 c2_i32_54
  let c8_i32 : BitVec 32 := 8#32
  let v80 : BitVec 32 := Scalar.muli v79 c8_i32
  v80
def k0_off12 (k0_t4 : Fin k0_t4_loop.trips) : Fin 4 → Nat :=
  let c0_55 : Index := 0#32
  let c1_56 : Index := 1#32
  let c0_i32_44 : BitVec 32 := 0#32
  let c1_i32_46 : BitVec 32 := 1#32
  let arg20 : BitVec 32 := Scf.iv c0_i32_44 c1_i32_46 k0_t4
  let c2_i32_54 : BitVec 32 := 2#32
  let v79 : BitVec 32 := Scalar.muli arg20 c2_i32_54
  let c8_i32 : BitVec 32 := 8#32
  let v80 : BitVec 32 := Scalar.muli v79 c8_i32
  let v81 : BitVec 32 := v80
  let v82 : Index := Scalar.indexCast v81
  let c0_57 : Index := 0#32
  ![0, 1, v82.toNat, 0]
def k0_mult12 (k0_t4 : Fin k0_t4_loop.trips) : BitVec 32 :=
  let c0_i32_44 : BitVec 32 := 0#32
  let c1_i32_46 : BitVec 32 := 1#32
  let arg20 : BitVec 32 := Scf.iv c0_i32_44 c1_i32_46 k0_t4
  let c2_i32_60 : BitVec 32 := 2#32
  let v88 : BitVec 32 := Scalar.muli arg20 c2_i32_60
  let c8_i32_61 : BitVec 32 := 8#32
  let v89 : BitVec 32 := Scalar.muli v88 c8_i32_61
  v89
def k0_off13 (k0_t4 : Fin k0_t4_loop.trips) : Fin 4 → Nat :=
  let c1_62 : Index := 1#32
  let c1_63 : Index := 1#32
  let c0_i32_44 : BitVec 32 := 0#32
  let c1_i32_46 : BitVec 32 := 1#32
  let arg20 : BitVec 32 := Scf.iv c0_i32_44 c1_i32_46 k0_t4
  let c2_i32_60 : BitVec 32 := 2#32
  let v88 : BitVec 32 := Scalar.muli arg20 c2_i32_60
  let c8_i32_61 : BitVec 32 := 8#32
  let v89 : BitVec 32 := Scalar.muli v88 c8_i32_61
  let v90 : BitVec 32 := v89
  let v91 : Index := Scalar.indexCast v90
  let c0_64 : Index := 0#32
  ![1, 1, v91.toNat, 0]
@[reducible] def k0_t5_loop : Scf.Loop 32 :=
  let c0_i32_13 : BitVec 32 := 0#32
  let c32_i32_14 : BitVec 32 := 32#32
  let v37 : BitVec 32 := Scalar.addi c0_i32_13 c32_i32_14
  let c1_i32_15 : BitVec 32 := 1#32
  ⟨c0_i32_13, v37, c1_i32_15⟩
def k0_mult13 (k0_t5 : Fin k0_t5_loop.trips) : BitVec 32 :=
  let c0_i32_13 : BitVec 32 := 0#32
  let c1_i32_15 : BitVec 32 := 1#32
  let arg20 : BitVec 32 := Scf.iv c0_i32_13 c1_i32_15 k0_t5
  let c32_i32_30 : BitVec 32 := 32#32
  let v61 : BitVec 32 := Scalar.muli arg20 c32_i32_30
  v61
def k0_off14 (k0_t5 : Fin k0_t5_loop.trips) : Fin 3 → Nat :=
  let c0_31 : Index := 0#32
  let c0_i32_13 : BitVec 32 := 0#32
  let c1_i32_15 : BitVec 32 := 1#32
  let arg20 : BitVec 32 := Scf.iv c0_i32_13 c1_i32_15 k0_t5
  let c32_i32_30 : BitVec 32 := 32#32
  let v61 : BitVec 32 := Scalar.muli arg20 c32_i32_30
  let v62 : BitVec 32 := v61
  let v63 : Index := Scalar.indexCast v62
  let c0_32 : Index := 0#32
  ![0, v63.toNat, 0]
def k0_mult14 (k0_t5 : Fin k0_t5_loop.trips) : BitVec 32 :=
  let c0_i32_13 : BitVec 32 := 0#32
  let c1_i32_15 : BitVec 32 := 1#32
  let arg20 : BitVec 32 := Scf.iv c0_i32_13 c1_i32_15 k0_t5
  let c2_i32_37 : BitVec 32 := 2#32
  let v71 : BitVec 32 := Scalar.muli arg20 c2_i32_37
  let c8_i32 : BitVec 32 := 8#32
  let v72 : BitVec 32 := Scalar.muli v71 c8_i32
  v72
def k0_off15 (k0_t5 : Fin k0_t5_loop.trips) : Fin 4 → Nat :=
  let c0_38 : Index := 0#32
  let c0_39 : Index := 0#32
  let c0_i32_13 : BitVec 32 := 0#32
  let c1_i32_15 : BitVec 32 := 1#32
  let arg20 : BitVec 32 := Scf.iv c0_i32_13 c1_i32_15 k0_t5
  let c2_i32_37 : BitVec 32 := 2#32
  let v71 : BitVec 32 := Scalar.muli arg20 c2_i32_37
  let c8_i32 : BitVec 32 := 8#32
  let v72 : BitVec 32 := Scalar.muli v71 c8_i32
  let v73 : BitVec 32 := v72
  let v74 : Index := Scalar.indexCast v73
  let c0_40 : Index := 0#32
  ![0, 0, v74.toNat, 0]
def k0_mult15 (k0_t5 : Fin k0_t5_loop.trips) : BitVec 32 :=
  let c0_i32_13 : BitVec 32 := 0#32
  let c1_i32_15 : BitVec 32 := 1#32
  let arg20 : BitVec 32 := Scf.iv c0_i32_13 c1_i32_15 k0_t5
  let c2_i32_43 : BitVec 32 := 2#32
  let v80 : BitVec 32 := Scalar.muli arg20 c2_i32_43
  let c8_i32_44 : BitVec 32 := 8#32
  let v81 : BitVec 32 := Scalar.muli v80 c8_i32_44
  v81
def k0_off16 (k0_t5 : Fin k0_t5_loop.trips) : Fin 4 → Nat :=
  let c1_45 : Index := 1#32
  let c0_46 : Index := 0#32
  let c0_i32_13 : BitVec 32 := 0#32
  let c1_i32_15 : BitVec 32 := 1#32
  let arg20 : BitVec 32 := Scf.iv c0_i32_13 c1_i32_15 k0_t5
  let c2_i32_43 : BitVec 32 := 2#32
  let v80 : BitVec 32 := Scalar.muli arg20 c2_i32_43
  let c8_i32_44 : BitVec 32 := 8#32
  let v81 : BitVec 32 := Scalar.muli v80 c8_i32_44
  let v82 : BitVec 32 := v81
  let v83 : Index := Scalar.indexCast v82
  let c0_47 : Index := 0#32
  ![1, 0, v83.toNat, 0]
@[reducible] def k0_t6_loop : Scf.Loop 32 :=
  let c0_i32_23 : BitVec 32 := 0#32
  let c2_i32 : BitVec 32 := 2#32
  let v56 : BitVec 32 := Scalar.addi c0_i32_23 c2_i32
  let c1_i32_24 : BitVec 32 := 1#32
  ⟨c0_i32_23, v56, c1_i32_24⟩
def k0_mult16 (k0_t6 : Fin k0_t6_loop.trips) : BitVec 32 :=
  let c0_i32_23 : BitVec 32 := 0#32
  let c1_i32_24 : BitVec 32 := 1#32
  let arg20 : BitVec 32 := Scf.iv c0_i32_23 c1_i32_24 k0_t6
  let c256_i32 : BitVec 32 := 256#32
  let v71 : BitVec 32 := Scalar.muli arg20 c256_i32
  v71
@[reducible] def k0_t7_loop : Scf.Loop 32 :=
  let c0_i32_32 : BitVec 32 := 0#32
  let c6_i32_33 : BitVec 32 := 6#32
  let v74 : BitVec 32 := Scalar.addi c0_i32_32 c6_i32_33
  let c1_i32_34 : BitVec 32 := 1#32
  ⟨c0_i32_32, v74, c1_i32_34⟩
def k0_mult17 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  v95
def k0_off17 (k0_t6 : Fin k0_t6_loop.trips) (k0_t7 : Fin k0_t7_loop.trips) (c0_i32_45 : BitVec 32) : Fin 3 → Nat :=
  let c0_46 : Index := 0#32
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let v98 : Index := Scalar.indexCast v96
  let c0_i32_23 : BitVec 32 := 0#32
  let c1_i32_24 : BitVec 32 := 1#32
  let arg20 : BitVec 32 := Scf.iv c0_i32_23 c1_i32_24 k0_t6
  let c256_i32 : BitVec 32 := 256#32
  let v71 : BitVec 32 := Scalar.muli arg20 c256_i32
  let v72 : BitVec 32 := v71
  let v97 : BitVec 32 := Scalar.addi v72 c0_i32_45
  let v99 : Index := Scalar.indexCast v97
  ![0, v98.toNat, v99.toNat]
def k0_mult18 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let c0_i32_48 : BitVec 32 := 0#32
  let v104 : BitVec 1 := Scalar.cmpi .sgt v96 c0_i32_48
  let v105 : BitVec 32 := Scalar.extui v104
  let c0_i32_49 : BitVec 32 := 0#32
  let v106 : BitVec 1 := Scalar.cmpi .slt v96 c0_i32_49
  let v107 : BitVec 32 := Scalar.extui v106
  let v108 : BitVec 32 := Scalar.subi v105 v107
  let c2_i32_47 : BitVec 32 := 2#32
  let c0_i32_50 : BitVec 32 := 0#32
  let v109 : BitVec 1 := Scalar.cmpi .sgt c2_i32_47 c0_i32_50
  let v110 : BitVec 32 := Scalar.extui v109
  let c0_i32_51 : BitVec 32 := 0#32
  let v111 : BitVec 1 := Scalar.cmpi .slt c2_i32_47 c0_i32_51
  let v112 : BitVec 32 := Scalar.extui v111
  let v113 : BitVec 32 := Scalar.subi v110 v112
  let v114 : BitVec 1 := Scalar.cmpi .ne v108 v113
  let v115 : BitVec 32 := Scalar.remsi v96 c2_i32_47
  let c0_i32_52 : BitVec 32 := 0#32
  let v116 : BitVec 1 := Scalar.cmpi .ne v115 c0_i32_52
  let v117 : BitVec 1 := Scalar.andi v114 v116
  let v103 : BitVec 32 := Scalar.divsi v96 c2_i32_47
  let c1_i32_53 : BitVec 32 := 1#32
  let v118 : BitVec 32 := Scalar.subi v103 c1_i32_53
  let v119 : BitVec 32 := Scalar.select v117 v118 v103
  v119
def k0_off18 (i : grid0.Static) (k0_t7 : Fin k0_t7_loop.trips) : Fin 4 → Nat :=
  let c0_54 : Index := 0#32
  let arg1 : BitVec 32 := BitVec.ofNat 32 (i 1).val
  let c16_i32 : BitVec 32 := 16#32
  let v38 : BitVec 32 := Scalar.muli arg1 c16_i32
  let c0_i32_17 : BitVec 32 := 0#32
  let v40 : BitVec 1 := Scalar.cmpi .sgt v38 c0_i32_17
  let v41 : BitVec 32 := Scalar.extui v40
  let c0_i32_18 : BitVec 32 := 0#32
  let v42 : BitVec 1 := Scalar.cmpi .slt v38 c0_i32_18
  let v43 : BitVec 32 := Scalar.extui v42
  let v44 : BitVec 32 := Scalar.subi v41 v43
  let c128_i32 : BitVec 32 := 128#32
  let c0_i32_19 : BitVec 32 := 0#32
  let v45 : BitVec 1 := Scalar.cmpi .sgt c128_i32 c0_i32_19
  let v46 : BitVec 32 := Scalar.extui v45
  let c0_i32_20 : BitVec 32 := 0#32
  let v47 : BitVec 1 := Scalar.cmpi .slt c128_i32 c0_i32_20
  let v48 : BitVec 32 := Scalar.extui v47
  let v49 : BitVec 32 := Scalar.subi v46 v48
  let v50 : BitVec 1 := Scalar.cmpi .ne v44 v49
  let v51 : BitVec 32 := Scalar.remsi v38 c128_i32
  let c0_i32_21 : BitVec 32 := 0#32
  let v52 : BitVec 1 := Scalar.cmpi .ne v51 c0_i32_21
  let v53 : BitVec 1 := Scalar.andi v50 v52
  let v39 : BitVec 32 := Scalar.divsi v38 c128_i32
  let c1_i32_22 : BitVec 32 := 1#32
  let v54 : BitVec 32 := Scalar.subi v39 c1_i32_22
  let v55 : BitVec 32 := Scalar.select v53 v54 v39
  let v121 : Index := Scalar.indexCast v55
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let c0_i32_48 : BitVec 32 := 0#32
  let v104 : BitVec 1 := Scalar.cmpi .sgt v96 c0_i32_48
  let v105 : BitVec 32 := Scalar.extui v104
  let c0_i32_49 : BitVec 32 := 0#32
  let v106 : BitVec 1 := Scalar.cmpi .slt v96 c0_i32_49
  let v107 : BitVec 32 := Scalar.extui v106
  let v108 : BitVec 32 := Scalar.subi v105 v107
  let c2_i32_47 : BitVec 32 := 2#32
  let c0_i32_50 : BitVec 32 := 0#32
  let v109 : BitVec 1 := Scalar.cmpi .sgt c2_i32_47 c0_i32_50
  let v110 : BitVec 32 := Scalar.extui v109
  let c0_i32_51 : BitVec 32 := 0#32
  let v111 : BitVec 1 := Scalar.cmpi .slt c2_i32_47 c0_i32_51
  let v112 : BitVec 32 := Scalar.extui v111
  let v113 : BitVec 32 := Scalar.subi v110 v112
  let v114 : BitVec 1 := Scalar.cmpi .ne v108 v113
  let v115 : BitVec 32 := Scalar.remsi v96 c2_i32_47
  let c0_i32_52 : BitVec 32 := 0#32
  let v116 : BitVec 1 := Scalar.cmpi .ne v115 c0_i32_52
  let v117 : BitVec 1 := Scalar.andi v114 v116
  let v103 : BitVec 32 := Scalar.divsi v96 c2_i32_47
  let c1_i32_53 : BitVec 32 := 1#32
  let v118 : BitVec 32 := Scalar.subi v103 c1_i32_53
  let v119 : BitVec 32 := Scalar.select v117 v118 v103
  let v120 : BitVec 32 := v119
  let v122 : Index := Scalar.indexCast v120
  let c0_55 : Index := 0#32
  ![0, v121.toNat, v122.toNat, 0]
def k0_mult19 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let c0_i32_57 : BitVec 32 := 0#32
  let v131 : BitVec 1 := Scalar.cmpi .sgt v96 c0_i32_57
  let v132 : BitVec 32 := Scalar.extui v131
  let c0_i32_58 : BitVec 32 := 0#32
  let v133 : BitVec 1 := Scalar.cmpi .slt v96 c0_i32_58
  let v134 : BitVec 32 := Scalar.extui v133
  let v135 : BitVec 32 := Scalar.subi v132 v134
  let c2_i32_56 : BitVec 32 := 2#32
  let c0_i32_59 : BitVec 32 := 0#32
  let v136 : BitVec 1 := Scalar.cmpi .sgt c2_i32_56 c0_i32_59
  let v137 : BitVec 32 := Scalar.extui v136
  let c0_i32_60 : BitVec 32 := 0#32
  let v138 : BitVec 1 := Scalar.cmpi .slt c2_i32_56 c0_i32_60
  let v139 : BitVec 32 := Scalar.extui v138
  let v140 : BitVec 32 := Scalar.subi v137 v139
  let v141 : BitVec 1 := Scalar.cmpi .ne v135 v140
  let v142 : BitVec 32 := Scalar.remsi v96 c2_i32_56
  let c0_i32_61 : BitVec 32 := 0#32
  let v143 : BitVec 1 := Scalar.cmpi .ne v142 c0_i32_61
  let v144 : BitVec 1 := Scalar.andi v141 v143
  let v130 : BitVec 32 := Scalar.divsi v96 c2_i32_56
  let c1_i32_62 : BitVec 32 := 1#32
  let v145 : BitVec 32 := Scalar.subi v130 c1_i32_62
  let v146 : BitVec 32 := Scalar.select v144 v145 v130
  v146
def k0_off19 (i : grid0.Static) (k0_t7 : Fin k0_t7_loop.trips) : Fin 4 → Nat :=
  let c1_63 : Index := 1#32
  let arg1 : BitVec 32 := BitVec.ofNat 32 (i 1).val
  let c16_i32 : BitVec 32 := 16#32
  let v38 : BitVec 32 := Scalar.muli arg1 c16_i32
  let c0_i32_17 : BitVec 32 := 0#32
  let v40 : BitVec 1 := Scalar.cmpi .sgt v38 c0_i32_17
  let v41 : BitVec 32 := Scalar.extui v40
  let c0_i32_18 : BitVec 32 := 0#32
  let v42 : BitVec 1 := Scalar.cmpi .slt v38 c0_i32_18
  let v43 : BitVec 32 := Scalar.extui v42
  let v44 : BitVec 32 := Scalar.subi v41 v43
  let c128_i32 : BitVec 32 := 128#32
  let c0_i32_19 : BitVec 32 := 0#32
  let v45 : BitVec 1 := Scalar.cmpi .sgt c128_i32 c0_i32_19
  let v46 : BitVec 32 := Scalar.extui v45
  let c0_i32_20 : BitVec 32 := 0#32
  let v47 : BitVec 1 := Scalar.cmpi .slt c128_i32 c0_i32_20
  let v48 : BitVec 32 := Scalar.extui v47
  let v49 : BitVec 32 := Scalar.subi v46 v48
  let v50 : BitVec 1 := Scalar.cmpi .ne v44 v49
  let v51 : BitVec 32 := Scalar.remsi v38 c128_i32
  let c0_i32_21 : BitVec 32 := 0#32
  let v52 : BitVec 1 := Scalar.cmpi .ne v51 c0_i32_21
  let v53 : BitVec 1 := Scalar.andi v50 v52
  let v39 : BitVec 32 := Scalar.divsi v38 c128_i32
  let c1_i32_22 : BitVec 32 := 1#32
  let v54 : BitVec 32 := Scalar.subi v39 c1_i32_22
  let v55 : BitVec 32 := Scalar.select v53 v54 v39
  let v148 : Index := Scalar.indexCast v55
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let c0_i32_57 : BitVec 32 := 0#32
  let v131 : BitVec 1 := Scalar.cmpi .sgt v96 c0_i32_57
  let v132 : BitVec 32 := Scalar.extui v131
  let c0_i32_58 : BitVec 32 := 0#32
  let v133 : BitVec 1 := Scalar.cmpi .slt v96 c0_i32_58
  let v134 : BitVec 32 := Scalar.extui v133
  let v135 : BitVec 32 := Scalar.subi v132 v134
  let c2_i32_56 : BitVec 32 := 2#32
  let c0_i32_59 : BitVec 32 := 0#32
  let v136 : BitVec 1 := Scalar.cmpi .sgt c2_i32_56 c0_i32_59
  let v137 : BitVec 32 := Scalar.extui v136
  let c0_i32_60 : BitVec 32 := 0#32
  let v138 : BitVec 1 := Scalar.cmpi .slt c2_i32_56 c0_i32_60
  let v139 : BitVec 32 := Scalar.extui v138
  let v140 : BitVec 32 := Scalar.subi v137 v139
  let v141 : BitVec 1 := Scalar.cmpi .ne v135 v140
  let v142 : BitVec 32 := Scalar.remsi v96 c2_i32_56
  let c0_i32_61 : BitVec 32 := 0#32
  let v143 : BitVec 1 := Scalar.cmpi .ne v142 c0_i32_61
  let v144 : BitVec 1 := Scalar.andi v141 v143
  let v130 : BitVec 32 := Scalar.divsi v96 c2_i32_56
  let c1_i32_62 : BitVec 32 := 1#32
  let v145 : BitVec 32 := Scalar.subi v130 c1_i32_62
  let v146 : BitVec 32 := Scalar.select v144 v145 v130
  let v147 : BitVec 32 := v146
  let v149 : Index := Scalar.indexCast v147
  let c0_64 : Index := 0#32
  ![1, v148.toNat, v149.toNat, 0]
def k0_mult20 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let c0_i32_79 : BitVec 32 := 0#32
  let v386 : BitVec 1 := Scalar.cmpi .sgt v96 c0_i32_79
  let v387 : BitVec 32 := Scalar.extui v386
  let c0_i32_80 : BitVec 32 := 0#32
  let v388 : BitVec 1 := Scalar.cmpi .slt v96 c0_i32_80
  let v389 : BitVec 32 := Scalar.extui v388
  let v390 : BitVec 32 := Scalar.subi v387 v389
  let c2_i32_78 : BitVec 32 := 2#32
  let c0_i32_81 : BitVec 32 := 0#32
  let v391 : BitVec 1 := Scalar.cmpi .sgt c2_i32_78 c0_i32_81
  let v392 : BitVec 32 := Scalar.extui v391
  let c0_i32_82 : BitVec 32 := 0#32
  let v393 : BitVec 1 := Scalar.cmpi .slt c2_i32_78 c0_i32_82
  let v394 : BitVec 32 := Scalar.extui v393
  let v395 : BitVec 32 := Scalar.subi v392 v394
  let v396 : BitVec 1 := Scalar.cmpi .ne v390 v395
  let v397 : BitVec 32 := Scalar.remsi v96 c2_i32_78
  let c0_i32_83 : BitVec 32 := 0#32
  let v398 : BitVec 1 := Scalar.cmpi .ne v397 c0_i32_83
  let v399 : BitVec 1 := Scalar.andi v396 v398
  let v385 : BitVec 32 := Scalar.divsi v96 c2_i32_78
  let c1_i32_84 : BitVec 32 := 1#32
  let v400 : BitVec 32 := Scalar.subi v385 c1_i32_84
  let v401 : BitVec 32 := Scalar.select v399 v400 v385
  v401
def k0_mult21 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c512_i32 : BitVec 32 := 512#32
  let v95 : BitVec 32 := Scalar.muli arg21 c512_i32
  let v96 : BitVec 32 := v95
  let c0_i32_88 : BitVec 32 := 0#32
  let v413 : BitVec 1 := Scalar.cmpi .sgt v96 c0_i32_88
  let v414 : BitVec 32 := Scalar.extui v413
  let c0_i32_89 : BitVec 32 := 0#32
  let v415 : BitVec 1 := Scalar.cmpi .slt v96 c0_i32_89
  let v416 : BitVec 32 := Scalar.extui v415
  let v417 : BitVec 32 := Scalar.subi v414 v416
  let c2_i32_87 : BitVec 32 := 2#32
  let c0_i32_90 : BitVec 32 := 0#32
  let v418 : BitVec 1 := Scalar.cmpi .sgt c2_i32_87 c0_i32_90
  let v419 : BitVec 32 := Scalar.extui v418
  let c0_i32_91 : BitVec 32 := 0#32
  let v420 : BitVec 1 := Scalar.cmpi .slt c2_i32_87 c0_i32_91
  let v421 : BitVec 32 := Scalar.extui v420
  let v422 : BitVec 32 := Scalar.subi v419 v421
  let v423 : BitVec 1 := Scalar.cmpi .ne v417 v422
  let v424 : BitVec 32 := Scalar.remsi v96 c2_i32_87
  let c0_i32_92 : BitVec 32 := 0#32
  let v425 : BitVec 1 := Scalar.cmpi .ne v424 c0_i32_92
  let v426 : BitVec 1 := Scalar.andi v423 v425
  let v412 : BitVec 32 := Scalar.divsi v96 c2_i32_87
  let c1_i32_93 : BitVec 32 := 1#32
  let v427 : BitVec 32 := Scalar.subi v412 c1_i32_93
  let v428 : BitVec 32 := Scalar.select v426 v427 v412
  v428
def k0_mult22 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c256_i32_111 : BitVec 32 := 256#32
  let v665 : BitVec 32 := Scalar.muli arg21 c256_i32_111
  v665
def k0_off20 (k0_t7 : Fin k0_t7_loop.trips) : Fin 3 → Nat :=
  let c0_112 : Index := 0#32
  let c0_113 : Index := 0#32
  let c0_i32_32 : BitVec 32 := 0#32
  let c1_i32_34 : BitVec 32 := 1#32
  let arg21 : BitVec 32 := Scf.iv c0_i32_32 c1_i32_34 k0_t7
  let c256_i32_111 : BitVec 32 := 256#32
  let v665 : BitVec 32 := Scalar.muli arg21 c256_i32_111
  let v666 : BitVec 32 := v665
  let v667 : Index := Scalar.indexCast v666
  ![0, 0, v667.toNat]
def k0_mult23 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c256_i32_115 : BitVec 32 := 256#32
  let v672 : BitVec 32 := Scalar.muli arg21 c256_i32_115
  v672
def k0_off21 (k0_t7 : Fin k0_t7_loop.trips) : Fin 3 → Nat :=
  let c1_116 : Index := 1#32
  let c0_117 : Index := 0#32
  let c0_i32_32 : BitVec 32 := 0#32
  let c1_i32_34 : BitVec 32 := 1#32
  let arg21 : BitVec 32 := Scf.iv c0_i32_32 c1_i32_34 k0_t7
  let c256_i32_115 : BitVec 32 := 256#32
  let v672 : BitVec 32 := Scalar.muli arg21 c256_i32_115
  let v673 : BitVec 32 := v672
  let v674 : Index := Scalar.indexCast v673
  ![1, 0, v674.toNat]
def k0_mult24 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c256_i32_119 : BitVec 32 := 256#32
  let v679 : BitVec 32 := Scalar.muli arg21 c256_i32_119
  v679
def k0_mult25 (k0_t7 : Fin k0_t7_loop.trips) : BitVec 32 :=
  let c0_i32_32 : BitVec 32 := 0#32
  let c1_i32_34 : BitVec 32 := 1#32
  let arg21 : BitVec 32 := Scf.iv c0_i32_32 c1_i32_34 k0_t7
  let c256_i32_123 : BitVec 32 := 256#32
  let v686 : BitVec 32 := Scalar.muli arg21 c256_i32_123
  v686
@[reducible] def k0_t8_loop : Scf.Loop 32 :=
  let c0_i32_37 : BitVec 32 := 0#32
  let c6_i32_38 : BitVec 32 := 6#32
  let v77 : BitVec 32 := Scalar.addi c0_i32_37 c6_i32_38
  let c1_i32_39 : BitVec 32 := 1#32
  ⟨c0_i32_37, v77, c1_i32_39⟩
def k0_mult26 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  v95
def k0_off22 (k0_t6 : Fin k0_t6_loop.trips) (k0_t8 : Fin k0_t8_loop.trips) (c0_i32_45 : BitVec 32) : Fin 3 → Nat :=
  let c0_46 : Index := 0#32
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let v98 : Index := Scalar.indexCast v96
  let c0_i32_23 : BitVec 32 := 0#32
  let c1_i32_24 : BitVec 32 := 1#32
  let arg20 : BitVec 32 := Scf.iv c0_i32_23 c1_i32_24 k0_t6
  let c256_i32 : BitVec 32 := 256#32
  let v71 : BitVec 32 := Scalar.muli arg20 c256_i32
  let v72 : BitVec 32 := v71
  let v97 : BitVec 32 := Scalar.addi v72 c0_i32_45
  let v99 : Index := Scalar.indexCast v97
  ![0, v98.toNat, v99.toNat]
def k0_mult27 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let c0_i32_48 : BitVec 32 := 0#32
  let v104 : BitVec 1 := Scalar.cmpi .sgt v96 c0_i32_48
  let v105 : BitVec 32 := Scalar.extui v104
  let c0_i32_49 : BitVec 32 := 0#32
  let v106 : BitVec 1 := Scalar.cmpi .slt v96 c0_i32_49
  let v107 : BitVec 32 := Scalar.extui v106
  let v108 : BitVec 32 := Scalar.subi v105 v107
  let c2_i32_47 : BitVec 32 := 2#32
  let c0_i32_50 : BitVec 32 := 0#32
  let v109 : BitVec 1 := Scalar.cmpi .sgt c2_i32_47 c0_i32_50
  let v110 : BitVec 32 := Scalar.extui v109
  let c0_i32_51 : BitVec 32 := 0#32
  let v111 : BitVec 1 := Scalar.cmpi .slt c2_i32_47 c0_i32_51
  let v112 : BitVec 32 := Scalar.extui v111
  let v113 : BitVec 32 := Scalar.subi v110 v112
  let v114 : BitVec 1 := Scalar.cmpi .ne v108 v113
  let v115 : BitVec 32 := Scalar.remsi v96 c2_i32_47
  let c0_i32_52 : BitVec 32 := 0#32
  let v116 : BitVec 1 := Scalar.cmpi .ne v115 c0_i32_52
  let v117 : BitVec 1 := Scalar.andi v114 v116
  let v103 : BitVec 32 := Scalar.divsi v96 c2_i32_47
  let c1_i32_53 : BitVec 32 := 1#32
  let v118 : BitVec 32 := Scalar.subi v103 c1_i32_53
  let v119 : BitVec 32 := Scalar.select v117 v118 v103
  v119
def k0_off23 (i : grid0.Static) (k0_t8 : Fin k0_t8_loop.trips) : Fin 4 → Nat :=
  let c0_54 : Index := 0#32
  let arg1 : BitVec 32 := BitVec.ofNat 32 (i 1).val
  let c16_i32 : BitVec 32 := 16#32
  let v38 : BitVec 32 := Scalar.muli arg1 c16_i32
  let c0_i32_17 : BitVec 32 := 0#32
  let v40 : BitVec 1 := Scalar.cmpi .sgt v38 c0_i32_17
  let v41 : BitVec 32 := Scalar.extui v40
  let c0_i32_18 : BitVec 32 := 0#32
  let v42 : BitVec 1 := Scalar.cmpi .slt v38 c0_i32_18
  let v43 : BitVec 32 := Scalar.extui v42
  let v44 : BitVec 32 := Scalar.subi v41 v43
  let c128_i32 : BitVec 32 := 128#32
  let c0_i32_19 : BitVec 32 := 0#32
  let v45 : BitVec 1 := Scalar.cmpi .sgt c128_i32 c0_i32_19
  let v46 : BitVec 32 := Scalar.extui v45
  let c0_i32_20 : BitVec 32 := 0#32
  let v47 : BitVec 1 := Scalar.cmpi .slt c128_i32 c0_i32_20
  let v48 : BitVec 32 := Scalar.extui v47
  let v49 : BitVec 32 := Scalar.subi v46 v48
  let v50 : BitVec 1 := Scalar.cmpi .ne v44 v49
  let v51 : BitVec 32 := Scalar.remsi v38 c128_i32
  let c0_i32_21 : BitVec 32 := 0#32
  let v52 : BitVec 1 := Scalar.cmpi .ne v51 c0_i32_21
  let v53 : BitVec 1 := Scalar.andi v50 v52
  let v39 : BitVec 32 := Scalar.divsi v38 c128_i32
  let c1_i32_22 : BitVec 32 := 1#32
  let v54 : BitVec 32 := Scalar.subi v39 c1_i32_22
  let v55 : BitVec 32 := Scalar.select v53 v54 v39
  let v121 : Index := Scalar.indexCast v55
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let c0_i32_48 : BitVec 32 := 0#32
  let v104 : BitVec 1 := Scalar.cmpi .sgt v96 c0_i32_48
  let v105 : BitVec 32 := Scalar.extui v104
  let c0_i32_49 : BitVec 32 := 0#32
  let v106 : BitVec 1 := Scalar.cmpi .slt v96 c0_i32_49
  let v107 : BitVec 32 := Scalar.extui v106
  let v108 : BitVec 32 := Scalar.subi v105 v107
  let c2_i32_47 : BitVec 32 := 2#32
  let c0_i32_50 : BitVec 32 := 0#32
  let v109 : BitVec 1 := Scalar.cmpi .sgt c2_i32_47 c0_i32_50
  let v110 : BitVec 32 := Scalar.extui v109
  let c0_i32_51 : BitVec 32 := 0#32
  let v111 : BitVec 1 := Scalar.cmpi .slt c2_i32_47 c0_i32_51
  let v112 : BitVec 32 := Scalar.extui v111
  let v113 : BitVec 32 := Scalar.subi v110 v112
  let v114 : BitVec 1 := Scalar.cmpi .ne v108 v113
  let v115 : BitVec 32 := Scalar.remsi v96 c2_i32_47
  let c0_i32_52 : BitVec 32 := 0#32
  let v116 : BitVec 1 := Scalar.cmpi .ne v115 c0_i32_52
  let v117 : BitVec 1 := Scalar.andi v114 v116
  let v103 : BitVec 32 := Scalar.divsi v96 c2_i32_47
  let c1_i32_53 : BitVec 32 := 1#32
  let v118 : BitVec 32 := Scalar.subi v103 c1_i32_53
  let v119 : BitVec 32 := Scalar.select v117 v118 v103
  let v120 : BitVec 32 := v119
  let v122 : Index := Scalar.indexCast v120
  let c0_55 : Index := 0#32
  ![0, v121.toNat, v122.toNat, 0]
def k0_mult28 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let c0_i32_57 : BitVec 32 := 0#32
  let v131 : BitVec 1 := Scalar.cmpi .sgt v96 c0_i32_57
  let v132 : BitVec 32 := Scalar.extui v131
  let c0_i32_58 : BitVec 32 := 0#32
  let v133 : BitVec 1 := Scalar.cmpi .slt v96 c0_i32_58
  let v134 : BitVec 32 := Scalar.extui v133
  let v135 : BitVec 32 := Scalar.subi v132 v134
  let c2_i32_56 : BitVec 32 := 2#32
  let c0_i32_59 : BitVec 32 := 0#32
  let v136 : BitVec 1 := Scalar.cmpi .sgt c2_i32_56 c0_i32_59
  let v137 : BitVec 32 := Scalar.extui v136
  let c0_i32_60 : BitVec 32 := 0#32
  let v138 : BitVec 1 := Scalar.cmpi .slt c2_i32_56 c0_i32_60
  let v139 : BitVec 32 := Scalar.extui v138
  let v140 : BitVec 32 := Scalar.subi v137 v139
  let v141 : BitVec 1 := Scalar.cmpi .ne v135 v140
  let v142 : BitVec 32 := Scalar.remsi v96 c2_i32_56
  let c0_i32_61 : BitVec 32 := 0#32
  let v143 : BitVec 1 := Scalar.cmpi .ne v142 c0_i32_61
  let v144 : BitVec 1 := Scalar.andi v141 v143
  let v130 : BitVec 32 := Scalar.divsi v96 c2_i32_56
  let c1_i32_62 : BitVec 32 := 1#32
  let v145 : BitVec 32 := Scalar.subi v130 c1_i32_62
  let v146 : BitVec 32 := Scalar.select v144 v145 v130
  v146
def k0_off24 (i : grid0.Static) (k0_t8 : Fin k0_t8_loop.trips) : Fin 4 → Nat :=
  let c1_63 : Index := 1#32
  let arg1 : BitVec 32 := BitVec.ofNat 32 (i 1).val
  let c16_i32 : BitVec 32 := 16#32
  let v38 : BitVec 32 := Scalar.muli arg1 c16_i32
  let c0_i32_17 : BitVec 32 := 0#32
  let v40 : BitVec 1 := Scalar.cmpi .sgt v38 c0_i32_17
  let v41 : BitVec 32 := Scalar.extui v40
  let c0_i32_18 : BitVec 32 := 0#32
  let v42 : BitVec 1 := Scalar.cmpi .slt v38 c0_i32_18
  let v43 : BitVec 32 := Scalar.extui v42
  let v44 : BitVec 32 := Scalar.subi v41 v43
  let c128_i32 : BitVec 32 := 128#32
  let c0_i32_19 : BitVec 32 := 0#32
  let v45 : BitVec 1 := Scalar.cmpi .sgt c128_i32 c0_i32_19
  let v46 : BitVec 32 := Scalar.extui v45
  let c0_i32_20 : BitVec 32 := 0#32
  let v47 : BitVec 1 := Scalar.cmpi .slt c128_i32 c0_i32_20
  let v48 : BitVec 32 := Scalar.extui v47
  let v49 : BitVec 32 := Scalar.subi v46 v48
  let v50 : BitVec 1 := Scalar.cmpi .ne v44 v49
  let v51 : BitVec 32 := Scalar.remsi v38 c128_i32
  let c0_i32_21 : BitVec 32 := 0#32
  let v52 : BitVec 1 := Scalar.cmpi .ne v51 c0_i32_21
  let v53 : BitVec 1 := Scalar.andi v50 v52
  let v39 : BitVec 32 := Scalar.divsi v38 c128_i32
  let c1_i32_22 : BitVec 32 := 1#32
  let v54 : BitVec 32 := Scalar.subi v39 c1_i32_22
  let v55 : BitVec 32 := Scalar.select v53 v54 v39
  let v148 : Index := Scalar.indexCast v55
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let c0_i32_57 : BitVec 32 := 0#32
  let v131 : BitVec 1 := Scalar.cmpi .sgt v96 c0_i32_57
  let v132 : BitVec 32 := Scalar.extui v131
  let c0_i32_58 : BitVec 32 := 0#32
  let v133 : BitVec 1 := Scalar.cmpi .slt v96 c0_i32_58
  let v134 : BitVec 32 := Scalar.extui v133
  let v135 : BitVec 32 := Scalar.subi v132 v134
  let c2_i32_56 : BitVec 32 := 2#32
  let c0_i32_59 : BitVec 32 := 0#32
  let v136 : BitVec 1 := Scalar.cmpi .sgt c2_i32_56 c0_i32_59
  let v137 : BitVec 32 := Scalar.extui v136
  let c0_i32_60 : BitVec 32 := 0#32
  let v138 : BitVec 1 := Scalar.cmpi .slt c2_i32_56 c0_i32_60
  let v139 : BitVec 32 := Scalar.extui v138
  let v140 : BitVec 32 := Scalar.subi v137 v139
  let v141 : BitVec 1 := Scalar.cmpi .ne v135 v140
  let v142 : BitVec 32 := Scalar.remsi v96 c2_i32_56
  let c0_i32_61 : BitVec 32 := 0#32
  let v143 : BitVec 1 := Scalar.cmpi .ne v142 c0_i32_61
  let v144 : BitVec 1 := Scalar.andi v141 v143
  let v130 : BitVec 32 := Scalar.divsi v96 c2_i32_56
  let c1_i32_62 : BitVec 32 := 1#32
  let v145 : BitVec 32 := Scalar.subi v130 c1_i32_62
  let v146 : BitVec 32 := Scalar.select v144 v145 v130
  let v147 : BitVec 32 := v146
  let v149 : Index := Scalar.indexCast v147
  let c0_64 : Index := 0#32
  ![1, v148.toNat, v149.toNat, 0]
def k0_mult29 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let c0_i32_79 : BitVec 32 := 0#32
  let v386 : BitVec 1 := Scalar.cmpi .sgt v96 c0_i32_79
  let v387 : BitVec 32 := Scalar.extui v386
  let c0_i32_80 : BitVec 32 := 0#32
  let v388 : BitVec 1 := Scalar.cmpi .slt v96 c0_i32_80
  let v389 : BitVec 32 := Scalar.extui v388
  let v390 : BitVec 32 := Scalar.subi v387 v389
  let c2_i32_78 : BitVec 32 := 2#32
  let c0_i32_81 : BitVec 32 := 0#32
  let v391 : BitVec 1 := Scalar.cmpi .sgt c2_i32_78 c0_i32_81
  let v392 : BitVec 32 := Scalar.extui v391
  let c0_i32_82 : BitVec 32 := 0#32
  let v393 : BitVec 1 := Scalar.cmpi .slt c2_i32_78 c0_i32_82
  let v394 : BitVec 32 := Scalar.extui v393
  let v395 : BitVec 32 := Scalar.subi v392 v394
  let v396 : BitVec 1 := Scalar.cmpi .ne v390 v395
  let v397 : BitVec 32 := Scalar.remsi v96 c2_i32_78
  let c0_i32_83 : BitVec 32 := 0#32
  let v398 : BitVec 1 := Scalar.cmpi .ne v397 c0_i32_83
  let v399 : BitVec 1 := Scalar.andi v396 v398
  let v385 : BitVec 32 := Scalar.divsi v96 c2_i32_78
  let c1_i32_84 : BitVec 32 := 1#32
  let v400 : BitVec 32 := Scalar.subi v385 c1_i32_84
  let v401 : BitVec 32 := Scalar.select v399 v400 v385
  v401
def k0_mult30 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c512_i32 : BitVec 32 := 512#32
  let v95 : BitVec 32 := Scalar.muli arg21 c512_i32
  let v96 : BitVec 32 := v95
  let c0_i32_88 : BitVec 32 := 0#32
  let v413 : BitVec 1 := Scalar.cmpi .sgt v96 c0_i32_88
  let v414 : BitVec 32 := Scalar.extui v413
  let c0_i32_89 : BitVec 32 := 0#32
  let v415 : BitVec 1 := Scalar.cmpi .slt v96 c0_i32_89
  let v416 : BitVec 32 := Scalar.extui v415
  let v417 : BitVec 32 := Scalar.subi v414 v416
  let c2_i32_87 : BitVec 32 := 2#32
  let c0_i32_90 : BitVec 32 := 0#32
  let v418 : BitVec 1 := Scalar.cmpi .sgt c2_i32_87 c0_i32_90
  let v419 : BitVec 32 := Scalar.extui v418
  let c0_i32_91 : BitVec 32 := 0#32
  let v420 : BitVec 1 := Scalar.cmpi .slt c2_i32_87 c0_i32_91
  let v421 : BitVec 32 := Scalar.extui v420
  let v422 : BitVec 32 := Scalar.subi v419 v421
  let v423 : BitVec 1 := Scalar.cmpi .ne v417 v422
  let v424 : BitVec 32 := Scalar.remsi v96 c2_i32_87
  let c0_i32_92 : BitVec 32 := 0#32
  let v425 : BitVec 1 := Scalar.cmpi .ne v424 c0_i32_92
  let v426 : BitVec 1 := Scalar.andi v423 v425
  let v412 : BitVec 32 := Scalar.divsi v96 c2_i32_87
  let c1_i32_93 : BitVec 32 := 1#32
  let v427 : BitVec 32 := Scalar.subi v412 c1_i32_93
  let v428 : BitVec 32 := Scalar.select v426 v427 v412
  v428
def k0_mult31 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c256_i32_111 : BitVec 32 := 256#32
  let v665 : BitVec 32 := Scalar.muli arg21 c256_i32_111
  v665
def k0_off25 (k0_t8 : Fin k0_t8_loop.trips) : Fin 3 → Nat :=
  let c0_112 : Index := 0#32
  let c0_113 : Index := 0#32
  let c0_i32_37 : BitVec 32 := 0#32
  let c1_i32_39 : BitVec 32 := 1#32
  let arg21 : BitVec 32 := Scf.iv c0_i32_37 c1_i32_39 k0_t8
  let c256_i32_111 : BitVec 32 := 256#32
  let v665 : BitVec 32 := Scalar.muli arg21 c256_i32_111
  let v666 : BitVec 32 := v665
  let v667 : Index := Scalar.indexCast v666
  ![0, 0, v667.toNat]
def k0_mult32 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c256_i32_115 : BitVec 32 := 256#32
  let v672 : BitVec 32 := Scalar.muli arg21 c256_i32_115
  v672
def k0_off26 (k0_t8 : Fin k0_t8_loop.trips) : Fin 3 → Nat :=
  let c1_116 : Index := 1#32
  let c0_117 : Index := 0#32
  let c0_i32_37 : BitVec 32 := 0#32
  let c1_i32_39 : BitVec 32 := 1#32
  let arg21 : BitVec 32 := Scf.iv c0_i32_37 c1_i32_39 k0_t8
  let c256_i32_115 : BitVec 32 := 256#32
  let v672 : BitVec 32 := Scalar.muli arg21 c256_i32_115
  let v673 : BitVec 32 := v672
  let v674 : Index := Scalar.indexCast v673
  ![1, 0, v674.toNat]
def k0_mult33 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c256_i32_119 : BitVec 32 := 256#32
  let v679 : BitVec 32 := Scalar.muli arg21 c256_i32_119
  v679
def k0_mult34 (k0_t8 : Fin k0_t8_loop.trips) : BitVec 32 :=
  let c0_i32_37 : BitVec 32 := 0#32
  let c1_i32_39 : BitVec 32 := 1#32
  let arg21 : BitVec 32 := Scf.iv c0_i32_37 c1_i32_39 k0_t8
  let c256_i32_123 : BitVec 32 := 256#32
  let v686 : BitVec 32 := Scalar.muli arg21 c256_i32_123
  v686
def k0_off27 (k0_t6 : Fin k0_t6_loop.trips) : Fin 3 → Nat :=
  let c0_41 : Index := 0#32
  let c0_42 : Index := 0#32
  let c0_i32_23 : BitVec 32 := 0#32
  let c1_i32_24 : BitVec 32 := 1#32
  let arg20 : BitVec 32 := Scf.iv c0_i32_23 c1_i32_24 k0_t6
  let c256_i32 : BitVec 32 := 256#32
  let v71 : BitVec 32 := Scalar.muli arg20 c256_i32
  let v72 : BitVec 32 := v71
  let v83 : Index := Scalar.indexCast v72
  ![0, 0, v83.toNat]
def k0_off28 (k0_t6 : Fin k0_t6_loop.trips) : Fin 3 → Nat :=
  let c1_43 : Index := 1#32
  let c0_44 : Index := 0#32
  let c0_i32_23 : BitVec 32 := 0#32
  let c1_i32_24 : BitVec 32 := 1#32
  let arg20 : BitVec 32 := Scf.iv c0_i32_23 c1_i32_24 k0_t6
  let c256_i32 : BitVec 32 := 256#32
  let v71 : BitVec 32 := Scalar.muli arg20 c256_i32
  let v72 : BitVec 32 := v71
  let v91 : Index := Scalar.indexCast v72
  ![1, 0, v91.toNat]
@[reducible] def k0_t9_loop : Scf.Loop 32 :=
  let c0_i32_26 : BitVec 32 := 0#32
  let c6_i32 : BitVec 32 := 6#32
  let v57 : BitVec 32 := Scalar.addi c0_i32_26 c6_i32
  let c1_i32_27 : BitVec 32 := 1#32
  ⟨c0_i32_26, v57, c1_i32_27⟩
def k0_mult35 (k0_t9 : Fin k0_t9_loop.trips) : BitVec 32 :=
  let c0_i32_26 : BitVec 32 := 0#32
  let c1_i32_27 : BitVec 32 := 1#32
  let arg20 : BitVec 32 := Scf.iv c0_i32_26 c1_i32_27 k0_t9
  let c256_i32 : BitVec 32 := 256#32
  let v69 : BitVec 32 := Scalar.muli arg20 c256_i32
  v69
@[reducible] def k0_t10_loop : Scf.Loop 32 :=
  let c0_i32_32 : BitVec 32 := 0#32
  let c2_i32_33 : BitVec 32 := 2#32
  let v72 : BitVec 32 := Scalar.addi c0_i32_32 c2_i32_33
  let c1_i32_34 : BitVec 32 := 1#32
  ⟨c0_i32_32, v72, c1_i32_34⟩
def k0_mult36 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  v90
def k0_off29 (k0_t9 : Fin k0_t9_loop.trips) (k0_t10 : Fin k0_t10_loop.trips) (c0_i32_44 : BitVec 32) : Fin 3 → Nat :=
  let c0_45 : Index := 0#32
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let v93 : Index := Scalar.indexCast v91
  let c0_i32_26 : BitVec 32 := 0#32
  let c1_i32_27 : BitVec 32 := 1#32
  let arg20 : BitVec 32 := Scf.iv c0_i32_26 c1_i32_27 k0_t9
  let c256_i32 : BitVec 32 := 256#32
  let v69 : BitVec 32 := Scalar.muli arg20 c256_i32
  let v70 : BitVec 32 := v69
  let v92 : BitVec 32 := Scalar.addi v70 c0_i32_44
  let v94 : Index := Scalar.indexCast v92
  ![0, v93.toNat, v94.toNat]
def k0_mult37 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let c0_i32_47 : BitVec 32 := 0#32
  let v99 : BitVec 1 := Scalar.cmpi .sgt v91 c0_i32_47
  let v100 : BitVec 32 := Scalar.extui v99
  let c0_i32_48 : BitVec 32 := 0#32
  let v101 : BitVec 1 := Scalar.cmpi .slt v91 c0_i32_48
  let v102 : BitVec 32 := Scalar.extui v101
  let v103 : BitVec 32 := Scalar.subi v100 v102
  let c2_i32_46 : BitVec 32 := 2#32
  let c0_i32_49 : BitVec 32 := 0#32
  let v104 : BitVec 1 := Scalar.cmpi .sgt c2_i32_46 c0_i32_49
  let v105 : BitVec 32 := Scalar.extui v104
  let c0_i32_50 : BitVec 32 := 0#32
  let v106 : BitVec 1 := Scalar.cmpi .slt c2_i32_46 c0_i32_50
  let v107 : BitVec 32 := Scalar.extui v106
  let v108 : BitVec 32 := Scalar.subi v105 v107
  let v109 : BitVec 1 := Scalar.cmpi .ne v103 v108
  let v110 : BitVec 32 := Scalar.remsi v91 c2_i32_46
  let c0_i32_51 : BitVec 32 := 0#32
  let v111 : BitVec 1 := Scalar.cmpi .ne v110 c0_i32_51
  let v112 : BitVec 1 := Scalar.andi v109 v111
  let v98 : BitVec 32 := Scalar.divsi v91 c2_i32_46
  let c1_i32_52 : BitVec 32 := 1#32
  let v113 : BitVec 32 := Scalar.subi v98 c1_i32_52
  let v114 : BitVec 32 := Scalar.select v112 v113 v98
  v114
def k0_off30 (k0_t10 : Fin k0_t10_loop.trips) : Fin 4 → Nat :=
  let c0_53 : Index := 0#32
  let c0_54 : Index := 0#32
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let c0_i32_47 : BitVec 32 := 0#32
  let v99 : BitVec 1 := Scalar.cmpi .sgt v91 c0_i32_47
  let v100 : BitVec 32 := Scalar.extui v99
  let c0_i32_48 : BitVec 32 := 0#32
  let v101 : BitVec 1 := Scalar.cmpi .slt v91 c0_i32_48
  let v102 : BitVec 32 := Scalar.extui v101
  let v103 : BitVec 32 := Scalar.subi v100 v102
  let c2_i32_46 : BitVec 32 := 2#32
  let c0_i32_49 : BitVec 32 := 0#32
  let v104 : BitVec 1 := Scalar.cmpi .sgt c2_i32_46 c0_i32_49
  let v105 : BitVec 32 := Scalar.extui v104
  let c0_i32_50 : BitVec 32 := 0#32
  let v106 : BitVec 1 := Scalar.cmpi .slt c2_i32_46 c0_i32_50
  let v107 : BitVec 32 := Scalar.extui v106
  let v108 : BitVec 32 := Scalar.subi v105 v107
  let v109 : BitVec 1 := Scalar.cmpi .ne v103 v108
  let v110 : BitVec 32 := Scalar.remsi v91 c2_i32_46
  let c0_i32_51 : BitVec 32 := 0#32
  let v111 : BitVec 1 := Scalar.cmpi .ne v110 c0_i32_51
  let v112 : BitVec 1 := Scalar.andi v109 v111
  let v98 : BitVec 32 := Scalar.divsi v91 c2_i32_46
  let c1_i32_52 : BitVec 32 := 1#32
  let v113 : BitVec 32 := Scalar.subi v98 c1_i32_52
  let v114 : BitVec 32 := Scalar.select v112 v113 v98
  let v115 : BitVec 32 := v114
  let v116 : Index := Scalar.indexCast v115
  let c0_55 : Index := 0#32
  ![0, 0, v116.toNat, 0]
def k0_mult38 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let c0_i32_57 : BitVec 32 := 0#32
  let v125 : BitVec 1 := Scalar.cmpi .sgt v91 c0_i32_57
  let v126 : BitVec 32 := Scalar.extui v125
  let c0_i32_58 : BitVec 32 := 0#32
  let v127 : BitVec 1 := Scalar.cmpi .slt v91 c0_i32_58
  let v128 : BitVec 32 := Scalar.extui v127
  let v129 : BitVec 32 := Scalar.subi v126 v128
  let c2_i32_56 : BitVec 32 := 2#32
  let c0_i32_59 : BitVec 32 := 0#32
  let v130 : BitVec 1 := Scalar.cmpi .sgt c2_i32_56 c0_i32_59
  let v131 : BitVec 32 := Scalar.extui v130
  let c0_i32_60 : BitVec 32 := 0#32
  let v132 : BitVec 1 := Scalar.cmpi .slt c2_i32_56 c0_i32_60
  let v133 : BitVec 32 := Scalar.extui v132
  let v134 : BitVec 32 := Scalar.subi v131 v133
  let v135 : BitVec 1 := Scalar.cmpi .ne v129 v134
  let v136 : BitVec 32 := Scalar.remsi v91 c2_i32_56
  let c0_i32_61 : BitVec 32 := 0#32
  let v137 : BitVec 1 := Scalar.cmpi .ne v136 c0_i32_61
  let v138 : BitVec 1 := Scalar.andi v135 v137
  let v124 : BitVec 32 := Scalar.divsi v91 c2_i32_56
  let c1_i32_62 : BitVec 32 := 1#32
  let v139 : BitVec 32 := Scalar.subi v124 c1_i32_62
  let v140 : BitVec 32 := Scalar.select v138 v139 v124
  v140
def k0_off31 (k0_t10 : Fin k0_t10_loop.trips) : Fin 4 → Nat :=
  let c1_63 : Index := 1#32
  let c0_64 : Index := 0#32
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let c0_i32_57 : BitVec 32 := 0#32
  let v125 : BitVec 1 := Scalar.cmpi .sgt v91 c0_i32_57
  let v126 : BitVec 32 := Scalar.extui v125
  let c0_i32_58 : BitVec 32 := 0#32
  let v127 : BitVec 1 := Scalar.cmpi .slt v91 c0_i32_58
  let v128 : BitVec 32 := Scalar.extui v127
  let v129 : BitVec 32 := Scalar.subi v126 v128
  let c2_i32_56 : BitVec 32 := 2#32
  let c0_i32_59 : BitVec 32 := 0#32
  let v130 : BitVec 1 := Scalar.cmpi .sgt c2_i32_56 c0_i32_59
  let v131 : BitVec 32 := Scalar.extui v130
  let c0_i32_60 : BitVec 32 := 0#32
  let v132 : BitVec 1 := Scalar.cmpi .slt c2_i32_56 c0_i32_60
  let v133 : BitVec 32 := Scalar.extui v132
  let v134 : BitVec 32 := Scalar.subi v131 v133
  let v135 : BitVec 1 := Scalar.cmpi .ne v129 v134
  let v136 : BitVec 32 := Scalar.remsi v91 c2_i32_56
  let c0_i32_61 : BitVec 32 := 0#32
  let v137 : BitVec 1 := Scalar.cmpi .ne v136 c0_i32_61
  let v138 : BitVec 1 := Scalar.andi v135 v137
  let v124 : BitVec 32 := Scalar.divsi v91 c2_i32_56
  let c1_i32_62 : BitVec 32 := 1#32
  let v139 : BitVec 32 := Scalar.subi v124 c1_i32_62
  let v140 : BitVec 32 := Scalar.select v138 v139 v124
  let v141 : BitVec 32 := v140
  let v142 : Index := Scalar.indexCast v141
  let c0_65 : Index := 0#32
  ![1, 0, v142.toNat, 0]
def k0_mult39 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let c0_i32_80 : BitVec 32 := 0#32
  let v379 : BitVec 1 := Scalar.cmpi .sgt v91 c0_i32_80
  let v380 : BitVec 32 := Scalar.extui v379
  let c0_i32_81 : BitVec 32 := 0#32
  let v381 : BitVec 1 := Scalar.cmpi .slt v91 c0_i32_81
  let v382 : BitVec 32 := Scalar.extui v381
  let v383 : BitVec 32 := Scalar.subi v380 v382
  let c2_i32_79 : BitVec 32 := 2#32
  let c0_i32_82 : BitVec 32 := 0#32
  let v384 : BitVec 1 := Scalar.cmpi .sgt c2_i32_79 c0_i32_82
  let v385 : BitVec 32 := Scalar.extui v384
  let c0_i32_83 : BitVec 32 := 0#32
  let v386 : BitVec 1 := Scalar.cmpi .slt c2_i32_79 c0_i32_83
  let v387 : BitVec 32 := Scalar.extui v386
  let v388 : BitVec 32 := Scalar.subi v385 v387
  let v389 : BitVec 1 := Scalar.cmpi .ne v383 v388
  let v390 : BitVec 32 := Scalar.remsi v91 c2_i32_79
  let c0_i32_84 : BitVec 32 := 0#32
  let v391 : BitVec 1 := Scalar.cmpi .ne v390 c0_i32_84
  let v392 : BitVec 1 := Scalar.andi v389 v391
  let v378 : BitVec 32 := Scalar.divsi v91 c2_i32_79
  let c1_i32_85 : BitVec 32 := 1#32
  let v393 : BitVec 32 := Scalar.subi v378 c1_i32_85
  let v394 : BitVec 32 := Scalar.select v392 v393 v378
  v394
def k0_mult40 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c512_i32 : BitVec 32 := 512#32
  let v90 : BitVec 32 := Scalar.muli arg21 c512_i32
  let v91 : BitVec 32 := v90
  let c0_i32_90 : BitVec 32 := 0#32
  let v405 : BitVec 1 := Scalar.cmpi .sgt v91 c0_i32_90
  let v406 : BitVec 32 := Scalar.extui v405
  let c0_i32_91 : BitVec 32 := 0#32
  let v407 : BitVec 1 := Scalar.cmpi .slt v91 c0_i32_91
  let v408 : BitVec 32 := Scalar.extui v407
  let v409 : BitVec 32 := Scalar.subi v406 v408
  let c2_i32_89 : BitVec 32 := 2#32
  let c0_i32_92 : BitVec 32 := 0#32
  let v410 : BitVec 1 := Scalar.cmpi .sgt c2_i32_89 c0_i32_92
  let v411 : BitVec 32 := Scalar.extui v410
  let c0_i32_93 : BitVec 32 := 0#32
  let v412 : BitVec 1 := Scalar.cmpi .slt c2_i32_89 c0_i32_93
  let v413 : BitVec 32 := Scalar.extui v412
  let v414 : BitVec 32 := Scalar.subi v411 v413
  let v415 : BitVec 1 := Scalar.cmpi .ne v409 v414
  let v416 : BitVec 32 := Scalar.remsi v91 c2_i32_89
  let c0_i32_94 : BitVec 32 := 0#32
  let v417 : BitVec 1 := Scalar.cmpi .ne v416 c0_i32_94
  let v418 : BitVec 1 := Scalar.andi v415 v417
  let v404 : BitVec 32 := Scalar.divsi v91 c2_i32_89
  let c1_i32_95 : BitVec 32 := 1#32
  let v419 : BitVec 32 := Scalar.subi v404 c1_i32_95
  let v420 : BitVec 32 := Scalar.select v418 v419 v404
  v420
def k0_mult41 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c256_i32_114 : BitVec 32 := 256#32
  let v656 : BitVec 32 := Scalar.muli arg21 c256_i32_114
  v656
def k0_off32 (k0_t10 : Fin k0_t10_loop.trips) : Fin 3 → Nat :=
  let c0_115 : Index := 0#32
  let c0_116 : Index := 0#32
  let c0_i32_32 : BitVec 32 := 0#32
  let c1_i32_34 : BitVec 32 := 1#32
  let arg21 : BitVec 32 := Scf.iv c0_i32_32 c1_i32_34 k0_t10
  let c256_i32_114 : BitVec 32 := 256#32
  let v656 : BitVec 32 := Scalar.muli arg21 c256_i32_114
  let v657 : BitVec 32 := v656
  let v658 : Index := Scalar.indexCast v657
  ![0, 0, v658.toNat]
def k0_mult42 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c256_i32_118 : BitVec 32 := 256#32
  let v663 : BitVec 32 := Scalar.muli arg21 c256_i32_118
  v663
def k0_off33 (k0_t10 : Fin k0_t10_loop.trips) : Fin 3 → Nat :=
  let c1_119 : Index := 1#32
  let c0_120 : Index := 0#32
  let c0_i32_32 : BitVec 32 := 0#32
  let c1_i32_34 : BitVec 32 := 1#32
  let arg21 : BitVec 32 := Scf.iv c0_i32_32 c1_i32_34 k0_t10
  let c256_i32_118 : BitVec 32 := 256#32
  let v663 : BitVec 32 := Scalar.muli arg21 c256_i32_118
  let v664 : BitVec 32 := v663
  let v665 : Index := Scalar.indexCast v664
  ![1, 0, v665.toNat]
def k0_mult43 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c256_i32_122 : BitVec 32 := 256#32
  let v670 : BitVec 32 := Scalar.muli arg21 c256_i32_122
  v670
def k0_mult44 (k0_t10 : Fin k0_t10_loop.trips) : BitVec 32 :=
  let c0_i32_32 : BitVec 32 := 0#32
  let c1_i32_34 : BitVec 32 := 1#32
  let arg21 : BitVec 32 := Scf.iv c0_i32_32 c1_i32_34 k0_t10
  let c256_i32_126 : BitVec 32 := 256#32
  let v677 : BitVec 32 := Scalar.muli arg21 c256_i32_126
  v677
def k0_off34 (k0_t9 : Fin k0_t9_loop.trips) : Fin 3 → Nat :=
  let c0_36 : Index := 0#32
  let c0_37 : Index := 0#32
  let c0_i32_26 : BitVec 32 := 0#32
  let c1_i32_27 : BitVec 32 := 1#32
  let arg20 : BitVec 32 := Scf.iv c0_i32_26 c1_i32_27 k0_t9
  let c256_i32 : BitVec 32 := 256#32
  let v69 : BitVec 32 := Scalar.muli arg20 c256_i32
  let v70 : BitVec 32 := v69
  let v74 : Index := Scalar.indexCast v70
  ![0, 0, v74.toNat]
def k0_off35 (k0_t9 : Fin k0_t9_loop.trips) : Fin 3 → Nat :=
  let c1_40 : Index := 1#32
  let c0_41 : Index := 0#32
  let c0_i32_26 : BitVec 32 := 0#32
  let c1_i32_27 : BitVec 32 := 1#32
  let arg20 : BitVec 32 := Scf.iv c0_i32_26 c1_i32_27 k0_t9
  let c256_i32 : BitVec 32 := 256#32
  let v69 : BitVec 32 := Scalar.muli arg20 c256_i32
  let v70 : BitVec 32 := v69
  let v82 : Index := Scalar.indexCast v70
  ![1, 0, v82.toNat]
def k0_cond3 (i : grid0.Static) : BitVec 1 :=
  let arg1 : BitVec 32 := BitVec.ofNat 32 (i 1).val
  let c13_i32 : BitVec 32 := 13#32
  let v58 : BitVec 1 := Scalar.cmpi .eq arg1 c13_i32
  let v59 : BitVec 32 := Scalar.extui v58
  let c0_i32_29 : BitVec 32 := 0#32
  let v60 : BitVec 1 := Scalar.cmpi .ne v59 c0_i32_29
  v60

def k0_off36 (arg0 : BitVec 32) : Fin 1 → Nat :=
  let v63 : Index := Scalar.indexCast arg0
  ![v63.toNat]

def k0_chk1 (i : grid0.Static) (arg0 : BitVec 32) : Prop :=
  (∀ (k0_h3 : k0_cond3 i = 1#1), ∀ a, (k0_off36 arg0) a + S1.size a ≤ S4.size a)
theorem k0_off36_inb : ∀ (i : grid0.Static) (arg0 : BitVec 32) (k0_hw1 : k0_chk1 i arg0), ∀ (k0_h3 : k0_cond3 i = 1#1), ∀ a, (k0_off36 arg0) a + S1.size a ≤ S4.size a := fun i arg0 k0_hw1 k0_h3 => k0_hw1 k0_h3

def k0_cond1 (i : grid0.Static) (arg0 : BitVec 32) : BitVec 1 :=
  let c0_i32_8 : BitVec 32 := 0#32
  let v29 : BitVec 1 := Scalar.cmpi .eq arg0 c0_i32_8
  let arg1 : BitVec 32 := BitVec.ofNat 32 (i 1).val
  let c0_i32_9 : BitVec 32 := 0#32
  let v30 : BitVec 1 := Scalar.cmpi .eq arg1 c0_i32_9
  let v31 : BitVec 1 := Scalar.andi v29 v30
  let v32 : BitVec 32 := Scalar.extui v31
  let c0_i32_10 : BitVec 32 := 0#32
  let v33 : BitVec 1 := Scalar.cmpi .ne v32 c0_i32_10
  v33

def cc0_transform_0 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (b : grid0.Bounds) (i : (grid0.at b).Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  ![v1.toNat, c0_i32.toNat, arg1.toNat]

def cc0_transform_5 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_6 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  ![v1.toNat, c0_i32.toNat, arg1.toNat]

def cc0_transform_7 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  let c0_i32_1 : BitVec 32 := 0#32
  ![v1.toNat, c0_i32.toNat, c0_i32_0.toNat]

def cc0_transform_8 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  ![v1.toNat, arg1.toNat, c0_i32.toNat]

def cc0_transform_9 (pf : pre0.Contents (Elt F)) (b : grid0.Bounds) (i : (grid0.at b).Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.atD 1 ![v0.toNat]
  let c0_i32 : BitVec 32 := 0#32
  let c0_i32_0 : BitVec 32 := 0#32
  ![v1.toNat, arg1.toNat, c0_i32.toNat]

def cc0_transform_10 (b : grid0.Bounds) (i : (grid0.at b).Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x48x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S48x2 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S48x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2x32x128 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x3072x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x3072x224 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x3072x512 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x3072x224 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x1536 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1024x48 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S2x48x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceIdeal.lean ====
abbrev S48x1x3072 : Shape := ⟨3, ![48, 1, 3072]⟩
abbrev S48x1x2 : Shape := ⟨3, ![48, 1, 2]⟩
abbrev S4x3072x7168 : Shape := ⟨3, ![4, 3072, 7168]⟩
abbrev S4x3072x224 : Shape := ⟨3, ![4, 3072, 224]⟩
abbrev S4x14336x1536 : Shape := ⟨3, ![4, 14336, 1536]⟩
abbrev S4x14336x48 : Shape := ⟨3, ![4, 14336, 48]⟩
abbrev S1x48x3072 : Shape := ⟨3, ![1, 48, 3072]⟩
abbrev S4x48x3072 : Shape := ⟨3, ![4, 48, 3072]⟩
abbrev S_ : Shape := ⟨0, ![]⟩
abbrev S1x4x3072x7168 : Shape := ⟨4, ![1, 4, 3072, 7168]⟩
abbrev S2x4x3072x7168 : Shape := ⟨4, ![2, 4, 3072, 7168]⟩
abbrev S2x4x3072x224x32 : Shape := ⟨5, ![2, 4, 3072, 224, 32]⟩
abbrev S4x3072x224x1 : Shape := ⟨4, ![4, 3072, 224, 1]⟩
abbrev S1x4x3072x224x1 : Shape := ⟨5, ![1, 4, 3072, 224, 1]⟩
abbrev S4x48x2x7168 : Shape := ⟨4, ![4, 48, 2, 7168]⟩
abbrev S4x48x7168x2 : Shape := ⟨4, ![4, 48, 7168, 2]⟩
abbrev S4x48x14336 : Shape := ⟨3, ![4, 48, 14336]⟩
abbrev S1x4x14336x1536 : Shape := ⟨4, ![1, 4, 14336, 1536]⟩
abbrev S2x4x14336x1536 : Shape := ⟨4, ![2, 4, 14336, 1536]⟩
abbrev S2x4x14336x48x32 : Shape := ⟨5, ![2, 4, 14336, 48, 32]⟩
abbrev S4x14336x48x1 : Shape := ⟨4, ![4, 14336, 48, 1]⟩
abbrev S1x4x14336x48x1 : Shape := ⟨5, ![1, 4, 14336, 48, 1]⟩
abbrev S4x48x2x1536 : Shape := ⟨4, ![4, 48, 2, 1536]⟩
abbrev S4 : Shape := ⟨1, ![4]⟩
abbrev S4x1x1 : Shape := ⟨3, ![4, 1, 1]⟩
abbrev S1x48x2 : Shape := ⟨3, ![1, 48, 2]⟩
abbrev S4x48x2 : Shape := ⟨3, ![4, 48, 2]⟩
abbrev S4x48 : Shape := ⟨2, ![4, 48]⟩
abbrev S4x48x1x1 : Shape := ⟨4, ![4, 48, 1, 1]⟩
abbrev S48x2x1536 : Shape := ⟨3, ![48, 2, 1536]⟩
abbrev S2x48x1536 : Shape := ⟨3, ![2, 48, 1536]⟩

abbrev nBuf : Space → Nat
  | .hbm => 311
  | .vmem => 0
  | .smem => 0
  | _ => 0

abbrev hbmTy0_0 (i : Nat) : BufTy := match i % 128 with
  | 0 => ⟨S48x1x3072, .bf16⟩
  | 1 => ⟨S48x1x2, .i32⟩
  | 2 => ⟨S48x1x2, .f32⟩
  | 3 => ⟨S4x3072x7168, .i8⟩
  | 4 => ⟨S4x3072x224, .f32⟩
  | 5 => ⟨S4x3072x7168, .i8⟩
  | 6 => ⟨S4x3072x224, .f32⟩
  | 7 => ⟨S4x14336x1536, .i8⟩
  | 8 => ⟨S4x14336x48, .f32⟩
  | 9 => ⟨S1x48x3072, .bf16⟩
  | 10 => ⟨S4x48x3072, .bf16⟩
  | 11 => ⟨S4x3072x7168, .i32⟩
  | 12 => ⟨S_, .i32⟩
  | 13 => ⟨S4x3072x7168, .i32⟩
  | 14 => ⟨S4x3072x7168, .i32⟩
  | 15 => ⟨S_, .i32⟩
  | 16 => ⟨S4x3072x7168, .i32⟩
  | 17 => ⟨S4x3072x7168, .i32⟩
  | 18 => ⟨S1x4x3072x7168, .i32⟩
  | 19 => ⟨S1x4x3072x7168, .i32⟩
  | 20 => ⟨S2x4x3072x7168, .i32⟩
  | 21 => ⟨S_, .i32⟩
  | 22 => ⟨S2x4x3072x7168, .i32⟩
  | 23 => ⟨S2x4x3072x7168, .i32⟩
  | 24 => ⟨S_, .i32⟩
  | 25 => ⟨S2x4x3072x7168, .i32⟩
  | 26 => ⟨S2x4x3072x7168, .i1⟩
  | 27 => ⟨S_, .i32⟩
  | 28 => ⟨S2x4x3072x7168, .i32⟩
  | 29 => ⟨S2x4x3072x7168, .i32⟩
  | 30 => ⟨S_, .i32⟩
  | 31 => ⟨S2x4x3072x7168, .i32⟩
  | 32 => ⟨S2x4x3072x7168, .i1⟩
  | 33 => ⟨S_, .i32⟩
  | 34 => ⟨S2x4x3072x7168, .i32⟩
  | 35 => ⟨S2x4x3072x7168, .i32⟩
  | 36 => ⟨S_, .i32⟩
  | 37 => ⟨S2x4x3072x7168, .i32⟩
  | 38 => ⟨S2x4x3072x7168, .i1⟩
  | 39 => ⟨S_, .i32⟩
  | 40 => ⟨S2x4x3072x7168, .i32⟩
  | 41 => ⟨S2x4x3072x7168, .i32⟩
  | 42 => ⟨S_, .i32⟩
  | 43 => ⟨S2x4x3072x7168, .i32⟩
  | 44 => ⟨S2x4x3072x7168, .i1⟩
  | 45 => ⟨S_, .bf16⟩
  | 46 => ⟨S_, .bf16⟩
  | 47 => ⟨S2x4x3072x7168, .bf16⟩
  | 48 => ⟨S2x4x3072x7168, .bf16⟩
  | 49 => ⟨S2x4x3072x7168, .bf16⟩
  | 50 => ⟨S_, .bf16⟩
  | 51 => ⟨S_, .bf16⟩
  | 52 => ⟨S2x4x3072x7168, .bf16⟩
  | 53 => ⟨S2x4x3072x7168, .bf16⟩
  | 54 => ⟨S2x4x3072x7168, .bf16⟩
  | 55 => ⟨S2x4x3072x7168, .bf16⟩
  | 56 => ⟨S_, .bf16⟩
  | 57 => ⟨S_, .bf16⟩
  | 58 => ⟨S2x4x3072x7168, .bf16⟩
  | 59 => ⟨S2x4x3072x7168, .bf16⟩
  | 60 => ⟨S2x4x3072x7168, .bf16⟩
  | 61 => ⟨S_, .bf16⟩
  | 62 => ⟨S_, .bf16⟩
  | 63 => ⟨S2x4x3072x7168, .bf16⟩
  | 64 => ⟨S2x4x3072x7168, .bf16⟩
  | 65 => ⟨S2x4x3072x7168, .bf16⟩
  | 66 => ⟨S2x4x3072x7168, .bf16⟩
  | 67 => ⟨S2x4x3072x7168, .bf16⟩
  | 68 => ⟨S_, .bf16⟩
  | 69 => ⟨S_, .bf16⟩
  | 70 => ⟨S2x4x3072x7168, .bf16⟩
  | 71 => ⟨S2x4x3072x7168, .bf16⟩
  | 72 => ⟨S2x4x3072x7168, .bf16⟩
  | 73 => ⟨S_, .bf16⟩
  | 74 => ⟨S_, .bf16⟩
  | 75 => ⟨S2x4x3072x7168, .bf16⟩
  | 76 => ⟨S2x4x3072x7168, .bf16⟩
  | 77 => ⟨S2x4x3072x7168, .bf16⟩
  | 78 => ⟨S2x4x3072x7168, .bf16⟩
  | 79 => ⟨S_, .bf16⟩
  | 80 => ⟨S_, .bf16⟩
  | 81 => ⟨S2x4x3072x7168, .bf16⟩
  | 82 => ⟨S2x4x3072x7168, .bf16⟩
  | 83 => ⟨S2x4x3072x7168, .bf16⟩
  | 84 => ⟨S_, .bf16⟩
  | 85 => ⟨S_, .bf16⟩
  | 86 => ⟨S2x4x3072x7168, .bf16⟩
  | 87 => ⟨S2x4x3072x7168, .bf16⟩
  | 88 => ⟨S2x4x3072x7168, .bf16⟩
  | 89 => ⟨S2x4x3072x7168, .bf16⟩
  | 90 => ⟨S2x4x3072x7168, .bf16⟩
  | 91 => ⟨S2x4x3072x7168, .bf16⟩
  | 92 => ⟨S2x4x3072x224x32, .bf16⟩
  | 93 => ⟨S4x3072x224, .bf16⟩
  | 94 => ⟨S4x3072x224x1, .bf16⟩
  | 95 => ⟨S1x4x3072x224x1, .bf16⟩
  | 96 => ⟨S2x4x3072x224x32, .bf16⟩
  | 97 => ⟨S2x4x3072x224x32, .bf16⟩
  | 98 => ⟨S2x4x3072x7168, .bf16⟩
  | 99 => ⟨S4x48x2x7168, .f32⟩
  | 100 => ⟨S4x3072x7168, .i32⟩
  | 101 => ⟨S_, .i32⟩
  | 102 => ⟨S4x3072x7168, .i32⟩
  | 103 => ⟨S4x3072x7168, .i32⟩
  | 104 => ⟨S_, .i32⟩
  | 105 => ⟨S4x3072x7168, .i32⟩
  | 106 => ⟨S4x3072x7168, .i32⟩
  | 107 => ⟨S1x4x3072x7168, .i32⟩
  | 108 => ⟨S1x4x3072x7168, .i32⟩
  | 109 => ⟨S2x4x3072x7168, .i32⟩
  | 110 => ⟨S_, .i32⟩
  | 111 => ⟨S2x4x3072x7168, .i32⟩
  | 112 => ⟨S2x4x3072x7168, .i32⟩
  | 113 => ⟨S_, .i32⟩
  | 114 => ⟨S2x4x3072x7168, .i32⟩
  | 115 => ⟨S2x4x3072x7168, .i1⟩
  | 116 => ⟨S_, .i32⟩
  | 117 => ⟨S2x4x3072x7168, .i32⟩
  | 118 => ⟨S2x4x3072x7168, .i32⟩
  | 119 => ⟨S_, .i32⟩
  | 120 => ⟨S2x4x3072x7168, .i32⟩
  | 121 => ⟨S2x4x3072x7168, .i1⟩
  | 122 => ⟨S_, .i32⟩
  | 123 => ⟨S2x4x3072x7168, .i32⟩
  | 124 => ⟨S2x4x3072x7168, .i32⟩
  | 125 => ⟨S_, .i32⟩
  | 126 => ⟨S2x4x3072x7168, .i32⟩
  | 127 => ⟨S2x4x3072x7168, .i1⟩
  | _ => ⟨S48x1x3072, .bf16⟩

abbrev hbmTy0_1 (i : Nat) : BufTy := match i % 128 with
  | 0 => ⟨S_, .i32⟩
  | 1 => ⟨S2x4x3072x7168, .i32⟩
  | 2 => ⟨S2x4x3072x7168, .i32⟩
  | 3 => ⟨S_, .i32⟩
  | 4 => ⟨S2x4x3072x7168, .i32⟩
  | 5 => ⟨S2x4x3072x7168, .i1⟩
  | 6 => ⟨S_, .bf16⟩
  | 7 => ⟨S_, .bf16⟩
  | 8 => ⟨S2x4x3072x7168, .bf16⟩
  | 9 => ⟨S2x4x3072x7168, .bf16⟩
  | 10 => ⟨S2x4x3072x7168, .bf16⟩
  | 11 => ⟨S_, .bf16⟩
  | 12 => ⟨S_, .bf16⟩
  | 13 => ⟨S2x4x3072x7168, .bf16⟩
  | 14 => ⟨S2x4x3072x7168, .bf16⟩
  | 15 => ⟨S2x4x3072x7168, .bf16⟩
  | 16 => ⟨S2x4x3072x7168, .bf16⟩
  | 17 => ⟨S_, .bf16⟩
  | 18 => ⟨S_, .bf16⟩
  | 19 => ⟨S2x4x3072x7168, .bf16⟩
  | 20 => ⟨S2x4x3072x7168, .bf16⟩
  | 21 => ⟨S2x4x3072x7168, .bf16⟩
  | 22 => ⟨S_, .bf16⟩
  | 23 => ⟨S_, .bf16⟩
  | 24 => ⟨S2x4x3072x7168, .bf16⟩
  | 25 => ⟨S2x4x3072x7168, .bf16⟩
  | 26 => ⟨S2x4x3072x7168, .bf16⟩
  | 27 => ⟨S2x4x3072x7168, .bf16⟩
  | 28 => ⟨S2x4x3072x7168, .bf16⟩
  | 29 => ⟨S_, .bf16⟩
  | 30 => ⟨S_, .bf16⟩
  | 31 => ⟨S2x4x3072x7168, .bf16⟩
  | 32 => ⟨S2x4x3072x7168, .bf16⟩
  | 33 => ⟨S2x4x3072x7168, .bf16⟩
  | 34 => ⟨S_, .bf16⟩
  | 35 => ⟨S_, .bf16⟩
  | 36 => ⟨S2x4x3072x7168, .bf16⟩
  | 37 => ⟨S2x4x3072x7168, .bf16⟩
  | 38 => ⟨S2x4x3072x7168, .bf16⟩
  | 39 => ⟨S2x4x3072x7168, .bf16⟩
  | 40 => ⟨S_, .bf16⟩
  | 41 => ⟨S_, .bf16⟩
  | 42 => ⟨S2x4x3072x7168, .bf16⟩
  | 43 => ⟨S2x4x3072x7168, .bf16⟩
  | 44 => ⟨S2x4x3072x7168, .bf16⟩
  | 45 => ⟨S_, .bf16⟩
  | 46 => ⟨S_, .bf16⟩
  | 47 => ⟨S2x4x3072x7168, .bf16⟩
  | 48 => ⟨S2x4x3072x7168, .bf16⟩
  | 49 => ⟨S2x4x3072x7168, .bf16⟩
  | 50 => ⟨S2x4x3072x7168, .bf16⟩
  | 51 => ⟨S2x4x3072x7168, .bf16⟩
  | 52 => ⟨S2x4x3072x7168, .bf16⟩
  | 53 => ⟨S2x4x3072x224x32, .bf16⟩
  | 54 => ⟨S4x3072x224, .bf16⟩
  | 55 => ⟨S4x3072x224x1, .bf16⟩
  | 56 => ⟨S1x4x3072x224x1, .bf16⟩
  | 57 => ⟨S2x4x3072x224x32, .bf16⟩
  | 58 => ⟨S2x4x3072x224x32, .bf16⟩
  | 59 => ⟨S2x4x3072x7168, .bf16⟩
  | 60 => ⟨S4x48x2x7168, .f32⟩
  | 61 => ⟨S4x48x2x7168, .f32⟩
  | 62 => ⟨S4x48x2x7168, .f32⟩
  | 63 => ⟨S_, .f32⟩
  | 64 => ⟨S4x48x2x7168, .f32⟩
  | 65 => ⟨S4x48x2x7168, .f32⟩
  | 66 => ⟨S_, .f32⟩
  | 67 => ⟨S4x48x2x7168, .f32⟩
  | 68 => ⟨S4x48x2x7168, .f32⟩
  | 69 => ⟨S4x48x2x7168, .f32⟩
  | 70 => ⟨S4x48x2x7168, .f32⟩
  | 71 => ⟨S4x48x2x7168, .bf16⟩
  | 72 => ⟨S4x48x7168x2, .bf16⟩
  | 73 => ⟨S4x48x14336, .bf16⟩
  | 74 => ⟨S4x14336x1536, .i32⟩
  | 75 => ⟨S_, .i32⟩
  | 76 => ⟨S4x14336x1536, .i32⟩
  | 77 => ⟨S4x14336x1536, .i32⟩
  | 78 => ⟨S_, .i32⟩
  | 79 => ⟨S4x14336x1536, .i32⟩
  | 80 => ⟨S4x14336x1536, .i32⟩
  | 81 => ⟨S1x4x14336x1536, .i32⟩
  | 82 => ⟨S1x4x14336x1536, .i32⟩
  | 83 => ⟨S2x4x14336x1536, .i32⟩
  | 84 => ⟨S_, .i32⟩
  | 85 => ⟨S2x4x14336x1536, .i32⟩
  | 86 => ⟨S2x4x14336x1536, .i32⟩
  | 87 => ⟨S_, .i32⟩
  | 88 => ⟨S2x4x14336x1536, .i32⟩
  | 89 => ⟨S2x4x14336x1536, .i1⟩
  | 90 => ⟨S_, .i32⟩
  | 91 => ⟨S2x4x14336x1536, .i32⟩
  | 92 => ⟨S2x4x14336x1536, .i32⟩
  | 93 => ⟨S_, .i32⟩
  | 94 => ⟨S2x4x14336x1536, .i32⟩
  | 95 => ⟨S2x4x14336x1536, .i1⟩
  | 96 => ⟨S_, .i32⟩
  | 97 => ⟨S2x4x14336x1536, .i32⟩
  | 98 => ⟨S2x4x14336x1536, .i32⟩
  | 99 => ⟨S_, .i32⟩
  | 100 => ⟨S2x4x14336x1536, .i32⟩
  | 101 => ⟨S2x4x14336x1536, .i1⟩
  | 102 => ⟨S_, .i32⟩
  | 103 => ⟨S2x4x14336x1536, .i32⟩
  | 104 => ⟨S2x4x14336x1536, .i32⟩
  | 105 => ⟨S_, .i32⟩
  | 106 => ⟨S2x4x14336x1536, .i32⟩
  | 107 => ⟨S2x4x14336x1536, .i1⟩
  | 108 => ⟨S_, .bf16⟩
  | 109 => ⟨S_, .bf16⟩
  | 110 => ⟨S2x4x14336x1536, .bf16⟩
  | 111 => ⟨S2x4x14336x1536, .bf16⟩
  | 112 => ⟨S2x4x14336x1536, .bf16⟩
  | 113 => ⟨S_, .bf16⟩
  | 114 => ⟨S_, .bf16⟩
  | 115 => ⟨S2x4x14336x1536, .bf16⟩
  | 116 => ⟨S2x4x14336x1536, .bf16⟩
  | 117 => ⟨S2x4x14336x1536, .bf16⟩
  | 118 => ⟨S2x4x14336x1536, .bf16⟩
  | 119 => ⟨S_, .bf16⟩
  | 120 => ⟨S_, .bf16⟩
  | 121 => ⟨S2x4x14336x1536, .bf16⟩
  | 122 => ⟨S2x4x14336x1536, .bf16⟩
  | 123 => ⟨S2x4x14336x1536, .bf16⟩
  | 124 => ⟨S_, .bf16⟩
  | 125 => ⟨S_, .bf16⟩
  | 126 => ⟨S2x4x14336x1536, .bf16⟩
  | 127 => ⟨S2x4x14336x1536, .bf16⟩
  | _ => ⟨S48x1x3072, .bf16⟩

abbrev hbmTy0_2 (i : Nat) : BufTy := match i % 128 with
  | 0 => ⟨S2x4x14336x1536, .bf16⟩
  | 1 => ⟨S2x4x14336x1536, .bf16⟩
  | 2 => ⟨S2x4x14336x1536, .bf16⟩
  | 3 => ⟨S_, .bf16⟩
  | 4 => ⟨S_, .bf16⟩
  | 5 => ⟨S2x4x14336x1536, .bf16⟩
  | 6 => ⟨S2x4x14336x1536, .bf16⟩
  | 7 => ⟨S2x4x14336x1536, .bf16⟩
  | 8 => ⟨S_, .bf16⟩
  | 9 => ⟨S_, .bf16⟩
  | 10 => ⟨S2x4x14336x1536, .bf16⟩
  | 11 => ⟨S2x4x14336x1536, .bf16⟩
  | 12 => ⟨S2x4x14336x1536, .bf16⟩
  | 13 => ⟨S2x4x14336x1536, .bf16⟩
  | 14 => ⟨S_, .bf16⟩
  | 15 => ⟨S_, .bf16⟩
  | 16 => ⟨S2x4x14336x1536, .bf16⟩
  | 17 => ⟨S2x4x14336x1536, .bf16⟩
  | 18 => ⟨S2x4x14336x1536, .bf16⟩
  | 19 => ⟨S_, .bf16⟩
  | 20 => ⟨S_, .bf16⟩
  | 21 => ⟨S2x4x14336x1536, .bf16⟩
  | 22 => ⟨S2x4x14336x1536, .bf16⟩
  | 23 => ⟨S2x4x14336x1536, .bf16⟩
  | 24 => ⟨S2x4x14336x1536, .bf16⟩
  | 25 => ⟨S2x4x14336x1536, .bf16⟩
  | 26 => ⟨S2x4x14336x1536, .bf16⟩
  | 27 => ⟨S2x4x14336x48x32, .bf16⟩
  | 28 => ⟨S4x14336x48, .bf16⟩
  | 29 => ⟨S4x14336x48x1, .bf16⟩
  | 30 => ⟨S1x4x14336x48x1, .bf16⟩
  | 31 => ⟨S2x4x14336x48x32, .bf16⟩
  | 32 => ⟨S2x4x14336x48x32, .bf16⟩
  | 33 => ⟨S2x4x14336x1536, .bf16⟩
  | 34 => ⟨S4x48x2x1536, .f32⟩
  | 35 => ⟨S4, .i32⟩
  | 36 => ⟨S4x1x1, .i32⟩
  | 37 => ⟨S1x48x2, .i32⟩
  | 38 => ⟨S4x48x2, .i32⟩
  | 39 => ⟨S4x48x2, .i32⟩
  | 40 => ⟨S4x48x2, .i1⟩
  | 41 => ⟨S1x48x2, .f32⟩
  | 42 => ⟨S_, .f32⟩
  | 43 => ⟨S_, .f32⟩
  | 44 => ⟨S4x48x2, .f32⟩
  | 45 => ⟨S4x48x2, .f32⟩
  | 46 => ⟨S4x48x2, .f32⟩
  | 47 => ⟨S_, .f32⟩
  | 48 => ⟨S4x48, .f32⟩
  | 49 => ⟨S4x48x1x1, .f32⟩
  | 50 => ⟨S4x48x2x1536, .f32⟩
  | 51 => ⟨S4x48x2x1536, .f32⟩
  | 52 => ⟨S_, .f32⟩
  | 53 => ⟨S48x2x1536, .f32⟩
  | 54 => ⟨S2x48x1536, .f32⟩
  | _ => ⟨S48x1x3072, .bf16⟩

abbrev hbmTy (i : Nat) : BufTy := match i / 128 with
  | 0 => hbmTy0_0 i
  | 1 => hbmTy0_1 i
  | 2 => hbmTy0_2 i
  | _ => ⟨S48x1x3072, .bf16⟩

abbrev bufTy : (tb : Table) → Fin (tcTables nBuf tb) → BufTy
  | .hbm, ⟨i, _⟩ => hbmTy i
  | _, _ => ⟨S48x1x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_c_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_v18 : Ref sig .tc := ⟨.hbm, 34, rfl⟩
abbrev main_v19 : Ref sig .tc := ⟨.hbm, 35, rfl⟩
abbrev main_c_6 : Ref sig .tc := ⟨.hbm, 36, rfl⟩
abbrev main_v20 : Ref sig .tc := ⟨.hbm, 37, rfl⟩
abbrev main_v21 : Ref sig .tc := ⟨.hbm, 38, rfl⟩
abbrev main_c_7 : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_cst : Ref sig .tc := ⟨.hbm, 45, rfl⟩
abbrev main_cst_9 : Ref sig .tc := ⟨.hbm, 46, rfl⟩
abbrev main_call0_v0 : Ref sig .tc := ⟨.hbm, 47, rfl⟩
abbrev main_call0_v1 : Ref sig .tc := ⟨.hbm, 48, rfl⟩
abbrev main_v26 : Ref sig .tc := ⟨.hbm, 49, rfl⟩
abbrev main_cst_10 : Ref sig .tc := ⟨.hbm, 50, rfl⟩
abbrev main_cst_11 : Ref sig .tc := ⟨.hbm, 51, rfl⟩
abbrev main_call1_v0 : Ref sig .tc := ⟨.hbm, 52, rfl⟩
abbrev main_call1_v1 : Ref sig .tc := ⟨.hbm, 53, rfl⟩
abbrev main_v27 : Ref sig .tc := ⟨.hbm, 54, rfl⟩
abbrev main_v28 : Ref sig .tc := ⟨.hbm, 55, rfl⟩
abbrev main_cst_12 : Ref sig .tc := ⟨.hbm, 56, rfl⟩
abbrev main_cst_13 : Ref sig .tc := ⟨.hbm, 57, rfl⟩
abbrev main_call3_v0 : Ref sig .tc := ⟨.hbm, 58, rfl⟩
abbrev main_call3_v1 : Ref sig .tc := ⟨.hbm, 59, rfl⟩
abbrev main_v29 : Ref sig .tc := ⟨.hbm, 60, rfl⟩
abbrev main_cst_14 : Ref sig .tc := ⟨.hbm, 61, rfl⟩
abbrev main_cst_15 : Ref sig .tc := ⟨.hbm, 62, rfl⟩
abbrev main_call4_v0 : Ref sig .tc := ⟨.hbm, 63, rfl⟩
abbrev main_call4_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_16 : Ref sig .tc := ⟨.hbm, 68, rfl⟩
abbrev main_cst_17 : Ref sig .tc := ⟨.hbm, 69, rfl⟩
abbrev main_call7_v0 : Ref sig .tc := ⟨.hbm, 70, rfl⟩
abbrev main_call7_v1 : Ref sig .tc := ⟨.hbm, 71, rfl⟩
abbrev main_v33 : Ref sig .tc := ⟨.hbm, 72, rfl⟩
abbrev main_cst_18 : Ref sig .tc := ⟨.hbm, 73, rfl⟩
abbrev main_cst_19 : Ref sig .tc := ⟨.hbm, 74, rfl⟩
abbrev main_call8_v0 : Ref sig .tc := ⟨.hbm, 75, rfl⟩
abbrev main_call8_v1 : Ref sig .tc := ⟨.hbm, 76, rfl⟩
abbrev main_v34 : Ref sig .tc := ⟨.hbm, 77, rfl⟩
abbrev main_v35 : Ref sig .tc := ⟨.hbm, 78, rfl⟩
abbrev main_cst_20 : Ref sig .tc := ⟨.hbm, 79, rfl⟩
abbrev main_cst_21 : Ref sig .tc := ⟨.hbm, 80, rfl⟩
abbrev main_call10_v0 : Ref sig .tc := ⟨.hbm, 81, rfl⟩
abbrev main_call10_v1 : Ref sig .tc := ⟨.hbm, 82, rfl⟩
abbrev main_v36 : Ref sig .tc := ⟨.hbm, 83, rfl⟩
abbrev main_cst_22 : Ref sig .tc := ⟨.hbm, 84, rfl⟩
abbrev main_cst_23 : Ref sig .tc := ⟨.hbm, 85, rfl⟩
abbrev main_call11_v0 : Ref sig .tc := ⟨.hbm, 86, rfl⟩
abbrev main_call11_v1 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_c_24 : Ref sig .tc := ⟨.hbm, 101, rfl⟩
abbrev main_v50 : Ref sig .tc := ⟨.hbm, 102, rfl⟩
abbrev main_v51 : Ref sig .tc := ⟨.hbm, 103, rfl⟩
abbrev main_c_25 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_c_26 : Ref sig .tc := ⟨.hbm, 110, rfl⟩
abbrev main_v57 : Ref sig .tc := ⟨.hbm, 111, rfl⟩
abbrev main_v58 : Ref sig .tc := ⟨.hbm, 112, rfl⟩
abbrev main_c_27 : Ref sig .tc := ⟨.hbm, 113, rfl⟩
abbrev main_v59 : Ref sig .tc := ⟨.hbm, 114, rfl⟩
abbrev main_v60 : Ref sig .tc := ⟨.hbm, 115, rfl⟩
abbrev main_c_28 : Ref sig .tc := ⟨.hbm, 116, rfl⟩
abbrev main_v61 : Ref sig .tc := ⟨.hbm, 117, rfl⟩
abbrev main_v62 : Ref sig .tc := ⟨.hbm, 118, rfl⟩
abbrev main_c_29 : Ref sig .tc := ⟨.hbm, 119, rfl⟩
abbrev main_v63 : Ref sig .tc := ⟨.hbm, 120, rfl⟩
abbrev main_v64 : Ref sig .tc := ⟨.hbm, 121, rfl⟩
abbrev main_c_30 : Ref sig .tc := ⟨.hbm, 122, rfl⟩
abbrev main_v65 : Ref sig .tc := ⟨.hbm, 123, rfl⟩
abbrev main_v66 : Ref sig .tc := ⟨.hbm, 124, rfl⟩
abbrev main_c_31 : Ref sig .tc := ⟨.hbm, 125, rfl⟩
abbrev main_v67 : Ref sig .tc := ⟨.hbm, 126, rfl⟩
abbrev main_v68 : Ref sig .tc := ⟨.hbm, 127, rfl⟩
abbrev main_c_32 : Ref sig .tc := ⟨.hbm, 128, rfl⟩
abbrev main_v69 : Ref sig .tc := ⟨.hbm, 129, rfl⟩
abbrev main_v70 : Ref sig .tc := ⟨.hbm, 130, rfl⟩
abbrev main_c_33 : Ref sig .tc := ⟨.hbm, 131, rfl⟩
abbrev main_v71 : Ref sig .tc := ⟨.hbm, 132, rfl⟩
abbrev main_v72 : Ref sig .tc := ⟨.hbm, 133, rfl⟩
abbrev main_cst_34 : Ref sig .tc := ⟨.hbm, 134, rfl⟩
abbrev main_cst_35 : Ref sig .tc := ⟨.hbm, 135, rfl⟩
abbrev main_call15_v0 : Ref sig .tc := ⟨.hbm, 136, rfl⟩
abbrev main_call15_v1 : Ref sig .tc := ⟨.hbm, 137, rfl⟩
abbrev main_v73 : Ref sig .tc := ⟨.hbm, 138, rfl⟩
abbrev main_cst_36 : Ref sig .tc := ⟨.hbm, 139, rfl⟩
abbrev main_cst_37 : Ref sig .tc := ⟨.hbm, 140, rfl⟩
abbrev main_call16_v0 : Ref sig .tc := ⟨.hbm, 141, rfl⟩
abbrev main_call16_v1 : Ref sig .tc := ⟨.hbm, 142, rfl⟩
abbrev main_v74 : Ref sig .tc := ⟨.hbm, 143, rfl⟩
abbrev main_v75 : Ref sig .tc := ⟨.hbm, 144, rfl⟩
abbrev main_cst_38 : Ref sig .tc := ⟨.hbm, 145, rfl⟩
abbrev main_cst_39 : Ref sig .tc := ⟨.hbm, 146, rfl⟩
abbrev main_call18_v0 : Ref sig .tc := ⟨.hbm, 147, rfl⟩
abbrev main_call18_v1 : Ref sig .tc := ⟨.hbm, 148, rfl⟩
abbrev main_v76 : Ref sig .tc := ⟨.hbm, 149, rfl⟩
abbrev main_cst_40 : Ref sig .tc := ⟨.hbm, 150, rfl⟩
abbrev main_cst_41 : Ref sig .tc := ⟨.hbm, 151, rfl⟩
abbrev main_call19_v0 : Ref sig .tc := ⟨.hbm, 152, rfl⟩
abbrev main_call19_v1 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_cst_42 : Ref sig .tc := ⟨.hbm, 157, rfl⟩
abbrev main_cst_43 : Ref sig .tc := ⟨.hbm, 158, rfl⟩
abbrev main_call22_v0 : Ref sig .tc := ⟨.hbm, 159, rfl⟩
abbrev main_call22_v1 : Ref sig .tc := ⟨.hbm, 160, rfl⟩
abbrev main_v80 : Ref sig .tc := ⟨.hbm, 161, rfl⟩
abbrev main_cst_44 : Ref sig .tc := ⟨.hbm, 162, rfl⟩
abbrev main_cst_45 : Ref sig .tc := ⟨.hbm, 163, rfl⟩
abbrev main_call23_v0 : Ref sig .tc := ⟨.hbm, 164, rfl⟩
abbrev main_call23_v1 : Ref sig .tc := ⟨.hbm, 165, rfl⟩
abbrev main_v81 : Ref sig .tc := ⟨.hbm, 166, rfl⟩
abbrev main_v82 : Ref sig .tc := ⟨.hbm, 167, rfl⟩
abbrev main_cst_46 : Ref sig .tc := ⟨.hbm, 168, rfl⟩
abbrev main_cst_47 : Ref sig .tc := ⟨.hbm, 169, rfl⟩
abbrev main_call25_v0 : Ref sig .tc := ⟨.hbm, 170, rfl⟩
abbrev main_call25_v1 : Ref sig .tc := ⟨.hbm, 171, rfl⟩
abbrev main_v83 : Ref sig .tc := ⟨.hbm, 172, rfl⟩
abbrev main_cst_48 : Ref sig .tc := ⟨.hbm, 173, rfl⟩
abbrev main_cst_49 : Ref sig .tc := ⟨.hbm, 174, rfl⟩
abbrev main_call26_v0 : Ref sig .tc := ⟨.hbm, 175, rfl⟩
abbrev main_call26_v1 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_call30_v0 : Ref sig .tc := ⟨.hbm, 189, rfl⟩
abbrev main_call30_v1 : Ref sig .tc := ⟨.hbm, 190, rfl⟩
abbrev main_call30_cst : Ref sig .tc := ⟨.hbm, 191, rfl⟩
abbrev main_call30_v2 : Ref sig .tc := ⟨.hbm, 192, rfl⟩
abbrev main_call30_v3 : Ref sig .tc := ⟨.hbm, 193, rfl⟩
abbrev main_call30_cst_0 : Ref sig .tc := ⟨.hbm, 194, rfl⟩
abbrev main_call30_v4 : Ref sig .tc := ⟨.hbm, 195, rfl⟩
abbrev main_call30_v5 : Ref sig .tc := ⟨.hbm, 196, rfl⟩
abbrev main_v96 : Ref sig .tc := ⟨.hbm, 197, rfl⟩
abbrev main_v97 : Ref sig .tc := ⟨.hbm, 198, rfl⟩
abbrev main_v98 : Ref sig .tc := ⟨.hbm, 199, rfl⟩
abbrev main_v99 : Ref sig .tc := ⟨.hbm, 200, rfl⟩
abbrev main_v100 : Ref sig .tc := ⟨.hbm, 201, rfl⟩
abbrev main_v101 : Ref sig .tc := ⟨.hbm, 202, rfl⟩
abbrev main_c_50 : Ref sig .tc := ⟨.hbm, 203, rfl⟩
abbrev main_v102 : Ref sig .tc := ⟨.hbm, 204, rfl⟩
abbrev main_v103 : Ref sig .tc := ⟨.hbm, 205, rfl⟩
abbrev main_c_51 : Ref sig .tc := ⟨.hbm, 206, rfl⟩
abbrev main_v104 : Ref sig .tc := ⟨.hbm, 207, rfl⟩
abbrev main_v105 : Ref sig .tc := ⟨.hbm, 208, rfl⟩
abbrev main_v106 : Ref sig .tc := ⟨.hbm, 209, rfl⟩
abbrev main_v107 : Ref sig .tc := ⟨.hbm, 210, rfl⟩
abbrev main_v108 : Ref sig .tc := ⟨.hbm, 211, rfl⟩
abbrev main_c_52 : Ref sig .tc := ⟨.hbm, 212, rfl⟩
abbrev main_v109 : Ref sig .tc := ⟨.hbm, 213, rfl⟩
abbrev main_v110 : Ref sig .tc := ⟨.hbm, 214, rfl⟩
abbrev main_c_53 : Ref sig .tc := ⟨.hbm, 215, rfl⟩
abbrev main_v111 : Ref sig .tc := ⟨.hbm, 216, rfl⟩
abbrev main_v112 : Ref sig .tc := ⟨.hbm, 217, rfl⟩
abbrev main_c_54 : Ref sig .tc := ⟨.hbm, 218, rfl⟩
abbrev main_v113 : Ref sig .tc := ⟨.hbm, 219, rfl⟩
abbrev main_v114 : Ref sig .tc := ⟨.hbm, 220, rfl⟩
abbrev main_c_55 : Ref sig .tc := ⟨.hbm, 221, rfl⟩
abbrev main_v115 : Ref sig .tc := ⟨.hbm, 222, rfl⟩
abbrev main_v116 : Ref sig .tc := ⟨.hbm, 223, rfl⟩
abbrev main_c_56 : Ref sig .tc := ⟨.hbm, 224, rfl⟩
abbrev main_v117 : Ref sig .tc := ⟨.hbm, 225, rfl⟩
abbrev main_v118 : Ref sig .tc := ⟨.hbm, 226, rfl⟩
abbrev main_c_57 : Ref sig .tc := ⟨.hbm, 227, rfl⟩
abbrev main_v119 : Ref sig .tc := ⟨.hbm, 228, rfl⟩
abbrev main_v120 : Ref sig .tc := ⟨.hbm, 229, rfl⟩
abbrev main_c_58 : Ref sig .tc := ⟨.hbm, 230, rfl⟩
abbrev main_v121 : Ref sig .tc := ⟨.hbm, 231, rfl⟩
abbrev main_v122 : Ref sig .tc := ⟨.hbm, 232, rfl⟩
abbrev main_c_59 : Ref sig .tc := ⟨.hbm, 233, rfl⟩
abbrev main_v123 : Ref sig .tc := ⟨.hbm, 234, rfl⟩
abbrev main_v124 : Ref sig .tc := ⟨.hbm, 235, rfl⟩
abbrev main_cst_60 : Ref sig .tc := ⟨.hbm, 236, rfl⟩
abbrev main_cst_61 : Ref sig .tc := ⟨.hbm, 237, rfl⟩
abbrev main_call31_v0 : Ref sig .tc := ⟨.hbm, 238, rfl⟩
abbrev main_call31_v1 : Ref sig .tc := ⟨.hbm, 239, rfl⟩
abbrev main_v125 : Ref sig .tc := ⟨.hbm, 240, rfl⟩
abbrev main_cst_62 : Ref sig .tc := ⟨.hbm, 241, rfl⟩
abbrev main_cst_63 : Ref sig .tc := ⟨.hbm, 242, rfl⟩
abbrev main_call32_v0 : Ref sig .tc := ⟨.hbm, 243, rfl⟩
abbrev main_call32_v1 : Ref sig .tc := ⟨.hbm, 244, rfl⟩
abbrev main_v126 : Ref sig .tc := ⟨.hbm, 245, rfl⟩
abbrev main_v127 : Ref sig .tc := ⟨.hbm, 246, rfl⟩
abbrev main_cst_64 : Ref sig .tc := ⟨.hbm, 247, rfl⟩
abbrev main_cst_65 : Ref sig .tc := ⟨.hbm, 248, rfl⟩
abbrev main_call34_v0 : Ref sig .tc := ⟨.hbm, 249, rfl⟩
abbrev main_call34_v1 : Ref sig .tc := ⟨.hbm, 250, rfl⟩
abbrev main_v128 : Ref sig .tc := ⟨.hbm, 251, rfl⟩
abbrev main_cst_66 : Ref sig .tc := ⟨.hbm, 252, rfl⟩
abbrev main_cst_67 : Ref sig .tc := ⟨.hbm, 253, rfl⟩
abbrev main_call35_v0 : Ref sig .tc := ⟨.hbm, 254, rfl⟩
abbrev main_call35_v1 : Ref sig .tc := ⟨.hbm, 255, rfl⟩
abbrev main_v129 : Ref sig .tc := ⟨.hbm, 256, rfl⟩
abbrev main_v130 : Ref sig .tc := ⟨.hbm, 257, rfl⟩
abbrev main_v131 : Ref sig .tc := ⟨.hbm, 258, rfl⟩
abbrev main_cst_68 : Ref sig .tc := ⟨.hbm, 259, rfl⟩
abbrev main_cst_69 : Ref sig .tc := ⟨.hbm, 260, rfl⟩
abbrev main_call38_v0 : Ref sig .tc := ⟨.hbm, 261, rfl⟩
abbrev main_call38_v1 : Ref sig .tc := ⟨.hbm, 262, rfl⟩
abbrev main_v132 : Ref sig .tc := ⟨.hbm, 263, rfl⟩
abbrev main_cst_70 : Ref sig .tc := ⟨.hbm, 264, rfl⟩
abbrev main_cst_71 : Ref sig .tc := ⟨.hbm, 265, rfl⟩
abbrev main_call39_v0 : Ref sig .tc := ⟨.hbm, 266, rfl⟩
abbrev main_call39_v1 : Ref sig .tc := ⟨.hbm, 267, rfl⟩
abbrev main_v133 : Ref sig .tc := ⟨.hbm, 268, rfl⟩
abbrev main_v134 : Ref sig .tc := ⟨.hbm, 269, rfl⟩
abbrev main_cst_72 : Ref sig .tc := ⟨.hbm, 270, rfl⟩
abbrev main_cst_73 : Ref sig .tc := ⟨.hbm, 271, rfl⟩
abbrev main_call41_v0 : Ref sig .tc := ⟨.hbm, 272, rfl⟩
abbrev main_call41_v1 : Ref sig .tc := ⟨.hbm, 273, rfl⟩
abbrev main_v135 : Ref sig .tc := ⟨.hbm, 274, rfl⟩
abbrev main_cst_74 : Ref sig .tc := ⟨.hbm, 275, rfl⟩
abbrev main_cst_75 : Ref sig .tc := ⟨.hbm, 276, rfl⟩
abbrev main_call42_v0 : Ref sig .tc := ⟨.hbm, 277, rfl⟩
abbrev main_call42_v1 : Ref sig .tc := ⟨.hbm, 278, rfl⟩
abbrev main_v136 : Ref sig .tc := ⟨.hbm, 279, rfl⟩
abbrev main_v137 : Ref sig .tc := ⟨.hbm, 280, rfl⟩
abbrev main_v138 : Ref sig .tc := ⟨.hbm, 281, rfl⟩
abbrev main_v139 : Ref sig .tc := ⟨.hbm, 282, rfl⟩
abbrev main_v140 : Ref sig .tc := ⟨.hbm, 283, rfl⟩
abbrev main_v141 : Ref sig .tc := ⟨.hbm, 284, rfl⟩
abbrev main_v142 : Ref sig .tc := ⟨.hbm, 285, rfl⟩
abbrev main_v143 : Ref sig .tc := ⟨.hbm, 286, rfl⟩
abbrev main_v144 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_v148 : Ref sig .tc := ⟨.hbm, 291, rfl⟩
abbrev main_v149 : Ref sig .tc := ⟨.hbm, 292, rfl⟩
abbrev main_v150 : Ref sig .tc := ⟨.hbm, 293, rfl⟩
abbrev main_v151 : Ref sig .tc := ⟨.hbm, 294, rfl⟩
abbrev main_v152 : Ref sig .tc := ⟨.hbm, 295, rfl⟩
abbrev main_v153 : Ref sig .tc := ⟨.hbm, 296, rfl⟩
abbrev main_v154 : Ref sig .tc := ⟨.hbm, 297, rfl⟩
abbrev main_cst_76 : Ref sig .tc := ⟨.hbm, 298, rfl⟩
abbrev main_call46_v0 : Ref sig .tc := ⟨.hbm, 299, rfl⟩
abbrev main_call46_v1 : Ref sig .tc := ⟨.hbm, 300, rfl⟩
abbrev main_call46_v2 : Ref sig .tc := ⟨.hbm, 301, rfl⟩
abbrev main_v155 : Ref sig .tc := ⟨.hbm, 302, rfl⟩
abbrev main_cst_77 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_cst_78 : Ref sig .tc := ⟨.hbm, 308, rfl⟩
abbrev main_v160 : Ref sig .tc := ⟨.hbm, 309, rfl⟩
abbrev main_v161 : Ref sig .tc := ⟨.hbm, 310, rfl⟩

abbrev nD : Nat := 1
abbrev τ : Topo := Topo.v7x

variable {F : FTy → Type} [FloatOps F]
-- ==== Proof.Ideal.Tiles.lean ====
/-
  The two loops of the kernel's body that write a buffer tile by tile while an inner loop accumulates the tile: the
  loop over the two column tiles of the hidden chunk (gate, up, and their gated product into the hidden buffer) and the
  loop over the six column tiles of the down projection (each added into the running sum). For each: one trip at a
  symbolic trip number, the pieces it writes found by the run; the pieces of all earlier trips by recursion; and the
  loop's invariant, by which the run of the whole body passes the loop.
-/
module

public import proofs.«01_k».proof.Proof.Gen.KernelIdeal.Loops

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### The up projection loop `k0_t6` -/

/-- One trip's resources: the buffers the region reads at their contents, and arg14, which it writes, at any. -/
abbrev Trip_k0_t6 (c : Dev nD) (arg3 : Memref sig .tc .vmem S2x48x1536 .bf16) (arg7 : Memref sig .tc .vmem S1x3072x512 .i8) (arg9 : Memref sig .tc .vmem S1x3072x512 .i8) (arg17 : Memref sig .tc .vmem S2x2x1536x128 .bf16) (arg18 : Memref sig .tc .vmem S2x2x1536x128 .bf16) (arg14 : Memref sig .tc .vmem S2x48x512 .bf16) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (f_arg14 : BufTy.Contents (Elt F) arg14.view.ty) : sProp 𝕄G :=
  iprop((arg3.view.loc (c : Thread nD τ) ↦[arg3.view.set]{fullShare} X_arg3) ∗ (arg7.view.loc (c : Thread nD τ) ↦[arg7.view.set]{fullShare} X_arg7) ∗ (arg9.view.loc (c : Thread nD τ) ↦[arg9.view.set]{fullShare} X_arg9) ∗ (arg17.view.loc (c : Thread nD τ) ↦[arg17.view.set]{fullShare} X_arg17) ∗ (arg18.view.loc (c : Thread nD τ) ↦[arg18.view.set]{fullShare} X_arg18) ∗ (arg14.view.loc (c : Thread nD τ) ↦[arg14.view.set]{fullShare} f_arg14))

/-- One trip at a symbolic `k`: the pieces it writes into arg14 are what the run finds. -/
@[irreducible] def trip_k0_t6 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (k : Fin k0_t6_loop.trips) :
    { L : (BufTy.Contents (Elt F) arg14.view.ty → List (View.Piece (Elt F) S2x48x512 .bf16)) // ∀ (E : Set ℕ) (f_arg14 : BufTy.Contents (Elt F) arg14.view.ty),
      Trip_k0_t6 (F := F) c arg3 arg7 arg9 arg17 arg18 arg14 X_arg3 X_arg7 X_arg9 X_arg17 X_arg18 f_arg14
      ⊢ wp frame (wpE (defs₀ (F := F)) 𝒱 (c : Thread nD τ) bd) E (k0_t6_body (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k PUnit.unit)
          (fun _ => Trip_k0_t6 (F := F) c arg3 arg7 arg9 arg17 arg18 arg14 X_arg3 X_arg7 X_arg9 X_arg17 X_arg18 (arg14.view.writes (Elt F) f_arg14 (L f_arg14))) } := by
  have hk : k.val < 2 := Nat.lt_of_lt_of_le k.isLt k0_t6_abs.2.1
  refine ⟨?_, fun E f_arg14 => ?run⟩
  case run =>
    unfold k0_t6_body
    iintro ⟨HR_arg3, HR_arg7, HR_arg9, HR_arg17, HR_arg18, HW_arg14⟩
    sl_exec
    sl_step
    sl_close

/-- The pieces of the trips before `k`, last first, over the contents `G` at loop entry. -/
def pb_k0_t6 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (G : BufTy.Contents (Elt F) arg14.view.ty) : ℕ → List (View.Piece (Elt F) S2x48x512 .bf16)
  | 0 => []
  | k + 1 =>
    if h : k < k0_t6_loop.trips then
      (trip_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 ⟨k, h⟩).1 (arg14.view.writes (Elt F) G (pb_k0_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k))
        ++ pb_k0_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k
    else pb_k0_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k

theorem pb_k0_t6_succ (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (G : BufTy.Contents (Elt F) arg14.view.ty) (k : Fin k0_t6_loop.trips) :
    pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G (k.val + 1) = (trip_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 k).1 (arg14.view.writes (Elt F) G (pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k.val)) ++ pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k.val := by
  rw [pb_k0_t6.eq_2]; exact dif_pos k.isLt

set_option warn.classDefReducibility false in
/-- The loop by its invariant: before trip `k` the pieces of the trips before `k` have been written over `G`. -/
@[sl_loop] def loopInv_k0_t6 (𝒱 : Variants) (c : Dev nD) (bd : Option 𝒱.V) (E : Set ℕ) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (G : BufTy.Contents (Elt F) arg14.view.ty) :
    LoopInvTy_k0_t6 (F := F) Unit ℕ (UR sig nD τ) ℕ 𝒱 c bd E b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 where
  inv k _ := iprop((arg3.view.loc (c : Thread nD τ) ↦[arg3.view.set]{fullShare} X_arg3) ∗ (arg7.view.loc (c : Thread nD τ) ↦[arg7.view.set]{fullShare} X_arg7) ∗ (arg9.view.loc (c : Thread nD τ) ↦[arg9.view.set]{fullShare} X_arg9) ∗ (arg17.view.loc (c : Thread nD τ) ↦[arg17.view.set]{fullShare} X_arg17) ∗ (arg18.view.loc (c : Thread nD τ) ↦[arg18.view.set]{fullShare} X_arg18)
    ∗ (∃ f, (arg14.view.loc (c : Thread nD τ) ↦[arg14.view.set]{fullShare} f) ∗ ⌜f = arg14.view.writes (Elt F) G (pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k)⌝))
  step k acc := by
    iintro ⟨HR_arg3, HR_arg7, HR_arg9, HR_arg17, HR_arg18, ⟨%f_arg14, HW_arg14, %h_arg14⟩⟩
    iapply (wp_wand_r Idealize.ShloMosaic.frame (wpE (defs₀ (F := F)) 𝒱 (c : Thread nD τ) bd) E)
    isplitl [HR_arg3 HR_arg7 HR_arg9 HR_arg17 HR_arg18 HW_arg14]
    · iapply ((trip_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 k).2 E f_arg14)
      isplitl [HR_arg3]; · iexact HR_arg3
      isplitl [HR_arg7]; · iexact HR_arg7
      isplitl [HR_arg9]; · iexact HR_arg9
      isplitl [HR_arg17]; · iexact HR_arg17
      isplitl [HR_arg18]; · iexact HR_arg18
      iexact HW_arg14
    · iintro %_ ⟨HR_arg3, HR_arg7, HR_arg9, HR_arg17, HR_arg18, HW_arg14⟩
      isplitl [HR_arg3]; · iexact HR_arg3
      isplitl [HR_arg7]; · iexact HR_arg7
      isplitl [HR_arg9]; · iexact HR_arg9
      isplitl [HR_arg17]; · iexact HR_arg17
      isplitl [HR_arg18]; · iexact HR_arg18
      rw [pb_k0_t6_succ]
      iexists _; isplitl [HW_arg14]; · iexact HW_arg14
      ipureintro; rw [h_arg14, ← View.writes_append]

/-! ### The down projection loop `k0_t9` -/

/-- One trip's resources: the buffers the region reads at their contents, and arg15, which it writes, at any. -/
abbrev Trip_k0_t9 (c : Dev nD) (arg11 : Memref sig .tc .vmem S1x1024x1536 .i8) (arg14 : Memref sig .tc .vmem S2x48x512 .bf16) (arg19 : Memref sig .tc .vmem S2x1x512x128 .bf16) (arg15 : Memref sig .tc .vmem S2x48x1536 .f32) (X_arg11 : BufTy.Contents (Elt F) arg11.view.ty) (X_arg14 : BufTy.Contents (Elt F) arg14.view.ty) (X_arg19 : BufTy.Contents (Elt F) arg19.view.ty) (f_arg15 : BufTy.Contents (Elt F) arg15.view.ty) : sProp 𝕄G :=
  iprop((arg11.view.loc (c : Thread nD τ) ↦[arg11.view.set]{fullShare} X_arg11) ∗ (arg14.view.loc (c : Thread nD τ) ↦[arg14.view.set]{fullShare} X_arg14) ∗ (arg19.view.loc (c : Thread nD τ) ↦[arg19.view.set]{fullShare} X_arg19) ∗ (arg15.view.loc (c : Thread nD τ) ↦[arg15.view.set]{fullShare} f_arg15))

/-- One trip at a symbolic `k`: the pieces it writes into arg15 are what the run finds. -/
@[irreducible] def trip_k0_t9 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (k : Fin k0_t9_loop.trips) :
    { L : (BufTy.Contents (Elt F) arg15.view.ty → List (View.Piece (Elt F) S2x48x1536 .f32)) // ∀ (E : Set ℕ) (f_arg15 : BufTy.Contents (Elt F) arg15.view.ty),
      Trip_k0_t9 (F := F) c arg11 arg14 arg19 arg15 X_arg11 X_arg14 X_arg19 f_arg15
      ⊢ wp frame (wpE (defs₀ (F := F)) 𝒱 (c : Thread nD τ) bd) E (k0_t9_body (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k PUnit.unit)
          (fun _ => Trip_k0_t9 (F := F) c arg11 arg14 arg19 arg15 X_arg11 X_arg14 X_arg19 (arg15.view.writes (Elt F) f_arg15 (L f_arg15))) } := by
  have hk : k.val < 6 := Nat.lt_of_lt_of_le k.isLt k0_t9_abs.2.1
  refine ⟨?_, fun E f_arg15 => ?run⟩
  case run =>
    unfold k0_t9_body
    iintro ⟨HR_arg11, HR_arg14, HR_arg19, HW_arg15⟩
    sl_exec
    sl_step
    sl_close

/-- The pieces of the trips before `k`, last first, over the contents `G` at loop entry. -/
def pb_k0_t9 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (G : BufTy.Contents (Elt F) arg15.view.ty) : ℕ → List (View.Piece (Elt F) S2x48x1536 .f32)
  | 0 => []
  | k + 1 =>
    if h : k < k0_t9_loop.trips then
      (trip_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 ⟨k, h⟩).1 (arg15.view.writes (Elt F) G (pb_k0_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k))
        ++ pb_k0_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k
    else pb_k0_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k

theorem pb_k0_t9_succ (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (G : BufTy.Contents (Elt F) arg15.view.ty) (k : Fin k0_t9_loop.trips) :
    pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G (k.val + 1) = (trip_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 k).1 (arg15.view.writes (Elt F) G (pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k.val)) ++ pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k.val := by
  rw [pb_k0_t9.eq_2]; exact dif_pos k.isLt

set_option warn.classDefReducibility false in
/-- The loop by its invariant: before trip `k` the pieces of the trips before `k` have been written over `G`. -/
@[sl_loop] def loopInv_k0_t9 (𝒱 : Variants) (c : Dev nD) (bd : Option 𝒱.V) (E : Set ℕ) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (G : BufTy.Contents (Elt F) arg15.view.ty) :
    LoopInvTy_k0_t9 (F := F) Unit ℕ (UR sig nD τ) ℕ 𝒱 c bd E b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 where
  inv k _ := iprop((arg11.view.loc (c : Thread nD τ) ↦[arg11.view.set]{fullShare} X_arg11) ∗ (arg14.view.loc (c : Thread nD τ) ↦[arg14.view.set]{fullShare} X_arg14) ∗ (arg19.view.loc (c : Thread nD τ) ↦[arg19.view.set]{fullShare} X_arg19)
    ∗ (∃ f, (arg15.view.loc (c : Thread nD τ) ↦[arg15.view.set]{fullShare} f) ∗ ⌜f = arg15.view.writes (Elt F) G (pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k)⌝))
  step k acc := by
    iintro ⟨HR_arg11, HR_arg14, HR_arg19, ⟨%f_arg15, HW_arg15, %h_arg15⟩⟩
    iapply (wp_wand_r Idealize.ShloMosaic.frame (wpE (defs₀ (F := F)) 𝒱 (c : Thread nD τ) bd) E)
    isplitl [HR_arg11 HR_arg14 HR_arg19 HW_arg15]
    · iapply ((trip_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 k).2 E f_arg15)
      isplitl [HR_arg11]; · iexact HR_arg11
      isplitl [HR_arg14]; · iexact HR_arg14
      isplitl [HR_arg19]; · iexact HR_arg19
      iexact HW_arg15
    · iintro %_ ⟨HR_arg11, HR_arg14, HR_arg19, HW_arg15⟩
      isplitl [HR_arg11]; · iexact HR_arg11
      isplitl [HR_arg14]; · iexact HR_arg14
      isplitl [HR_arg19]; · iexact HR_arg19
      rw [pb_k0_t9_succ]
      iexists _; isplitl [HW_arg15]; · iexact HW_arg15
      ipureintro; rw [h_arg15, ← View.writes_append]

end Cert.KernelIdeal.Hand

end
-- ==== Proof.Ideal.Body.lean ====
/-
  One run of the kernel's body at a symbolic grid point, passing its loops by their invariants: what it leaves in the
  output block and in the six scratch buffers is what the run finds, as functions of the contents it was handed.
-/
module

public import proofs.«01_k».proof.Proof.Ideal.Tiles

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The buffers the body is handed: the table of experts (shared), the ten input blocks, the output block and the six
    scratch buffers. -/
abbrev BodyRes (c : Dev nD) (arg2 : Memref sig .tc .smem S4 .i32) (arg3 : Memref sig .tc .vmem S2x48x1536 .bf16) (arg4 : Memref sig .tc .vmem S48x2 .i32) (arg5 : Memref sig .tc .vmem S48x2 .f32) (arg6 : Memref sig .tc .vmem S2x32x128 .i8) (arg7 : Memref sig .tc .vmem S1x3072x512 .i8) (arg8 : Memref sig .tc .vmem S1x3072x224 .f32) (arg9 : Memref sig .tc .vmem S1x3072x512 .i8) (arg10 : Memref sig .tc .vmem S1x3072x224 .f32) (arg11 : Memref sig .tc .vmem S1x1024x1536 .i8) (arg12 : Memref sig .tc .vmem S1x1024x48 .f32) (arg13 : Memref sig .tc .vmem S2x48x1536 .f32) (arg14 : Memref sig .tc .vmem S2x48x512 .bf16) (arg15 : Memref sig .tc .vmem S2x48x1536 .f32) (arg16 : Memref sig .tc .vmem S32x128 .f32) (arg17 : Memref sig .tc .vmem S2x2x1536x128 .bf16) (arg18 : Memref sig .tc .vmem S2x2x1536x128 .bf16) (arg19 : Memref sig .tc .vmem S2x1x512x128 .bf16)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)
    (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12)
    ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19))
set_option maxHeartbeats 40000000 in
/-- One run of the body at the first grid point. -/
@[irreducible] def bodyRun_A (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : k0_cond1 i arg0 = 1#1) (h2 : k0_cond2 i = 1#1) (h3 : ¬ k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

set_option maxHeartbeats 40000000 in
/-- One run of the body at the first point of a later expert. -/
@[irreducible] def bodyRun_B (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : k0_cond2 i = 1#1) (h3 : ¬ k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

set_option maxHeartbeats 40000000 in
/-- One run of the body at an inner point of an expert. -/
@[irreducible] def bodyRun_C (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : ¬ k0_cond2 i = 1#1) (h3 : ¬ k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

set_option maxHeartbeats 40000000 in
/-- One run of the body at the last point of an expert. -/
@[irreducible] def bodyRun_D (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : ¬ k0_cond2 i = 1#1) (h3 : k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

end Cert.KernelIdeal.Hand

end
-- ==== Proof.Ideal.Step.lean ====
/-
  One run of the kernel's body, whichever of its four shapes the grid point gives it: what holds of the contents each
  shape leaves holds after the run.
-/
module

public import proofs.«01_k».proof.Proof.Ideal.Body

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- `Post` holds of what each shape of the body leaves, of the contents it is handed. -/
structure StepOK (c : Dev nD) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (hchk : k0_chk1 i arg0)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)
    (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty)
    (Post : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → Prop) : Prop where
  A : ∀ (h1 : k0_cond1 i arg0 = 1#1) (h2 : k0_cond2 i = 1#1) (h3 : ¬ k0_cond3 i = 1#1), Post ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)
  B : ∀ (h1 : ¬ k0_cond1 i arg0 = 1#1) (h2 : k0_cond2 i = 1#1) (h3 : ¬ k0_cond3 i = 1#1), Post ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)
  C : ∀ (h1 : ¬ k0_cond1 i arg0 = 1#1) (h2 : ¬ k0_cond2 i = 1#1) (h3 : ¬ k0_cond3 i = 1#1), Post ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)
  D : ∀ (h1 : ¬ k0_cond1 i arg0 = 1#1) (h2 : ¬ k0_cond2 i = 1#1) (h3 : k0_cond3 i = 1#1), Post ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)

/-- The four shapes are all a grid point can give. -/
def Shapes (i : grid0.Static) (arg0 : BitVec 32) : Prop :=
  (k0_cond1 i arg0 = 1#1 ∧ k0_cond2 i = 1#1 ∧ ¬ k0_cond3 i = 1#1) ∨ (¬ k0_cond1 i arg0 = 1#1 ∧ k0_cond2 i = 1#1 ∧ ¬ k0_cond3 i = 1#1)
    ∨ (¬ k0_cond1 i arg0 = 1#1 ∧ ¬ k0_cond2 i = 1#1 ∧ ¬ k0_cond3 i = 1#1) ∨ (¬ k0_cond1 i arg0 = 1#1 ∧ ¬ k0_cond2 i = 1#1 ∧ k0_cond3 i = 1#1)

/-- The run of the body under `StepOK`. -/
theorem body_step (c : Dev nD) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (hchk : k0_chk1 i arg0) (hsh : Shapes i arg0)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)
    (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty)
    (Post : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → Prop)
    (H : StepOK c b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk X_arg2 X_arg3 X_arg4 X_arg5 X_arg6 X_arg7 X_arg8 X_arg9 X_arg10 X_arg11 X_arg12 f_arg13 f_arg14 f_arg15 f_arg16 f_arg17 f_arg18 f_arg19 Post) :
    BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) Variants.none (c : Thread nD τ) none) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ g_arg13 : BufTy.Contents (Elt F) arg13.view.ty, ∃ g_arg14 : BufTy.Contents (Elt F) arg14.view.ty, ∃ g_arg15 : BufTy.Contents (Elt F) arg15.view.ty, ∃ g_arg16 : BufTy.Contents (Elt F) arg16.view.ty, ∃ g_arg17 : BufTy.Contents (Elt F) arg17.view.ty, ∃ g_arg18 : BufTy.Contents (Elt F) arg18.view.ty, ∃ g_arg19 : BufTy.Contents (Elt F) arg19.view.ty, ⌜Post g_arg13 g_arg14 g_arg15 g_arg16 g_arg17 g_arg18 g_arg19⌝ ∗ BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 g_arg13 g_arg14 g_arg15 g_arg16 g_arg17 g_arg18 g_arg19)) := by
  have fin : ∀ (g_arg13 : BufTy.Contents (Elt F) arg13.view.ty) (g_arg14 : BufTy.Contents (Elt F) arg14.view.ty) (g_arg15 : BufTy.Contents (Elt F) arg15.view.ty) (g_arg16 : BufTy.Contents (Elt F) arg16.view.ty) (g_arg17 : BufTy.Contents (Elt F) arg17.view.ty) (g_arg18 : BufTy.Contents (Elt F) arg18.view.ty) (g_arg19 : BufTy.Contents (Elt F) arg19.view.ty), Post g_arg13 g_arg14 g_arg15 g_arg16 g_arg17 g_arg18 g_arg19 →
      (BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19 ⊢ wp frame (wpE (defs₀ (F := F)) Variants.none (c : Thread nD τ) none) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 g_arg13 g_arg14 g_arg15 g_arg16 g_arg17 g_arg18 g_arg19)) →
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19 ⊢ wp frame (wpE (defs₀ (F := F)) Variants.none (c : Thread nD τ) none) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ g_arg13 : BufTy.Contents (Elt F) arg13.view.ty, ∃ g_arg14 : BufTy.Contents (Elt F) arg14.view.ty, ∃ g_arg15 : BufTy.Contents (Elt F) arg15.view.ty, ∃ g_arg16 : BufTy.Contents (Elt F) arg16.view.ty, ∃ g_arg17 : BufTy.Contents (Elt F) arg17.view.ty, ∃ g_arg18 : BufTy.Contents (Elt F) arg18.view.ty, ∃ g_arg19 : BufTy.Contents (Elt F) arg19.view.ty, ⌜Post g_arg13 g_arg14 g_arg15 g_arg16 g_arg17 g_arg18 g_arg19⌝ ∗ BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 g_arg13 g_arg14 g_arg15 g_arg16 g_arg17 g_arg18 g_arg19)) := by
    intro g_arg13 g_arg14 g_arg15 g_arg16 g_arg17 g_arg18 g_arg19 hp hw
    refine hw.trans (wp_mono _ _ _ fun _ => ?_)
    iintro Hb
    iexists g_arg13, g_arg14, g_arg15, g_arg16, g_arg17, g_arg18, g_arg19
    isplitr
    · ipureintro; exact hp
    iexact Hb
  rcases hsh with ⟨h1, h2, h3⟩ | ⟨h1, h2, h3⟩ | ⟨h1, h2, h3⟩ | ⟨h1, h2, h3⟩
  · exact fin _ _ _ _ _ _ _ (H.A h1 h2 h3) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)
  · exact fin _ _ _ _ _ _ _ (H.B h1 h2 h3) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)
  · exact fin _ _ _ _ _ _ _ (H.C h1 h2 h3) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)
  · exact fin _ _ _ _ _ _ _ (H.D h1 h2 h3) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)

end Cert.KernelIdeal.Hand

end
-- ==== Proof.Ideal.Point.lean ====
/-
  One run of the kernel's body at a grid point, from the region's invariant and the staging buffers at what they hold, to
  the next point's invariant and an output block in a relation with the one found.
-/
module

public import proofs.«01_k».proof.Proof.Ideal.Step
public import Idealize.ShloMosaic.Lib.Pipeline.Frame

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a buffer of the core holds. -/
abbrev SBuf (b : Ref sig .tc) := BufTy.Contents (Elt F) (Memref.whole b).view.ty

/-- The region's invariant: the six scratch buffers under `I`, the two tables and the generator register. -/
def ΦS (tab : pre0.Contents (Elt F)) (I : SBuf (F := F) cc0_scratch0 → SBuf (F := F) cc0_scratch1 → SBuf (F := F) cc0_scratch2 → SBuf (F := F) cc0_scratch3 → SBuf (F := F) cc0_scratch4 → SBuf (F := F) cc0_scratch5 → Prop) (c : Dev nD) : sProp 𝕄G :=
  iprop((∃ f0 : SBuf (F := F) cc0_scratch0, ∃ f1 : SBuf (F := F) cc0_scratch1, ∃ f2 : SBuf (F := F) cc0_scratch2, ∃ f3 : SBuf (F := F) cc0_scratch3, ∃ f4 : SBuf (F := F) cc0_scratch4, ∃ f5 : SBuf (F := F) cc0_scratch5, ⌜I f0 f1 f2 f3 f4 f5⌝ ∗ (((c.tc : Thread nD τ).loc cc0_scratch0) ↦{fullShare} f0) ∗ (((c.tc : Thread nD τ).loc cc0_scratch1) ↦{fullShare} f1) ∗ (((c.tc : Thread nD τ).loc cc0_scratch2) ↦{fullShare} f2) ∗ (((c.tc : Thread nD τ).loc cc0_scratch3) ↦{fullShare} f3) ∗ (((c.tc : Thread nD τ).loc cc0_scratch4) ↦{fullShare} f4) ∗ (((c.tc : Thread nD τ).loc cc0_scratch5) ↦{fullShare} f5))
    ∗ ((((c.tc : Thread nD τ).loc main_v14) ↦{fullShare.right} tab 0) ∗ (((c.tc : Thread nD τ).loc main_v12) ↦{fullShare.right} tab 1)) ∗ (∃ r, prngReg c r))

section Abstract

variable {M : Type} [Idealize.SL.RA.URA M]

/-- The bookkeeping of a run at a grid point, with the resources abstract: what the buffers hold is taken out of the
    invariant and the staging buffers, the body run, and its result put back. -/
theorem point_abstract {α0 α1 α2 α3 α4 α5 β3 γ3 β4 γ4 β5 γ5 β6 γ6 β7 γ7 β8 γ8 β9 γ9 β10 γ10 β11 γ11 β12 γ12 β13 γ13 : Type}
    (P0 : α0 → sProp M) (P1 : α1 → sProp M) (P2 : α2 → sProp M) (P3 : α3 → sProp M) (P4 : α4 → sProp M) (P5 : α5 → sProp M) (T0 T1 G O : sProp M) (Q3 : β3 → sProp M) (rd3 : β3 → γ3) (Y3 : γ3) (Q4 : β4 → sProp M) (rd4 : β4 → γ4) (Y4 : γ4) (Q5 : β5 → sProp M) (rd5 : β5 → γ5) (Y5 : γ5) (Q6 : β6 → sProp M) (rd6 : β6 → γ6) (Y6 : γ6) (Q7 : β7 → sProp M) (rd7 : β7 → γ7) (Y7 : γ7) (Q8 : β8 → sProp M) (rd8 : β8 → γ8) (Y8 : γ8) (Q9 : β9 → sProp M) (rd9 : β9 → γ9) (Y9 : γ9) (Q10 : β10 → sProp M) (rd10 : β10 → γ10) (Y10 : γ10) (Q11 : β11 → sProp M) (rd11 : β11 → γ11) (Y11 : γ11) (Q12 : β12 → sProp M) (rd12 : β12 → γ12) (Y12 : γ12) (Q13 : β13 → sProp M) (rd13 : β13 → γ13) (Y13 : γ13)
    (I I' : α0 → α1 → α2 → α3 → α4 → α5 → Prop) (aft : γ13 → γ13 → Prop)
    (w : sProp M → sProp M) (hw : ∀ A B, (A ⊢ B) → (w A ⊢ w B)) (hf : ∀ A B, iprop(w A ∗ B) ⊢ w iprop(A ∗ B))
    (H : ∀ X3 X4 X5 X6 X7 X8 X9 X10 X11 X12 X13 f0 f1 f2 f3 f4 f5, rd3 X3 = Y3 → rd4 X4 = Y4 → rd5 X5 = Y5 → rd6 X6 = Y6 → rd7 X7 = Y7 → rd8 X8 = Y8 → rd9 X9 = Y9 → rd10 X10 = Y10 → rd11 X11 = Y11 → rd12 X12 = Y12 → rd13 X13 = Y13 → I f0 f1 f2 f3 f4 f5 →
      (iprop(T1 ∗ Q3 X3 ∗ Q4 X4 ∗ Q5 X5 ∗ Q6 X6 ∗ Q7 X7 ∗ Q8 X8 ∗ Q9 X9 ∗ Q10 X10 ∗ Q11 X11 ∗ Q12 X12 ∗ Q13 X13 ∗ P0 f0 ∗ P1 f1 ∗ P2 f2 ∗ P3 f3 ∗ P4 f4 ∗ P5 f5) ⊢
        w iprop(∃ g13, ∃ r0, ∃ r1, ∃ r2, ∃ r3, ∃ r4, ∃ r5, ⌜aft Y13 (rd13 g13) ∧ I' r0 r1 r2 r3 r4 r5⌝ ∗ T1 ∗ Q3 X3 ∗ Q4 X4 ∗ Q5 X5 ∗ Q6 X6 ∗ Q7 X7 ∗ Q8 X8 ∗ Q9 X9 ∗ Q10 X10 ∗ Q11 X11 ∗ Q12 X12 ∗ Q13 g13 ∗ P0 r0 ∗ P1 r1 ∗ P2 r2 ∗ P3 r3 ∗ P4 r4 ∗ P5 r5))) :
    iprop(((∃ f0, ∃ f1, ∃ f2, ∃ f3, ∃ f4, ∃ f5, ⌜I f0 f1 f2 f3 f4 f5⌝ ∗ P0 f0 ∗ P1 f1 ∗ P2 f2 ∗ P3 f3 ∗ P4 f4 ∗ P5 f5) ∗ (T0 ∗ T1) ∗ G) ∗ O ∗ (∃ X, ⌜rd3 X = Y3⌝ ∗ Q3 X) ∗ (∃ X, ⌜rd4 X = Y4⌝ ∗ Q4 X) ∗ (∃ X, ⌜rd5 X = Y5⌝ ∗ Q5 X) ∗ (∃ X, ⌜rd6 X = Y6⌝ ∗ Q6 X) ∗ (∃ X, ⌜rd7 X = Y7⌝ ∗ Q7 X) ∗ (∃ X, ⌜rd8 X = Y8⌝ ∗ Q8 X) ∗ (∃ X, ⌜rd9 X = Y9⌝ ∗ Q9 X) ∗ (∃ X, ⌜rd10 X = Y10⌝ ∗ Q10 X) ∗ (∃ X, ⌜rd11 X = Y11⌝ ∗ Q11 X) ∗ (∃ X, ⌜rd12 X = Y12⌝ ∗ Q12 X) ∗ (∃ X, ⌜rd13 X = Y13⌝ ∗ Q13 X))
      ⊢ w iprop(((∃ f0, ∃ f1, ∃ f2, ∃ f3, ∃ f4, ∃ f5, ⌜I' f0 f1 f2 f3 f4 f5⌝ ∗ P0 f0 ∗ P1 f1 ∗ P2 f2 ∗ P3 f3 ∗ P4 f4 ∗ P5 f5) ∗ (T0 ∗ T1) ∗ G) ∗ O ∗ (∃ Z, ⌜Z = Y3⌝ ∗ ∃ X, ⌜rd3 X = Z⌝ ∗ Q3 X) ∗ (∃ Z, ⌜Z = Y4⌝ ∗ ∃ X, ⌜rd4 X = Z⌝ ∗ Q4 X) ∗ (∃ Z, ⌜Z = Y5⌝ ∗ ∃ X, ⌜rd5 X = Z⌝ ∗ Q5 X) ∗ (∃ Z, ⌜Z = Y6⌝ ∗ ∃ X, ⌜rd6 X = Z⌝ ∗ Q6 X) ∗ (∃ Z, ⌜Z = Y7⌝ ∗ ∃ X, ⌜rd7 X = Z⌝ ∗ Q7 X) ∗ (∃ Z, ⌜Z = Y8⌝ ∗ ∃ X, ⌜rd8 X = Z⌝ ∗ Q8 X) ∗ (∃ Z, ⌜Z = Y9⌝ ∗ ∃ X, ⌜rd9 X = Z⌝ ∗ Q9 X) ∗ (∃ Z, ⌜Z = Y10⌝ ∗ ∃ X, ⌜rd10 X = Z⌝ ∗ Q10 X) ∗ (∃ Z, ⌜Z = Y11⌝ ∗ ∃ X, ⌜rd11 X = Z⌝ ∗ Q11 X) ∗ (∃ Z, ⌜Z = Y12⌝ ∗ ∃ X, ⌜rd12 X = Z⌝ ∗ Q12 X)
          ∗ (∃ Z, ⌜aft Y13 Z⌝ ∗ ∃ X, ⌜rd13 X = Z⌝ ∗ Q13 X)) := by
  iintro ⟨⟨⟨%f0, %f1, %f2, %f3, %f4, %f5, %hI, S⟩, ⟨T0, T1⟩, Hg⟩, HO, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩⟩
  have K := H X3 X4 X5 X6 X7 X8 X9 X10 X11 X12 X13 f0 f1 f2 f3 f4 f5 h3 h4 h5 h6 h7 h8 h9 h10 h11 h12 h13 hI
  have K2 : iprop((T1 ∗ Q3 X3 ∗ Q4 X4 ∗ Q5 X5 ∗ Q6 X6 ∗ Q7 X7 ∗ Q8 X8 ∗ Q9 X9 ∗ Q10 X10 ∗ Q11 X11 ∗ Q12 X12 ∗ Q13 X13 ∗ P0 f0 ∗ P1 f1 ∗ P2 f2 ∗ P3 f3 ∗ P4 f4 ∗ P5 f5) ∗ T0 ∗ G ∗ O) ⊢ w iprop(((∃ f0, ∃ f1, ∃ f2, ∃ f3, ∃ f4, ∃ f5, ⌜I' f0 f1 f2 f3 f4 f5⌝ ∗ P0 f0 ∗ P1 f1 ∗ P2 f2 ∗ P3 f3 ∗ P4 f4 ∗ P5 f5) ∗ (T0 ∗ T1) ∗ G) ∗ O ∗ (∃ Z, ⌜Z = Y3⌝ ∗ ∃ X, ⌜rd3 X = Z⌝ ∗ Q3 X) ∗ (∃ Z, ⌜Z = Y4⌝ ∗ ∃ X, ⌜rd4 X = Z⌝ ∗ Q4 X) ∗ (∃ Z, ⌜Z = Y5⌝ ∗ ∃ X, ⌜rd5 X = Z⌝ ∗ Q5 X) ∗ (∃ Z, ⌜Z = Y6⌝ ∗ ∃ X, ⌜rd6 X = Z⌝ ∗ Q6 X) ∗ (∃ Z, ⌜Z = Y7⌝ ∗ ∃ X, ⌜rd7 X = Z⌝ ∗ Q7 X) ∗ (∃ Z, ⌜Z = Y8⌝ ∗ ∃ X, ⌜rd8 X = Z⌝ ∗ Q8 X) ∗ (∃ Z, ⌜Z = Y9⌝ ∗ ∃ X, ⌜rd9 X = Z⌝ ∗ Q9 X) ∗ (∃ Z, ⌜Z = Y10⌝ ∗ ∃ X, ⌜rd10 X = Z⌝ ∗ Q10 X) ∗ (∃ Z, ⌜Z = Y11⌝ ∗ ∃ X, ⌜rd11 X = Z⌝ ∗ Q11 X) ∗ (∃ Z, ⌜Z = Y12⌝ ∗ ∃ X, ⌜rd12 X = Z⌝ ∗ Q12 X)
          ∗ (∃ Z, ⌜aft Y13 Z⌝ ∗ ∃ X, ⌜rd13 X = Z⌝ ∗ Q13 X)) :=
    ((BI.sep_mono K (BI.Entails.refl _)).trans (hf _ _)).trans (hw _ _ ?fin)
  case fin =>
    exact (show _ ⊢ iprop(((∃ f0, ∃ f1, ∃ f2, ∃ f3, ∃ f4, ∃ f5, ⌜I' f0 f1 f2 f3 f4 f5⌝ ∗ P0 f0 ∗ P1 f1 ∗ P2 f2 ∗ P3 f3 ∗ P4 f4 ∗ P5 f5) ∗ (T0 ∗ T1) ∗ G) ∗ O ∗ (∃ Z, ⌜Z = Y3⌝ ∗ ∃ X, ⌜rd3 X = Z⌝ ∗ Q3 X) ∗ (∃ Z, ⌜Z = Y4⌝ ∗ ∃ X, ⌜rd4 X = Z⌝ ∗ Q4 X) ∗ (∃ Z, ⌜Z = Y5⌝ ∗ ∃ X, ⌜rd5 X = Z⌝ ∗ Q5 X) ∗ (∃ Z, ⌜Z = Y6⌝ ∗ ∃ X, ⌜rd6 X = Z⌝ ∗ Q6 X) ∗ (∃ Z, ⌜Z = Y7⌝ ∗ ∃ X, ⌜rd7 X = Z⌝ ∗ Q7 X) ∗ (∃ Z, ⌜Z = Y8⌝ ∗ ∃ X, ⌜rd8 X = Z⌝ ∗ Q8 X) ∗ (∃ Z, ⌜Z = Y9⌝ ∗ ∃ X, ⌜rd9 X = Z⌝ ∗ Q9 X) ∗ (∃ Z, ⌜Z = Y10⌝ ∗ ∃ X, ⌜rd10 X = Z⌝ ∗ Q10 X) ∗ (∃ Z, ⌜Z = Y11⌝ ∗ ∃ X, ⌜rd11 X = Z⌝ ∗ Q11 X) ∗ (∃ Z, ⌜Z = Y12⌝ ∗ ∃ X, ⌜rd12 X = Z⌝ ∗ Q12 X)
          ∗ (∃ Z, ⌜aft Y13 Z⌝ ∗ ∃ X, ⌜rd13 X = Z⌝ ∗ Q13 X)) from by
      iintro ⟨⟨%g13, %r0, %r1, %r2, %r3, %r4, %r5, %hp, T1, H3, H4, H5, H6, H7, H8, H9, H10, H11, H12, H13, S⟩, T0, Hg, HO⟩
      isplitl [S T0 T1 Hg]
      · isplitl [S]
        · iexists r0, r1, r2, r3, r4, r5
          isplitr
          · ipureintro; exact hp.2
          iexact S
        isplitl [T0 T1]
        · isplitl [T0]
          · iexact T0
          iexact T1
        iexact Hg
      isplitl [HO]; · iexact HO
      isplitl [H3]
      · iexists Y3
        isplitr
        · ipureintro; rfl
        iexists X3
        isplitr
        · ipureintro; exact h3
        iexact H3
      isplitl [H4]
      · iexists Y4
        isplitr
        · ipureintro; rfl
        iexists X4
        isplitr
        · ipureintro; exact h4
        iexact H4
      isplitl [H5]
      · iexists Y5
        isplitr
        · ipureintro; rfl
        iexists X5
        isplitr
        · ipureintro; exact h5
        iexact H5
      isplitl [H6]
      · iexists Y6
        isplitr
        · ipureintro; rfl
        iexists X6
        isplitr
        · ipureintro; exact h6
        iexact H6
      isplitl [H7]
      · iexists Y7
        isplitr
        · ipureintro; rfl
        iexists X7
        isplitr
        · ipureintro; exact h7
        iexact H7
      isplitl [H8]
      · iexists Y8
        isplitr
        · ipureintro; rfl
        iexists X8
        isplitr
        · ipureintro; exact h8
        iexact H8
      isplitl [H9]
      · iexists Y9
        isplitr
        · ipureintro; rfl
        iexists X9
        isplitr
        · ipureintro; exact h9
        iexact H9
      isplitl [H10]
      · iexists Y10
        isplitr
        · ipureintro; rfl
        iexists X10
        isplitr
        · ipureintro; exact h10
        iexact H10
      isplitl [H11]
      · iexists Y11
        isplitr
        · ipureintro; rfl
        iexists X11
        isplitr
        · ipureintro; exact h11
        iexact H11
      isplitl [H12]
      · iexists Y12
        isplitr
        · ipureintro; rfl
        iexists X12
        isplitr
        · ipureintro; exact h12
        iexact H12
      iexists rd13 g13
      isplitr
      · ipureintro; exact hp.1
      iexists g13
      isplitr
      · ipureintro; rfl
      iexact H13)
  iapply K2
  isplitr [T0 Hg HO]
  · isplitl [T1]; · iexact T1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact S
  isplitl [T0]; · iexact T0
  isplitl [Hg]; · iexact Hg
  iexact HO

end Abstract

set_option maxHeartbeats 1000000 in
/-- The run at a grid point. -/
theorem point_run (tab : pre0.Contents (Elt F)) (I I' : SBuf (F := F) cc0_scratch0 → SBuf (F := F) cc0_scratch1 → SBuf (F := F) cc0_scratch2 → SBuf (F := F) cc0_scratch3 → SBuf (F := F) cc0_scratch4 → SBuf (F := F) cc0_scratch5 → Prop) (c : Dev nD) (O : sProp 𝕄G)
    (b : grid0.Bounds) (i : grid0.Static) (arg0 : BitVec 32) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (hchk : k0_chk1 i arg0) (hsh : Shapes i arg0)
    (Y_arg3 : (S2x48x1536.Idx → Elt F .bf16)) (Y_arg4 : (S48x2.Idx → Elt F .i32)) (Y_arg5 : (S48x2.Idx → Elt F .f32)) (Y_arg6 : (S2x32x128.Idx → Elt F .i8)) (Y_arg7 : (S1x3072x512.Idx → Elt F .i8)) (Y_arg8 : (S1x3072x224.Idx → Elt F .f32)) (Y_arg9 : (S1x3072x512.Idx → Elt F .i8)) (Y_arg10 : (S1x3072x224.Idx → Elt F .f32)) (Y_arg11 : (S1x1024x1536.Idx → Elt F .i8)) (Y_arg12 : (S1x1024x48.Idx → Elt F .f32)) (Y_arg13 : (S2x48x1536.Idx → Elt F .f32)) (aft : (S2x48x1536.Idx → Elt F .f32) → (S2x48x1536.Idx → Elt F .f32) → Prop)
    (hs : ∀ (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (g10 : BufTy.Contents (Elt F) arg13.view.ty) (f0 : SBuf (F := F) cc0_scratch0) (f1 : SBuf (F := F) cc0_scratch1) (f2 : SBuf (F := F) cc0_scratch2) (f3 : SBuf (F := F) cc0_scratch3) (f4 : SBuf (F := F) cc0_scratch4) (f5 : SBuf (F := F) cc0_scratch5),
      arg3.view.read (Elt F) X_arg3 = Y_arg3 → arg4.view.read (Elt F) X_arg4 = Y_arg4 → arg5.view.read (Elt F) X_arg5 = Y_arg5 → arg6.view.read (Elt F) X_arg6 = Y_arg6 → arg7.view.read (Elt F) X_arg7 = Y_arg7 → arg8.view.read (Elt F) X_arg8 = Y_arg8 → arg9.view.read (Elt F) X_arg9 = Y_arg9 → arg10.view.read (Elt F) X_arg10 = Y_arg10 → arg11.view.read (Elt F) X_arg11 = Y_arg11 → arg12.view.read (Elt F) X_arg12 = Y_arg12 → arg13.view.read (Elt F) g10 = Y_arg13 → I f0 f1 f2 f3 f4 f5 →
      StepOK c b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hchk (tab 1) X_arg3 X_arg4 X_arg5 X_arg6 X_arg7 X_arg8 X_arg9 X_arg10 X_arg11 X_arg12 g10 f0 f1 f2 f3 f4 f5 (fun r10 r0 r1 r2 r3 r4 r5 => aft Y_arg13 (arg13.view.read (Elt F) r10) ∧ I' r0 r1 r2 r3 r4 r5)) :
    iprop(ΦS tab I c ∗ O ∗ owns (c : Thread nD τ) arg3 fullShare Y_arg3 ∗ owns (c : Thread nD τ) arg4 fullShare Y_arg4 ∗ owns (c : Thread nD τ) arg5 fullShare Y_arg5 ∗ owns (c : Thread nD τ) arg6 fullShare Y_arg6 ∗ owns (c : Thread nD τ) arg7 fullShare Y_arg7 ∗ owns (c : Thread nD τ) arg8 fullShare Y_arg8 ∗ owns (c : Thread nD τ) arg9 fullShare Y_arg9 ∗ owns (c : Thread nD τ) arg10 fullShare Y_arg10 ∗ owns (c : Thread nD τ) arg11 fullShare Y_arg11 ∗ owns (c : Thread nD τ) arg12 fullShare Y_arg12 ∗ owns (c : Thread nD τ) arg13 fullShare Y_arg13)
      ⊢ wp frame (wpE (defs₀ (F := F)) Variants.none (c : Thread nD τ) none) Set.univ (cc0_moe_nf4 (F := F) b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _))
          (fun _ => iprop(ΦS tab I' c ∗ O ∗ (∃ X, ⌜X = Y_arg3⌝ ∗ owns (c : Thread nD τ) arg3 fullShare X) ∗ (∃ X, ⌜X = Y_arg4⌝ ∗ owns (c : Thread nD τ) arg4 fullShare X) ∗ (∃ X, ⌜X = Y_arg5⌝ ∗ owns (c : Thread nD τ) arg5 fullShare X) ∗ (∃ X, ⌜X = Y_arg6⌝ ∗ owns (c : Thread nD τ) arg6 fullShare X) ∗ (∃ X, ⌜X = Y_arg7⌝ ∗ owns (c : Thread nD τ) arg7 fullShare X) ∗ (∃ X, ⌜X = Y_arg8⌝ ∗ owns (c : Thread nD τ) arg8 fullShare X) ∗ (∃ X, ⌜X = Y_arg9⌝ ∗ owns (c : Thread nD τ) arg9 fullShare X) ∗ (∃ X, ⌜X = Y_arg10⌝ ∗ owns (c : Thread nD τ) arg10 fullShare X) ∗ (∃ X, ⌜X = Y_arg11⌝ ∗ owns (c : Thread nD τ) arg11 fullShare X) ∗ (∃ X, ⌜X = Y_arg12⌝ ∗ owns (c : Thread nD τ) arg12 fullShare X)
            ∗ (∃ X, ⌜aft Y_arg13 X⌝ ∗ owns (c : Thread nD τ) arg13 fullShare X))) := by
  unfold ΦS owns
  refine point_abstract (fun f : SBuf (F := F) cc0_scratch0 => iprop(((c.tc : Thread nD τ).loc cc0_scratch0) ↦{fullShare} f)) (fun f : SBuf (F := F) cc0_scratch1 => iprop(((c.tc : Thread nD τ).loc cc0_scratch1) ↦{fullShare} f)) (fun f : SBuf (F := F) cc0_scratch2 => iprop(((c.tc : Thread nD τ).loc cc0_scratch2) ↦{fullShare} f)) (fun f : SBuf (F := F) cc0_scratch3 => iprop(((c.tc : Thread nD τ).loc cc0_scratch3) ↦{fullShare} f)) (fun f : SBuf (F := F) cc0_scratch4 => iprop(((c.tc : Thread nD τ).loc cc0_scratch4) ↦{fullShare} f)) (fun f : SBuf (F := F) cc0_scratch5 => iprop(((c.tc : Thread nD τ).loc cc0_scratch5) ↦{fullShare} f)) _ _ _ _
    _ (arg3.view.read (Elt F)) _ _ (arg4.view.read (Elt F)) _ _ (arg5.view.read (Elt F)) _ _ (arg6.view.read (Elt F)) _ _ (arg7.view.read (Elt F)) _ _ (arg8.view.read (Elt F)) _ _ (arg9.view.read (Elt F)) _ _ (arg10.view.read (Elt F)) _ _ (arg11.view.read (Elt F)) _ _ (arg12.view.read (Elt F)) _ _ (arg13.view.read (Elt F)) _ I I' aft
    (fun A => wp frame (wpE (defs₀ (F := F)) Variants.none (c : Thread nD τ) none) Set.univ (cc0_moe_nf4 (F := F) b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) (fun _ => A)) (fun A B h => wp_mono _ _ _ fun _ => h) (fun A B => wp_frame_r _ _ _) ?_
  intro X_arg3 X_arg4 X_arg5 X_arg6 X_arg7 X_arg8 X_arg9 X_arg10 X_arg11 X_arg12 X_arg13 f0 f1 f2 f3 f4 f5 h_arg3 h_arg4 h_arg5 h_arg6 h_arg7 h_arg8 h_arg9 h_arg10 h_arg11 h_arg12 h_arg13 hI
  have H := body_step c b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hchk hsh (tab 1) X_arg3 X_arg4 X_arg5 X_arg6 X_arg7 X_arg8 X_arg9 X_arg10 X_arg11 X_arg12 X_arg13 f0 f1 f2 f3 f4 f5 _ (hs X_arg3 X_arg4 X_arg5 X_arg6 X_arg7 X_arg8 X_arg9 X_arg10 X_arg11 X_arg12 X_arg13 f0 f1 f2 f3 f4 f5 h_arg3 h_arg4 h_arg5 h_arg6 h_arg7 h_arg8 h_arg9 h_arg10 h_arg11 h_arg12 h_arg13 hI)
  unfold BodyRes at H
  simp only [Memref.view_whole, View.set_whole] at H
  exact H

end Cert.KernelIdeal.Hand

end
-- ==== Proof.Ideal.Host.lean ====
/-
  What the host lines before the kernel leave: which experts some token asks for, the order the experts are visited in
  and their number, and that these make the pipeline's tables admissible whatever the arguments are.
-/
module

public import proofs.«01_k».proof.Proof.Gen.KernelIdeal.Launch
public import Idealize.ShloMosaic.Lib.Pipeline.Frame
public import Idealize.ShloMosaic.Lib.SortFacts
public import Idealize.ShloMosaic.Lib.StableHlo.Run
public import Idealize.ShloMosaic.Lib.StableHlo.RunClose

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The host lines before the kernel, stretch by stretch. -/
abbrev opss : List (List (HloOp τ sig (Elt F))) := [hostOps0, hostOps0_1, hostOps0_2, hostOps0_3]

/-- What the buffers hold when the kernel starts. -/
abbrev V (c : Dev nD) (b : Ref sig .tc) : Buf (Elt F) ((c.tc : Thread nD τ).loc b) :=
  StableHlo.after (opss (F := F)).flatten (fun b => m (c, b)) b

/-- @main is those host lines, then the kernel. -/
theorem hmain : Pipeline.HMainP (Ix := Unit) (Name := ℕ) (U := UR sig nD τ) (Lvl := ℕ) (pcfgs (F := F)) 0 defs₀ Variants.none
    m (main (F := F)) (V m) :=
  Pipeline.hmainP_prefixes pcfgs 0 defs₀ _ m main opss ⟨hostOps0_sub, hostOps0_1_sub, hostOps0_2_sub, hostOps0_3_sub⟩
    (by refine ⟨?_, ?_, ?_, ?_⟩ <;> (repeat' constructor)) main_chain

/-- The tokens' experts as the host lines read them: one row per token, two columns. -/
def ids (c : Dev nD) : S48x2.Idx → BitVec 32 := shapeCast S48x2 (m (c, Proc.tc.devRef main_arg1)) shapeCasts_S48x1x2_S48x2

/-- Whether some token asks for expert `e`. -/
def act (c : Dev nD) : S4.Idx → BitVec 1 :=
  Host.reduce IntOp.ori
    (cmpi CmpIPredicate.eq (broadcastInDim S96x4 ![0, 1] bcast_S96x1_S96x4_0_1 (shapeCast S96x1 (ids m c) shapeCasts_S48x2_S96x1))
      (broadcastInDim S96x4 ![0, 1] bcast_S1x4_S96x4_0_1 (broadcastInDim S1x4 ![1] bcast_S4_S1x4_1 (iotaInDim S4 32 0))))
    (constantI S_ 1 0#1) reducesTo_S96x4_S4_d0 h_S_

/-- The order of the experts, the wanted ones first, of the flags `a`. -/
def ordOf (a : S4.Idx → BitVec 1) : S4.Idx → BitVec 32 :=
  (Host.sort2 S4 0 comparator_i32_i32_d0
    (select a (broadcastInDim S4 ![] bcast_S_S4 (constantI S_ 32 0#32)) (broadcastInDim S4 ![] bcast_S_S4 (constantI S_ 32 1#32)))
    (iotaInDim S4 32 0)).2

/-- The number of wanted experts, of the flags `a`. -/
def cntOf (a : S4.Idx → BitVec 1) : S_.Idx → BitVec 32 :=
  Host.reduce IntOp.addi (extui 32 a natLt_1_32) (constantI S_ 32 0#32) reducesTo_S4_S_d0 h_S_

theorem V_arg0 (c : Dev nD) : V m c main_arg0 = m (c, Proc.tc.devRef main_arg0) := by
  unfold V opss
  simp only [List.flatten_cons, List.flatten_nil, List.append_nil, List.cons_append, List.nil_append]
  after_results
theorem V_arg1 (c : Dev nD) : V m c main_arg1 = m (c, Proc.tc.devRef main_arg1) := by
  unfold V opss
  simp only [List.flatten_cons, List.flatten_nil, List.append_nil, List.cons_append, List.nil_append]
  after_results
theorem V_arg2 (c : Dev nD) : V m c main_arg2 = m (c, Proc.tc.devRef main_arg2) := by
  unfold V opss
  simp only [List.flatten_cons, List.flatten_nil, List.append_nil, List.cons_append, List.nil_append]
  after_results
theorem V_arg3 (c : Dev nD) : V m c main_arg3 = m (c, Proc.tc.devRef main_arg3) := by
  unfold V opss
  simp only [List.flatten_cons, List.flatten_nil, List.append_nil, List.cons_append, List.nil_append]
  after_results
theorem V_arg4 (c : Dev nD) : V m c main_arg4 = m (c, Proc.tc.devRef main_arg4) := by
  unfold V opss
  simp only [List.flatten_cons, List.flatten_nil, List.append_nil, List.cons_append, List.nil_append]
  after_results
theorem V_arg5 (c : Dev nD) : V m c main_arg5 = m (c, Proc.tc.devRef main_arg5) := by
  unfold V opss
  simp only [List.flatten_cons, List.flatten_nil, List.append_nil, List.cons_append, List.nil_append]
  after_results
theorem V_arg6 (c : Dev nD) : V m c main_arg6 = m (c, Proc.tc.devRef main_arg6) := by
  unfold V opss
  simp only [List.flatten_cons, List.flatten_nil, List.append_nil, List.cons_append, List.nil_append]
  after_results
theorem V_arg7 (c : Dev nD) : V m c main_arg7 = m (c, Proc.tc.devRef main_arg7) := by
  unfold V opss
  simp only [List.flatten_cons, List.flatten_nil, List.append_nil, List.cons_append, List.nil_append]
  after_results
theorem V_arg8 (c : Dev nD) : V m c main_arg8 = m (c, Proc.tc.devRef main_arg8) := by
  unfold V opss
  simp only [List.flatten_cons, List.flatten_nil, List.append_nil, List.cons_append, List.nil_append]
  after_results
theorem V_v3 (c : Dev nD) : V m c main_v3 = ids m c := by
  unfold V opss
  simp only [List.flatten_cons, List.flatten_nil, List.append_nil, List.cons_append, List.nil_append]
  after_results; rfl
theorem V_v12 (c : Dev nD) : V m c main_v12 = ordOf (act m c) := by
  unfold V opss
  simp only [List.flatten_cons, List.flatten_nil, List.append_nil, List.cons_append, List.nil_append]
  after_results; rfl
theorem V_v14 (c : Dev nD) : V m c main_v14 = cntOf (act m c) := by
  unfold V opss
  simp only [List.flatten_cons, List.flatten_nil, List.append_nil, List.cons_append, List.nil_append]
  after_results; rfl
/-- The two planes of `x`: plane `p` holds the columns `2 c + p`. -/
theorem V_v2 (c : Dev nD) : V m c main_v2 = transpose S2x48x1536 [2, 0, 1]
    (shapeCast S48x1536x2 (m (c, Proc.tc.devRef main_arg0)) shapeCasts_S48x1x3072_S48x1536x2) transposes_S48x1536x2_S2x48x1536_2_0_1 := by
  unfold V opss
  simp only [List.flatten_cons, List.flatten_nil, List.append_nil, List.cons_append, List.nil_append]
  after_results; rfl
theorem V_v15 (c : Dev nD) : V m c main_v15 = shapeCast S48x2 (m (c, Proc.tc.devRef main_arg2)) shapeCasts_S48x1x2_S48x2 := by
  unfold V opss
  simp only [List.flatten_cons, List.flatten_nil, List.append_nil, List.cons_append, List.nil_append]
  after_results; rfl
theorem V_v0 (c : Dev nD) : V m c main_v0 = broadcastInDim S2x32x128 ![0, 1] bcast_S2x32_S2x32x128_0_1 (fun i => lit0 (S2x32.rowMajor i)) := by
  unfold V opss
  simp only [List.flatten_cons, List.flatten_nil, List.append_nil, List.cons_append, List.nil_append]
  after_results; rfl

/-- The flags as bits. -/
def flags (w : Fin 4 → Bool) : S4.Idx → BitVec 1 := fun x => if w (x 0) then 1#1 else 0#1

theorem eq_flags (a : S4.Idx → BitVec 1) : a = flags fun e => a (Shape.Idx.ofFin e) == 1#1 := by
  funext x
  unfold flags
  have h : ∀ v : BitVec 1, v = if (v == 1#1) = true then 1#1 else 0#1 := by decide
  exact (h (a x)).trans (by rw [Shape.Idx.eq_ofFin x]; rfl)

/-- Entry `k` of the order is an expert: the one the stable sort of the flags puts there. -/
def perm (w : Fin 4 → Bool) (k : Fin 4) : Fin 4 :=
  sortedFrom (fun k k' : Fin 4 => IntOp.cmpi .slt (if w k then 0#32 else 1#32) (if w k' then 0#32 else 1#32) == 1#1) k

theorem perm_injective (w : Fin 4 → Bool) : Function.Injective (perm w) := sortedFrom_injective _

theorem ord_flags (w : Fin 4 → Bool) : ∀ k : Fin 4, ordOf (flags w) (Shape.Idx.ofFin k) = BitVec.ofNat 32 (perm w k).val := by
  revert w; decide +kernel

theorem cnt_flags (w : Fin 4 → Bool) : (cntOf (flags w) (fun a => a.elim0)).toNat ≤ 4
    ∧ ∀ k : Fin 4, (k.val < (cntOf (flags w) (fun a => a.elim0)).toNat ↔ w (perm w k) = true) := by
  revert w; decide +kernel

/-- Which experts some token asks for. -/
def wants (c : Dev nD) (e : Fin 4) : Bool := act m c (Shape.Idx.ofFin e) == 1#1

theorem act_eq (c : Dev nD) : act m c = flags (wants m c) := eq_flags _

/-- The tables the pipeline runs at: the number of experts and their order. -/
def pf : pre0.Contents (Elt F) := fun k => V m 0 (pre0.ref k)

/-- The number of experts visited. -/
def cnt : ℕ := (cntOf (flags (wants m 0)) (fun a => a.elim0)).toNat

theorem cnt_le : cnt m ≤ 4 := (cnt_flags _).1

theorem dynb_pf : dynb0 (pf m) = ![cnt m, 14] := by
  unfold dynb0
  rw [show pf m 0 = V m 0 main_v14 from rfl, V_v14, act_eq]
  rfl

theorem pf_atD (n : ℕ) (hn : n < 4) : (pf m).atD 1 ![n] = BitVec.ofNat 32 (perm (wants m 0) ⟨n, hn⟩).val := by
  have h : ∀ a, (![n] : Fin 1 → Nat) a + 1 ≤ S4.size a := fun a => by fin_cases a; exact hn
  have e : (pf m).atD 1 ![n] = V m 0 main_v12 (fun a => ⟨![n] a, h a⟩) := dif_pos h
  rw [e, V_v12, act_eq, ← ord_flags]
  congr 1
  funext a; fin_cases a; rfl

/-- The expert visited at step `n` (the first one's where there is no such step). -/
def expert (n : ℕ) : Fin 4 := if h : n < 4 then perm (wants m 0) ⟨n, h⟩ else 0

theorem expert_eq {n : ℕ} (hn : n < 4) : expert m n = perm (wants m 0) ⟨n, hn⟩ := dif_pos hn

theorem idx_toNat {n : ℕ} (hn : n < 4) : (Scalar.indexCast (BitVec.ofNat 32 n) : Index).toNat = n := by
  have h : ∀ n : Fin 4, (Scalar.indexCast (BitVec.ofNat 32 n.val) : Index).toNat = n.val := by decide
  exact h ⟨n, hn⟩

theorem bv_toNat {n : ℕ} (hn : n < 2 ^ 32) : (BitVec.ofNat 32 n).toNat = n := by
  rw [BitVec.toNat_ofNat, Nat.mod_eq_of_lt hn]

theorem coord0 {b : grid0.Bounds} (hb : b = ![cnt m, 14]) (i : (grid0.at b).Coords) : (i 0).val < 4 := by
  subst hb; exact lt_of_lt_of_le (i 0).isLt (cnt_le m)

theorem coord1 {b : grid0.Bounds} (i : (grid0.at b).Coords) : (i 1).val < 14 := (i 1).isLt

section Transforms

variable {b : grid0.Bounds} (hb : b = ![cnt m, 14]) (i : (grid0.at b).Coords)
include hb

theorem tr4 : cc0_transform_4 (pf m) b i = ![(expert m (i 0).val).val, 0, (i 1).val] := by
  have h0 := coord0 m hb i
  have h1 := coord1 i
  unfold cc0_transform_4
  simp only [idx_toNat h0, pf_atD m _ h0, expert_eq m h0]
  rw [bv_toNat (n := (i 1).val) (by omega), bv_toNat (n := (perm (wants m 0) ⟨_, h0⟩).val) (by omega)]; rfl

theorem tr5 : cc0_transform_5 (pf m) b i = ![(expert m (i 0).val).val, 0, 0] := by
  have h0 := coord0 m hb i
  unfold cc0_transform_5
  simp only [idx_toNat h0, pf_atD m _ h0, expert_eq m h0]
  rw [bv_toNat (by omega)]; rfl

theorem tr6 : cc0_transform_6 (pf m) b i = ![(expert m (i 0).val).val, 0, (i 1).val] := tr4 m hb i

theorem tr7 : cc0_transform_7 (pf m) b i = ![(expert m (i 0).val).val, 0, 0] := tr5 m hb i

theorem tr8 : cc0_transform_8 (pf m) b i = ![(expert m (i 0).val).val, (i 1).val, 0] := by
  have h0 := coord0 m hb i
  have h1 := coord1 i
  unfold cc0_transform_8
  simp only [idx_toNat h0, pf_atD m _ h0, expert_eq m h0]
  rw [bv_toNat (n := (i 1).val) (by omega), bv_toNat (n := (perm (wants m 0) ⟨_, h0⟩).val) (by omega)]; rfl

theorem tr9 : cc0_transform_9 (pf m) b i = ![(expert m (i 0).val).val, (i 1).val, 0] := tr8 m hb i

end Transforms

theorem words_mid {s : Shape} (hs : s.rank = 3) (p : ℕ) (size ix : Fin s.rank → Nat)
    (h : ∀ a, (ix a + 1) * size a ≤ s.size a) (hp : p ∣ size (s.rowAx (by omega))) : (Rect.block (s := s) size ix h).WholeWords p :=
  .inl (.inr ⟨by omega, rfl, .inl ⟨Dvd.dvd.mul_left hp _, hp⟩⟩)

theorem ok_pf : ok0 (pf m) := by
  unfold ok0
  have hb := dynb_pf m
  generalize dynb0 (pf m) = b at hb
  refine ⟨?_, fun i a => ?_, fun i => ⟨?_, .inr (.inl (.inl ?_))⟩, fun i => ⟨?_, .inl rfl⟩, fun i => ⟨?_, .inl rfl⟩, fun i => ⟨?_, .inr (.inl (.inl ?_))⟩,
    fun i => ⟨?_, .inr (words_mid rfl _ _ _ _ (by decide))⟩, fun i => ⟨?_, .inl rfl⟩,
    fun i => ⟨?_, .inr (words_mid rfl _ _ _ _ (by decide))⟩, fun i => ⟨?_, .inl rfl⟩,
    fun i => ⟨?_, .inr (words_mid rfl _ _ _ _ (by decide))⟩, fun i => ⟨?_, .inl rfl⟩, fun i => ⟨?_, .inl rfl⟩⟩
  · subst hb
    have h4 := cnt_le m
    show (grid0.at ![cnt m, 14]).N + 2 < 2 ^ 31
    rw [show (grid0.at ![cnt m, 14]).N = cnt m * 14 from rfl]
    omega
  · have h0 := coord0 m hb i
    have e : k0_off1 b i = ![(i 0).val] := by unfold k0_off1; simp only [idx_toNat h0]
    rw [e]; fin_cases a
    show (i 0).val + 1 ≤ 4
    omega
  · show ∀ a : Fin 3, _
    intro a; fin_cases a <;> exact Nat.le_refl _
  · show ∀ a : Fin 3, _
    intro a; fin_cases a <;> exact ⟨rfl, rfl, rfl⟩
  · show ∀ a : Fin 2, _
    intro a; fin_cases a <;> exact Nat.le_refl _
  · show ∀ a : Fin 2, _
    intro a; fin_cases a <;> exact Nat.le_refl _
  · show ∀ a : Fin 3, _
    intro a; fin_cases a <;> exact Nat.le_refl _
  · show ∀ a : Fin 3, _
    intro a; fin_cases a <;> exact ⟨rfl, rfl, rfl⟩
  all_goals
    have he := (expert m (i 0).val).isLt
    have h1 := coord1 i
    first | rw [tr4 m hb] | rw [tr5 m hb] | rw [tr6 m hb] | rw [tr7 m hb] | rw [tr8 m hb] | rw [tr9 m hb] | skip
    show ∀ a : Fin 3, _
    intro a
    fin_cases a
  · show ((expert m (i 0).val).val + 1) * 1 ≤ 4; omega
  · show (0 + 1) * 3072 ≤ 3072; omega
  · show ((i 1).val + 1) * 512 ≤ 7168; omega
  · show ((expert m (i 0).val).val + 1) * 1 ≤ 4; omega
  · show (0 + 1) * 3072 ≤ 3072; omega
  · show (0 + 1) * 224 ≤ 224; omega
  · show ((expert m (i 0).val).val + 1) * 1 ≤ 4; omega
  · show (0 + 1) * 3072 ≤ 3072; omega
  · show ((i 1).val + 1) * 512 ≤ 7168; omega
  · show ((expert m (i 0).val).val + 1) * 1 ≤ 4; omega
  · show (0 + 1) * 3072 ≤ 3072; omega
  · show (0 + 1) * 224 ≤ 224; omega
  · show ((expert m (i 0).val).val + 1) * 1 ≤ 4; omega
  · show ((i 1).val + 1) * 1024 ≤ 14336; omega
  · show (0 + 1) * 1536 ≤ 1536; omega
  · show ((expert m (i 0).val).val + 1) * 1 ≤ 4; omega
  · show ((i 1).val + 1) * 1024 ≤ 14336; omega
  · show (0 + 1) * 48 ≤ 48; omega
  all_goals exact Nat.le_refl _

/-- The tables' contents with the pipeline's side condition on them. -/
def adm (p : Fin 1) : (pcfgs (F := F) p).Adm := ⟨pf m, ok_pf m⟩

end Cert.KernelIdeal.Hand

end
-- ==== Proof.Ideal.Run.lean ====
/-
  The pipeline's run: the body's obligation at every grid point, whatever is tracked of the scratch buffers and of the
  output block, and what the launch then gives — the arguments unchanged, the semaphores at zero, and the output array
  one that the tracked relation allows.
-/
module

public import proofs.«01_k».proof.Proof.Ideal.Point
public import proofs.«01_k».proof.Proof.Ideal.Host
public import Idealize.ShloMosaic.Lib.Pipeline.FrameBody

@[expose] public section

set_option maxRecDepth 8192
set_option maxHeartbeats 400000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ)

/-- The pipeline at the tables the host lines leave. -/
abbrev cfgA : Pipeline.Cfg sig Λ₀ := Pipeline.pin (pcfgs (F := F)) (adm m) 0

/- What is tracked: a relation on the six scratch buffers before each grid point (by its number), and what the body may
   leave in the output block at each, given what it found there. -/
variable (Inv : ℕ → SBuf (F := F) cc0_scratch0 → SBuf (F := F) cc0_scratch1 → SBuf (F := F) cc0_scratch2 → SBuf (F := F) cc0_scratch3 → SBuf (F := F) cc0_scratch4 → SBuf (F := F) cc0_scratch5 → Prop) (aft : ℕ → (S2x48x1536.Idx → Elt F .f32) → (S2x48x1536.Idx → Elt F .f32) → Prop)

/-- The proof data. -/
def rdat (c : Dev nD) : Pipeline.RDat τ (Elt F) Unit ℕ (UR sig nD τ) ℕ (cfgA m) c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ Y X => X = Y
    | ⟨9, _⟩ => fun _ Y X => X = Y
    | ⟨10, _⟩ => fun t Y X => aft t.val Y X
    | ⟨_ + 11, h⟩ => absurd h (Nat.not_lt.2 (Nat.le_add_left _ _))
  Φ t := ΦS (pf m) (Inv t.val) c
  q _ := fullShare
  owed _ := 0

/-- The static coordinates of a grid point. -/
abbrev stat (t : Fin (cfgA m).N) : grid0.Static := Pipeline.Grid.Coords.static grid0 ((cfgA m).grid.coords t)
/-- Its dynamic coordinate as a word. -/
abbrev bv0 (t : Fin (cfgA m).N) : BitVec 32 := BitVec.ofNat 32 ((cfgA m).grid.coords t 0).val

theorem dyn_lt (t : Fin (cfgA m).N) : ((cfgA m).grid.coords t 0).val < 4 := coord0 m (dynb_pf m) _

theorem chk (t : Fin (cfgA m).N) : k0_chk1 (stat m t) (bv0 m t) := by
  have h := dyn_lt m t
  unfold k0_chk1
  intro _ a
  unfold k0_off36
  dsimp only
  rw [idx_toNat h]
  fin_cases a
  show ((cfgA m).grid.coords t 0).val + 1 ≤ 4
  omega

theorem shapes_all : ∀ (i : grid0.Static) (n : Fin 4), Shapes i (BitVec.ofNat 32 n.val) := by
  unfold Shapes k0_cond1 k0_cond2 k0_cond3
  decide +kernel

theorem shapes (t : Fin (cfgA m).N) : Shapes (stat m t) (bv0 m t) := shapes_all _ ⟨_, dyn_lt m t⟩

/-- What the body must do at every point: from scratch contents under the invariant and the windows' blocks, leave
    contents under the next point's invariant and an output block the relation allows. -/
def Steps (c : Dev nD) : Prop :=
  ∀ (t : Fin (cfgA m).N) (Y : (w : Fin (cfgA m).W) → ((cfgA m).win w).block.Idx → Elt F ((cfgA m).win w).elt), (∀ w, (rdat m Inv aft c).Finds w t (Y w)) →
  ∀ (X0 : BufTy.Contents (Elt F) (spec0_0.stage ((cfgA m).slots t 0)).view.ty) (X1 : BufTy.Contents (Elt F) (spec0_1.stage ((cfgA m).slots t 1)).view.ty) (X2 : BufTy.Contents (Elt F) (spec0_2.stage ((cfgA m).slots t 2)).view.ty) (X3 : BufTy.Contents (Elt F) (spec0_3.stage ((cfgA m).slots t 3)).view.ty) (X4 : BufTy.Contents (Elt F) (spec0_4.stage ((cfgA m).slots t 4)).view.ty) (X5 : BufTy.Contents (Elt F) (spec0_5.stage ((cfgA m).slots t 5)).view.ty) (X6 : BufTy.Contents (Elt F) (spec0_6.stage ((cfgA m).slots t 6)).view.ty) (X7 : BufTy.Contents (Elt F) (spec0_7.stage ((cfgA m).slots t 7)).view.ty) (X8 : BufTy.Contents (Elt F) (spec0_8.stage ((cfgA m).slots t 8)).view.ty) (X9 : BufTy.Contents (Elt F) (spec0_9.stage ((cfgA m).slots t 9)).view.ty) (g10 : BufTy.Contents (Elt F) (spec0_10.stage ((cfgA m).slots t 10)).view.ty)
    (f0 : SBuf (F := F) cc0_scratch0) (f1 : SBuf (F := F) cc0_scratch1) (f2 : SBuf (F := F) cc0_scratch2) (f3 : SBuf (F := F) cc0_scratch3) (f4 : SBuf (F := F) cc0_scratch4) (f5 : SBuf (F := F) cc0_scratch5),
    (spec0_0.stage ((cfgA m).slots t 0)).view.read (Elt F) X0 = Y 0 → (spec0_1.stage ((cfgA m).slots t 1)).view.read (Elt F) X1 = Y 1 → (spec0_2.stage ((cfgA m).slots t 2)).view.read (Elt F) X2 = Y 2 → (spec0_3.stage ((cfgA m).slots t 3)).view.read (Elt F) X3 = Y 3 → (spec0_4.stage ((cfgA m).slots t 4)).view.read (Elt F) X4 = Y 4 → (spec0_5.stage ((cfgA m).slots t 5)).view.read (Elt F) X5 = Y 5 → (spec0_6.stage ((cfgA m).slots t 6)).view.read (Elt F) X6 = Y 6 → (spec0_7.stage ((cfgA m).slots t 7)).view.read (Elt F) X7 = Y 7 → (spec0_8.stage ((cfgA m).slots t 8)).view.read (Elt F) X8 = Y 8 → (spec0_9.stage ((cfgA m).slots t 9)).view.read (Elt F) X9 = Y 9 → (spec0_10.stage ((cfgA m).slots t 10)).view.read (Elt F) g10 = Y 10 →
    Inv t.val f0 f1 f2 f3 f4 f5 →
    StepOK c (dynb0 (pf m)) (stat m t) (bv0 m t) (Memref.whole main_v12) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (chk m t) (pf m 1) X0 X1 X2 X3 X4 X5 X6 X7 X8 X9 g10 f0 f1 f2 f3 f4 f5
      (fun r10 r0 r1 r2 r3 r4 r5 => aft t.val (Y 10) ((spec0_10.stage ((cfgA m).slots t 10)).view.read (Elt F) r10) ∧ Inv (t.val + 1) r0 r1 r2 r3 r4 r5)

/-- The windows' conjunction, one by one. -/
theorem bigSep_WA (Φ : Fin (cfgA m).W → sProp 𝕄G) : bigSep Finset.univ Φ = iprop(Φ ((0 : Fin 11) : Fin (cfgA m).W) ∗ Φ ((1 : Fin 11) : Fin (cfgA m).W) ∗ Φ ((2 : Fin 11) : Fin (cfgA m).W) ∗ Φ ((3 : Fin 11) : Fin (cfgA m).W) ∗ Φ ((4 : Fin 11) : Fin (cfgA m).W) ∗ Φ ((5 : Fin 11) : Fin (cfgA m).W) ∗ Φ ((6 : Fin 11) : Fin (cfgA m).W) ∗ Φ ((7 : Fin 11) : Fin (cfgA m).W) ∗ Φ ((8 : Fin 11) : Fin (cfgA m).W) ∗ Φ ((9 : Fin 11) : Fin (cfgA m).W) ∗ Φ ((10 : Fin 11) : Fin (cfgA m).W)) :=
  bigSep_W0 Φ

theorem Φ_eq (c : Dev nD) (n : Fin ((cfgA m).N + 1)) : (rdat m Inv aft c).Φ n = ΦS (pf m) (Inv n.val) c := rfl

theorem owes_eq (c : Dev nD) (n n' : Fin ((cfgA m).N + 1)) : (rdat m Inv aft c).owesAt () n = (rdat m Inv aft c).owesAt () n' := rfl

/-- The body's obligation. -/
theorem body_obligation (c : Dev nD) (hs : Steps m Inv aft c) : (rdat m Inv aft c).BodyObligation (defs₀ (F := F)) Variants.none () Set.univ := by
  intro t Y hY
  rw [bigSep_WA, bigSep_WA]
  have hp := point_run (F := F) (pf m) (Inv t.val) (Inv (t.val + 1)) c ((rdat m Inv aft c).owesAt () t.castSucc) (dynb0 (pf m)) (stat m t) (bv0 m t) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10))
    (chk m t) (shapes m t) (Y 0) (Y 1) (Y 2) (Y 3) (Y 4) (Y 5) (Y 6) (Y 7) (Y 8) (Y 9) (Y 10) (aft t.val)
  have hq := hp (hs t Y hY)
  clear hp
  refine BI.Entails.trans ?_ (hq.trans (wp_mono _ _ _ fun _ => ?_))
  · refine BI.sep_mono ?_ (BI.sep_mono ?_ ?_)
    · rw [Φ_eq, Fin.val_castSucc]; exact BI.Entails.refl _
    · exact BI.Entails.refl _
    · exact BI.Entails.refl _
  · refine BI.sep_mono ?_ (BI.sep_mono ?_ ?_)
    · rw [Φ_eq, Fin.val_succ]; exact BI.Entails.refl _
    · rw [owes_eq m Inv aft c t.castSucc t.succ]; exact BI.Entails.refl _
    · iterate 10 refine BI.sep_mono (BI.Entails.refl _) ?_
      exact BI.Entails.refl _

theorem share_eq (c : Dev nD) (w : Fin (cfgA m).W) : (rdat m Inv aft c).share w = fullShare := by
  unfold Pipeline.RDat.share; split <;> rfl

theorem enter (c : Dev nD) (h0 : ∀ f0 f1 f2 f3 f4 f5, Inv 0 f0 f1 f2 f3 f4 f5) :
    iprop(Pipeline.ΦA spec0 c ∗ Pipeline.ΦT (U := UR sig nD τ) pre0 (pf m) c) ⊢ (ΦS (pf m) (Inv 0) c : sProp 𝕄G) := by
  unfold Pipeline.ΦA Pipeline.ΦT Pipeline.prefHeld ΦS
  rw [scopedRest0_eq, show (bigSep Finset.univ (fun k : Fin pre0.K => iprop(((c.tc : Thread nD τ).loc (pre0.ref k)) ↦{fullShare.right} pf m k)) : sProp 𝕄G)
    = iprop((((c.tc : Thread nD τ).loc main_v14) ↦{fullShare.right} pf m 0) ∗ (((c.tc : Thread nD τ).loc main_v12) ↦{fullShare.right} pf m 1)) from
      bigSep_univ_eq_bigSepL [(0 : Fin 2), (1 : Fin 2)] (by decide) (by decide) _]
  iintro ⟨⟨⟨⟨%f0, S0⟩, ⟨%f1, S1⟩, ⟨%f2, S2⟩, ⟨%f3, S3⟩, ⟨%f4, S4⟩, ⟨%f5, S5⟩⟩, Hg⟩, HT⟩
  isplitl [S0 S1 S2 S3 S4 S5]
  · iexists f0, f1, f2, f3, f4, f5
    isplitr
    · ipureintro; exact h0 _ _ _ _ _ _
    isplitl [S0]; · iexact S0
    isplitl [S1]; · iexact S1
    isplitl [S2]; · iexact S2
    isplitl [S3]; · iexact S3
    isplitl [S4]; · iexact S4
    iexact S5
  isplitl [HT]; · iexact HT
  iexact Hg

theorem leave (c : Dev nD) (I : SBuf (F := F) cc0_scratch0 → SBuf (F := F) cc0_scratch1 → SBuf (F := F) cc0_scratch2 → SBuf (F := F) cc0_scratch3 → SBuf (F := F) cc0_scratch4 → SBuf (F := F) cc0_scratch5 → Prop) : (ΦS (pf m) I c : sProp 𝕄G) ⊢ Pipeline.ΦA spec0 c := by
  unfold Pipeline.ΦA ΦS
  rw [scopedRest0_eq]
  iintro ⟨⟨%f0, %f1, %f2, %f3, %f4, %f5, %hI, S0, S1, S2, S3, S4, S5⟩, HT, Hg⟩
  isplitr [Hg]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact Hg

set_option backward.isDefEq.respectTransparency.types false in
/-- The launch: whatever is tracked, the program runs to its end, the arrays hold what the tracked relation allows, every
    other buffer what it held when the kernel started, and every semaphore counter is zero. -/
theorem run_main (g : Dev nD → PrngReg) (h0 : ∀ f0 f1 f2 f3 f4 f5, Inv 0 f0 f1 f2 f3 f4 f5) (hs : ∀ c, Steps m Inv aft c) :
    θ_run (defs (F := F)) (onTc (τ := τ) (main (F := F))) ⟨m, fun _ => 0, g⟩
      (fun r => Pipeline.RDat.FramePost (cfgA m) (rdat m Inv aft) (V m) r ∧ r.2.sem = fun _ => 0) :=
  Pipeline.RDat.θ_run_frameP_track (pcfgs (F := F)) (adm m) 0 launch0 defs₀ Variants.none (rdat m Inv aft) m g main
    (fun c => body_obligation m Inv aft c (hs c)) (share_eq m Inv aft) (fun _ _ => rfl) (V m) (hmain m) (fun _ _ => rfl)
    (fun c k => by rw [Subsingleton.elim c 0]; rfl)
    (fun c => by rw [Φ_eq]; exact enter m Inv c h0)
    (fun c => by rw [Φ_eq]; exact leave m c _)
    (Q' := _) (fun _ h => h)

end Cert.KernelIdeal.Hand

end
-- ==== Proof.Ideal.Frame.lean ====
/-
  The program's frame: it runs to its end, its arguments unchanged and every semaphore counter at zero.
-/
module

public import proofs.«01_k».proof.Proof.Ideal.Run

@[expose] public section

set_option maxRecDepth 8192

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ)

section Kept

variable {m} {Inv : ℕ → SBuf (F := F) cc0_scratch0 → SBuf (F := F) cc0_scratch1 → SBuf (F := F) cc0_scratch2 → SBuf (F := F) cc0_scratch3 → SBuf (F := F) cc0_scratch4 → SBuf (F := F) cc0_scratch5 → Prop}
  {aft : ℕ → (S2x48x1536.Idx → Elt F .f32) → (S2x48x1536.Idx → Elt F .f32) → Prop} {r : PUnit × MemSt nD τ sig (Elt F)}

/-- The launch's post leaves the arguments unchanged. -/
theorem args_kept (h : Pipeline.RDat.FramePost (cfgA m) (rdat m Inv aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨?_, ?_, ?_, ?_, ?_, ?_, ?_, ?_, ?_⟩
  · exact ((h c).2 main_arg0 (show _ ∈ Pipeline.restRefs sig spec0 by decide)).trans (V_arg0 m c)
  · exact ((h c).2 main_arg1 (show _ ∈ Pipeline.restRefs sig spec0 by decide)).trans (V_arg1 m c)
  · exact ((h c).2 main_arg2 (show _ ∈ Pipeline.restRefs sig spec0 by decide)).trans (V_arg2 m c)
  · exact (Pipeline.RDat.FramePost.arr_in h c (4 : Fin 11) rfl).trans (V_arg3 m c)
  · exact (Pipeline.RDat.FramePost.arr_in h c (5 : Fin 11) rfl).trans (V_arg4 m c)
  · exact (Pipeline.RDat.FramePost.arr_in h c (6 : Fin 11) rfl).trans (V_arg5 m c)
  · exact (Pipeline.RDat.FramePost.arr_in h c (7 : Fin 11) rfl).trans (V_arg6 m c)
  · exact (Pipeline.RDat.FramePost.arr_in h c (8 : Fin 11) rfl).trans (V_arg7 m c)
  · exact (Pipeline.RDat.FramePost.arr_in h c (9 : Fin 11) rfl).trans (V_arg8 m c)

end Kept

/-- Nothing tracked. -/
theorem steps_trivial (c : Dev nD) : Steps m (fun _ _ _ _ _ _ _ => True) (fun _ _ _ => True) c := by
  intro t Y hY
  intros
  exact ⟨fun _ _ _ => ⟨trivial, trivial⟩, fun _ _ _ => ⟨trivial, trivial⟩, fun _ _ _ => ⟨trivial, trivial⟩, fun _ _ _ => ⟨trivial, trivial⟩⟩

/-- The frame: the program runs to its end with its arguments unchanged and every semaphore counter at zero. -/
theorem frame_all (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r (h : _ ∧ _) => ⟨args_kept h.1, h.2⟩)
    (run_main m (fun _ _ _ _ _ _ _ => True) (fun _ _ _ => True) g (fun _ _ _ _ _ _ => trivial) (steps_trivial m))

end Cert.KernelIdeal.Hand

end
-- ==== Proof.Bits.Tiles.lean ====
/-
  The two loops of the kernel's body that write a buffer tile by tile while an inner loop accumulates the tile: the
  loop over the two column tiles of the hidden chunk (gate, up, and their gated product into the hidden buffer) and the
  loop over the six column tiles of the down projection (each added into the running sum). For each: one trip at a
  symbolic trip number, the pieces it writes found by the run; the pieces of all earlier trips by recursion; and the
  loop's invariant, by which the run of the whole body passes the loop.
-/
module

public import proofs.«01_k».proof.Proof.Gen.Kernel.Loops

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### The up projection loop `k0_t6` -/

/-- One trip's resources: the buffers the region reads at their contents, and arg14, which it writes, at any. -/
abbrev Trip_k0_t6 (c : Dev nD) (arg3 : Memref sig .tc .vmem S2x48x1536 .bf16) (arg7 : Memref sig .tc .vmem S1x3072x512 .i8) (arg9 : Memref sig .tc .vmem S1x3072x512 .i8) (arg17 : Memref sig .tc .vmem S2x2x1536x128 .bf16) (arg18 : Memref sig .tc .vmem S2x2x1536x128 .bf16) (arg14 : Memref sig .tc .vmem S2x48x512 .bf16) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (f_arg14 : BufTy.Contents (Elt F) arg14.view.ty) : sProp 𝕄G :=
  iprop((arg3.view.loc (c : Thread nD τ) ↦[arg3.view.set]{fullShare} X_arg3) ∗ (arg7.view.loc (c : Thread nD τ) ↦[arg7.view.set]{fullShare} X_arg7) ∗ (arg9.view.loc (c : Thread nD τ) ↦[arg9.view.set]{fullShare} X_arg9) ∗ (arg17.view.loc (c : Thread nD τ) ↦[arg17.view.set]{fullShare} X_arg17) ∗ (arg18.view.loc (c : Thread nD τ) ↦[arg18.view.set]{fullShare} X_arg18) ∗ (arg14.view.loc (c : Thread nD τ) ↦[arg14.view.set]{fullShare} f_arg14))

/-- One trip at a symbolic `k`: the pieces it writes into arg14 are what the run finds. -/
@[irreducible] def trip_k0_t6 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (k : Fin k0_t6_loop.trips) :
    { L : (BufTy.Contents (Elt F) arg14.view.ty → List (View.Piece (Elt F) S2x48x512 .bf16)) // ∀ (E : Set ℕ) (f_arg14 : BufTy.Contents (Elt F) arg14.view.ty),
      Trip_k0_t6 (F := F) c arg3 arg7 arg9 arg17 arg18 arg14 X_arg3 X_arg7 X_arg9 X_arg17 X_arg18 f_arg14
      ⊢ wp frame (wpE (defs₀ (F := F)) 𝒱 (c : Thread nD τ) bd) E (k0_t6_body (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k PUnit.unit)
          (fun _ => Trip_k0_t6 (F := F) c arg3 arg7 arg9 arg17 arg18 arg14 X_arg3 X_arg7 X_arg9 X_arg17 X_arg18 (arg14.view.writes (Elt F) f_arg14 (L f_arg14))) } := by
  have hk : k.val < 2 := Nat.lt_of_lt_of_le k.isLt k0_t6_abs.2.1
  refine ⟨?_, fun E f_arg14 => ?run⟩
  case run =>
    unfold k0_t6_body
    iintro ⟨HR_arg3, HR_arg7, HR_arg9, HR_arg17, HR_arg18, HW_arg14⟩
    sl_exec
    sl_step
    sl_close

/-- The pieces of the trips before `k`, last first, over the contents `G` at loop entry. -/
def pb_k0_t6 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (G : BufTy.Contents (Elt F) arg14.view.ty) : ℕ → List (View.Piece (Elt F) S2x48x512 .bf16)
  | 0 => []
  | k + 1 =>
    if h : k < k0_t6_loop.trips then
      (trip_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 ⟨k, h⟩).1 (arg14.view.writes (Elt F) G (pb_k0_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k))
        ++ pb_k0_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k
    else pb_k0_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k

theorem pb_k0_t6_succ (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (G : BufTy.Contents (Elt F) arg14.view.ty) (k : Fin k0_t6_loop.trips) :
    pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G (k.val + 1) = (trip_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 k).1 (arg14.view.writes (Elt F) G (pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k.val)) ++ pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k.val := by
  rw [pb_k0_t6.eq_2]; exact dif_pos k.isLt

set_option warn.classDefReducibility false in
/-- The loop by its invariant: before trip `k` the pieces of the trips before `k` have been written over `G`. -/
@[sl_loop] def loopInv_k0_t6 (𝒱 : Variants) (c : Dev nD) (bd : Option 𝒱.V) (E : Set ℕ) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt F) arg3.view.ty) (X_arg7 : BufTy.Contents (Elt F) arg7.view.ty) (X_arg9 : BufTy.Contents (Elt F) arg9.view.ty) (X_arg17 : BufTy.Contents (Elt F) arg17.view.ty) (X_arg18 : BufTy.Contents (Elt F) arg18.view.ty) (G : BufTy.Contents (Elt F) arg14.view.ty) :
    LoopInvTy_k0_t6 (F := F) Unit ℕ (UR sig nD τ) ℕ 𝒱 c bd E b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 where
  inv k _ := iprop((arg3.view.loc (c : Thread nD τ) ↦[arg3.view.set]{fullShare} X_arg3) ∗ (arg7.view.loc (c : Thread nD τ) ↦[arg7.view.set]{fullShare} X_arg7) ∗ (arg9.view.loc (c : Thread nD τ) ↦[arg9.view.set]{fullShare} X_arg9) ∗ (arg17.view.loc (c : Thread nD τ) ↦[arg17.view.set]{fullShare} X_arg17) ∗ (arg18.view.loc (c : Thread nD τ) ↦[arg18.view.set]{fullShare} X_arg18)
    ∗ (∃ f, (arg14.view.loc (c : Thread nD τ) ↦[arg14.view.set]{fullShare} f) ∗ ⌜f = arg14.view.writes (Elt F) G (pb_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G k)⌝))
  step k acc := by
    iintro ⟨HR_arg3, HR_arg7, HR_arg9, HR_arg17, HR_arg18, ⟨%f_arg14, HW_arg14, %h_arg14⟩⟩
    iapply (wp_wand_r Idealize.ShloMosaic.frame (wpE (defs₀ (F := F)) 𝒱 (c : Thread nD τ) bd) E)
    isplitl [HR_arg3 HR_arg7 HR_arg9 HR_arg17 HR_arg18 HW_arg14]
    · iapply ((trip_k0_t6 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 k).2 E f_arg14)
      isplitl [HR_arg3]; · iexact HR_arg3
      isplitl [HR_arg7]; · iexact HR_arg7
      isplitl [HR_arg9]; · iexact HR_arg9
      isplitl [HR_arg17]; · iexact HR_arg17
      isplitl [HR_arg18]; · iexact HR_arg18
      iexact HW_arg14
    · iintro %_ ⟨HR_arg3, HR_arg7, HR_arg9, HR_arg17, HR_arg18, HW_arg14⟩
      isplitl [HR_arg3]; · iexact HR_arg3
      isplitl [HR_arg7]; · iexact HR_arg7
      isplitl [HR_arg9]; · iexact HR_arg9
      isplitl [HR_arg17]; · iexact HR_arg17
      isplitl [HR_arg18]; · iexact HR_arg18
      rw [pb_k0_t6_succ]
      iexists _; isplitl [HW_arg14]; · iexact HW_arg14
      ipureintro; rw [h_arg14, ← View.writes_append]

/-! ### The down projection loop `k0_t9` -/

/-- One trip's resources: the buffers the region reads at their contents, and arg15, which it writes, at any. -/
abbrev Trip_k0_t9 (c : Dev nD) (arg11 : Memref sig .tc .vmem S1x1024x1536 .i8) (arg14 : Memref sig .tc .vmem S2x48x512 .bf16) (arg19 : Memref sig .tc .vmem S2x1x512x128 .bf16) (arg15 : Memref sig .tc .vmem S2x48x1536 .f32) (X_arg11 : BufTy.Contents (Elt F) arg11.view.ty) (X_arg14 : BufTy.Contents (Elt F) arg14.view.ty) (X_arg19 : BufTy.Contents (Elt F) arg19.view.ty) (f_arg15 : BufTy.Contents (Elt F) arg15.view.ty) : sProp 𝕄G :=
  iprop((arg11.view.loc (c : Thread nD τ) ↦[arg11.view.set]{fullShare} X_arg11) ∗ (arg14.view.loc (c : Thread nD τ) ↦[arg14.view.set]{fullShare} X_arg14) ∗ (arg19.view.loc (c : Thread nD τ) ↦[arg19.view.set]{fullShare} X_arg19) ∗ (arg15.view.loc (c : Thread nD τ) ↦[arg15.view.set]{fullShare} f_arg15))

/-- One trip at a symbolic `k`: the pieces it writes into arg15 are what the run finds. -/
@[irreducible] def trip_k0_t9 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (k : Fin k0_t9_loop.trips) :
    { L : (BufTy.Contents (Elt F) arg15.view.ty → List (View.Piece (Elt F) S2x48x1536 .f32)) // ∀ (E : Set ℕ) (f_arg15 : BufTy.Contents (Elt F) arg15.view.ty),
      Trip_k0_t9 (F := F) c arg11 arg14 arg19 arg15 X_arg11 X_arg14 X_arg19 f_arg15
      ⊢ wp frame (wpE (defs₀ (F := F)) 𝒱 (c : Thread nD τ) bd) E (k0_t9_body (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k PUnit.unit)
          (fun _ => Trip_k0_t9 (F := F) c arg11 arg14 arg19 arg15 X_arg11 X_arg14 X_arg19 (arg15.view.writes (Elt F) f_arg15 (L f_arg15))) } := by
  have hk : k.val < 6 := Nat.lt_of_lt_of_le k.isLt k0_t9_abs.2.1
  refine ⟨?_, fun E f_arg15 => ?run⟩
  case run =>
    unfold k0_t9_body
    iintro ⟨HR_arg11, HR_arg14, HR_arg19, HW_arg15⟩
    sl_exec
    sl_step
    sl_close

/-- The pieces of the trips before `k`, last first, over the contents `G` at loop entry. -/
def pb_k0_t9 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (G : BufTy.Contents (Elt F) arg15.view.ty) : ℕ → List (View.Piece (Elt F) S2x48x1536 .f32)
  | 0 => []
  | k + 1 =>
    if h : k < k0_t9_loop.trips then
      (trip_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 ⟨k, h⟩).1 (arg15.view.writes (Elt F) G (pb_k0_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k))
        ++ pb_k0_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k
    else pb_k0_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k

theorem pb_k0_t9_succ (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (G : BufTy.Contents (Elt F) arg15.view.ty) (k : Fin k0_t9_loop.trips) :
    pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G (k.val + 1) = (trip_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 k).1 (arg15.view.writes (Elt F) G (pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k.val)) ++ pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k.val := by
  rw [pb_k0_t9.eq_2]; exact dif_pos k.isLt

set_option warn.classDefReducibility false in
/-- The loop by its invariant: before trip `k` the pieces of the trips before `k` have been written over `G`. -/
@[sl_loop] def loopInv_k0_t9 (𝒱 : Variants) (c : Dev nD) (bd : Option 𝒱.V) (E : Set ℕ) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt F) arg11.view.ty) (X_arg14 : BufTy.Contents (Elt F) arg14.view.ty) (X_arg19 : BufTy.Contents (Elt F) arg19.view.ty) (G : BufTy.Contents (Elt F) arg15.view.ty) :
    LoopInvTy_k0_t9 (F := F) Unit ℕ (UR sig nD τ) ℕ 𝒱 c bd E b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 where
  inv k _ := iprop((arg11.view.loc (c : Thread nD τ) ↦[arg11.view.set]{fullShare} X_arg11) ∗ (arg14.view.loc (c : Thread nD τ) ↦[arg14.view.set]{fullShare} X_arg14) ∗ (arg19.view.loc (c : Thread nD τ) ↦[arg19.view.set]{fullShare} X_arg19)
    ∗ (∃ f, (arg15.view.loc (c : Thread nD τ) ↦[arg15.view.set]{fullShare} f) ∗ ⌜f = arg15.view.writes (Elt F) G (pb_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G k)⌝))
  step k acc := by
    iintro ⟨HR_arg11, HR_arg14, HR_arg19, ⟨%f_arg15, HW_arg15, %h_arg15⟩⟩
    iapply (wp_wand_r Idealize.ShloMosaic.frame (wpE (defs₀ (F := F)) 𝒱 (c : Thread nD τ) bd) E)
    isplitl [HR_arg11 HR_arg14 HR_arg19 HW_arg15]
    · iapply ((trip_k0_t9 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 k).2 E f_arg15)
      isplitl [HR_arg11]; · iexact HR_arg11
      isplitl [HR_arg14]; · iexact HR_arg14
      isplitl [HR_arg19]; · iexact HR_arg19
      iexact HW_arg15
    · iintro %_ ⟨HR_arg11, HR_arg14, HR_arg19, HW_arg15⟩
      isplitl [HR_arg11]; · iexact HR_arg11
      isplitl [HR_arg14]; · iexact HR_arg14
      isplitl [HR_arg19]; · iexact HR_arg19
      rw [pb_k0_t9_succ]
      iexists _; isplitl [HW_arg15]; · iexact HW_arg15
      ipureintro; rw [h_arg15, ← View.writes_append]

end Cert.Kernel.Hand

end
-- ==== Proof.Bits.Body.lean ====
/-
  One run of the kernel's body at a symbolic grid point, passing its loops by their invariants: what it leaves in the
  output block and in the six scratch buffers is what the run finds, as functions of the contents it was handed.
-/
module

public import proofs.«01_k».proof.Proof.Bits.Tiles

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- The buffers the body is handed: the table of experts (shared), the ten input blocks, the output block and the six
    scratch buffers. -/
abbrev BodyRes (c : Dev nD) (arg2 : Memref sig .tc .smem S4 .i32) (arg3 : Memref sig .tc .vmem S2x48x1536 .bf16) (arg4 : Memref sig .tc .vmem S48x2 .i32) (arg5 : Memref sig .tc .vmem S48x2 .f32) (arg6 : Memref sig .tc .vmem S2x32x128 .i8) (arg7 : Memref sig .tc .vmem S1x3072x512 .i8) (arg8 : Memref sig .tc .vmem S1x3072x224 .f32) (arg9 : Memref sig .tc .vmem S1x3072x512 .i8) (arg10 : Memref sig .tc .vmem S1x3072x224 .f32) (arg11 : Memref sig .tc .vmem S1x1024x1536 .i8) (arg12 : Memref sig .tc .vmem S1x1024x48 .f32) (arg13 : Memref sig .tc .vmem S2x48x1536 .f32) (arg14 : Memref sig .tc .vmem S2x48x512 .bf16) (arg15 : Memref sig .tc .vmem S2x48x1536 .f32) (arg16 : Memref sig .tc .vmem S32x128 .f32) (arg17 : Memref sig .tc .vmem S2x2x1536x128 .bf16) (arg18 : Memref sig .tc .vmem S2x2x1536x128 .bf16) (arg19 : Memref sig .tc .vmem S2x1x512x128 .bf16)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)
    (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty) : sProp 𝕄G :=
  iprop((arg2.view.loc (c : Thread nD τ) ↦[arg2.view.set]{fullShare.right} X_arg2) ∗ (arg3.view.loc (c : Thread nD τ) ↦[arg3.view.set]{fullShare} X_arg3) ∗ (arg4.view.loc (c : Thread nD τ) ↦[arg4.view.set]{fullShare} X_arg4) ∗ (arg5.view.loc (c : Thread nD τ) ↦[arg5.view.set]{fullShare} X_arg5) ∗ (arg6.view.loc (c : Thread nD τ) ↦[arg6.view.set]{fullShare} X_arg6) ∗ (arg7.view.loc (c : Thread nD τ) ↦[arg7.view.set]{fullShare} X_arg7) ∗ (arg8.view.loc (c : Thread nD τ) ↦[arg8.view.set]{fullShare} X_arg8) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg12.view.loc (c : Thread nD τ) ↦[arg12.view.set]{fullShare} X_arg12)
    ∗ (arg13.view.loc (c : Thread nD τ) ↦[arg13.view.set]{fullShare} f_arg13) ∗ (arg14.view.loc (c : Thread nD τ) ↦[arg14.view.set]{fullShare} f_arg14) ∗ (arg15.view.loc (c : Thread nD τ) ↦[arg15.view.set]{fullShare} f_arg15) ∗ (arg16.view.loc (c : Thread nD τ) ↦[arg16.view.set]{fullShare} f_arg16) ∗ (arg17.view.loc (c : Thread nD τ) ↦[arg17.view.set]{fullShare} f_arg17) ∗ (arg18.view.loc (c : Thread nD τ) ↦[arg18.view.set]{fullShare} f_arg18) ∗ (arg19.view.loc (c : Thread nD τ) ↦[arg19.view.set]{fullShare} f_arg19))
set_option maxHeartbeats 40000000 in
/-- One run of the body at the first grid point. -/
@[irreducible] def bodyRun_A (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : k0_cond1 i arg0 = 1#1) (h2 : k0_cond2 i = 1#1) (h3 : ¬ k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

set_option maxHeartbeats 40000000 in
/-- One run of the body at the first point of a later expert. -/
@[irreducible] def bodyRun_B (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : k0_cond2 i = 1#1) (h3 : ¬ k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

set_option maxHeartbeats 40000000 in
/-- One run of the body at an inner point of an expert. -/
@[irreducible] def bodyRun_C (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : ¬ k0_cond2 i = 1#1) (h3 : ¬ k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

set_option maxHeartbeats 40000000 in
/-- One run of the body at the last point of an expert. -/
@[irreducible] def bodyRun_D (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : ¬ k0_cond2 i = 1#1) (h3 : k0_cond3 i = 1#1)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) :
    Σ' (R_arg13 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg13.view.ty) (R_arg14 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg14.view.ty) (R_arg15 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg15.view.ty) (R_arg16 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg16.view.ty) (R_arg17 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg17.view.ty) (R_arg18 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg18.view.ty), { R_arg19 : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → BufTy.Contents (Elt F) arg19.view.ty // ∀ (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty),
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) 𝒱 (c : Thread nD τ) bd) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 (R_arg13 f_arg13 f_arg14 f_arg15 f_arg16 f_arg17 f_arg18 f_arg19) (R_arg14 f_arg13 f_arg14 f_arg15 f_arg16 f_arg17 f_arg18 f_arg19) (R_arg15 f_arg13 f_arg14 f_arg15 f_arg16 f_arg17 f_arg18 f_arg19) (R_arg16 f_arg13 f_arg14 f_arg15 f_arg16 f_arg17 f_arg18 f_arg19) (R_arg17 f_arg13 f_arg14 f_arg15 f_arg16 f_arg17 f_arg18 f_arg19) (R_arg18 f_arg13 f_arg14 f_arg15 f_arg16 f_arg17 f_arg18 f_arg19) (R_arg19 f_arg13 f_arg14 f_arg15 f_arg16 f_arg17 f_arg18 f_arg19)) } := by
  refine ⟨?_, ?_, ?_, ?_, ?_, ?_, ?_, fun f_arg13 f_arg14 f_arg15 f_arg16 f_arg17 f_arg18 f_arg19 => ?run⟩
  case run =>
    rw [cc0_moe_nf4_eq_skeleton]
    unfold cc0_moe_nf4_skel
    iintro ⟨HR_arg2, HR_arg3, HR_arg4, HR_arg5, HR_arg6, HR_arg7, HR_arg8, HR_arg9, HR_arg10, HR_arg11, HR_arg12, HW_arg13, HW_arg14, HW_arg15, HW_arg16, HW_arg17, HW_arg18, HW_arg19⟩
    sl_exec
    sl_step
    sl_close

end Cert.Kernel.Hand

end
-- ==== Proof.Bits.Step.lean ====
/-
  One run of the kernel's body, whichever of its four shapes the grid point gives it: what holds of the contents each
  shape leaves holds after the run.
-/
module

public import proofs.«01_k».proof.Proof.Bits.Body

@[expose] public section

set_option maxRecDepth 8192
set_option maxHeartbeats 4000000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- `Post` holds of what each shape of the body leaves, of the contents it is handed. -/
structure StepOK (c : Dev nD) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (hchk : k0_chk1 i arg0)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)
    (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty)
    (Post : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → Prop) : Prop where
  A : ∀ (h1 : k0_cond1 i arg0 = 1#1) (h2 : k0_cond2 i = 1#1) (h3 : ¬ k0_cond3 i = 1#1), Post ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)
  B : ∀ (h1 : ¬ k0_cond1 i arg0 = 1#1) (h2 : k0_cond2 i = 1#1) (h3 : ¬ k0_cond3 i = 1#1), Post ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)
  C : ∀ (h1 : ¬ k0_cond1 i arg0 = 1#1) (h2 : ¬ k0_cond2 i = 1#1) (h3 : ¬ k0_cond3 i = 1#1), Post ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)
  D : ∀ (h1 : ¬ k0_cond1 i arg0 = 1#1) (h2 : ¬ k0_cond2 i = 1#1) (h3 : k0_cond3 i = 1#1), Post ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.1 f_arg13 f_arg14 f_arg15 f_arg16 f_arg17 f_arg18 f_arg19)

/-- The four shapes are all a grid point can give. -/
def Shapes (i : grid0.Static) (arg0 : BitVec 32) : Prop :=
  (k0_cond1 i arg0 = 1#1 ∧ k0_cond2 i = 1#1 ∧ ¬ k0_cond3 i = 1#1) ∨ (¬ k0_cond1 i arg0 = 1#1 ∧ k0_cond2 i = 1#1 ∧ ¬ k0_cond3 i = 1#1)
    ∨ (¬ k0_cond1 i arg0 = 1#1 ∧ ¬ k0_cond2 i = 1#1 ∧ ¬ k0_cond3 i = 1#1) ∨ (¬ k0_cond1 i arg0 = 1#1 ∧ ¬ k0_cond2 i = 1#1 ∧ k0_cond3 i = 1#1)

/-- The run of the body under `StepOK`. -/
theorem body_step (c : Dev nD) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (hchk : k0_chk1 i arg0) (hsh : Shapes i arg0)
    (X_arg2 : BufTy.Contents (Elt F) arg2.view.ty) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty)
    (f_arg13 : BufTy.Contents (Elt F) arg13.view.ty) (f_arg14 : BufTy.Contents (Elt F) arg14.view.ty) (f_arg15 : BufTy.Contents (Elt F) arg15.view.ty) (f_arg16 : BufTy.Contents (Elt F) arg16.view.ty) (f_arg17 : BufTy.Contents (Elt F) arg17.view.ty) (f_arg18 : BufTy.Contents (Elt F) arg18.view.ty) (f_arg19 : BufTy.Contents (Elt F) arg19.view.ty)
    (Post : BufTy.Contents (Elt F) arg13.view.ty → BufTy.Contents (Elt F) arg14.view.ty → BufTy.Contents (Elt F) arg15.view.ty → BufTy.Contents (Elt F) arg16.view.ty → BufTy.Contents (Elt F) arg17.view.ty → BufTy.Contents (Elt F) arg18.view.ty → BufTy.Contents (Elt F) arg19.view.ty → Prop)
    (H : StepOK c b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk X_arg2 X_arg3 X_arg4 X_arg5 X_arg6 X_arg7 X_arg8 X_arg9 X_arg10 X_arg11 X_arg12 f_arg13 f_arg14 f_arg15 f_arg16 f_arg17 f_arg18 f_arg19 Post) :
    BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19
      ⊢ wp frame (wpE (defs₀ (F := F)) Variants.none (c : Thread nD τ) none) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ g_arg13 : BufTy.Contents (Elt F) arg13.view.ty, ∃ g_arg14 : BufTy.Contents (Elt F) arg14.view.ty, ∃ g_arg15 : BufTy.Contents (Elt F) arg15.view.ty, ∃ g_arg16 : BufTy.Contents (Elt F) arg16.view.ty, ∃ g_arg17 : BufTy.Contents (Elt F) arg17.view.ty, ∃ g_arg18 : BufTy.Contents (Elt F) arg18.view.ty, ∃ g_arg19 : BufTy.Contents (Elt F) arg19.view.ty, ⌜Post g_arg13 g_arg14 g_arg15 g_arg16 g_arg17 g_arg18 g_arg19⌝ ∗ BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 g_arg13 g_arg14 g_arg15 g_arg16 g_arg17 g_arg18 g_arg19)) := by
  have fin : ∀ (g_arg13 : BufTy.Contents (Elt F) arg13.view.ty) (g_arg14 : BufTy.Contents (Elt F) arg14.view.ty) (g_arg15 : BufTy.Contents (Elt F) arg15.view.ty) (g_arg16 : BufTy.Contents (Elt F) arg16.view.ty) (g_arg17 : BufTy.Contents (Elt F) arg17.view.ty) (g_arg18 : BufTy.Contents (Elt F) arg18.view.ty) (g_arg19 : BufTy.Contents (Elt F) arg19.view.ty), Post g_arg13 g_arg14 g_arg15 g_arg16 g_arg17 g_arg18 g_arg19 →
      (BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19 ⊢ wp frame (wpE (defs₀ (F := F)) Variants.none (c : Thread nD τ) none) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
        (fun _ => BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 g_arg13 g_arg14 g_arg15 g_arg16 g_arg17 g_arg18 g_arg19)) →
      BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 f_arg13 f_arg14 f_arg15 f_arg16 f_arg17 f_arg18 f_arg19 ⊢ wp frame (wpE (defs₀ (F := F)) Variants.none (c : Thread nD τ) none) Set.univ (cc0_moe_nf4 (F := F) b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19)
          (fun _ => iprop(∃ g_arg13 : BufTy.Contents (Elt F) arg13.view.ty, ∃ g_arg14 : BufTy.Contents (Elt F) arg14.view.ty, ∃ g_arg15 : BufTy.Contents (Elt F) arg15.view.ty, ∃ g_arg16 : BufTy.Contents (Elt F) arg16.view.ty, ∃ g_arg17 : BufTy.Contents (Elt F) arg17.view.ty, ∃ g_arg18 : BufTy.Contents (Elt F) arg18.view.ty, ∃ g_arg19 : BufTy.Contents (Elt F) arg19.view.ty, ⌜Post g_arg13 g_arg14 g_arg15 g_arg16 g_arg17 g_arg18 g_arg19⌝ ∗ BodyRes (F := F) c arg2 arg3 arg4 arg5 arg6 arg7 arg8 arg9 arg10 arg11 arg12 arg13 arg14 arg15 arg16 arg17 arg18 arg19 X_arg2 X_arg3 X_arg4 X_arg5 X_arg6 X_arg7 X_arg8 X_arg9 X_arg10 X_arg11 X_arg12 g_arg13 g_arg14 g_arg15 g_arg16 g_arg17 g_arg18 g_arg19)) := by
    intro g_arg13 g_arg14 g_arg15 g_arg16 g_arg17 g_arg18 g_arg19 hp hw
    refine hw.trans (wp_mono _ _ _ fun _ => ?_)
    iintro Hb
    iexists g_arg13, g_arg14, g_arg15, g_arg16, g_arg17, g_arg18, g_arg19
    isplitr
    · ipureintro; exact hp
    iexact Hb
  rcases hsh with ⟨h1, h2, h3⟩ | ⟨h1, h2, h3⟩ | ⟨h1, h2, h3⟩ | ⟨h1, h2, h3⟩
  · exact fin _ _ _ _ _ _ _ (H.A h1 h2 h3) ((bodyRun_A Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)
  · exact fin _ _ _ _ _ _ _ (H.B h1 h2 h3) ((bodyRun_B Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)
  · exact fin _ _ _ _ _ _ _ (H.C h1 h2 h3) ((bodyRun_C Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)
  · exact fin _ _ _ _ _ _ _ (H.D h1 h2 h3) ((bodyRun_D Variants.none c none b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.2.2 f_arg13 f_arg14 f_arg15 f_arg16 f_arg17 f_arg18 f_arg19)

end Cert.Kernel.Hand

end
-- ==== Proof.Bits.Point.lean ====
/-
  One run of the kernel's body at a grid point, from the region's invariant and the staging buffers at what they hold, to
  the next point's invariant and an output block in a relation with the one found.
-/
module

public import proofs.«01_k».proof.Proof.Bits.Step
public import Idealize.ShloMosaic.Lib.Pipeline.Frame

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What a buffer of the core holds. -/
abbrev SBuf (b : Ref sig .tc) := BufTy.Contents (Elt F) (Memref.whole b).view.ty

/-- The region's invariant: the six scratch buffers under `I`, the two tables and the generator register. -/
def ΦS (tab : pre0.Contents (Elt F)) (I : SBuf (F := F) cc0_scratch0 → SBuf (F := F) cc0_scratch1 → SBuf (F := F) cc0_scratch2 → SBuf (F := F) cc0_scratch3 → SBuf (F := F) cc0_scratch4 → SBuf (F := F) cc0_scratch5 → Prop) (c : Dev nD) : sProp 𝕄G :=
  iprop((∃ f0 : SBuf (F := F) cc0_scratch0, ∃ f1 : SBuf (F := F) cc0_scratch1, ∃ f2 : SBuf (F := F) cc0_scratch2, ∃ f3 : SBuf (F := F) cc0_scratch3, ∃ f4 : SBuf (F := F) cc0_scratch4, ∃ f5 : SBuf (F := F) cc0_scratch5, ⌜I f0 f1 f2 f3 f4 f5⌝ ∗ (((c.tc : Thread nD τ).loc cc0_scratch0) ↦{fullShare} f0) ∗ (((c.tc : Thread nD τ).loc cc0_scratch1) ↦{fullShare} f1) ∗ (((c.tc : Thread nD τ).loc cc0_scratch2) ↦{fullShare} f2) ∗ (((c.tc : Thread nD τ).loc cc0_scratch3) ↦{fullShare} f3) ∗ (((c.tc : Thread nD τ).loc cc0_scratch4) ↦{fullShare} f4) ∗ (((c.tc : Thread nD τ).loc cc0_scratch5) ↦{fullShare} f5))
    ∗ ((((c.tc : Thread nD τ).loc main_v14) ↦{fullShare.right} tab 0) ∗ (((c.tc : Thread nD τ).loc main_v12) ↦{fullShare.right} tab 1)) ∗ (∃ r, prngReg c r))

section Abstract

variable {M : Type} [Idealize.SL.RA.URA M]

/-- The bookkeeping of a run at a grid point, with the resources abstract: what the buffers hold is taken out of the
    invariant and the staging buffers, the body run, and its result put back. -/
theorem point_abstract {α0 α1 α2 α3 α4 α5 β3 γ3 β4 γ4 β5 γ5 β6 γ6 β7 γ7 β8 γ8 β9 γ9 β10 γ10 β11 γ11 β12 γ12 β13 γ13 : Type}
    (P0 : α0 → sProp M) (P1 : α1 → sProp M) (P2 : α2 → sProp M) (P3 : α3 → sProp M) (P4 : α4 → sProp M) (P5 : α5 → sProp M) (T0 T1 G O : sProp M) (Q3 : β3 → sProp M) (rd3 : β3 → γ3) (Y3 : γ3) (Q4 : β4 → sProp M) (rd4 : β4 → γ4) (Y4 : γ4) (Q5 : β5 → sProp M) (rd5 : β5 → γ5) (Y5 : γ5) (Q6 : β6 → sProp M) (rd6 : β6 → γ6) (Y6 : γ6) (Q7 : β7 → sProp M) (rd7 : β7 → γ7) (Y7 : γ7) (Q8 : β8 → sProp M) (rd8 : β8 → γ8) (Y8 : γ8) (Q9 : β9 → sProp M) (rd9 : β9 → γ9) (Y9 : γ9) (Q10 : β10 → sProp M) (rd10 : β10 → γ10) (Y10 : γ10) (Q11 : β11 → sProp M) (rd11 : β11 → γ11) (Y11 : γ11) (Q12 : β12 → sProp M) (rd12 : β12 → γ12) (Y12 : γ12) (Q13 : β13 → sProp M) (rd13 : β13 → γ13) (Y13 : γ13)
    (I I' : α0 → α1 → α2 → α3 → α4 → α5 → Prop) (aft : γ13 → γ13 → Prop)
    (w : sProp M → sProp M) (hw : ∀ A B, (A ⊢ B) → (w A ⊢ w B)) (hf : ∀ A B, iprop(w A ∗ B) ⊢ w iprop(A ∗ B))
    (H : ∀ X3 X4 X5 X6 X7 X8 X9 X10 X11 X12 X13 f0 f1 f2 f3 f4 f5, rd3 X3 = Y3 → rd4 X4 = Y4 → rd5 X5 = Y5 → rd6 X6 = Y6 → rd7 X7 = Y7 → rd8 X8 = Y8 → rd9 X9 = Y9 → rd10 X10 = Y10 → rd11 X11 = Y11 → rd12 X12 = Y12 → rd13 X13 = Y13 → I f0 f1 f2 f3 f4 f5 →
      (iprop(T1 ∗ Q3 X3 ∗ Q4 X4 ∗ Q5 X5 ∗ Q6 X6 ∗ Q7 X7 ∗ Q8 X8 ∗ Q9 X9 ∗ Q10 X10 ∗ Q11 X11 ∗ Q12 X12 ∗ Q13 X13 ∗ P0 f0 ∗ P1 f1 ∗ P2 f2 ∗ P3 f3 ∗ P4 f4 ∗ P5 f5) ⊢
        w iprop(∃ g13, ∃ r0, ∃ r1, ∃ r2, ∃ r3, ∃ r4, ∃ r5, ⌜aft Y13 (rd13 g13) ∧ I' r0 r1 r2 r3 r4 r5⌝ ∗ T1 ∗ Q3 X3 ∗ Q4 X4 ∗ Q5 X5 ∗ Q6 X6 ∗ Q7 X7 ∗ Q8 X8 ∗ Q9 X9 ∗ Q10 X10 ∗ Q11 X11 ∗ Q12 X12 ∗ Q13 g13 ∗ P0 r0 ∗ P1 r1 ∗ P2 r2 ∗ P3 r3 ∗ P4 r4 ∗ P5 r5))) :
    iprop(((∃ f0, ∃ f1, ∃ f2, ∃ f3, ∃ f4, ∃ f5, ⌜I f0 f1 f2 f3 f4 f5⌝ ∗ P0 f0 ∗ P1 f1 ∗ P2 f2 ∗ P3 f3 ∗ P4 f4 ∗ P5 f5) ∗ (T0 ∗ T1) ∗ G) ∗ O ∗ (∃ X, ⌜rd3 X = Y3⌝ ∗ Q3 X) ∗ (∃ X, ⌜rd4 X = Y4⌝ ∗ Q4 X) ∗ (∃ X, ⌜rd5 X = Y5⌝ ∗ Q5 X) ∗ (∃ X, ⌜rd6 X = Y6⌝ ∗ Q6 X) ∗ (∃ X, ⌜rd7 X = Y7⌝ ∗ Q7 X) ∗ (∃ X, ⌜rd8 X = Y8⌝ ∗ Q8 X) ∗ (∃ X, ⌜rd9 X = Y9⌝ ∗ Q9 X) ∗ (∃ X, ⌜rd10 X = Y10⌝ ∗ Q10 X) ∗ (∃ X, ⌜rd11 X = Y11⌝ ∗ Q11 X) ∗ (∃ X, ⌜rd12 X = Y12⌝ ∗ Q12 X) ∗ (∃ X, ⌜rd13 X = Y13⌝ ∗ Q13 X))
      ⊢ w iprop(((∃ f0, ∃ f1, ∃ f2, ∃ f3, ∃ f4, ∃ f5, ⌜I' f0 f1 f2 f3 f4 f5⌝ ∗ P0 f0 ∗ P1 f1 ∗ P2 f2 ∗ P3 f3 ∗ P4 f4 ∗ P5 f5) ∗ (T0 ∗ T1) ∗ G) ∗ O ∗ (∃ Z, ⌜Z = Y3⌝ ∗ ∃ X, ⌜rd3 X = Z⌝ ∗ Q3 X) ∗ (∃ Z, ⌜Z = Y4⌝ ∗ ∃ X, ⌜rd4 X = Z⌝ ∗ Q4 X) ∗ (∃ Z, ⌜Z = Y5⌝ ∗ ∃ X, ⌜rd5 X = Z⌝ ∗ Q5 X) ∗ (∃ Z, ⌜Z = Y6⌝ ∗ ∃ X, ⌜rd6 X = Z⌝ ∗ Q6 X) ∗ (∃ Z, ⌜Z = Y7⌝ ∗ ∃ X, ⌜rd7 X = Z⌝ ∗ Q7 X) ∗ (∃ Z, ⌜Z = Y8⌝ ∗ ∃ X, ⌜rd8 X = Z⌝ ∗ Q8 X) ∗ (∃ Z, ⌜Z = Y9⌝ ∗ ∃ X, ⌜rd9 X = Z⌝ ∗ Q9 X) ∗ (∃ Z, ⌜Z = Y10⌝ ∗ ∃ X, ⌜rd10 X = Z⌝ ∗ Q10 X) ∗ (∃ Z, ⌜Z = Y11⌝ ∗ ∃ X, ⌜rd11 X = Z⌝ ∗ Q11 X) ∗ (∃ Z, ⌜Z = Y12⌝ ∗ ∃ X, ⌜rd12 X = Z⌝ ∗ Q12 X)
          ∗ (∃ Z, ⌜aft Y13 Z⌝ ∗ ∃ X, ⌜rd13 X = Z⌝ ∗ Q13 X)) := by
  iintro ⟨⟨⟨%f0, %f1, %f2, %f3, %f4, %f5, %hI, S⟩, ⟨T0, T1⟩, Hg⟩, HO, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩⟩
  have K := H X3 X4 X5 X6 X7 X8 X9 X10 X11 X12 X13 f0 f1 f2 f3 f4 f5 h3 h4 h5 h6 h7 h8 h9 h10 h11 h12 h13 hI
  have K2 : iprop((T1 ∗ Q3 X3 ∗ Q4 X4 ∗ Q5 X5 ∗ Q6 X6 ∗ Q7 X7 ∗ Q8 X8 ∗ Q9 X9 ∗ Q10 X10 ∗ Q11 X11 ∗ Q12 X12 ∗ Q13 X13 ∗ P0 f0 ∗ P1 f1 ∗ P2 f2 ∗ P3 f3 ∗ P4 f4 ∗ P5 f5) ∗ T0 ∗ G ∗ O) ⊢ w iprop(((∃ f0, ∃ f1, ∃ f2, ∃ f3, ∃ f4, ∃ f5, ⌜I' f0 f1 f2 f3 f4 f5⌝ ∗ P0 f0 ∗ P1 f1 ∗ P2 f2 ∗ P3 f3 ∗ P4 f4 ∗ P5 f5) ∗ (T0 ∗ T1) ∗ G) ∗ O ∗ (∃ Z, ⌜Z = Y3⌝ ∗ ∃ X, ⌜rd3 X = Z⌝ ∗ Q3 X) ∗ (∃ Z, ⌜Z = Y4⌝ ∗ ∃ X, ⌜rd4 X = Z⌝ ∗ Q4 X) ∗ (∃ Z, ⌜Z = Y5⌝ ∗ ∃ X, ⌜rd5 X = Z⌝ ∗ Q5 X) ∗ (∃ Z, ⌜Z = Y6⌝ ∗ ∃ X, ⌜rd6 X = Z⌝ ∗ Q6 X) ∗ (∃ Z, ⌜Z = Y7⌝ ∗ ∃ X, ⌜rd7 X = Z⌝ ∗ Q7 X) ∗ (∃ Z, ⌜Z = Y8⌝ ∗ ∃ X, ⌜rd8 X = Z⌝ ∗ Q8 X) ∗ (∃ Z, ⌜Z = Y9⌝ ∗ ∃ X, ⌜rd9 X = Z⌝ ∗ Q9 X) ∗ (∃ Z, ⌜Z = Y10⌝ ∗ ∃ X, ⌜rd10 X = Z⌝ ∗ Q10 X) ∗ (∃ Z, ⌜Z = Y11⌝ ∗ ∃ X, ⌜rd11 X = Z⌝ ∗ Q11 X) ∗ (∃ Z, ⌜Z = Y12⌝ ∗ ∃ X, ⌜rd12 X = Z⌝ ∗ Q12 X)
          ∗ (∃ Z, ⌜aft Y13 Z⌝ ∗ ∃ X, ⌜rd13 X = Z⌝ ∗ Q13 X)) :=
    ((BI.sep_mono K (BI.Entails.refl _)).trans (hf _ _)).trans (hw _ _ ?fin)
  case fin =>
    exact (show _ ⊢ iprop(((∃ f0, ∃ f1, ∃ f2, ∃ f3, ∃ f4, ∃ f5, ⌜I' f0 f1 f2 f3 f4 f5⌝ ∗ P0 f0 ∗ P1 f1 ∗ P2 f2 ∗ P3 f3 ∗ P4 f4 ∗ P5 f5) ∗ (T0 ∗ T1) ∗ G) ∗ O ∗ (∃ Z, ⌜Z = Y3⌝ ∗ ∃ X, ⌜rd3 X = Z⌝ ∗ Q3 X) ∗ (∃ Z, ⌜Z = Y4⌝ ∗ ∃ X, ⌜rd4 X = Z⌝ ∗ Q4 X) ∗ (∃ Z, ⌜Z = Y5⌝ ∗ ∃ X, ⌜rd5 X = Z⌝ ∗ Q5 X) ∗ (∃ Z, ⌜Z = Y6⌝ ∗ ∃ X, ⌜rd6 X = Z⌝ ∗ Q6 X) ∗ (∃ Z, ⌜Z = Y7⌝ ∗ ∃ X, ⌜rd7 X = Z⌝ ∗ Q7 X) ∗ (∃ Z, ⌜Z = Y8⌝ ∗ ∃ X, ⌜rd8 X = Z⌝ ∗ Q8 X) ∗ (∃ Z, ⌜Z = Y9⌝ ∗ ∃ X, ⌜rd9 X = Z⌝ ∗ Q9 X) ∗ (∃ Z, ⌜Z = Y10⌝ ∗ ∃ X, ⌜rd10 X = Z⌝ ∗ Q10 X) ∗ (∃ Z, ⌜Z = Y11⌝ ∗ ∃ X, ⌜rd11 X = Z⌝ ∗ Q11 X) ∗ (∃ Z, ⌜Z = Y12⌝ ∗ ∃ X, ⌜rd12 X = Z⌝ ∗ Q12 X)
          ∗ (∃ Z, ⌜aft Y13 Z⌝ ∗ ∃ X, ⌜rd13 X = Z⌝ ∗ Q13 X)) from by
      iintro ⟨⟨%g13, %r0, %r1, %r2, %r3, %r4, %r5, %hp, T1, H3, H4, H5, H6, H7, H8, H9, H10, H11, H12, H13, S⟩, T0, Hg, HO⟩
      isplitl [S T0 T1 Hg]
      · isplitl [S]
        · iexists r0, r1, r2, r3, r4, r5
          isplitr
          · ipureintro; exact hp.2
          iexact S
        isplitl [T0 T1]
        · isplitl [T0]
          · iexact T0
          iexact T1
        iexact Hg
      isplitl [HO]; · iexact HO
      isplitl [H3]
      · iexists Y3
        isplitr
        · ipureintro; rfl
        iexists X3
        isplitr
        · ipureintro; exact h3
        iexact H3
      isplitl [H4]
      · iexists Y4
        isplitr
        · ipureintro; rfl
        iexists X4
        isplitr
        · ipureintro; exact h4
        iexact H4
      isplitl [H5]
      · iexists Y5
        isplitr
        · ipureintro; rfl
        iexists X5
        isplitr
        · ipureintro; exact h5
        iexact H5
      isplitl [H6]
      · iexists Y6
        isplitr
        · ipureintro; rfl
        iexists X6
        isplitr
        · ipureintro; exact h6
        iexact H6
      isplitl [H7]
      · iexists Y7
        isplitr
        · ipureintro; rfl
        iexists X7
        isplitr
        · ipureintro; exact h7
        iexact H7
      isplitl [H8]
      · iexists Y8
        isplitr
        · ipureintro; rfl
        iexists X8
        isplitr
        · ipureintro; exact h8
        iexact H8
      isplitl [H9]
      · iexists Y9
        isplitr
        · ipureintro; rfl
        iexists X9
        isplitr
        · ipureintro; exact h9
        iexact H9
      isplitl [H10]
      · iexists Y10
        isplitr
        · ipureintro; rfl
        iexists X10
        isplitr
        · ipureintro; exact h10
        iexact H10
      isplitl [H11]
      · iexists Y11
        isplitr
        · ipureintro; rfl
        iexists X11
        isplitr
        · ipureintro; exact h11
        iexact H11
      isplitl [H12]
      · iexists Y12
        isplitr
        · ipureintro; rfl
        iexists X12
        isplitr
        · ipureintro; exact h12
        iexact H12
      iexists rd13 g13
      isplitr
      · ipureintro; exact hp.1
      iexists g13
      isplitr
      · ipureintro; rfl
      iexact H13)
  iapply K2
  isplitr [T0 Hg HO]
  · isplitl [T1]; · iexact T1
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact S
  isplitl [T0]; · iexact T0
  isplitl [Hg]; · iexact Hg
  iexact HO

end Abstract

set_option maxHeartbeats 1000000 in
/-- The run at a grid point. -/
theorem point_run (tab : pre0.Contents (Elt F)) (I I' : SBuf (F := F) cc0_scratch0 → SBuf (F := F) cc0_scratch1 → SBuf (F := F) cc0_scratch2 → SBuf (F := F) cc0_scratch3 → SBuf (F := F) cc0_scratch4 → SBuf (F := F) cc0_scratch5 → Prop) (c : Dev nD) (O : sProp 𝕄G)
    (b : grid0.Bounds) (i : grid0.Static) (arg0 : BitVec 32) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (hchk : k0_chk1 i arg0) (hsh : Shapes i arg0)
    (Y_arg3 : (S2x48x1536.Idx → Elt F .bf16)) (Y_arg4 : (S48x2.Idx → Elt F .i32)) (Y_arg5 : (S48x2.Idx → Elt F .f32)) (Y_arg6 : (S2x32x128.Idx → Elt F .i8)) (Y_arg7 : (S1x3072x512.Idx → Elt F .i8)) (Y_arg8 : (S1x3072x224.Idx → Elt F .f32)) (Y_arg9 : (S1x3072x512.Idx → Elt F .i8)) (Y_arg10 : (S1x3072x224.Idx → Elt F .f32)) (Y_arg11 : (S1x1024x1536.Idx → Elt F .i8)) (Y_arg12 : (S1x1024x48.Idx → Elt F .f32)) (Y_arg13 : (S2x48x1536.Idx → Elt F .f32)) (aft : (S2x48x1536.Idx → Elt F .f32) → (S2x48x1536.Idx → Elt F .f32) → Prop)
    (hs : ∀ (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (X_arg12 : BufTy.Contents (Elt F) arg12.view.ty) (g10 : BufTy.Contents (Elt F) arg13.view.ty) (f0 : SBuf (F := F) cc0_scratch0) (f1 : SBuf (F := F) cc0_scratch1) (f2 : SBuf (F := F) cc0_scratch2) (f3 : SBuf (F := F) cc0_scratch3) (f4 : SBuf (F := F) cc0_scratch4) (f5 : SBuf (F := F) cc0_scratch5),
      arg3.view.read (Elt F) X_arg3 = Y_arg3 → arg4.view.read (Elt F) X_arg4 = Y_arg4 → arg5.view.read (Elt F) X_arg5 = Y_arg5 → arg6.view.read (Elt F) X_arg6 = Y_arg6 → arg7.view.read (Elt F) X_arg7 = Y_arg7 → arg8.view.read (Elt F) X_arg8 = Y_arg8 → arg9.view.read (Elt F) X_arg9 = Y_arg9 → arg10.view.read (Elt F) X_arg10 = Y_arg10 → arg11.view.read (Elt F) X_arg11 = Y_arg11 → arg12.view.read (Elt F) X_arg12 = Y_arg12 → arg13.view.read (Elt F) g10 = Y_arg13 → I f0 f1 f2 f3 f4 f5 →
      StepOK c b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hchk (tab 1) X_arg3 X_arg4 X_arg5 X_arg6 X_arg7 X_arg8 X_arg9 X_arg10 X_arg11 X_arg12 g10 f0 f1 f2 f3 f4 f5 (fun r10 r0 r1 r2 r3 r4 r5 => aft Y_arg13 (arg13.view.read (Elt F) r10) ∧ I' r0 r1 r2 r3 r4 r5)) :
    iprop(ΦS tab I c ∗ O ∗ owns (c : Thread nD τ) arg3 fullShare Y_arg3 ∗ owns (c : Thread nD τ) arg4 fullShare Y_arg4 ∗ owns (c : Thread nD τ) arg5 fullShare Y_arg5 ∗ owns (c : Thread nD τ) arg6 fullShare Y_arg6 ∗ owns (c : Thread nD τ) arg7 fullShare Y_arg7 ∗ owns (c : Thread nD τ) arg8 fullShare Y_arg8 ∗ owns (c : Thread nD τ) arg9 fullShare Y_arg9 ∗ owns (c : Thread nD τ) arg10 fullShare Y_arg10 ∗ owns (c : Thread nD τ) arg11 fullShare Y_arg11 ∗ owns (c : Thread nD τ) arg12 fullShare Y_arg12 ∗ owns (c : Thread nD τ) arg13 fullShare Y_arg13)
      ⊢ wp frame (wpE (defs₀ (F := F)) Variants.none (c : Thread nD τ) none) Set.univ (cc0_moe_nf4 (F := F) b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _))
          (fun _ => iprop(ΦS tab I' c ∗ O ∗ (∃ X, ⌜X = Y_arg3⌝ ∗ owns (c : Thread nD τ) arg3 fullShare X) ∗ (∃ X, ⌜X = Y_arg4⌝ ∗ owns (c : Thread nD τ) arg4 fullShare X) ∗ (∃ X, ⌜X = Y_arg5⌝ ∗ owns (c : Thread nD τ) arg5 fullShare X) ∗ (∃ X, ⌜X = Y_arg6⌝ ∗ owns (c : Thread nD τ) arg6 fullShare X) ∗ (∃ X, ⌜X = Y_arg7⌝ ∗ owns (c : Thread nD τ) arg7 fullShare X) ∗ (∃ X, ⌜X = Y_arg8⌝ ∗ owns (c : Thread nD τ) arg8 fullShare X) ∗ (∃ X, ⌜X = Y_arg9⌝ ∗ owns (c : Thread nD τ) arg9 fullShare X) ∗ (∃ X, ⌜X = Y_arg10⌝ ∗ owns (c : Thread nD τ) arg10 fullShare X) ∗ (∃ X, ⌜X = Y_arg11⌝ ∗ owns (c : Thread nD τ) arg11 fullShare X) ∗ (∃ X, ⌜X = Y_arg12⌝ ∗ owns (c : Thread nD τ) arg12 fullShare X)
            ∗ (∃ X, ⌜aft Y_arg13 X⌝ ∗ owns (c : Thread nD τ) arg13 fullShare X))) := by
  unfold ΦS owns
  refine point_abstract (fun f : SBuf (F := F) cc0_scratch0 => iprop(((c.tc : Thread nD τ).loc cc0_scratch0) ↦{fullShare} f)) (fun f : SBuf (F := F) cc0_scratch1 => iprop(((c.tc : Thread nD τ).loc cc0_scratch1) ↦{fullShare} f)) (fun f : SBuf (F := F) cc0_scratch2 => iprop(((c.tc : Thread nD τ).loc cc0_scratch2) ↦{fullShare} f)) (fun f : SBuf (F := F) cc0_scratch3 => iprop(((c.tc : Thread nD τ).loc cc0_scratch3) ↦{fullShare} f)) (fun f : SBuf (F := F) cc0_scratch4 => iprop(((c.tc : Thread nD τ).loc cc0_scratch4) ↦{fullShare} f)) (fun f : SBuf (F := F) cc0_scratch5 => iprop(((c.tc : Thread nD τ).loc cc0_scratch5) ↦{fullShare} f)) _ _ _ _
    _ (arg3.view.read (Elt F)) _ _ (arg4.view.read (Elt F)) _ _ (arg5.view.read (Elt F)) _ _ (arg6.view.read (Elt F)) _ _ (arg7.view.read (Elt F)) _ _ (arg8.view.read (Elt F)) _ _ (arg9.view.read (Elt F)) _ _ (arg10.view.read (Elt F)) _ _ (arg11.view.read (Elt F)) _ _ (arg12.view.read (Elt F)) _ _ (arg13.view.read (Elt F)) _ I I' aft
    (fun A => wp frame (wpE (defs₀ (F := F)) Variants.none (c : Thread nD τ) none) Set.univ (cc0_moe_nf4 (F := F) b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _)) (fun _ => A)) (fun A B h => wp_mono _ _ _ fun _ => h) (fun A B => wp_frame_r _ _ _) ?_
  intro X_arg3 X_arg4 X_arg5 X_arg6 X_arg7 X_arg8 X_arg9 X_arg10 X_arg11 X_arg12 X_arg13 f0 f1 f2 f3 f4 f5 h_arg3 h_arg4 h_arg5 h_arg6 h_arg7 h_arg8 h_arg9 h_arg10 h_arg11 h_arg12 h_arg13 hI
  have H := body_step c b i arg0 (Memref.whole main_v12) (Memref.isWhole_whole _) arg3 harg3 arg4 harg4 arg5 harg5 arg6 harg6 arg7 harg7 arg8 harg8 arg9 harg9 arg10 harg10 arg11 harg11 arg12 harg12 arg13 harg13 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) hchk hsh (tab 1) X_arg3 X_arg4 X_arg5 X_arg6 X_arg7 X_arg8 X_arg9 X_arg10 X_arg11 X_arg12 X_arg13 f0 f1 f2 f3 f4 f5 _ (hs X_arg3 X_arg4 X_arg5 X_arg6 X_arg7 X_arg8 X_arg9 X_arg10 X_arg11 X_arg12 X_arg13 f0 f1 f2 f3 f4 f5 h_arg3 h_arg4 h_arg5 h_arg6 h_arg7 h_arg8 h_arg9 h_arg10 h_arg11 h_arg12 h_arg13 hI)
  unfold BodyRes at H
  simp only [Memref.view_whole, View.set_whole] at H
  exact H

end Cert.Kernel.Hand

end
-- ==== Proof.Bits.Host.lean ====
/-
  What the host lines before the kernel leave: which experts some token asks for, the order the experts are visited in
  and their number, and that these make the pipeline's tables admissible whatever the arguments are.
-/
module

public import proofs.«01_k».proof.Proof.Gen.Kernel.Launch
public import Idealize.ShloMosaic.Lib.Pipeline.Frame
public import Idealize.ShloMosaic.Lib.SortFacts
public import Idealize.ShloMosaic.Lib.StableHlo.Run
public import Idealize.ShloMosaic.Lib.StableHlo.RunClose

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

variable (m : (ℓ : Loc nD τ sig) → Buf (Elt F) ℓ)

/-- The host lines before the kernel, stretch by stretch. -/
abbrev opss : List (List (HloOp τ sig (Elt F))) := [hostOps0, hostOps0_1, hostOps0_2, hostOps0_3]

/-- What the buffers hold when the kernel starts. -/
abbrev V (c : Dev nD) (b : Ref sig .tc) : Buf (Elt F) ((c.tc : Thread nD τ).loc b) :=
  StableHlo.after (opss (F := F)).flatten (fun b => m (c, b)) b

/-- @main is those host lines, then the kernel. -/
theorem hmain : Pipeline.HMainP (Ix := Unit) (Name := ℕ) (U := UR sig nD τ) (Lvl := ℕ) (pcfgs (F := F)) 0 defs₀ Variants.none
    m (main (F := F)) (V m) :=
  Pipeline.hmainP_prefixes pcfgs 0 defs₀ _ m main opss ⟨hostOps0_sub, hostOps0_1_sub, hostOps0_2_sub, hostOps0_3_sub⟩
    (by refine ⟨?_, ?_, ?_, ?_⟩ <;> (repeat' constructor)) main_chain

/-- The tokens' experts as the host lines read them: one row per token, two columns. -/
def ids (c : Dev nD) : S48x2.Idx → BitVec 32 := shapeCast S48x2 (m (c, Proc.tc.devRef main_arg1)) shapeCasts_S48x1x2_S48x2

/-- Whether some token asks for expert `e`. -/
def act (c : Dev nD) : S4.Idx → BitVec 1 :=
  Host.reduce IntOp.ori
    (cmpi CmpIPredicate.eq (broadcastInDim S96x4 ![0, 1] bcast_S96x1_S96x4_0_1 (shapeCast S96x1 (ids m c) shapeCasts_S48x2_S96x1))
      (broadcastInDim S96x4 ![0, 1] bcast_S1x4_S96x4_0_1 (broadcastInDim S1x4 ![1] bcast_S4_S1x4_1 (iotaInDim S4 32 0))))
    (constantI S_ 1 0#1) reducesTo_S96x4_S4_d0 h_S_

/-- The order of the experts, the wanted ones first, of the flags `a`. -/
def ordOf (a : S4.Idx → BitVec 1) : S4.Idx → BitVec 32 :=
  (Host.sort2 S4 0 comparator_i32_i32_d0
    (select a (broadcastInDim S4 ![] bcast_S_S4 (constantI S_ 32 0#32)) (broadcastInDim S4 ![] bcast_S_S4 (constantI S_ 32 1#32)))
    (iotaInDim S4 32 0)).2

/-- The number of wanted experts, of the flags `a`. -/
def cntOf (a : S4.Idx → BitVec 1) : S_.Idx → BitVec 32 :=
  Host.reduce IntOp.addi (extui 32 a natLt_1_32) (constantI S_ 32 0#32) reducesTo_S4_S_d0 h_S_

theorem V_arg0 (c : Dev nD) : V m c main_arg0 = m (c, Proc.tc.devRef main_arg0) := by
  unfold V opss
  simp only [List.flatten_cons, List.flatten_nil, List.append_nil, List.cons_append, List.nil_append]
  after_results
theorem V_arg1 (c : Dev nD) : V m c main_arg1 = m (c, Proc.tc.devRef main_arg1) := by
  unfold V opss
  simp only [List.flatten_cons, List.flatten_nil, List.append_nil, List.cons_append, List.nil_append]
  after_results
theorem V_arg2 (c : Dev nD) : V m c main_arg2 = m (c, Proc.tc.devRef main_arg2) := by
  unfold V opss
  simp only [List.flatten_cons, List.flatten_nil, List.append_nil, List.cons_append, List.nil_append]
  after_results
theorem V_arg3 (c : Dev nD) : V m c main_arg3 = m (c, Proc.tc.devRef main_arg3) := by
  unfold V opss
  simp only [List.flatten_cons, List.flatten_nil, List.append_nil, List.cons_append, List.nil_append]
  after_results
theorem V_arg4 (c : Dev nD) : V m c main_arg4 = m (c, Proc.tc.devRef main_arg4) := by
  unfold V opss
  simp only [List.flatten_cons, List.flatten_nil, List.append_nil, List.cons_append, List.nil_append]
  after_results
theorem V_arg5 (c : Dev nD) : V m c main_arg5 = m (c, Proc.tc.devRef main_arg5) := by
  unfold V opss
  simp only [List.flatten_cons, List.flatten_nil, List.append_nil, List.cons_append, List.nil_append]
  after_results
theorem V_arg6 (c : Dev nD) : V m c main_arg6 = m (c, Proc.tc.devRef main_arg6) := by
  unfold V opss
  simp only [List.flatten_cons, List.flatten_nil, List.append_nil, List.cons_append, List.nil_append]
  after_results
theorem V_arg7 (c : Dev nD) : V m c main_arg7 = m (c, Proc.tc.devRef main_arg7) := by
  unfold V opss
  simp only [List.flatten_cons, List.flatten_nil, List.append_nil, List.cons_append, List.nil_append]
  after_results
theorem V_arg8 (c : Dev nD) : V m c main_arg8 = m (c, Proc.tc.devRef main_arg8) := by
  unfold V opss
  simp only [List.flatten_cons, List.flatten_nil, List.append_nil, List.cons_append, List.nil_append]
  after_results
theorem V_v3 (c : Dev nD) : V m c main_v3 = ids m c := by
  unfold V opss
  simp only [List.flatten_cons, List.flatten_nil, List.append_nil, List.cons_append, List.nil_append]
  after_results; rfl
theorem V_v12 (c : Dev nD) : V m c main_v12 = ordOf (act m c) := by
  unfold V opss
  simp only [List.flatten_cons, List.flatten_nil, List.append_nil, List.cons_append, List.nil_append]
  after_results; rfl
theorem V_v14 (c : Dev nD) : V m c main_v14 = cntOf (act m c) := by
  unfold V opss
  simp only [List.flatten_cons, List.flatten_nil, List.append_nil, List.cons_append, List.nil_append]
  after_results; rfl
/-- The two planes of `x`: plane `p` holds the columns `2 c + p`. -/
theorem V_v2 (c : Dev nD) : V m c main_v2 = transpose S2x48x1536 [2, 0, 1]
    (shapeCast S48x1536x2 (m (c, Proc.tc.devRef main_arg0)) shapeCasts_S48x1x3072_S48x1536x2) transposes_S48x1536x2_S2x48x1536_2_0_1 := by
  unfold V opss
  simp only [List.flatten_cons, List.flatten_nil, List.append_nil, List.cons_append, List.nil_append]
  after_results; rfl
theorem V_v15 (c : Dev nD) : V m c main_v15 = shapeCast S48x2 (m (c, Proc.tc.devRef main_arg2)) shapeCasts_S48x1x2_S48x2 := by
  unfold V opss
  simp only [List.flatten_cons, List.flatten_nil, List.append_nil, List.cons_append, List.nil_append]
  after_results; rfl
theorem V_v0 (c : Dev nD) : V m c main_v0 = broadcastInDim S2x32x128 ![0, 1] bcast_S2x32_S2x32x128_0_1 (fun i => lit0 (S2x32.rowMajor i)) := by
  unfold V opss
  simp only [List.flatten_cons, List.flatten_nil, List.append_nil, List.cons_append, List.nil_append]
  after_results; rfl

/-- The flags as bits. -/
def flags (w : Fin 4 → Bool) : S4.Idx → BitVec 1 := fun x => if w (x 0) then 1#1 else 0#1

theorem eq_flags (a : S4.Idx → BitVec 1) : a = flags fun e => a (Shape.Idx.ofFin e) == 1#1 := by
  funext x
  unfold flags
  have h : ∀ v : BitVec 1, v = if (v == 1#1) = true then 1#1 else 0#1 := by decide
  exact (h (a x)).trans (by rw [Shape.Idx.eq_ofFin x]; rfl)

/-- Entry `k` of the order is an expert: the one the stable sort of the flags puts there. -/
def perm (w : Fin 4 → Bool) (k : Fin 4) : Fin 4 :=
  sortedFrom (fun k k' : Fin 4 => IntOp.cmpi .slt (if w k then 0#32 else 1#32) (if w k' then 0#32 else 1#32) == 1#1) k

theorem perm_injective (w : Fin 4 → Bool) : Function.Injective (perm w) := sortedFrom_injective _

theorem ord_flags (w : Fin 4 → Bool) : ∀ k : Fin 4, ordOf (flags w) (Shape.Idx.ofFin k) = BitVec.ofNat 32 (perm w k).val := by
  revert w; decide +kernel

theorem cnt_flags (w : Fin 4 → Bool) : (cntOf (flags w) (fun a => a.elim0)).toNat ≤ 4
    ∧ ∀ k : Fin 4, (k.val < (cntOf (flags w) (fun a => a.elim0)).toNat ↔ w (perm w k) = true) := by
  revert w; decide +kernel

/-- Which experts some token asks for. -/
def wants (c : Dev nD) (e : Fin 4) : Bool := act m c (Shape.Idx.ofFin e) == 1#1

theorem act_eq (c : Dev nD) : act m c = flags (wants m c) := eq_flags _

/-- The tables the pipeline runs at: the number of experts and their order. -/
def pf : pre0.Contents (Elt F) := fun k => V m 0 (pre0.ref k)

/-- The number of experts visited. -/
def cnt : ℕ := (cntOf (flags (wants m 0)) (fun a => a.elim0)).toNat

theorem cnt_le : cnt m ≤ 4 := (cnt_flags _).1

theorem dynb_pf : dynb0 (pf m) = ![cnt m, 14] := by
  unfold dynb0
  rw [show pf m 0 = V m 0 main_v14 from rfl, V_v14, act_eq]
  rfl

theorem pf_atD (n : ℕ) (hn : n < 4) : (pf m).atD 1 ![n] = BitVec.ofNat 32 (perm (wants m 0) ⟨n, hn⟩).val := by
  have h : ∀ a, (![n] : Fin 1 → Nat) a + 1 ≤ S4.size a := fun a => by fin_cases a; exact hn
  have e : (pf m).atD 1 ![n] = V m 0 main_v12 (fun a => ⟨![n] a, h a⟩) := dif_pos h
  rw [e, V_v12, act_eq, ← ord_flags]
  congr 1
  funext a; fin_cases a; rfl

/-- The expert visited at step `n` (the first one's where there is no such step). -/
def expert (n : ℕ) : Fin 4 := if h : n < 4 then perm (wants m 0) ⟨n, h⟩ else 0

theorem expert_eq {n : ℕ} (hn : n < 4) : expert m n = perm (wants m 0) ⟨n, hn⟩ := dif_pos hn

theorem idx_toNat {n : ℕ} (hn : n < 4) : (Scalar.indexCast (BitVec.ofNat 32 n) : Index).toNat = n := by
  have h : ∀ n : Fin 4, (Scalar.indexCast (BitVec.ofNat 32 n.val) : Index).toNat = n.val := by decide
  exact h ⟨n, hn⟩

theorem bv_toNat {n : ℕ} (hn : n < 2 ^ 32) : (BitVec.ofNat 32 n).toNat = n := by
  rw [BitVec.toNat_ofNat, Nat.mod_eq_of_lt hn]

theorem coord0 {b : grid0.Bounds} (hb : b = ![cnt m, 14]) (i : (grid0.at b).Coords) : (i 0).val < 4 := by
  subst hb; exact lt_of_lt_of_le (i 0).isLt (cnt_le m)

theorem coord1 {b : grid0.Bounds} (i : (grid0.at b).Coords) : (i 1).val < 14 := (i 1).isLt

section Transforms

variable {b : grid0.Bounds} (hb : b = ![cnt m, 14]) (i : (grid0.at b).Coords)
include hb

theorem tr4 : cc0_transform_4 (pf m) b i = ![(expert m (i 0).val).val, 0, (i 1).val] := by
  have h0 := coord0 m hb i
  have h1 := coord1 i
  unfold cc0_transform_4
  simp only [idx_toNat h0, pf_atD m _ h0, expert_eq m h0]
  rw [bv_toNat (n := (i 1).val) (by omega), bv_toNat (n := (perm (wants m 0) ⟨_, h0⟩).val) (by omega)]; rfl

theorem tr5 : cc0_transform_5 (pf m) b i = ![(expert m (i 0).val).val, 0, 0] := by
  have h0 := coord0 m hb i
  unfold cc0_transform_5
  simp only [idx_toNat h0, pf_atD m _ h0, expert_eq m h0]
  rw [bv_toNat (by omega)]; rfl

theorem tr6 : cc0_transform_6 (pf m) b i = ![(expert m (i 0).val).val, 0, (i 1).val] := tr4 m hb i

theorem tr7 : cc0_transform_7 (pf m) b i = ![(expert m (i 0).val).val, 0, 0] := tr5 m hb i

theorem tr8 : cc0_transform_8 (pf m) b i = ![(expert m (i 0).val).val, (i 1).val, 0] := by
  have h0 := coord0 m hb i
  have h1 := coord1 i
  unfold cc0_transform_8
  simp only [idx_toNat h0, pf_atD m _ h0, expert_eq m h0]
  rw [bv_toNat (n := (i 1).val) (by omega), bv_toNat (n := (perm (wants m 0) ⟨_, h0⟩).val) (by omega)]; rfl

theorem tr9 : cc0_transform_9 (pf m) b i = ![(expert m (i 0).val).val, (i 1).val, 0] := tr8 m hb i

end Transforms

theorem words_mid {s : Shape} (hs : s.rank = 3) (p : ℕ) (size ix : Fin s.rank → Nat)
    (h : ∀ a, (ix a + 1) * size a ≤ s.size a) (hp : p ∣ size (s.rowAx (by omega))) : (Rect.block (s := s) size ix h).WholeWords p :=
  .inl (.inr ⟨by omega, rfl, .inl ⟨Dvd.dvd.mul_left hp _, hp⟩⟩)

theorem ok_pf : ok0 (pf m) := by
  unfold ok0
  have hb := dynb_pf m
  generalize dynb0 (pf m) = b at hb
  refine ⟨?_, fun i a => ?_, fun i => ⟨?_, .inr (.inl (.inl ?_))⟩, fun i => ⟨?_, .inl rfl⟩, fun i => ⟨?_, .inl rfl⟩, fun i => ⟨?_, .inr (.inl (.inl ?_))⟩,
    fun i => ⟨?_, .inr (words_mid rfl _ _ _ _ (by decide))⟩, fun i => ⟨?_, .inl rfl⟩,
    fun i => ⟨?_, .inr (words_mid rfl _ _ _ _ (by decide))⟩, fun i => ⟨?_, .inl rfl⟩,
    fun i => ⟨?_, .inr (words_mid rfl _ _ _ _ (by decide))⟩, fun i => ⟨?_, .inl rfl⟩, fun i => ⟨?_, .inl rfl⟩⟩
  · subst hb
    have h4 := cnt_le m
    show (grid0.at ![cnt m, 14]).N + 2 < 2 ^ 31
    rw [show (grid0.at ![cnt m, 14]).N = cnt m * 14 from rfl]
    omega
  · have h0 := coord0 m hb i
    have e : k0_off1 b i = ![(i 0).val] := by unfold k0_off1; simp only [idx_toNat h0]
    rw [e]; fin_cases a
    show (i 0).val + 1 ≤ 4
    omega
  · show ∀ a : Fin 3, _
    intro a; fin_cases a <;> exact Nat.le_refl _
  · show ∀ a : Fin 3, _
    intro a; fin_cases a <;> exact ⟨rfl, rfl, rfl⟩
  · show ∀ a : Fin 2, _
    intro a; fin_cases a <;> exact Nat.le_refl _
  · show ∀ a : Fin 2, _
    intro a; fin_cases a <;> exact Nat.le_refl _
  · show ∀ a : Fin 3, _
    intro a; fin_cases a <;> exact Nat.le_refl _
  · show ∀ a : Fin 3, _
    intro a; fin_cases a <;> exact ⟨rfl, rfl, rfl⟩
  all_goals
    have he := (expert m (i 0).val).isLt
    have h1 := coord1 i
    first | rw [tr4 m hb] | rw [tr5 m hb] | rw [tr6 m hb] | rw [tr7 m hb] | rw [tr8 m hb] | rw [tr9 m hb] | skip
    show ∀ a : Fin 3, _
    intro a
    fin_cases a
  · show ((expert m (i 0).val).val + 1) * 1 ≤ 4; omega
  · show (0 + 1) * 3072 ≤ 3072; omega
  · show ((i 1).val + 1) * 512 ≤ 7168; omega
  · show ((expert m (i 0).val).val + 1) * 1 ≤ 4; omega
  · show (0 + 1) * 3072 ≤ 3072; omega
  · show (0 + 1) * 224 ≤ 224; omega
  · show ((expert m (i 0).val).val + 1) * 1 ≤ 4; omega
  · show (0 + 1) * 3072 ≤ 3072; omega
  · show ((i 1).val + 1) * 512 ≤ 7168; omega
  · show ((expert m (i 0).val).val + 1) * 1 ≤ 4; omega
  · show (0 + 1) * 3072 ≤ 3072; omega
  · show (0 + 1) * 224 ≤ 224; omega
  · show ((expert m (i 0).val).val + 1) * 1 ≤ 4; omega
  · show ((i 1).val + 1) * 1024 ≤ 14336; omega
  · show (0 + 1) * 1536 ≤ 1536; omega
  · show ((expert m (i 0).val).val + 1) * 1 ≤ 4; omega
  · show ((i 1).val + 1) * 1024 ≤ 14336; omega
  · show (0 + 1) * 48 ≤ 48; omega
  all_goals exact Nat.le_refl _

/-- The tables' contents with the pipeline's side condition on them. -/
def adm (p : Fin 1) : (pcfgs (F := F) p).Adm := ⟨pf m, ok_pf m⟩

end Cert.Kernel.Hand

end
-- ==== Proof.Bits.Run.lean ====
/-
  The pipeline's run: the body's obligation at every grid point, whatever is tracked of the scratch buffers and of the
  output block, and what the launch then gives — the arguments unchanged, the semaphores at zero, and the output array
  one that the tracked relation allows.
-/
module

public import proofs.«01_k».proof.Proof.Bits.Point
public import proofs.«01_k».proof.Proof.Bits.Host
public import Idealize.ShloMosaic.Lib.Pipeline.FrameBody

@[expose] public section

set_option maxRecDepth 8192
set_option maxHeartbeats 400000

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (m : (ℓ : Loc nD τ sig) → Buf (Elt F) ℓ)

/-- The pipeline at the tables the host lines leave. -/
abbrev cfgA : Pipeline.Cfg sig Λ₀ := Pipeline.pin (pcfgs (F := F)) (adm m) 0

/- What is tracked: a relation on the six scratch buffers before each grid point (by its number), and what the body may
   leave in the output block at each, given what it found there. -/
variable (Inv : ℕ → SBuf (F := F) cc0_scratch0 → SBuf (F := F) cc0_scratch1 → SBuf (F := F) cc0_scratch2 → SBuf (F := F) cc0_scratch3 → SBuf (F := F) cc0_scratch4 → SBuf (F := F) cc0_scratch5 → Prop) (aft : ℕ → (S2x48x1536.Idx → Elt F .f32) → (S2x48x1536.Idx → Elt F .f32) → Prop)

/-- The proof data. -/
def rdat (c : Dev nD) : Pipeline.RDat τ (Elt F) Unit ℕ (UR sig nD τ) ℕ (cfgA m) c where
  A w := V m c (Pipeline.arrRef spec0 w)
  after w := match w with
    | ⟨0, _⟩ => fun _ Y X => X = Y
    | ⟨1, _⟩ => fun _ Y X => X = Y
    | ⟨2, _⟩ => fun _ Y X => X = Y
    | ⟨3, _⟩ => fun _ Y X => X = Y
    | ⟨4, _⟩ => fun _ Y X => X = Y
    | ⟨5, _⟩ => fun _ Y X => X = Y
    | ⟨6, _⟩ => fun _ Y X => X = Y
    | ⟨7, _⟩ => fun _ Y X => X = Y
    | ⟨8, _⟩ => fun _ Y X => X = Y
    | ⟨9, _⟩ => fun _ Y X => X = Y
    | ⟨10, _⟩ => fun t Y X => aft t.val Y X
    | ⟨_ + 11, h⟩ => absurd h (Nat.not_lt.2 (Nat.le_add_left _ _))
  Φ t := ΦS (pf m) (Inv t.val) c
  q _ := fullShare
  owed _ := 0

/-- The static coordinates of a grid point. -/
abbrev stat (t : Fin (cfgA m).N) : grid0.Static := Pipeline.Grid.Coords.static grid0 ((cfgA m).grid.coords t)
/-- Its dynamic coordinate as a word. -/
abbrev bv0 (t : Fin (cfgA m).N) : BitVec 32 := BitVec.ofNat 32 ((cfgA m).grid.coords t 0).val

theorem dyn_lt (t : Fin (cfgA m).N) : ((cfgA m).grid.coords t 0).val < 4 := coord0 m (dynb_pf m) _

theorem chk (t : Fin (cfgA m).N) : k0_chk1 (stat m t) (bv0 m t) := by
  have h := dyn_lt m t
  unfold k0_chk1
  intro _ a
  unfold k0_off36
  dsimp only
  rw [idx_toNat h]
  fin_cases a
  show ((cfgA m).grid.coords t 0).val + 1 ≤ 4
  omega

theorem shapes_all : ∀ (i : grid0.Static) (n : Fin 4), Shapes i (BitVec.ofNat 32 n.val) := by
  unfold Shapes k0_cond1 k0_cond2 k0_cond3
  decide +kernel

theorem shapes (t : Fin (cfgA m).N) : Shapes (stat m t) (bv0 m t) := shapes_all _ ⟨_, dyn_lt m t⟩

/-- What the body must do at every point: from scratch contents under the invariant and the windows' blocks, leave
    contents under the next point's invariant and an output block the relation allows. -/
def Steps (c : Dev nD) : Prop :=
  ∀ (t : Fin (cfgA m).N) (Y : (w : Fin (cfgA m).W) → ((cfgA m).win w).block.Idx → Elt F ((cfgA m).win w).elt), (∀ w, (rdat m Inv aft c).Finds w t (Y w)) →
  ∀ (X0 : BufTy.Contents (Elt F) (spec0_0.stage ((cfgA m).slots t 0)).view.ty) (X1 : BufTy.Contents (Elt F) (spec0_1.stage ((cfgA m).slots t 1)).view.ty) (X2 : BufTy.Contents (Elt F) (spec0_2.stage ((cfgA m).slots t 2)).view.ty) (X3 : BufTy.Contents (Elt F) (spec0_3.stage ((cfgA m).slots t 3)).view.ty) (X4 : BufTy.Contents (Elt F) (spec0_4.stage ((cfgA m).slots t 4)).view.ty) (X5 : BufTy.Contents (Elt F) (spec0_5.stage ((cfgA m).slots t 5)).view.ty) (X6 : BufTy.Contents (Elt F) (spec0_6.stage ((cfgA m).slots t 6)).view.ty) (X7 : BufTy.Contents (Elt F) (spec0_7.stage ((cfgA m).slots t 7)).view.ty) (X8 : BufTy.Contents (Elt F) (spec0_8.stage ((cfgA m).slots t 8)).view.ty) (X9 : BufTy.Contents (Elt F) (spec0_9.stage ((cfgA m).slots t 9)).view.ty) (g10 : BufTy.Contents (Elt F) (spec0_10.stage ((cfgA m).slots t 10)).view.ty)
    (f0 : SBuf (F := F) cc0_scratch0) (f1 : SBuf (F := F) cc0_scratch1) (f2 : SBuf (F := F) cc0_scratch2) (f3 : SBuf (F := F) cc0_scratch3) (f4 : SBuf (F := F) cc0_scratch4) (f5 : SBuf (F := F) cc0_scratch5),
    (spec0_0.stage ((cfgA m).slots t 0)).view.read (Elt F) X0 = Y 0 → (spec0_1.stage ((cfgA m).slots t 1)).view.read (Elt F) X1 = Y 1 → (spec0_2.stage ((cfgA m).slots t 2)).view.read (Elt F) X2 = Y 2 → (spec0_3.stage ((cfgA m).slots t 3)).view.read (Elt F) X3 = Y 3 → (spec0_4.stage ((cfgA m).slots t 4)).view.read (Elt F) X4 = Y 4 → (spec0_5.stage ((cfgA m).slots t 5)).view.read (Elt F) X5 = Y 5 → (spec0_6.stage ((cfgA m).slots t 6)).view.read (Elt F) X6 = Y 6 → (spec0_7.stage ((cfgA m).slots t 7)).view.read (Elt F) X7 = Y 7 → (spec0_8.stage ((cfgA m).slots t 8)).view.read (Elt F) X8 = Y 8 → (spec0_9.stage ((cfgA m).slots t 9)).view.read (Elt F) X9 = Y 9 → (spec0_10.stage ((cfgA m).slots t 10)).view.read (Elt F) g10 = Y 10 →
    Inv t.val f0 f1 f2 f3 f4 f5 →
    StepOK c (dynb0 (pf m)) (stat m t) (bv0 m t) (Memref.whole main_v12) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (chk m t) (pf m 1) X0 X1 X2 X3 X4 X5 X6 X7 X8 X9 g10 f0 f1 f2 f3 f4 f5
      (fun r10 r0 r1 r2 r3 r4 r5 => aft t.val (Y 10) ((spec0_10.stage ((cfgA m).slots t 10)).view.read (Elt F) r10) ∧ Inv (t.val + 1) r0 r1 r2 r3 r4 r5)

/-- The windows' conjunction, one by one. -/
theorem bigSep_WA (Φ : Fin (cfgA m).W → sProp 𝕄G) : bigSep Finset.univ Φ = iprop(Φ ((0 : Fin 11) : Fin (cfgA m).W) ∗ Φ ((1 : Fin 11) : Fin (cfgA m).W) ∗ Φ ((2 : Fin 11) : Fin (cfgA m).W) ∗ Φ ((3 : Fin 11) : Fin (cfgA m).W) ∗ Φ ((4 : Fin 11) : Fin (cfgA m).W) ∗ Φ ((5 : Fin 11) : Fin (cfgA m).W) ∗ Φ ((6 : Fin 11) : Fin (cfgA m).W) ∗ Φ ((7 : Fin 11) : Fin (cfgA m).W) ∗ Φ ((8 : Fin 11) : Fin (cfgA m).W) ∗ Φ ((9 : Fin 11) : Fin (cfgA m).W) ∗ Φ ((10 : Fin 11) : Fin (cfgA m).W)) :=
  bigSep_W0 Φ

theorem Φ_eq (c : Dev nD) (n : Fin ((cfgA m).N + 1)) : (rdat m Inv aft c).Φ n = ΦS (pf m) (Inv n.val) c := rfl

theorem owes_eq (c : Dev nD) (n n' : Fin ((cfgA m).N + 1)) : (rdat m Inv aft c).owesAt () n = (rdat m Inv aft c).owesAt () n' := rfl

/-- The body's obligation. -/
theorem body_obligation (c : Dev nD) (hs : Steps m Inv aft c) : (rdat m Inv aft c).BodyObligation (defs₀ (F := F)) Variants.none () Set.univ := by
  intro t Y hY
  rw [bigSep_WA, bigSep_WA]
  have hp := point_run (F := F) (pf m) (Inv t.val) (Inv (t.val + 1)) c ((rdat m Inv aft c).owesAt () t.castSucc) (dynb0 (pf m)) (stat m t) (bv0 m t) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10))
    (chk m t) (shapes m t) (Y 0) (Y 1) (Y 2) (Y 3) (Y 4) (Y 5) (Y 6) (Y 7) (Y 8) (Y 9) (Y 10) (aft t.val)
  have hq := hp (hs t Y hY)
  clear hp
  refine BI.Entails.trans ?_ (hq.trans (wp_mono _ _ _ fun _ => ?_))
  · refine BI.sep_mono ?_ (BI.sep_mono ?_ ?_)
    · rw [Φ_eq, Fin.val_castSucc]; exact BI.Entails.refl _
    · exact BI.Entails.refl _
    · exact BI.Entails.refl _
  · refine BI.sep_mono ?_ (BI.sep_mono ?_ ?_)
    · rw [Φ_eq, Fin.val_succ]; exact BI.Entails.refl _
    · rw [owes_eq m Inv aft c t.castSucc t.succ]; exact BI.Entails.refl _
    · iterate 10 refine BI.sep_mono (BI.Entails.refl _) ?_
      exact BI.Entails.refl _

theorem share_eq (c : Dev nD) (w : Fin (cfgA m).W) : (rdat m Inv aft c).share w = fullShare := by
  unfold Pipeline.RDat.share; split <;> rfl

theorem enter (c : Dev nD) (h0 : ∀ f0 f1 f2 f3 f4 f5, Inv 0 f0 f1 f2 f3 f4 f5) :
    iprop(Pipeline.ΦA spec0 c ∗ Pipeline.ΦT (U := UR sig nD τ) pre0 (pf m) c) ⊢ (ΦS (pf m) (Inv 0) c : sProp 𝕄G) := by
  unfold Pipeline.ΦA Pipeline.ΦT Pipeline.prefHeld ΦS
  rw [scopedRest0_eq, show (bigSep Finset.univ (fun k : Fin pre0.K => iprop(((c.tc : Thread nD τ).loc (pre0.ref k)) ↦{fullShare.right} pf m k)) : sProp 𝕄G)
    = iprop((((c.tc : Thread nD τ).loc main_v14) ↦{fullShare.right} pf m 0) ∗ (((c.tc : Thread nD τ).loc main_v12) ↦{fullShare.right} pf m 1)) from
      bigSep_univ_eq_bigSepL [(0 : Fin 2), (1 : Fin 2)] (by decide) (by decide) _]
  iintro ⟨⟨⟨⟨%f0, S0⟩, ⟨%f1, S1⟩, ⟨%f2, S2⟩, ⟨%f3, S3⟩, ⟨%f4, S4⟩, ⟨%f5, S5⟩⟩, Hg⟩, HT⟩
  isplitl [S0 S1 S2 S3 S4 S5]
  · iexists f0, f1, f2, f3, f4, f5
    isplitr
    · ipureintro; exact h0 _ _ _ _ _ _
    isplitl [S0]; · iexact S0
    isplitl [S1]; · iexact S1
    isplitl [S2]; · iexact S2
    isplitl [S3]; · iexact S3
    isplitl [S4]; · iexact S4
    iexact S5
  isplitl [HT]; · iexact HT
  iexact Hg

theorem leave (c : Dev nD) (I : SBuf (F := F) cc0_scratch0 → SBuf (F := F) cc0_scratch1 → SBuf (F := F) cc0_scratch2 → SBuf (F := F) cc0_scratch3 → SBuf (F := F) cc0_scratch4 → SBuf (F := F) cc0_scratch5 → Prop) : (ΦS (pf m) I c : sProp 𝕄G) ⊢ Pipeline.ΦA spec0 c := by
  unfold Pipeline.ΦA ΦS
  rw [scopedRest0_eq]
  iintro ⟨⟨%f0, %f1, %f2, %f3, %f4, %f5, %hI, S0, S1, S2, S3, S4, S5⟩, HT, Hg⟩
  isplitr [Hg]
  · isplitl [S0]; · iexists f0; iexact S0
    isplitl [S1]; · iexists f1; iexact S1
    isplitl [S2]; · iexists f2; iexact S2
    isplitl [S3]; · iexists f3; iexact S3
    isplitl [S4]; · iexists f4; iexact S4
    iexists f5; iexact S5
  iexact Hg

set_option backward.isDefEq.respectTransparency.types false in
/-- The launch: whatever is tracked, the program runs to its end, the arrays hold what the tracked relation allows, every
    other buffer what it held when the kernel started, and every semaphore counter is zero. -/
theorem run_main (g : Dev nD → PrngReg) (h0 : ∀ f0 f1 f2 f3 f4 f5, Inv 0 f0 f1 f2 f3 f4 f5) (hs : ∀ c, Steps m Inv aft c) :
    θ_run (defs (F := F)) (onTc (τ := τ) (main (F := F))) ⟨m, fun _ => 0, g⟩
      (fun r => Pipeline.RDat.FramePost (cfgA m) (rdat m Inv aft) (V m) r ∧ r.2.sem = fun _ => 0) :=
  Pipeline.RDat.θ_run_frameP_track (pcfgs (F := F)) (adm m) 0 launch0 defs₀ Variants.none (rdat m Inv aft) m g main
    (fun c => body_obligation m Inv aft c (hs c)) (share_eq m Inv aft) (fun _ _ => rfl) (V m) (hmain m) (fun _ _ => rfl)
    (fun c k => by rw [Subsingleton.elim c 0]; rfl)
    (fun c => by rw [Φ_eq]; exact enter m Inv c h0)
    (fun c => by rw [Φ_eq]; exact leave m c _)
    (Q' := _) (fun _ h => h)

end Cert.Kernel.Hand

end
-- ==== Proof.Bits.Frame.lean ====
/-
  The program's frame: it runs to its end, its arguments unchanged and every semaphore counter at zero.
-/
module

public import proofs.«01_k».proof.Proof.Bits.Run

@[expose] public section

set_option maxRecDepth 8192

noncomputable section

namespace Cert.Kernel.Hand

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ)

section Kept

variable {m} {Inv : ℕ → SBuf (F := F) cc0_scratch0 → SBuf (F := F) cc0_scratch1 → SBuf (F := F) cc0_scratch2 → SBuf (F := F) cc0_scratch3 → SBuf (F := F) cc0_scratch4 → SBuf (F := F) cc0_scratch5 → Prop}
  {aft : ℕ → (S2x48x1536.Idx → Elt F .f32) → (S2x48x1536.Idx → Elt F .f32) → Prop} {r : PUnit × MemSt nD τ sig (Elt F)}

/-- The launch's post leaves the arguments unchanged. -/
theorem args_kept (h : Pipeline.RDat.FramePost (cfgA m) (rdat m Inv aft) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  refine ⟨?_, ?_, ?_, ?_, ?_, ?_, ?_, ?_, ?_⟩
  · exact ((h c).2 main_arg0 (show _ ∈ Pipeline.restRefs sig spec0 by decide)).trans (V_arg0 m c)
  · exact ((h c).2 main_arg1 (show _ ∈ Pipeline.restRefs sig spec0 by decide)).trans (V_arg1 m c)
  · exact ((h c).2 main_arg2 (show _ ∈ Pipeline.restRefs sig spec0 by decide)).trans (V_arg2 m c)
  · exact (Pipeline.RDat.FramePost.arr_in h c (4 : Fin 11) rfl).trans (V_arg3 m c)
  · exact (Pipeline.RDat.FramePost.arr_in h c (5 : Fin 11) rfl).trans (V_arg4 m c)
  · exact (Pipeline.RDat.FramePost.arr_in h c (6 : Fin 11) rfl).trans (V_arg5 m c)
  · exact (Pipeline.RDat.FramePost.arr_in h c (7 : Fin 11) rfl).trans (V_arg6 m c)
  · exact (Pipeline.RDat.FramePost.arr_in h c (8 : Fin 11) rfl).trans (V_arg7 m c)
  · exact (Pipeline.RDat.FramePost.arr_in h c (9 : Fin 11) rfl).trans (V_arg8 m c)

end Kept

/-- Nothing tracked. -/
theorem steps_trivial (c : Dev nD) : Steps m (fun _ _ _ _ _ _ _ => True) (fun _ _ _ => True) c := by
  intro t Y hY
  intros
  exact ⟨fun _ _ _ => ⟨trivial, trivial⟩, fun _ _ _ => ⟨trivial, trivial⟩, fun _ _ _ => ⟨trivial, trivial⟩, fun _ _ _ => ⟨trivial, trivial⟩⟩

/-- The frame: the program runs to its end with its arguments unchanged and every semaphore counter at zero. -/
theorem frame_all (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun r (h : _ ∧ _) => ⟨args_kept h.1, h.2⟩)
    (run_main m (fun _ _ _ _ _ _ _ => True) (fun _ _ _ => True) g (fun _ _ _ _ _ _ => trivial) (steps_trivial m))

end Cert.Kernel.Hand

end
-- ==== Proof.Ideal.Group.lean ====
/-
  What one trip of the three accumulation loops (gate, up, down) computes, as a function of what it loads: the two
  nibbles of every packed byte looked up in the table, scaled, laid out as two 256 by 256 tiles per nibble (even rows,
  odd rows), and both tiles of each nibble multiplied into that nibble's sum.
-/
module

public import proofs.«01_k».proof.Proof.Ideal.Tiles

@[expose] public section

set_option maxRecDepth 8192
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]

/-- The packed words of a block of 512 rows of bytes. -/
def words (w : Vec F S1x512x128 .i8) : IVec S128x128 32 :=
  bitcast S128x128 32 (shapeCast S512x128 w shapeCasts_S1x512x128_S512x128) bitcasts_S512x128_w8_S128x128_w32

/-- The high nibbles, each in its byte's place. -/
def hiIdx (p : IVec S128x128 32) : IVec S128x128 32 :=
  andi (shrui p (broadcast S128x128 4#32)) (broadcast S128x128 252645135#32)

/-- The low nibbles, each in its byte's place. -/
def loIdx (p : IVec S128x128 32) : IVec S128x128 32 := andi p (broadcast S128x128 252645135#32)

/-- One byte of the table for every code: sixteen gathers of 32 rows each. -/
def look (v : IVec S32x128 8) (idx : IVec S128x128 32) : IVec S512x128 8 :=
  let q : IVec S512x128x1 32 := shapeCast S512x128x1 (extsi 32 (bitcast S512x128 8 idx bitcasts_S128x128_w32_S512x128_w8) natLt_8_32) shapeCasts_S512x128_S512x128x1
  concatenate S512x128 0 [⟨S32x128, dynamicGather 0 v (shapeCast S32x128 (extractStridedSlice S32x128x1 ![0, 0, 0] q slices_S512x128x1_o0_0_0_S32x128x1) shapeCasts_S32x128x1_S32x128)⟩, ⟨S32x128, dynamicGather 0 v (shapeCast S32x128 (extractStridedSlice S32x128x1 ![32, 0, 0] q slices_S512x128x1_o32_0_0_S32x128x1) shapeCasts_S32x128x1_S32x128)⟩, ⟨S32x128, dynamicGather 0 v (shapeCast S32x128 (extractStridedSlice S32x128x1 ![64, 0, 0] q slices_S512x128x1_o64_0_0_S32x128x1) shapeCasts_S32x128x1_S32x128)⟩, ⟨S32x128, dynamicGather 0 v (shapeCast S32x128 (extractStridedSlice S32x128x1 ![96, 0, 0] q slices_S512x128x1_o96_0_0_S32x128x1) shapeCasts_S32x128x1_S32x128)⟩, ⟨S32x128, dynamicGather 0 v (shapeCast S32x128 (extractStridedSlice S32x128x1 ![128, 0, 0] q slices_S512x128x1_o128_0_0_S32x128x1) shapeCasts_S32x128x1_S32x128)⟩, ⟨S32x128, dynamicGather 0 v (shapeCast S32x128 (extractStridedSlice S32x128x1 ![160, 0, 0] q slices_S512x128x1_o160_0_0_S32x128x1) shapeCasts_S32x128x1_S32x128)⟩, ⟨S32x128, dynamicGather 0 v (shapeCast S32x128 (extractStridedSlice S32x128x1 ![192, 0, 0] q slices_S512x128x1_o192_0_0_S32x128x1) shapeCasts_S32x128x1_S32x128)⟩, ⟨S32x128, dynamicGather 0 v (shapeCast S32x128 (extractStridedSlice S32x128x1 ![224, 0, 0] q slices_S512x128x1_o224_0_0_S32x128x1) shapeCasts_S32x128x1_S32x128)⟩, ⟨S32x128, dynamicGather 0 v (shapeCast S32x128 (extractStridedSlice S32x128x1 ![256, 0, 0] q slices_S512x128x1_o256_0_0_S32x128x1) shapeCasts_S32x128x1_S32x128)⟩, ⟨S32x128, dynamicGather 0 v (shapeCast S32x128 (extractStridedSlice S32x128x1 ![288, 0, 0] q slices_S512x128x1_o288_0_0_S32x128x1) shapeCasts_S32x128x1_S32x128)⟩, ⟨S32x128, dynamicGather 0 v (shapeCast S32x128 (extractStridedSlice S32x128x1 ![320, 0, 0] q slices_S512x128x1_o320_0_0_S32x128x1) shapeCasts_S32x128x1_S32x128)⟩, ⟨S32x128, dynamicGather 0 v (shapeCast S32x128 (extractStridedSlice S32x128x1 ![352, 0, 0] q slices_S512x128x1_o352_0_0_S32x128x1) shapeCasts_S32x128x1_S32x128)⟩, ⟨S32x128, dynamicGather 0 v (shapeCast S32x128 (extractStridedSlice S32x128x1 ![384, 0, 0] q slices_S512x128x1_o384_0_0_S32x128x1) shapeCasts_S32x128x1_S32x128)⟩, ⟨S32x128, dynamicGather 0 v (shapeCast S32x128 (extractStridedSlice S32x128x1 ![416, 0, 0] q slices_S512x128x1_o416_0_0_S32x128x1) shapeCasts_S32x128x1_S32x128)⟩, ⟨S32x128, dynamicGather 0 v (shapeCast S32x128 (extractStridedSlice S32x128x1 ![448, 0, 0] q slices_S512x128x1_o448_0_0_S32x128x1) shapeCasts_S32x128x1_S32x128)⟩, ⟨S32x128, dynamicGather 0 v (shapeCast S32x128 (extractStridedSlice S32x128x1 ![480, 0, 0] q slices_S512x128x1_o480_0_0_S32x128x1) shapeCasts_S32x128x1_S32x128)⟩] concatenates_S32x128_S32x128_S32x128_S32x128_S32x128_S32x128_S32x128_S32x128_S32x128_S32x128_S32x128_S32x128_S32x128_S32x128_S32x128_S32x128_S512x128_d0

/-- The values of the even rows, from the low and the high byte of every value. -/
def evenV (lo hi : IVec S512x128 8) : FVec F S256x128 .bf16 :=
  bitcastToFloat .bf16 (bitcast S256x128 16
    (ori (andi (bitcast S128x128 32 lo bitcasts_S512x128_w8_S128x128_w32) (broadcast S128x128 16711935#32))
      (shli (andi (bitcast S128x128 32 hi bitcasts_S512x128_w8_S128x128_w32) (broadcast S128x128 16711935#32)) (broadcast S128x128 8#32)))
    bitcasts_S128x128_w32_S256x128_w16)

/-- The values of the odd rows. -/
def oddV (lo hi : IVec S512x128 8) : FVec F S256x128 .bf16 :=
  bitcastToFloat .bf16 (bitcast S256x128 16
    (bitcast S128x128 32
      (select (cmpi .ne (bitcast S512x128 8 (broadcast S128x128 4278255360#32) bitcasts_S128x128_w32_S512x128_w8) (broadcast S512x128 0#8))
        hi
        (bitcast S512x128 8 (shrui (bitcast S128x128 32 lo bitcasts_S512x128_w8_S128x128_w32) (broadcast S128x128 8#32)) bitcasts_S128x128_w32_S512x128_w8))
      bitcasts_S512x128_w8_S128x128_w32)
    bitcasts_S128x128_w32_S256x128_w16)

/-- The scale of every element: the lane the pattern names, of the row's scales. -/
def sclV (s : Vec F S1x1x256x128 .bf16) (pat : IVec S256x128 32) : FVec F S256x128 .bf16 :=
  truncf .bf16 (dynamicGather 1 (extf .f32 (shapeCast S256x128 s shapeCasts_S1x1x256x128_S256x128 : FVec F S256x128 .bf16) bitsLt_bf16_f32)
    (shapeCast S256x128 (shapeCast S256x128x1 pat shapeCasts_S256x128_S256x128x1) shapeCasts_S256x128x1_S256x128)) bitsLt_bf16_f32

/-- The even rows of a 128-lane piece, scaled. -/
def pieceE (v1 v3 : IVec S32x128 8) (idx : IVec S128x128 32) (s : Vec F S1x1x256x128 .bf16) (pat : IVec S256x128 32) : FVec F S256x128 .bf16 :=
  mulf (evenV (look v1 idx) (look v3 idx)) (sclV s pat)

/-- The odd rows of a 128-lane piece, scaled. -/
def pieceO (v1 v3 : IVec S32x128 8) (idx : IVec S128x128 32) (s : Vec F S1x1x256x128 .bf16) (pat : IVec S256x128 32) : FVec F S256x128 .bf16 :=
  mulf (oddV (look v1 idx) (look v3 idx)) (sclV s pat)

/-- Two pieces side by side. -/
def side (a b : FVec F S256x128 .bf16) : FVec F S256x256 .bf16 :=
  concatenate S256x256 1 [⟨S256x128, a⟩, ⟨S256x128, b⟩] concatenates_S256x128_S256x128_S256x256_d1

/-- A product of a 48 by 256 block with a tile. -/
def mmT (x : Vec F S1x48x256 .bf16) (t : FVec F S256x256 .bf16) : FVec F S48x256 .f32 :=
  matmul dot_S48x256_S256x256_S48x256_1_0_0_1_n_n none (shapeCast S48x256 x shapeCasts_S1x48x256_S48x256 : FVec F S48x256 .bf16) t
    (constant S48x256 .f32 0x00000000#32)

/-- One trip: the sums of both nibbles after a group of 512 rows. -/
def gstep (v1 v3 : IVec S32x128 8) (p0 p1 : IVec S256x128 32) (w0 w1 : Vec F S1x512x128 .i8) (s0 s1 : Vec F S1x1x256x128 .bf16)
    (x0 x1 : Vec F S1x48x256 .bf16) (acc : FVec F S48x256 .f32 × FVec F S48x256 .f32) : FVec F S48x256 .f32 × FVec F S48x256 .f32 :=
  (addf (addf acc.1 (mmT x0 (side (pieceE v1 v3 (hiIdx (words w0)) s0 p0) (pieceE v1 v3 (hiIdx (words w1)) s0 p1))))
      (mmT x1 (side (pieceO v1 v3 (hiIdx (words w0)) s1 p0) (pieceO v1 v3 (hiIdx (words w1)) s1 p1))),
   addf (addf acc.2 (mmT x0 (side (pieceE v1 v3 (loIdx (words w0)) s0 p0) (pieceE v1 v3 (loIdx (words w1)) s0 p1))))
      (mmT x1 (side (pieceO v1 v3 (loIdx (words w0)) s1 p0) (pieceO v1 v3 (loIdx (words w1)) s1 p1))))

/-- One trip of `k0_t7`. -/
theorem trip7_eq (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (k0_t6 : Fin k0_t6_loop.trips) (v72 : BitVec 32) (X_arg3 : BufTy.Contents (Elt F) arg3.view.ty) (X_arg7 : BufTy.Contents (Elt F) arg7.view.ty) (X_arg17 : BufTy.Contents (Elt F) arg17.view.ty) (k : Fin k0_t7_loop.trips) (acc : FVec F S48x256 .f32 × FVec F S48x256 .f32) :
    tripR_k0_t7 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg7 X_arg17 k acc
      = gstep v1 v3 (k0_pay4 arg1 v28 k0_t6) (k0_pay5 arg1 v28 k0_t6)
          (View.readAt (Elt F) arg7.view (Rect.unit (s := S1x3072x512) (k0_off17 k0_t6 k 0#32) S1x512x128.size (k0_off17_inb k0_t6 k 0)).toLoadRect X_arg7)
          (View.readAt (Elt F) arg7.view (Rect.unit (s := S1x3072x512) (k0_off17 k0_t6 k 128#32) S1x512x128.size (k0_off17_inb k0_t6 k 1)).toLoadRect X_arg7)
          (View.readAt (Elt F) arg17.view (Rect.unit (s := S2x2x1536x128) (k0_off18 i k) S1x1x256x128.size (k0_off18_inb i k)).toLoadRect X_arg17)
          (View.readAt (Elt F) arg17.view (Rect.unit (s := S2x2x1536x128) (k0_off19 i k) S1x1x256x128.size (k0_off19_inb i k)).toLoadRect X_arg17)
          (View.readAt (Elt F) arg3.view (Rect.unit (s := S2x48x1536) (k0_off20 k) S1x48x256.size (k0_off20_inb k)).toLoadRect X_arg3)
          (View.readAt (Elt F) arg3.view (Rect.unit (s := S2x48x1536) (k0_off21 k) S1x48x256.size (k0_off21_inb k)).toLoadRect X_arg3) acc := by
  unfold tripR_k0_t7 trip_k0_t7
  rfl

/-- One trip of `k0_t8`. -/
theorem trip8_eq (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (k0_t6 : Fin k0_t6_loop.trips) (v72 : BitVec 32) (X_arg3 : BufTy.Contents (Elt F) arg3.view.ty) (X_arg9 : BufTy.Contents (Elt F) arg9.view.ty) (X_arg18 : BufTy.Contents (Elt F) arg18.view.ty) (k : Fin k0_t8_loop.trips) (acc : FVec F S48x256 .f32 × FVec F S48x256 .f32) :
    tripR_k0_t8 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg9 X_arg18 k acc
      = gstep v1 v3 (k0_pay4 arg1 v28 k0_t6) (k0_pay5 arg1 v28 k0_t6)
          (View.readAt (Elt F) arg9.view (Rect.unit (s := S1x3072x512) (k0_off22 k0_t6 k 0#32) S1x512x128.size (k0_off22_inb k0_t6 k 0)).toLoadRect X_arg9)
          (View.readAt (Elt F) arg9.view (Rect.unit (s := S1x3072x512) (k0_off22 k0_t6 k 128#32) S1x512x128.size (k0_off22_inb k0_t6 k 1)).toLoadRect X_arg9)
          (View.readAt (Elt F) arg18.view (Rect.unit (s := S2x2x1536x128) (k0_off23 i k) S1x1x256x128.size (k0_off23_inb i k)).toLoadRect X_arg18)
          (View.readAt (Elt F) arg18.view (Rect.unit (s := S2x2x1536x128) (k0_off24 i k) S1x1x256x128.size (k0_off24_inb i k)).toLoadRect X_arg18)
          (View.readAt (Elt F) arg3.view (Rect.unit (s := S2x48x1536) (k0_off25 k) S1x48x256.size (k0_off25_inb k)).toLoadRect X_arg3)
          (View.readAt (Elt F) arg3.view (Rect.unit (s := S2x48x1536) (k0_off26 k) S1x48x256.size (k0_off26_inb k)).toLoadRect X_arg3) acc := by
  unfold tripR_k0_t8 trip_k0_t8
  rfl

/-- One trip of `k0_t10`. -/
theorem trip10_eq (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (k0_t9 : Fin k0_t9_loop.trips) (v70 : BitVec 32) (X_arg11 : BufTy.Contents (Elt F) arg11.view.ty) (X_arg14 : BufTy.Contents (Elt F) arg14.view.ty) (X_arg19 : BufTy.Contents (Elt F) arg19.view.ty) (k : Fin k0_t10_loop.trips) (acc : FVec F S48x256 .f32 × FVec F S48x256 .f32) :
    tripR_k0_t10 (F := F) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k0_t9 v70 X_arg11 X_arg14 X_arg19 k acc
      = gstep v1 v3 (k0_pay14 v28 k0_t9) (k0_pay15 v28 k0_t9)
          (View.readAt (Elt F) arg11.view (Rect.unit (s := S1x1024x1536) (k0_off29 k0_t9 k 0#32) S1x512x128.size (k0_off29_inb k0_t9 k 0)).toLoadRect X_arg11)
          (View.readAt (Elt F) arg11.view (Rect.unit (s := S1x1024x1536) (k0_off29 k0_t9 k 128#32) S1x512x128.size (k0_off29_inb k0_t9 k 1)).toLoadRect X_arg11)
          (View.readAt (Elt F) arg19.view (Rect.unit (s := S2x1x512x128) (k0_off30 k) S1x1x256x128.size (k0_off30_inb k)).toLoadRect X_arg19)
          (View.readAt (Elt F) arg19.view (Rect.unit (s := S2x1x512x128) (k0_off31 k) S1x1x256x128.size (k0_off31_inb k)).toLoadRect X_arg19)
          (View.readAt (Elt F) arg14.view (Rect.unit (s := S2x48x512) (k0_off32 k) S1x48x256.size (k0_off32_inb k)).toLoadRect X_arg14)
          (View.readAt (Elt F) arg14.view (Rect.unit (s := S2x48x512) (k0_off33 k) S1x48x256.size (k0_off33_inb k)).toLoadRect X_arg14) acc := by
  unfold tripR_k0_t10 trip_k0_t10
  rfl

end Cert.KernelIdeal.Hand

end
-- ==== Proof.Ideal.Lookup.lean ====
/-
  The dequantization of one block read element by element: which nibble of which byte, which table row, which scale.
-/
module

public import proofs.«01_k».proof.Proof.Ideal.Group
public import Idealize.ShloMosaic.Lib.BitcastPair
public import Idealize.ShloMosaic.Lib.BitcastFour
public import Idealize.ShloMosaic.Lib.MatmulPlain
public import Idealize.ShloMosaic.Lib.Pipeline.Value
public import Idealize.ShloMosaic.Lib.ValueIdx
public import Idealize.ShloMosaic.Lib.Pointwise
public import Idealize.ShloMosaic.PureOps.Ideal.Laws

@[expose] public section

set_option maxRecDepth 8192

noncomputable section

namespace Cert.KernelIdeal.Hand

open Cert.KernelIdeal Cert.KernelIdeal.Gen
open Idealize.ShloMosaic hiding ix1 ix2 ix3 ix4
open Idealize.ShloMosaic.TcCoe
open Idealize.ShloMosaic.ValueIdx

variable {F : FTy → Type} [FloatOps F]

/-- A width-changing bitcast at rank 2, read at a bit. -/
theorem bitcast_bit {R r n v w : Nat} (x : (⟨2, ![R, n]⟩ : Shape).Idx → BitVec v)
    (h : (⟨2, ![R, n]⟩ : Shape).Bitcasts v ⟨2, ![r, n]⟩ w) (a : Fin r) (l : Fin n) (q : Nat) (hq : q < w) (hv : 0 < v) (p : Fin R)
    (hp : p.val = (a.val * w + q) / v) :
    (bitcast ⟨2, ![r, n]⟩ w x h (ix2 a l)).getLsbD q = (x (ix2 p l)).getLsbD ((a.val * w + q) % v) := by
  rw [bitcast_getLsbD x h _ q hq hv]
  congr 2
  funext c
  match c with
  | ⟨0, _⟩ => exact Fin.ext ((h.srcIdx_row _ _ _ ⟨0, Nat.zero_lt_two⟩ rfl).trans hp.symm)
  | ⟨1, _⟩ => exact Fin.ext (h.srcIdx_other _ _ _ ⟨1, Nat.one_lt_two⟩ (by show ¬ 1 + 2 = 2; omega))

/-- The mask of the low nibbles, bit by bit. -/
theorem nibMask (p : Nat) (hp : p < 32) : (252645135#32).getLsbD p = decide (p % 8 < 4) := by
  have : ∀ p : Fin 32, (252645135#32).getLsbD p.val = decide (p.val % 8 < 4) := by decide
  exact this ⟨p, hp⟩

/-- The mask of the even bytes, bit by bit. -/
theorem evenMask (p : Nat) (hp : p < 32) : (16711935#32).getLsbD p = decide (p % 16 < 8) := by
  have : ∀ p : Fin 32, (16711935#32).getLsbD p.val = decide (p.val % 16 < 8) := by decide
  exact this ⟨p, hp⟩

/-- The mask of the odd bytes, bit by bit. -/
theorem oddMask (p : Nat) (hp : p < 32) : (4278255360#32).getLsbD p = decide (8 ≤ p % 16) := by
  have : ∀ p : Fin 32, (4278255360#32).getLsbD p.val = decide (8 ≤ p.val % 16) := by decide
  exact this ⟨p, hp⟩

/-- One leading unit axis dropped. -/
theorem cast_512 {α : Type} (w : S1x512x128.Idx → α) (r : Fin 512) (l : Fin 128) :
    shapeCast S512x128 w shapeCasts_S1x512x128_S512x128 (ix2 r l) = w (ix3 0 r l) :=
  shapeCast_apply w _ _ _ (by
    rw [Shape.rowMajor_val_three, Shape.rowMajor_val_two]
    show (0 * 512 + r.val) * 128 + l.val = r.val * 128 + l.val
    omega)

/-- A word's bit is a bit of one of its four bytes. -/
theorem words_bit (w : Vec F S1x512x128 .i8) (a : Fin 128) (l : Fin 128) (q : Nat) (hq : q < 32) (p : Fin 512)
    (hp : p.val = 4 * a.val + q / 8) : (words w (ix2 a l)).getLsbD q = (w (ix3 0 p l)).getLsbD (q % 8) := by
  unfold words
  rw [bitcast_8_32_getLsbD_ix2 _ _ a l q hq p hp, cast_512]

/-- The byte at a row, of the high nibbles. -/
theorem hi_byte (w : Vec F S1x512x128 .i8) (r : Fin 512) (l : Fin 128) :
    bitcast S512x128 8 (hiIdx (words w)) bitcasts_S128x128_w32_S512x128_w8 (ix2 r l) = w (ix3 0 r l) >>> 4 := by
  apply BitVec.eq_of_getLsbD_eq
  intro q hq
  have hr := r.isLt
  rw [bitcast_bit _ _ r l q hq (by decide) ⟨(r.val * 8 + q) / 32, by omega⟩ rfl]
  show (((IntOp.shrui .vector (words w (ix2 _ l)) 4#32) &&& 252645135#32)).getLsbD _ = _
  rw [BitVec.getLsbD_and, nibMask _ (Nat.mod_lt _ (by decide))]
  have e : IntOp.shrui .vector (words w (ix2 (⟨(r.val * 8 + q) / 32, by omega⟩ : Fin 128) l)) 4#32
      = words w (ix2 (⟨(r.val * 8 + q) / 32, by omega⟩ : Fin 128) l) >>> 4 := rfl
  rw [e, BitVec.getLsbD_ushiftRight, BitVec.getLsbD_ushiftRight]
  by_cases h4 : q < 4
  · rw [words_bit w ⟨(r.val * 8 + q) / 32, by omega⟩ l _ (by omega) r (by dsimp only; omega)]
    rw [show decide ((r.val * 8 + q) % 32 % 8 < 4) = true from decide_eq_true (by omega), Bool.and_true]
    congr 1; omega
  · rw [show decide ((r.val * 8 + q) % 32 % 8 < 4) = false from decide_eq_false (by omega), Bool.and_false]
    exact (BitVec.getLsbD_of_ge _ _ (by omega)).symm

/-- The byte at a row, of the low nibbles. -/
theorem lo_byte (w : Vec F S1x512x128 .i8) (r : Fin 512) (l : Fin 128) :
    bitcast S512x128 8 (loIdx (words w)) bitcasts_S128x128_w32_S512x128_w8 (ix2 r l) = w (ix3 0 r l) &&& 15#8 := by
  apply BitVec.eq_of_getLsbD_eq
  intro q hq
  have hr := r.isLt
  rw [bitcast_bit _ _ r l q hq (by decide) ⟨(r.val * 8 + q) / 32, by omega⟩ rfl]
  show ((words w (ix2 _ l) &&& 252645135#32)).getLsbD _ = _
  have m8 : ∀ p : Fin 8, (15#8).getLsbD p.val = decide (p.val < 4) := by decide
  rw [BitVec.getLsbD_and, nibMask _ (Nat.mod_lt _ (by decide)), BitVec.getLsbD_and, m8 ⟨q, hq⟩,
    words_bit w ⟨(r.val * 8 + q) / 32, by omega⟩ l _ (by omega) r (by dsimp only; omega)]
  rw [show (r.val * 8 + q) % 32 % 8 = q by omega]

/-- Thirty-two rows of a column of codes, gathered. -/
def pick (v : IVec S32x128 8) (q : IVec S512x128x1 32) (o : Nat) (hs : S512x128x1.Slices ![o, 0, 0] S32x128x1) : IVec S32x128 8 :=
  dynamicGather 0 v (shapeCast S32x128 (extractStridedSlice S32x128x1 ![o, 0, 0] q hs) shapeCasts_S32x128x1_S32x128)

theorem pick_apply (v : IVec S32x128 8) (q : IVec S512x128x1 32) (o : Nat) (hs : S512x128x1.Slices ![o, 0, 0] S32x128x1)
    (a : Fin 32) (l : Fin 128) (r : Fin 512) (hr : r.val = o + a.val) :
    pick v q o hs (ix2 a l) = v (ix2 ⟨(q (ix3 r l (0 : Fin 1))).toNat % 32, Nat.mod_lt _ (by decide)⟩ l) := by
  have e : shapeCast S32x128 (extractStridedSlice S32x128x1 ![o, 0, 0] q hs) shapeCasts_S32x128x1_S32x128 (ix2 a l) = q (ix3 r l (0 : Fin 1)) := by
    rw [shapeCast_apply _ _ _ (ix3 a l (0 : Fin 1)) (by
      rw [Shape.rowMajor_val_three, Shape.rowMajor_val_two]; show (a.val * 128 + l.val) * 1 + 0 = a.val * 128 + l.val; omega)]
    exact extractStridedSlice_apply _ _ hs (ix3 a l (0 : Fin 1)) (ix3 r l (0 : Fin 1)) (fun b => match b with
      | ⟨0, _⟩ => hr
      | ⟨1, _⟩ => (Nat.zero_add _).symm
      | ⟨2, _⟩ => rfl)
  unfold pick
  rw [← e]
  show v _ = v _
  congr 1
  funext b
  match b with
  | ⟨0, _⟩ => rfl
  | ⟨1, _⟩ => rfl

/-- The sixteen gathers, as one list. -/
def picks (v : IVec S32x128 8) (q : IVec S512x128x1 32) : List ((s : Shape) × (s.Idx → BitVec 8)) :=
  [⟨S32x128, pick v q 0 slices_S512x128x1_o0_0_0_S32x128x1⟩,
   ⟨S32x128, pick v q 32 slices_S512x128x1_o32_0_0_S32x128x1⟩,
   ⟨S32x128, pick v q 64 slices_S512x128x1_o64_0_0_S32x128x1⟩,
   ⟨S32x128, pick v q 96 slices_S512x128x1_o96_0_0_S32x128x1⟩,
   ⟨S32x128, pick v q 128 slices_S512x128x1_o128_0_0_S32x128x1⟩,
   ⟨S32x128, pick v q 160 slices_S512x128x1_o160_0_0_S32x128x1⟩,
   ⟨S32x128, pick v q 192 slices_S512x128x1_o192_0_0_S32x128x1⟩,
   ⟨S32x128, pick v q 224 slices_S512x128x1_o224_0_0_S32x128x1⟩,
   ⟨S32x128, pick v q 256 slices_S512x128x1_o256_0_0_S32x128x1⟩,
   ⟨S32x128, pick v q 288 slices_S512x128x1_o288_0_0_S32x128x1⟩,
   ⟨S32x128, pick v q 320 slices_S512x128x1_o320_0_0_S32x128x1⟩,
   ⟨S32x128, pick v q 352 slices_S512x128x1_o352_0_0_S32x128x1⟩,
   ⟨S32x128, pick v q 384 slices_S512x128x1_o384_0_0_S32x128x1⟩,
   ⟨S32x128, pick v q 416 slices_S512x128x1_o416_0_0_S32x128x1⟩,
   ⟨S32x128, pick v q 448 slices_S512x128x1_o448_0_0_S32x128x1⟩,
   ⟨S32x128, pick v q 480 slices_S512x128x1_o480_0_0_S32x128x1⟩]

theorem picks_get (v : IVec S32x128 8) (q : IVec S512x128x1 32) (k : Nat) (hk : k < 16) :
    ∃ hs : S512x128x1.Slices ![32 * k, 0, 0] S32x128x1, ∃ h : k < (picks v q).length, (picks v q)[k] = ⟨S32x128, pick v q (32 * k) hs⟩ := by
  interval_cases k <;> exact ⟨_, Nat.le_of_ble_eq_true rfl, rfl⟩

theorem picks_pre (v : IVec S32x128 8) (q : IVec S512x128x1 32) (k : Nat) (hk : k < 16) :
    ((((picks v q).take k).map (·.1)).map fun s => if h : s.rank = S512x128.rank then s.size ((0 : Fin S512x128.rank).cast h.symm) else 0).sum = 32 * k := by
  have e : (picks v q).map (·.1) = List.replicate 16 S32x128 := rfl
  rw [List.map_take, e, List.take_replicate, List.map_replicate, List.sum_replicate, dif_pos (rfl : S32x128.rank = S512x128.rank)]
  show min k 16 * 32 = 32 * k
  omega

/-- The sixteen gathers of 32 rows are one gather of every row. -/
theorem look_apply (v : IVec S32x128 8) (idx : IVec S128x128 32) (r : Fin 512) (l : Fin 128) :
    look v idx (ix2 r l)
      = v (ix2 ⟨((bitcast S512x128 8 idx bitcasts_S128x128_w32_S512x128_w8 (ix2 r l)).signExtend 32).toNat % 32, Nat.mod_lt _ (by decide)⟩ l) := by
  have hr := r.isLt
  let q : IVec S512x128x1 32 := shapeCast S512x128x1 (extsi 32 (bitcast S512x128 8 idx bitcasts_S128x128_w32_S512x128_w8) natLt_8_32) shapeCasts_S512x128_S512x128x1
  have hq : q (ix3 r l (0 : Fin 1)) = (bitcast S512x128 8 idx bitcasts_S128x128_w32_S512x128_w8 (ix2 r l)).signExtend 32 :=
    (shapeCast_apply _ _ _ (ix2 r l) (by
      rw [Shape.rowMajor_val_three, Shape.rowMajor_val_two]; show r.val * 128 + l.val = (r.val * 128 + l.val) * 1 + 0; omega)).trans rfl
  obtain ⟨hs, h, e⟩ := picks_get v q (r.val / 32) (by omega)
  have main := concatenate_apply_piece (t := S512x128) 0 (picks v q) concatenates_S32x128_S32x128_S32x128_S32x128_S32x128_S32x128_S32x128_S32x128_S32x128_S32x128_S32x128_S32x128_S32x128_S32x128_S32x128_S32x128_S512x128_d0 (ix2 r l) (r.val / 32) h S32x128 _ e rfl
    (32 * (r.val / 32)) (picks_pre v q _ (by omega)) (ix2 (⟨r.val % 32, by omega⟩ : Fin 32) l)
    (fun b hb => match b with | ⟨0, _⟩ => absurd rfl hb | ⟨1, _⟩ => rfl) (by show 32 * (r.val / 32) + r.val % 32 = r.val; omega)
  refine Eq.trans (b := concatenate S512x128 0 (picks v q) concatenates_S32x128_S32x128_S32x128_S32x128_S32x128_S32x128_S32x128_S32x128_S32x128_S32x128_S32x128_S32x128_S32x128_S32x128_S32x128_S32x128_S512x128_d0 (ix2 r l)) rfl (main.trans ?_)
  rw [pick_apply v q _ hs _ l r (by show r.val = 32 * (r.val / 32) + r.val % 32; omega), hq]

/-- A word of four table bytes, bit by bit. -/
theorem pack_bit (x : IVec S512x128 8) (a : Fin 128) (l : Fin 128) (q : Nat) (hq : q < 32) (p : Fin 512) (hp : p.val = 4 * a.val + q / 8) :
    (bitcast S128x128 32 x bitcasts_S512x128_w8_S128x128_w32 (ix2 a l)).getLsbD q = (x (ix2 p l)).getLsbD (q % 8) :=
  bitcast_8_32_getLsbD_ix2 _ _ a l q hq p hp

/-- The value at an even row: the two table bytes of that row. -/
theorem even_apply (lo hi : IVec S512x128 8) (r : Fin 256) (l : Fin 128) :
    evenV (F := F) lo hi (ix2 r l)
      = FloatOps.ofBits .bf16 (hi (ix2 (⟨2 * r.val, by omega⟩ : Fin 512) l) ++ lo (ix2 (⟨2 * r.val, by omega⟩ : Fin 512) l) : BitVec 16) := by
  unfold evenV
  rw [bitcastToFloat_apply]
  refine congrArg (FloatOps.ofBits .bf16) (BitVec.eq_of_getLsbD_eq (w := 16) fun q hq => ?_)
  have hr := r.isLt
  rw [bitcast_bit (w := 16) _ _ r l q hq (by decide) (⟨(r.val * 16 + q) / 32, by omega⟩ : Fin 128) rfl]
  show ((bitcast S128x128 32 lo bitcasts_S512x128_w8_S128x128_w32 (ix2 _ l) &&& 16711935#32)
    ||| ((bitcast S128x128 32 hi bitcasts_S512x128_w8_S128x128_w32 (ix2 _ l) &&& 16711935#32) <<< 8)).getLsbD _ = _
  rw [BitVec.getLsbD_or, BitVec.getLsbD_and, BitVec.getLsbD_shiftLeft, evenMask _ (Nat.mod_lt _ (by decide)), BitVec.getLsbD_append]
  by_cases h8 : q < 8
  · rw [if_pos h8, pack_bit lo _ l _ (Nat.mod_lt _ (by decide)) (⟨2 * r.val, by omega⟩ : Fin 512) (by dsimp only; omega),
      show decide ((r.val * 16 + q) % 32 % 16 < 8) = true from decide_eq_true (by omega), Bool.and_true,
      show (r.val * 16 + q) % 32 % 8 = q by omega]
    by_cases h32 : (r.val * 16 + q) % 32 < 8
    · rw [show decide ((r.val * 16 + q) % 32 < 8) = true from decide_eq_true h32]; simp
    · rw [BitVec.getLsbD_and, evenMask _ (by omega), show decide (((r.val * 16 + q) % 32 - 8) % 16 < 8) = false from decide_eq_false (by omega)]; simp
  · rw [if_neg h8, show decide ((r.val * 16 + q) % 32 % 16 < 8) = false from decide_eq_false (by omega),
      show decide ((r.val * 16 + q) % 32 < 8) = false from decide_eq_false (by omega),
      show decide ((r.val * 16 + q) % 32 < 32) = true from decide_eq_true (by omega),
      BitVec.getLsbD_and, evenMask _ (by omega), show decide (((r.val * 16 + q) % 32 - 8) % 16 < 8) = true from decide_eq_true (by omega),
      pack_bit hi _ l _ (by omega) (⟨2 * r.val, by omega⟩ : Fin 512) (by dsimp only; omega),
      show ((r.val * 16 + q) % 32 - 8) % 8 = q - 8 by omega]
    simp

/-- A choice between bytes by a mask. -/
theorem sel_bytes (c a b : IVec S512x128 8) (i : S512x128.Idx) :
    select (cmpi .ne c (broadcast S512x128 0#8)) a b i = if c i = 0#8 then b i else a i := by
  show Scalar.select (IntOp.cmpi .ne (c i) 0#8) (a i) (b i) = _
  by_cases h : c i = 0#8
  · rw [h, if_pos rfl]; rfl
  · rw [if_neg h]; exact if_pos (show BitVec.ofBool (c i != 0#8) = 1#1 by rw [bne_iff_ne.mpr h]; rfl)

/-- The value at an odd row. -/
theorem odd_apply (lo hi : IVec S512x128 8) (r : Fin 256) (l : Fin 128) :
    oddV (F := F) lo hi (ix2 r l)
      = FloatOps.ofBits .bf16 (hi (ix2 (⟨2 * r.val + 1, by omega⟩ : Fin 512) l) ++ lo (ix2 (⟨2 * r.val + 1, by omega⟩ : Fin 512) l) : BitVec 16) := by
  unfold oddV
  rw [bitcastToFloat_apply]
  refine congrArg (FloatOps.ofBits .bf16) (BitVec.eq_of_getLsbD_eq (w := 16) fun q hq => ?_)
  have hr := r.isLt
  have mask : ∀ p : Fin 512, bitcast S512x128 8 (broadcast S128x128 4278255360#32) bitcasts_S128x128_w32_S512x128_w8 (ix2 p l)
      = if p.val % 2 = 1 then 255#8 else 0#8 := by
    intro p
    have hp := p.isLt
    apply BitVec.eq_of_getLsbD_eq
    intro q hq
    rw [bitcast_bit _ _ p l q hq (by decide) (⟨(p.val * 8 + q) / 32, by omega⟩ : Fin 128) rfl]
    show (4278255360#32).getLsbD _ = _
    rw [oddMask _ (Nat.mod_lt _ (by decide))]
    have m8 : ∀ p : Fin 8, (255#8).getLsbD p.val = true := by decide
    by_cases ho : p.val % 2 = 1
    · rw [if_pos ho, m8 ⟨q, hq⟩]; exact decide_eq_true (by omega)
    · rw [if_neg ho, show (0#8).getLsbD q = false by simp]; exact decide_eq_false (by omega)
  rw [bitcast_bit (w := 16) _ _ r l q hq (by decide) (⟨(r.val * 16 + q) / 32, by omega⟩ : Fin 128) rfl,
    pack_bit _ _ l _ (Nat.mod_lt _ (by decide)) (⟨2 * r.val + q / 8, by omega⟩ : Fin 512) (by dsimp only; omega)]
  rw [BitVec.getLsbD_append, show (r.val * 16 + q) % 32 % 8 = q % 8 by omega]
  rw [sel_bytes, mask]
  by_cases h8 : q < 8
  · rw [if_pos h8, if_neg (show ¬ (2 * r.val + q / 8) % 2 = 1 by omega), if_pos rfl]
    rw [bitcast_bit (w := 8) (v := 32) _ _ (⟨2 * r.val + q / 8, by omega⟩ : Fin 512) l (q % 8) (by omega) (by decide) (⟨(2 * r.val) * 8 / 32, by omega⟩ : Fin 128) (by show 2 * r.val * 8 / 32 = ((2 * r.val + q / 8) * 8 + q % 8) / 32; omega)]
    rw [show shrui (bitcast S128x128 32 lo bitcasts_S512x128_w8_S128x128_w32) (broadcast S128x128 8#32)
      (ix2 (⟨(2 * r.val) * 8 / 32, by omega⟩ : Fin 128) l) = bitcast S128x128 32 lo bitcasts_S512x128_w8_S128x128_w32 (ix2 (⟨(2 * r.val) * 8 / 32, by omega⟩ : Fin 128) l) >>> 8 from rfl]
    have hrow : ((2 * r.val + q / 8) * 8 + q % 8) % 32 = 2 * r.val * 8 % 32 + q := by omega
    rw [BitVec.getLsbD_ushiftRight, pack_bit lo _ l _ (by dsimp only; omega) (⟨2 * r.val + 1, by omega⟩ : Fin 512) (by dsimp only; omega)]
    congr 1; dsimp only; omega
  · rw [if_neg h8, if_pos (show (2 * r.val + q / 8) % 2 = 1 by omega), if_neg (by decide)]
    rw [show (⟨2 * r.val + q / 8, by omega⟩ : Fin 512) = ⟨2 * r.val + 1, by omega⟩ from Fin.ext (by dsimp only; omega),
      show q % 8 = q - 8 by omega]

/-- The scale of an element, idealized: the row's scale at the lane the pattern names. -/
theorem scl_apply (s : Vec Ideal S1x1x256x128 .bf16) (pat : IVec S256x128 32) (r : Fin 256) (l : Fin 128) :
    sclV (F := Ideal) s pat (ix2 r l) = s (ix4 0 0 r ⟨(pat (ix2 r l)).toNat % 128, Nat.mod_lt _ (by decide)⟩) := by
  have e : shapeCast S256x128 (shapeCast S256x128x1 pat shapeCasts_S256x128_S256x128x1) shapeCasts_S256x128x1_S256x128 (ix2 r l) = pat (ix2 r l) := by
    rw [shapeCast_apply _ _ _ (ix3 r l (0 : Fin 1)) (by
        rw [Shape.rowMajor_val_three, Shape.rowMajor_val_two]; show (r.val * 128 + l.val) * 1 + 0 = r.val * 128 + l.val; omega),
      shapeCast_apply _ _ _ (ix2 r l) (by
        rw [Shape.rowMajor_val_three, Shape.rowMajor_val_two]; show r.val * 128 + l.val = (r.val * 128 + l.val) * 1 + 0; omega)]
  show shapeCast S256x128 s shapeCasts_S1x1x256x128_S256x128 _ = _
  refine shapeCast_apply _ _ _ _ ?_
  rw [Shape.rowMajor_val_four, Shape.rowMajor_val_two]
  show ((0 * 1 + 0) * 256 + r.val) * 128 + (pat (ix2 r l)).toNat % 128
    = r.val * 128 + (shapeCast S256x128 (shapeCast S256x128x1 pat shapeCasts_S256x128_S256x128x1) shapeCasts_S256x128x1_S256x128 (ix2 r l)).toNat % 128
  rw [e]; omega

/-- Two pieces side by side, read at a column. -/
theorem side_apply (a b : FVec F S256x128 .bf16) (r : Fin 256) (c : Fin 256) :
    side a b (ix2 r c) = if h : c.val < 128 then a (ix2 r ⟨c.val, h⟩) else b (ix2 r ⟨c.val - 128, by omega⟩) := by
  by_cases h : c.val < 128
  · rw [dif_pos h]
    exact concatenate_pair_apply_left (t := S256x256) 1 a b concatenates_S256x128_S256x128_S256x256_d1 (ix2 r c) rfl (ix2 r (⟨c.val, h⟩ : Fin 128))
      (fun d => match d with | ⟨0, _⟩ => rfl | ⟨1, _⟩ => rfl)
  · rw [dif_neg h]
    exact concatenate_pair_apply_right (t := S256x256) 1 a b concatenates_S256x128_S256x128_S256x256_d1 (ix2 r c) rfl rfl (ix2 r (⟨c.val - 128, by omega⟩ : Fin 128))
      (fun d hd => match d with | ⟨0, _⟩ => rfl | ⟨1, _⟩ => absurd rfl hd)
      (by show c.val - 128 + 128 = c.val; omega)

/-- A product with a tile, idealized: the sum over the tile's 256 rows. -/
theorem mmT_apply (x : Vec Ideal S1x48x256 .bf16) (t : FVec Ideal S256x256 .bf16) (tok : Fin 48) (c : Fin 256) :
    mmT (F := Ideal) x t (ix2 tok c) = ∑ r : Fin 256, x (ix3 0 tok r) * t (ix2 r c) := by
  unfold mmT
  refine (Ideal.matmul_plain_apply (M := 48) (K := 256) (N := 256) none _ t _ tok c).trans ?_
  rw [show (constant S48x256 .f32 0x00000000#32 : FVec Ideal S48x256 .f32) (ix2 tok c) = (0 : EReal) from Ideal.ofBits_zero_f32, zero_add]
  refine Finset.sum_congr rfl fun r _ => ?_
  congr 1
  refine shapeCast_apply _ _ _ _ ?_
  rw [Shape.rowMajor_val_three, Shape.rowMajor_val_two]
  show (0 * 48 + tok.val) * 256 + r.val = tok.val * 256 + r.val
  omega

end Cert.KernelIdeal.Hand

end
-- ==== Proof.Ideal.Offsets.lean ====
/-
  Where each load and store of the body lies, as plain numbers.
-/
module

public import proofs.«01_k».proof.Proof.Ideal.Lookup

@[expose] public section

set_option maxRecDepth 8192

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

theorem off15_eq : ∀ (k : Fin k0_t5_loop.trips) a, k0_off15 k a = ![0, 0, 16 * k.val, 0] a := by decide +kernel
theorem off16_eq : ∀ (k : Fin k0_t5_loop.trips) a, k0_off16 k a = ![1, 0, 16 * k.val, 0] a := by decide +kernel
theorem off9_eq : ∀ (k : Fin k0_t3_loop.trips) a, k0_off9 k a = ![0, 1, 16 * k.val, 0] a := by decide +kernel
theorem off10_eq : ∀ (k : Fin k0_t3_loop.trips) a, k0_off10 k a = ![1, 1, 16 * k.val, 0] a := by decide +kernel
theorem off17_eq : ∀ (t : Fin k0_t6_loop.trips) (k : Fin k0_t7_loop.trips) a, k0_off17 t k 0#32 a = ![0, 512 * k.val, 256 * t.val] a ∧ k0_off17 t k 128#32 a = ![0, 512 * k.val, 256 * t.val + 128] a := by decide +kernel
theorem off22_eq : ∀ (t : Fin k0_t6_loop.trips) (k : Fin k0_t8_loop.trips) a, k0_off22 t k 0#32 a = ![0, 512 * k.val, 256 * t.val] a ∧ k0_off22 t k 128#32 a = ![0, 512 * k.val, 256 * t.val + 128] a := by decide +kernel
theorem off29_eq : ∀ (t : Fin k0_t9_loop.trips) (k : Fin k0_t10_loop.trips) a, k0_off29 t k 0#32 a = ![0, 512 * k.val, 256 * t.val] a ∧ k0_off29 t k 128#32 a = ![0, 512 * k.val, 256 * t.val + 128] a := by decide +kernel
theorem off18_eq : ∀ (i : grid0.Static) (k : Fin k0_t7_loop.trips) a, k0_off18 i k a = ![0, (i 1).val / 8, 256 * k.val, 0] a := by decide +kernel
theorem off19_eq : ∀ (i : grid0.Static) (k : Fin k0_t7_loop.trips) a, k0_off19 i k a = ![1, (i 1).val / 8, 256 * k.val, 0] a := by decide +kernel
theorem off23_eq : ∀ (i : grid0.Static) (k : Fin k0_t8_loop.trips) a, k0_off23 i k a = ![0, (i 1).val / 8, 256 * k.val, 0] a := by decide +kernel
theorem off24_eq : ∀ (i : grid0.Static) (k : Fin k0_t8_loop.trips) a, k0_off24 i k a = ![1, (i 1).val / 8, 256 * k.val, 0] a := by decide +kernel
theorem off20_eq : ∀ (k : Fin k0_t7_loop.trips) a, k0_off20 k a = ![0, 0, 256 * k.val] a := by decide +kernel
theorem off21_eq : ∀ (k : Fin k0_t7_loop.trips) a, k0_off21 k a = ![1, 0, 256 * k.val] a := by decide +kernel
theorem off25_eq : ∀ (k : Fin k0_t8_loop.trips) a, k0_off25 k a = ![0, 0, 256 * k.val] a := by decide +kernel
theorem off26_eq : ∀ (k : Fin k0_t8_loop.trips) a, k0_off26 k a = ![1, 0, 256 * k.val] a := by decide +kernel
theorem off27_eq : ∀ (k : Fin k0_t6_loop.trips) a, k0_off27 k a = ![0, 0, 256 * k.val] a := by decide +kernel
theorem off28_eq : ∀ (k : Fin k0_t6_loop.trips) a, k0_off28 k a = ![1, 0, 256 * k.val] a := by decide +kernel
theorem off30_eq : ∀ (k : Fin k0_t10_loop.trips) a, k0_off30 k a = ![0, 0, 256 * k.val, 0] a := by decide +kernel
theorem off31_eq : ∀ (k : Fin k0_t10_loop.trips) a, k0_off31 k a = ![1, 0, 256 * k.val, 0] a := by decide +kernel
theorem off32_eq : ∀ (k : Fin k0_t10_loop.trips) a, k0_off32 k a = ![0, 0, 256 * k.val] a := by decide +kernel
theorem off33_eq : ∀ (k : Fin k0_t10_loop.trips) a, k0_off33 k a = ![1, 0, 256 * k.val] a := by decide +kernel
theorem off34_eq : ∀ (k : Fin k0_t9_loop.trips) a, k0_off34 k a = ![0, 0, 256 * k.val] a := by decide +kernel
theorem off35_eq : ∀ (k : Fin k0_t9_loop.trips) a, k0_off35 k a = ![1, 0, 256 * k.val] a := by decide +kernel

theorem off2_eq : ∀ (k : Fin k0_t1_loop.trips) a, k0_off2 k a = ![0, 32 * k.val, 0] a := by decide +kernel
theorem off3_eq : ∀ (k : Fin k0_t1_loop.trips) a, k0_off3 k a = ![0, 0, 16 * k.val, 0] a := by decide +kernel
theorem off4_eq : ∀ (k : Fin k0_t1_loop.trips) a, k0_off4 k a = ![1, 0, 16 * k.val, 0] a := by decide +kernel
theorem off5_eq : ∀ (k : Fin k0_t2_loop.trips) a, k0_off5 k a = ![0, 32 * k.val, 0] a := by decide +kernel
theorem off6_eq : ∀ (k : Fin k0_t2_loop.trips) a, k0_off6 k a = ![0, 0, 16 * k.val, 0] a := by decide +kernel
theorem off7_eq : ∀ (k : Fin k0_t2_loop.trips) a, k0_off7 k a = ![1, 0, 16 * k.val, 0] a := by decide +kernel
theorem off8_eq : ∀ (k : Fin k0_t3_loop.trips) a, k0_off8 k a = ![0, 32 * k.val, 128] a := by decide +kernel
theorem off11_eq : ∀ (k : Fin k0_t4_loop.trips) a, k0_off11 k a = ![0, 32 * k.val, 128] a := by decide +kernel
theorem off12_eq : ∀ (k : Fin k0_t4_loop.trips) a, k0_off12 k a = ![0, 1, 16 * k.val, 0] a := by decide +kernel
theorem off13_eq : ∀ (k : Fin k0_t4_loop.trips) a, k0_off13 k a = ![1, 1, 16 * k.val, 0] a := by decide +kernel
theorem off14_eq : ∀ (k : Fin k0_t5_loop.trips) a, k0_off14 k a = ![0, 32 * k.val, 0] a := by decide +kernel

theorem pat_up' : ∀ (j : Fin 14) (t : Fin k0_t6_loop.trips) (l : Fin 128),
    (k0_pay4 (BitVec.ofNat 32 j.val) k0_pay419 t (ix2 (0 : Fin 256) l)).toNat % 128 = ((16 * j.val) % 128 + 8 * t.val + l.val / 32) % 128
    ∧ (k0_pay5 (BitVec.ofNat 32 j.val) k0_pay419 t (ix2 (0 : Fin 256) l)).toNat % 128 = ((16 * j.val) % 128 + 8 * t.val + 4 + l.val / 32) % 128 := by decide +kernel

theorem pat_down' : ∀ (t : Fin k0_t9_loop.trips) (l : Fin 128),
    (k0_pay14 k0_pay419 t (ix2 (0 : Fin 256) l)).toNat % 128 = (8 * t.val + l.val / 32) % 128
    ∧ (k0_pay15 k0_pay419 t (ix2 (0 : Fin 256) l)).toNat % 128 = (8 * t.val + 4 + l.val / 32) % 128 := by decide +kernel

/-- The scale patterns of lane `l` of the two pieces of a tile of the up and gate matrices. -/
theorem pat_up (j : Fin 14) (t : Fin k0_t6_loop.trips) (r : Fin 256) (l : Fin 128) :
    (k0_pay4 (BitVec.ofNat 32 j.val) k0_pay419 t (ix2 r l)).toNat % 128 = ((16 * j.val) % 128 + 8 * t.val + l.val / 32) % 128
    ∧ (k0_pay5 (BitVec.ofNat 32 j.val) k0_pay419 t (ix2 r l)).toNat % 128 = ((16 * j.val) % 128 + 8 * t.val + 4 + l.val / 32) % 128 :=
  pat_up' j t l

/-- The same for the down matrix. -/
theorem pat_down (t : Fin k0_t9_loop.trips) (r : Fin 256) (l : Fin 128) :
    (k0_pay14 k0_pay419 t (ix2 r l)).toNat % 128 = (8 * t.val + l.val / 32) % 128
    ∧ (k0_pay15 k0_pay419 t (ix2 r l)).toNat % 128 = (8 * t.val + 4 + l.val / 32) % 128 :=
  pat_down' t l

theorem trips_1 : k0_t1_loop.trips = 96 := by decide +kernel
theorem trips_2 : k0_t2_loop.trips = 96 := by decide +kernel
theorem trips_3 : k0_t3_loop.trips = 96 := by decide +kernel
theorem trips_4 : k0_t4_loop.trips = 96 := by decide +kernel
theorem trips_5 : k0_t5_loop.trips = 32 := by decide +kernel
theorem trips_6 : k0_t6_loop.trips = 2 := by decide +kernel
theorem trips_7 : k0_t7_loop.trips = 6 := by decide +kernel
theorem trips_8 : k0_t8_loop.trips = 6 := by decide +kernel
theorem trips_9 : k0_t9_loop.trips = 6 := by decide +kernel
theorem trips_10 : k0_t10_loop.trips = 2 := by decide +kernel

end Cert.KernelIdeal.Hand

end
-- ==== Proof.Ideal.Pack.lean ====
/-
  The packed scales: what the loops that repack the scales leave in their scratch buffers. Row `r` of half `p` of a
  packed buffer is row `2 r + p` of the scales.
-/
module

public import proofs.«01_k».proof.Proof.Ideal.Offsets
public import Idealize.ShloMosaic.Lib.WritesUnit

@[expose] public section

set_option maxRecDepth 8192
set_option maxHeartbeats 400000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

section generic
variable {sig' : RefSig} {κ : Kind} {sp : Space}

/-- Every second row of the staging buffer, after a store of a block of lanes. -/
theorem stage_read (v : View sig' κ sp S32x128 .f32) (f : v.ty.Contents (Elt Ideal)) {W : ℕ} (hW : W ≤ 128)
    (inb : ∀ a, (![0, 0] : Fin 2 → ℕ) a + (![32, W] : Fin 2 → ℕ) a ≤ S32x128.size a)
    (w : (Rect.unit (s := S32x128) ![0, 0] ![32, W] inb).shape.Idx → Elt Ideal .f32) (p : ℕ) (hp : p < 2) (h)
    (a : Fin 16) (l : Fin 128) (hl : l.val < W) :
    v.readAt (Elt Ideal) ({ off := ![p, 0], size := ![16, 128], stride := ![2, 1], inb := h } : LoadRect S32x128)
        (v.writes (Elt Ideal) f [⟨Rect.unit (s := S32x128) ![0, 0] ![32, W] inb, w⟩]) (ix2 a l)
      = w (ix2 (⟨p + 2 * a.val, by omega⟩ : Fin 32) (⟨l.val, hl⟩ : Fin W)) := by
  rw [View.readAt_apply]
  refine View.read_writes_cons_unit_of_mem v f inb w [] _ _ rfl (fun b => ?_)
  match b with
  | ⟨0, _⟩ => show p + 2 * a.val = 0 + (p + 2 * a.val); omega
  | ⟨1, _⟩ => show 0 + 1 * l.val = 0 + l.val; omega

/-- The repacked buffer after the trips before `k`: the rows below `16 k` of its tile, and the other tiles as they were. -/
theorem pack_all {T R : ℕ} (v : View sig' κ sp (⟨4, ![2, T, R, 128]⟩ : Shape) .bf16) (G : v.ty.Contents (Elt Ideal))
    (P : ℕ → List (View.Piece (Elt Ideal) (⟨4, ![2, T, R, 128]⟩ : Shape) .bf16)) (n : ℕ) (tile : Fin T) (lanes : ℕ)
    (val : Fin 2 → ℕ → Fin 128 → EReal) (h0 : P 0 = [])
    (hs : ∀ k < n, ∃ (oA oB : Fin 4 → ℕ) (iA : _) (iB : _)
      (wA : (Rect.unit (s := (⟨4, ![2, T, R, 128]⟩ : Shape)) oA ![1, 1, 16, 128] iA).shape.Idx → Elt Ideal .bf16)
      (wB : (Rect.unit (s := (⟨4, ![2, T, R, 128]⟩ : Shape)) oB ![1, 1, 16, 128] iB).shape.Idx → Elt Ideal .bf16),
      P (k + 1) = ⟨Rect.unit oB ![1, 1, 16, 128] iB, wB⟩ :: ⟨Rect.unit oA ![1, 1, 16, 128] iA, wA⟩ :: P k
      ∧ oA = ![0, tile.val, 16 * k, 0] ∧ oB = ![1, tile.val, 16 * k, 0]
      ∧ (∀ (a : Fin 16) (l : Fin 128), l.val < lanes → wA (ix4 (0 : Fin 1) (0 : Fin 1) a l) = val 0 (16 * k + a.val) l)
      ∧ (∀ (a : Fin 16) (l : Fin 128), l.val < lanes → wB (ix4 (0 : Fin 1) (0 : Fin 1) a l) = val 1 (16 * k + a.val) l)) :
    ∀ k ≤ n, (∀ (p : Fin 2) (r : Fin R) (l : Fin 128), l.val < lanes → r.val < 16 * k →
        v.read (Elt Ideal) (v.writes (Elt Ideal) G (P k)) (ix4 p tile r l) = val p r.val l)
      ∧ (∀ (p : Fin 2) (t : Fin T) (r : Fin R) (l : Fin 128), t ≠ tile →
        v.read (Elt Ideal) (v.writes (Elt Ideal) G (P k)) (ix4 p t r l) = v.read (Elt Ideal) G (ix4 p t r l)) := by
  intro k
  induction k with
  | zero =>
    intro _
    exact ⟨fun p r l _ h => absurd h (by omega), fun p t r l _ => by rw [h0]; rfl⟩
  | succ k ih =>
    intro hk
    obtain ⟨ih1, ih2⟩ := ih (by omega)
    obtain ⟨oA, oB, iA, iB, wA, wB, hP, hA, hB, hwA, hwB⟩ := hs k (by omega)
    rw [hP]
    constructor
    · intro p r l hl hr
      by_cases hp : p.val = 1
      · by_cases hr' : r.val < 16 * k
        · rw [View.read_writes_cons_unit_of_not_mem v G iB wB _ _ hB 2 (Or.inl (by show r.val < 16 * k; exact hr')),
            View.read_writes_cons_unit_of_not_mem v G iA wA _ _ hA 2 (Or.inl (by show r.val < 16 * k; exact hr'))]
          exact ih1 p r l hl hr'
        · rw [View.read_writes_cons_unit_of_mem v G iB wB _ _ (ix4 (0 : Fin 1) (0 : Fin 1) (⟨r.val - 16 * k, by omega⟩ : Fin 16) l) hB (fun b => by
            match b with
            | ⟨0, _⟩ => show p.val = 1 + 0; omega
            | ⟨1, _⟩ => show tile.val = tile.val + 0; omega
            | ⟨2, _⟩ => show r.val = 16 * k + (r.val - 16 * k); omega
            | ⟨3, _⟩ => show l.val = 0 + l.val; omega), hwB _ _ hl]
          rw [show p = 1 from Fin.ext hp, show 16 * k + (⟨r.val - 16 * k, by omega⟩ : Fin 16).val = r.val by dsimp only; omega]
      · rw [View.read_writes_cons_unit_of_not_mem v G iB wB _ _ hB 0 (Or.inl (by show p.val < 1; omega))]
        by_cases hr' : r.val < 16 * k
        · rw [View.read_writes_cons_unit_of_not_mem v G iA wA _ _ hA 2 (Or.inl (by show r.val < 16 * k; exact hr'))]
          exact ih1 p r l hl hr'
        · rw [View.read_writes_cons_unit_of_mem v G iA wA _ _ (ix4 (0 : Fin 1) (0 : Fin 1) (⟨r.val - 16 * k, by omega⟩ : Fin 16) l) hA (fun b => by
            match b with
            | ⟨0, _⟩ => show p.val = 0 + 0; omega
            | ⟨1, _⟩ => show tile.val = tile.val + 0; omega
            | ⟨2, _⟩ => show r.val = 16 * k + (r.val - 16 * k); omega
            | ⟨3, _⟩ => show l.val = 0 + l.val; omega), hwA _ _ hl]
          rw [show p = 0 from Fin.ext (by show p.val = 0; omega), show 16 * k + (⟨r.val - 16 * k, by omega⟩ : Fin 16).val = r.val by dsimp only; omega]
    · intro p t r l ht
      have ht' : t.val < tile.val ∨ tile.val + 1 ≤ t.val := by
        have : t.val ≠ tile.val := fun h => ht (Fin.ext h)
        omega
      rw [View.read_writes_cons_unit_of_not_mem v G iB wB _ _ hB 1 ht',
        View.read_writes_cons_unit_of_not_mem v G iA wA _ _ hA 1 ht']
      exact ih2 p t r l ht

end generic

/-- A stored row of packed scales, idealized: the row as it was read. -/
theorem pay_row (v : Vec Ideal S16x128 .f32) (a : Fin 16) (l : Fin 128) :
    shapeCast S1x1x16x128 (truncf .bf16 v bitsLt_bf16_f32 : FVec Ideal S16x128 .bf16) shapeCasts_S16x128_S1x1x16x128 (ix4 (0 : Fin 1) (0 : Fin 1) a l) = v (ix2 a l) :=
  (shapeCast_apply _ _ _ (ix2 a l) (by
    rw [Shape.rowMajor_val_four, Shape.rowMajor_val_two]
    show a.val * 128 + l.val = ((0 * 1 + 0) * 16 + a.val) * 128 + l.val
    omega)).trans rfl

/-- A block of scales, as a matrix. -/
theorem blk_cast {W : ℕ} (h : (⟨3, ![1, 32, W]⟩ : Shape).ShapeCasts ⟨2, ![32, W]⟩)
    (h' : (⟨2, ![32, W]⟩ : Shape).ShapeCasts ⟨2, ![32, W]⟩) (x : (⟨3, ![1, 32, W]⟩ : Shape).Idx → EReal) (a : Fin 32) (l : Fin W) :
    shapeCast (⟨2, ![32, W]⟩ : Shape) (shapeCast (⟨2, ![32, W]⟩ : Shape) x h) h' (ix2 a l) = x (ix3 (0 : Fin 1) a l) :=
  (shapeCast_apply _ _ _ (ix2 a l) rfl).trans <| shapeCast_apply _ _ _ (ix3 (0 : Fin 1) a l) (by
    rw [Shape.rowMajor_val_three, Shape.rowMajor_val_two]
    show (0 * 32 + a.val) * W + l.val = a.val * W + l.val
    simp)

/-- The scales repacked by `k0_t1`. -/
theorem packed_t1 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (k0_h2 : k0_cond2 i = 1#1) (X_arg8 : BufTy.Contents (Elt Ideal) arg8.view.ty) (G_arg16 : BufTy.Contents (Elt Ideal) arg16.view.ty) (G_arg17 : BufTy.Contents (Elt Ideal) arg17.view.ty) :
    (∀ (p : Fin 2) (r : Fin 1536) (l : Fin 128) (hl : l.val < 128),
        arg17.view.read (Elt Ideal) (arg17.view.writes (Elt Ideal) G_arg17 (pb_k0_t1 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 96).2) (ix4 p (0 : Fin 2) r l)
          = arg8.view.read (Elt Ideal) X_arg8 (ix3 (0 : Fin 1) (⟨2 * r.val + p.val, by omega⟩ : Fin 3072) (⟨0 + l.val, by omega⟩ : Fin 224)))
      ∧ (∀ (p : Fin 2) (t : Fin 2) (r : Fin 1536) (l : Fin 128), t ≠ 0 →
        arg17.view.read (Elt Ideal) (arg17.view.writes (Elt Ideal) G_arg17 (pb_k0_t1 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 96).2) (ix4 p t r l)
          = arg17.view.read (Elt Ideal) G_arg17 (ix4 p t r l)) := by
  have main := pack_all (T := 2) (R := 1536) arg17.view G_arg17 (fun k => (pb_k0_t1 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 k).2) 96 0 128
    (fun p r l => if h : r < 1536 ∧ l.val < 128 then
      arg8.view.read (Elt Ideal) X_arg8 (ix3 (0 : Fin 1) (⟨2 * r + p.val, by omega⟩ : Fin 3072) (⟨0 + l.val, by omega⟩ : Fin 224)) else 0) rfl ?_ 96 le_rfl
  · exact ⟨fun p r l hl => (main.1 p r l hl (by omega)).trans (dif_pos ⟨r.isLt, hl⟩), main.2⟩
  · intro k hk
    have hkt : k < k0_t1_loop.trips := by rw [trips_1]; exact hk
    iterate 6 apply Exists.intro
    refine ⟨?_, funext (off3_eq ⟨k, hkt⟩), funext (off4_eq ⟨k, hkt⟩), ?_, ?_⟩
    · refine (congrArg Prod.snd (pb_k0_t1_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 ⟨k, hkt⟩)).trans ?_
      unfold tripL_k0_t1 trip_k0_t1
      rfl
    · intro a l hl
      refine (pay_row _ a l).trans ((stage_read arg16.view _ (W := 128) (by decide) _ _ 0 (by decide) _ a l hl).trans ?_)
      refine Eq.trans ?_ (dif_pos ⟨by omega, hl⟩).symm
      unfold k0_pay422
      refine (blk_cast (W := 128) shapeCasts_S1x32x128_S32x128 shapeCasts_S32x128_S32x128 _ _ _).trans ?_
      show arg8.view.read (Elt Ideal) X_arg8 _ = arg8.view.read (Elt Ideal) X_arg8 _
      refine congrArg _ (funext fun b => Fin.ext ?_)
      match b with
      | ⟨0, _⟩ => show k0_off2 ⟨k, hkt⟩ 0 + 1 * 0 = 0; rw [off2_eq]; rfl
      | ⟨1, _⟩ => show k0_off2 ⟨k, hkt⟩ 1 + 1 * (0 + 2 * a.val) = 2 * (16 * k + a.val) + 0; rw [off2_eq]; show 32 * k + _ = _; omega
      | ⟨2, _⟩ => show k0_off2 ⟨k, hkt⟩ 2 + 1 * l.val = 0 + l.val; rw [off2_eq]; show 0 + _ = _; omega
    · intro a l hl
      refine (pay_row _ a l).trans ((stage_read arg16.view _ (W := 128) (by decide) _ _ 1 (by decide) _ a l hl).trans ?_)
      refine Eq.trans ?_ (dif_pos ⟨by omega, hl⟩).symm
      unfold k0_pay422
      refine (blk_cast (W := 128) shapeCasts_S1x32x128_S32x128 shapeCasts_S32x128_S32x128 _ _ _).trans ?_
      show arg8.view.read (Elt Ideal) X_arg8 _ = arg8.view.read (Elt Ideal) X_arg8 _
      refine congrArg _ (funext fun b => Fin.ext ?_)
      match b with
      | ⟨0, _⟩ => show k0_off2 ⟨k, hkt⟩ 0 + 1 * 0 = 0; rw [off2_eq]; rfl
      | ⟨1, _⟩ => show k0_off2 ⟨k, hkt⟩ 1 + 1 * (1 + 2 * a.val) = 2 * (16 * k + a.val) + 1; rw [off2_eq]; show 32 * k + _ = _; omega
      | ⟨2, _⟩ => show k0_off2 ⟨k, hkt⟩ 2 + 1 * l.val = 0 + l.val; rw [off2_eq]; show 0 + _ = _; omega

/-- The scales repacked by `k0_t2`. -/
theorem packed_t2 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (k0_h2 : k0_cond2 i = 1#1) (X_arg10 : BufTy.Contents (Elt Ideal) arg10.view.ty) (G_arg16 : BufTy.Contents (Elt Ideal) arg16.view.ty) (G_arg18 : BufTy.Contents (Elt Ideal) arg18.view.ty) :
    (∀ (p : Fin 2) (r : Fin 1536) (l : Fin 128) (hl : l.val < 128),
        arg18.view.read (Elt Ideal) (arg18.view.writes (Elt Ideal) G_arg18 (pb_k0_t2 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 96).2) (ix4 p (0 : Fin 2) r l)
          = arg10.view.read (Elt Ideal) X_arg10 (ix3 (0 : Fin 1) (⟨2 * r.val + p.val, by omega⟩ : Fin 3072) (⟨0 + l.val, by omega⟩ : Fin 224)))
      ∧ (∀ (p : Fin 2) (t : Fin 2) (r : Fin 1536) (l : Fin 128), t ≠ 0 →
        arg18.view.read (Elt Ideal) (arg18.view.writes (Elt Ideal) G_arg18 (pb_k0_t2 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 96).2) (ix4 p t r l)
          = arg18.view.read (Elt Ideal) G_arg18 (ix4 p t r l)) := by
  have main := pack_all (T := 2) (R := 1536) arg18.view G_arg18 (fun k => (pb_k0_t2 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 k).2) 96 0 128
    (fun p r l => if h : r < 1536 ∧ l.val < 128 then
      arg10.view.read (Elt Ideal) X_arg10 (ix3 (0 : Fin 1) (⟨2 * r + p.val, by omega⟩ : Fin 3072) (⟨0 + l.val, by omega⟩ : Fin 224)) else 0) rfl ?_ 96 le_rfl
  · exact ⟨fun p r l hl => (main.1 p r l hl (by omega)).trans (dif_pos ⟨r.isLt, hl⟩), main.2⟩
  · intro k hk
    have hkt : k < k0_t2_loop.trips := by rw [trips_2]; exact hk
    iterate 6 apply Exists.intro
    refine ⟨?_, funext (off6_eq ⟨k, hkt⟩), funext (off7_eq ⟨k, hkt⟩), ?_, ?_⟩
    · refine (congrArg Prod.snd (pb_k0_t2_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 ⟨k, hkt⟩)).trans ?_
      unfold tripL_k0_t2 trip_k0_t2
      rfl
    · intro a l hl
      refine (pay_row _ a l).trans ((stage_read arg16.view _ (W := 128) (by decide) _ _ 0 (by decide) _ a l hl).trans ?_)
      refine Eq.trans ?_ (dif_pos ⟨by omega, hl⟩).symm
      unfold k0_pay425
      refine (blk_cast (W := 128) shapeCasts_S1x32x128_S32x128 shapeCasts_S32x128_S32x128 _ _ _).trans ?_
      show arg10.view.read (Elt Ideal) X_arg10 _ = arg10.view.read (Elt Ideal) X_arg10 _
      refine congrArg _ (funext fun b => Fin.ext ?_)
      match b with
      | ⟨0, _⟩ => show k0_off5 ⟨k, hkt⟩ 0 + 1 * 0 = 0; rw [off5_eq]; rfl
      | ⟨1, _⟩ => show k0_off5 ⟨k, hkt⟩ 1 + 1 * (0 + 2 * a.val) = 2 * (16 * k + a.val) + 0; rw [off5_eq]; show 32 * k + _ = _; omega
      | ⟨2, _⟩ => show k0_off5 ⟨k, hkt⟩ 2 + 1 * l.val = 0 + l.val; rw [off5_eq]; show 0 + _ = _; omega
    · intro a l hl
      refine (pay_row _ a l).trans ((stage_read arg16.view _ (W := 128) (by decide) _ _ 1 (by decide) _ a l hl).trans ?_)
      refine Eq.trans ?_ (dif_pos ⟨by omega, hl⟩).symm
      unfold k0_pay425
      refine (blk_cast (W := 128) shapeCasts_S1x32x128_S32x128 shapeCasts_S32x128_S32x128 _ _ _).trans ?_
      show arg10.view.read (Elt Ideal) X_arg10 _ = arg10.view.read (Elt Ideal) X_arg10 _
      refine congrArg _ (funext fun b => Fin.ext ?_)
      match b with
      | ⟨0, _⟩ => show k0_off5 ⟨k, hkt⟩ 0 + 1 * 0 = 0; rw [off5_eq]; rfl
      | ⟨1, _⟩ => show k0_off5 ⟨k, hkt⟩ 1 + 1 * (1 + 2 * a.val) = 2 * (16 * k + a.val) + 1; rw [off5_eq]; show 32 * k + _ = _; omega
      | ⟨2, _⟩ => show k0_off5 ⟨k, hkt⟩ 2 + 1 * l.val = 0 + l.val; rw [off5_eq]; show 0 + _ = _; omega

/-- The scales repacked by `k0_t3`. -/
theorem packed_t3 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (k0_h2 : k0_cond2 i = 1#1) (X_arg8 : BufTy.Contents (Elt Ideal) arg8.view.ty) (G_arg16 : BufTy.Contents (Elt Ideal) arg16.view.ty) (G_arg17 : BufTy.Contents (Elt Ideal) arg17.view.ty) :
    (∀ (p : Fin 2) (r : Fin 1536) (l : Fin 128) (hl : l.val < 96),
        arg17.view.read (Elt Ideal) (arg17.view.writes (Elt Ideal) G_arg17 (pb_k0_t3 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 96).2) (ix4 p (1 : Fin 2) r l)
          = arg8.view.read (Elt Ideal) X_arg8 (ix3 (0 : Fin 1) (⟨2 * r.val + p.val, by omega⟩ : Fin 3072) (⟨128 + l.val, by omega⟩ : Fin 224)))
      ∧ (∀ (p : Fin 2) (t : Fin 2) (r : Fin 1536) (l : Fin 128), t ≠ 1 →
        arg17.view.read (Elt Ideal) (arg17.view.writes (Elt Ideal) G_arg17 (pb_k0_t3 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 96).2) (ix4 p t r l)
          = arg17.view.read (Elt Ideal) G_arg17 (ix4 p t r l)) := by
  have main := pack_all (T := 2) (R := 1536) arg17.view G_arg17 (fun k => (pb_k0_t3 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 k).2) 96 1 96
    (fun p r l => if h : r < 1536 ∧ l.val < 96 then
      arg8.view.read (Elt Ideal) X_arg8 (ix3 (0 : Fin 1) (⟨2 * r + p.val, by omega⟩ : Fin 3072) (⟨128 + l.val, by omega⟩ : Fin 224)) else 0) rfl ?_ 96 le_rfl
  · exact ⟨fun p r l hl => (main.1 p r l hl (by omega)).trans (dif_pos ⟨r.isLt, hl⟩), main.2⟩
  · intro k hk
    have hkt : k < k0_t3_loop.trips := by rw [trips_3]; exact hk
    iterate 6 apply Exists.intro
    refine ⟨?_, funext (off9_eq ⟨k, hkt⟩), funext (off10_eq ⟨k, hkt⟩), ?_, ?_⟩
    · refine (congrArg Prod.snd (pb_k0_t3_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 ⟨k, hkt⟩)).trans ?_
      unfold tripL_k0_t3 trip_k0_t3
      rfl
    · intro a l hl
      refine (pay_row _ a l).trans ((stage_read arg16.view _ (W := 96) (by decide) _ _ 0 (by decide) _ a l hl).trans ?_)
      refine Eq.trans ?_ (dif_pos ⟨by omega, hl⟩).symm
      unfold k0_pay428
      refine (blk_cast (W := 96) shapeCasts_S1x32x96_S32x96 shapeCasts_S32x96_S32x96 _ _ _).trans ?_
      show arg8.view.read (Elt Ideal) X_arg8 _ = arg8.view.read (Elt Ideal) X_arg8 _
      refine congrArg _ (funext fun b => Fin.ext ?_)
      match b with
      | ⟨0, _⟩ => show k0_off8 ⟨k, hkt⟩ 0 + 1 * 0 = 0; rw [off8_eq]; rfl
      | ⟨1, _⟩ => show k0_off8 ⟨k, hkt⟩ 1 + 1 * (0 + 2 * a.val) = 2 * (16 * k + a.val) + 0; rw [off8_eq]; show 32 * k + _ = _; omega
      | ⟨2, _⟩ => show k0_off8 ⟨k, hkt⟩ 2 + 1 * l.val = 128 + l.val; rw [off8_eq]; show 128 + _ = _; omega
    · intro a l hl
      refine (pay_row _ a l).trans ((stage_read arg16.view _ (W := 96) (by decide) _ _ 1 (by decide) _ a l hl).trans ?_)
      refine Eq.trans ?_ (dif_pos ⟨by omega, hl⟩).symm
      unfold k0_pay428
      refine (blk_cast (W := 96) shapeCasts_S1x32x96_S32x96 shapeCasts_S32x96_S32x96 _ _ _).trans ?_
      show arg8.view.read (Elt Ideal) X_arg8 _ = arg8.view.read (Elt Ideal) X_arg8 _
      refine congrArg _ (funext fun b => Fin.ext ?_)
      match b with
      | ⟨0, _⟩ => show k0_off8 ⟨k, hkt⟩ 0 + 1 * 0 = 0; rw [off8_eq]; rfl
      | ⟨1, _⟩ => show k0_off8 ⟨k, hkt⟩ 1 + 1 * (1 + 2 * a.val) = 2 * (16 * k + a.val) + 1; rw [off8_eq]; show 32 * k + _ = _; omega
      | ⟨2, _⟩ => show k0_off8 ⟨k, hkt⟩ 2 + 1 * l.val = 128 + l.val; rw [off8_eq]; show 128 + _ = _; omega

/-- The scales repacked by `k0_t4`. -/
theorem packed_t4 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (k0_h2 : k0_cond2 i = 1#1) (X_arg10 : BufTy.Contents (Elt Ideal) arg10.view.ty) (G_arg16 : BufTy.Contents (Elt Ideal) arg16.view.ty) (G_arg18 : BufTy.Contents (Elt Ideal) arg18.view.ty) :
    (∀ (p : Fin 2) (r : Fin 1536) (l : Fin 128) (hl : l.val < 96),
        arg18.view.read (Elt Ideal) (arg18.view.writes (Elt Ideal) G_arg18 (pb_k0_t4 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 96).2) (ix4 p (1 : Fin 2) r l)
          = arg10.view.read (Elt Ideal) X_arg10 (ix3 (0 : Fin 1) (⟨2 * r.val + p.val, by omega⟩ : Fin 3072) (⟨128 + l.val, by omega⟩ : Fin 224)))
      ∧ (∀ (p : Fin 2) (t : Fin 2) (r : Fin 1536) (l : Fin 128), t ≠ 1 →
        arg18.view.read (Elt Ideal) (arg18.view.writes (Elt Ideal) G_arg18 (pb_k0_t4 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 96).2) (ix4 p t r l)
          = arg18.view.read (Elt Ideal) G_arg18 (ix4 p t r l)) := by
  have main := pack_all (T := 2) (R := 1536) arg18.view G_arg18 (fun k => (pb_k0_t4 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 k).2) 96 1 96
    (fun p r l => if h : r < 1536 ∧ l.val < 96 then
      arg10.view.read (Elt Ideal) X_arg10 (ix3 (0 : Fin 1) (⟨2 * r + p.val, by omega⟩ : Fin 3072) (⟨128 + l.val, by omega⟩ : Fin 224)) else 0) rfl ?_ 96 le_rfl
  · exact ⟨fun p r l hl => (main.1 p r l hl (by omega)).trans (dif_pos ⟨r.isLt, hl⟩), main.2⟩
  · intro k hk
    have hkt : k < k0_t4_loop.trips := by rw [trips_4]; exact hk
    iterate 6 apply Exists.intro
    refine ⟨?_, funext (off12_eq ⟨k, hkt⟩), funext (off13_eq ⟨k, hkt⟩), ?_, ?_⟩
    · refine (congrArg Prod.snd (pb_k0_t4_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 ⟨k, hkt⟩)).trans ?_
      unfold tripL_k0_t4 trip_k0_t4
      rfl
    · intro a l hl
      refine (pay_row _ a l).trans ((stage_read arg16.view _ (W := 96) (by decide) _ _ 0 (by decide) _ a l hl).trans ?_)
      refine Eq.trans ?_ (dif_pos ⟨by omega, hl⟩).symm
      unfold k0_pay431
      refine (blk_cast (W := 96) shapeCasts_S1x32x96_S32x96 shapeCasts_S32x96_S32x96 _ _ _).trans ?_
      show arg10.view.read (Elt Ideal) X_arg10 _ = arg10.view.read (Elt Ideal) X_arg10 _
      refine congrArg _ (funext fun b => Fin.ext ?_)
      match b with
      | ⟨0, _⟩ => show k0_off11 ⟨k, hkt⟩ 0 + 1 * 0 = 0; rw [off11_eq]; rfl
      | ⟨1, _⟩ => show k0_off11 ⟨k, hkt⟩ 1 + 1 * (0 + 2 * a.val) = 2 * (16 * k + a.val) + 0; rw [off11_eq]; show 32 * k + _ = _; omega
      | ⟨2, _⟩ => show k0_off11 ⟨k, hkt⟩ 2 + 1 * l.val = 128 + l.val; rw [off11_eq]; show 128 + _ = _; omega
    · intro a l hl
      refine (pay_row _ a l).trans ((stage_read arg16.view _ (W := 96) (by decide) _ _ 1 (by decide) _ a l hl).trans ?_)
      refine Eq.trans ?_ (dif_pos ⟨by omega, hl⟩).symm
      unfold k0_pay431
      refine (blk_cast (W := 96) shapeCasts_S1x32x96_S32x96 shapeCasts_S32x96_S32x96 _ _ _).trans ?_
      show arg10.view.read (Elt Ideal) X_arg10 _ = arg10.view.read (Elt Ideal) X_arg10 _
      refine congrArg _ (funext fun b => Fin.ext ?_)
      match b with
      | ⟨0, _⟩ => show k0_off11 ⟨k, hkt⟩ 0 + 1 * 0 = 0; rw [off11_eq]; rfl
      | ⟨1, _⟩ => show k0_off11 ⟨k, hkt⟩ 1 + 1 * (1 + 2 * a.val) = 2 * (16 * k + a.val) + 1; rw [off11_eq]; show 32 * k + _ = _; omega
      | ⟨2, _⟩ => show k0_off11 ⟨k, hkt⟩ 2 + 1 * l.val = 128 + l.val; rw [off11_eq]; show 128 + _ = _; omega

/-- The scales repacked by `k0_t5`. -/
theorem packed_t5 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (X_arg12 : BufTy.Contents (Elt Ideal) arg12.view.ty) (G_arg16 : BufTy.Contents (Elt Ideal) arg16.view.ty) (G_arg19 : BufTy.Contents (Elt Ideal) arg19.view.ty) :
    (∀ (p : Fin 2) (r : Fin 512) (l : Fin 128) (hl : l.val < 48),
        arg19.view.read (Elt Ideal) (arg19.view.writes (Elt Ideal) G_arg19 (pb_k0_t5 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 G_arg16 G_arg19 32).2) (ix4 p (0 : Fin 1) r l)
          = arg12.view.read (Elt Ideal) X_arg12 (ix3 (0 : Fin 1) (⟨2 * r.val + p.val, by omega⟩ : Fin 1024) (⟨0 + l.val, by omega⟩ : Fin 48)))
      ∧ (∀ (p : Fin 2) (t : Fin 1) (r : Fin 512) (l : Fin 128), t ≠ 0 →
        arg19.view.read (Elt Ideal) (arg19.view.writes (Elt Ideal) G_arg19 (pb_k0_t5 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 G_arg16 G_arg19 32).2) (ix4 p t r l)
          = arg19.view.read (Elt Ideal) G_arg19 (ix4 p t r l)) := by
  have main := pack_all (T := 1) (R := 512) arg19.view G_arg19 (fun k => (pb_k0_t5 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 G_arg16 G_arg19 k).2) 32 0 48
    (fun p r l => if h : r < 512 ∧ l.val < 48 then
      arg12.view.read (Elt Ideal) X_arg12 (ix3 (0 : Fin 1) (⟨2 * r + p.val, by omega⟩ : Fin 1024) (⟨0 + l.val, by omega⟩ : Fin 48)) else 0) rfl ?_ 32 le_rfl
  · exact ⟨fun p r l hl => (main.1 p r l hl (by omega)).trans (dif_pos ⟨r.isLt, hl⟩), main.2⟩
  · intro k hk
    have hkt : k < k0_t5_loop.trips := by rw [trips_5]; exact hk
    iterate 6 apply Exists.intro
    refine ⟨?_, funext (off15_eq ⟨k, hkt⟩), funext (off16_eq ⟨k, hkt⟩), ?_, ?_⟩
    · refine (congrArg Prod.snd (pb_k0_t5_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 G_arg16 G_arg19 ⟨k, hkt⟩)).trans ?_
      unfold tripL_k0_t5 trip_k0_t5
      rfl
    · intro a l hl
      refine (pay_row _ a l).trans ((stage_read arg16.view _ (W := 48) (by decide) _ _ 0 (by decide) _ a l hl).trans ?_)
      refine Eq.trans ?_ (dif_pos ⟨by omega, hl⟩).symm
      unfold k0_pay1
      refine (blk_cast (W := 48) shapeCasts_S1x32x48_S32x48 shapeCasts_S32x48_S32x48 _ _ _).trans ?_
      show arg12.view.read (Elt Ideal) X_arg12 _ = arg12.view.read (Elt Ideal) X_arg12 _
      refine congrArg _ (funext fun b => Fin.ext ?_)
      match b with
      | ⟨0, _⟩ => show k0_off14 ⟨k, hkt⟩ 0 + 1 * 0 = 0; rw [off14_eq]; rfl
      | ⟨1, _⟩ => show k0_off14 ⟨k, hkt⟩ 1 + 1 * (0 + 2 * a.val) = 2 * (16 * k + a.val) + 0; rw [off14_eq]; show 32 * k + _ = _; omega
      | ⟨2, _⟩ => show k0_off14 ⟨k, hkt⟩ 2 + 1 * l.val = 0 + l.val; rw [off14_eq]; show 0 + _ = _; omega
    · intro a l hl
      refine (pay_row _ a l).trans ((stage_read arg16.view _ (W := 48) (by decide) _ _ 1 (by decide) _ a l hl).trans ?_)
      refine Eq.trans ?_ (dif_pos ⟨by omega, hl⟩).symm
      unfold k0_pay1
      refine (blk_cast (W := 48) shapeCasts_S1x32x48_S32x48 shapeCasts_S32x48_S32x48 _ _ _).trans ?_
      show arg12.view.read (Elt Ideal) X_arg12 _ = arg12.view.read (Elt Ideal) X_arg12 _
      refine congrArg _ (funext fun b => Fin.ext ?_)
      match b with
      | ⟨0, _⟩ => show k0_off14 ⟨k, hkt⟩ 0 + 1 * 0 = 0; rw [off14_eq]; rfl
      | ⟨1, _⟩ => show k0_off14 ⟨k, hkt⟩ 1 + 1 * (1 + 2 * a.val) = 2 * (16 * k + a.val) + 1; rw [off14_eq]; show 32 * k + _ = _; omega
      | ⟨2, _⟩ => show k0_off14 ⟨k, hkt⟩ 2 + 1 * l.val = 0 + l.val; rw [off14_eq]; show 0 + _ = _; omega

end Cert.KernelIdeal.Hand

end
-- ==== Proof.Ideal.Project.lean ====
/-
  A trip of a projection, idealized: the sums grow by the group's 512 rows. The two nibbles of a packed byte are two
  output columns; the four-bit code picks one of the sixteen values of the table.
-/
module

public import proofs.«01_k».proof.Proof.Ideal.Pack

@[expose] public section

set_option maxRecDepth 8192
set_option maxHeartbeats 400000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

/-- The bits of the sixteen values. -/
def nfBits : Fin 16 → BitVec 16 :=
  ![0xBF80#16, 0xBF32#16, 0xBF06#16, 0xBECA#16, 0xBE92#16, 0xBE3D#16, 0xBDBA#16, 0x0000#16,
    0x3DA3#16, 0x3E25#16, 0x3E7C#16, 0x3EAD#16, 0x3EE2#16, 0x3F10#16, 0x3F39#16, 0x3F80#16]

/-- The value of a four-bit code. -/
def nf (n : ℕ) : EReal := FloatOps.ofBits (F := Ideal) .bf16 (nfBits ⟨n % 16, Nat.mod_lt _ (by decide)⟩)

/-- The two codes of a byte. -/
def nib (n : ℕ) (w : BitVec 8) : ℕ := if n = 0 then (w >>> 4).toNat else (w &&& 15#8).toNat

/-- The table holds the sixteen values: the low bytes in `v1`, the high bytes in `v3`. -/
def TabOK (v1 v3 : IVec S32x128 8) : Prop :=
  ∀ (a : Fin 16) (l : Fin 128), (v3 (ix2 (⟨a.val, by omega⟩ : Fin 32) l) ++ v1 (ix2 (⟨a.val, by omega⟩ : Fin 32) l) : BitVec 16) = nfBits a

theorem hi_code : ∀ w : BitVec 8, ((w >>> 4).signExtend 32).toNat % 32 = (w >>> 4).toNat ∧ (w >>> 4).toNat < 16 := by decide +kernel
theorem lo_code : ∀ w : BitVec 8, ((w &&& 15#8).signExtend 32).toNat % 32 = (w &&& 15#8).toNat ∧ (w &&& 15#8).toNat < 16 := by decide +kernel

variable {v1 v3 : IVec S32x128 8} (hT : TabOK v1 v3)

include hT

theorem look_hi (w : Vec Ideal S1x512x128 .i8) (q : Fin 512) (l : Fin 128) :
    FloatOps.ofBits (F := Ideal) .bf16 (look v3 (hiIdx (words w)) (ix2 q l) ++ look v1 (hiIdx (words w)) (ix2 q l) : BitVec 16) = nf (nib 0 (w (ix3 0 q l))) := by
  rw [look_apply, look_apply, hi_byte]
  obtain ⟨h1, h2⟩ := hi_code (w (ix3 0 q l))
  have e := hT ⟨_, h2⟩ l
  simp only [h1]
  rw [e]
  unfold nf nib
  rw [if_pos rfl]
  congr 2
  exact Fin.ext (Nat.mod_eq_of_lt h2).symm

theorem look_lo (w : Vec Ideal S1x512x128 .i8) (q : Fin 512) (l : Fin 128) :
    FloatOps.ofBits (F := Ideal) .bf16 (look v3 (loIdx (words w)) (ix2 q l) ++ look v1 (loIdx (words w)) (ix2 q l) : BitVec 16) = nf (nib 1 (w (ix3 0 q l))) := by
  rw [look_apply, look_apply, lo_byte]
  obtain ⟨h1, h2⟩ := lo_code (w (ix3 0 q l))
  have e := hT ⟨_, h2⟩ l
  simp only [h1]
  rw [e]
  unfold nf nib
  rw [if_neg (by decide)]
  congr 2
  exact Fin.ext (Nat.mod_eq_of_lt h2).symm

/-- One term of a projection: a left value, a table value and a scale. -/
def term (xs : ℕ → ℕ → EReal) (ws : ℕ → ℕ → BitVec 8) (ss : ℕ → ℕ → EReal) (n tok c k : ℕ) : EReal :=
  xs tok k * (nf (nib n (ws k c)) * ss k c)

omit hT in
/-- A sum of 512 more terms, the even ones and the odd ones. -/
theorem sum_512 (f : ℕ → EReal) (K : ℕ) :
    ∑ k ∈ Finset.range (K + 512), f k
      = ∑ k ∈ Finset.range K, f k + ∑ r : Fin 256, f (K + 2 * r.val) + ∑ r : Fin 256, f (K + 2 * r.val + 1) := by
  have h : ∀ m : ℕ, ∑ k ∈ Finset.range (K + 2 * m), f k
      = ∑ k ∈ Finset.range K, f k + ∑ r ∈ Finset.range m, f (K + 2 * r) + ∑ r ∈ Finset.range m, f (K + 2 * r + 1) := by
    intro m
    induction m with
    | zero => simp
    | succ m ih =>
      rw [show K + 2 * (m + 1) = K + 2 * m + 1 + 1 by ring, Finset.sum_range_succ, Finset.sum_range_succ, ih,
        Finset.sum_range_succ, Finset.sum_range_succ]
      abel
  rw [show K + 512 = K + 2 * 256 by rfl, h 256, ← Fin.sum_univ_eq_sum_range (fun r => f (K + 2 * r)), ← Fin.sum_univ_eq_sum_range (fun r => f (K + 2 * r + 1))]

/-- One trip. -/
theorem gstep_apply (p0 p1 : IVec S256x128 32) (w0 w1 : Vec Ideal S1x512x128 .i8) (s0 s1 : Vec Ideal S1x1x256x128 .bf16)
    (x0 x1 : Vec Ideal S1x48x256 .bf16) (acc : FVec Ideal S48x256 .f32 × FVec Ideal S48x256 .f32)
    (xs : ℕ → ℕ → EReal) (ws : ℕ → ℕ → BitVec 8) (ss : ℕ → ℕ → EReal) (K : ℕ)
    (hx0 : ∀ (tok : Fin 48) (r : Fin 256), x0 (ix3 0 tok r) = xs tok.val (K + 2 * r.val))
    (hx1 : ∀ (tok : Fin 48) (r : Fin 256), x1 (ix3 0 tok r) = xs tok.val (K + 2 * r.val + 1))
    (hw0 : ∀ (q : Fin 512) (l : Fin 128), w0 (ix3 0 q l) = ws (K + q.val) l.val)
    (hw1 : ∀ (q : Fin 512) (l : Fin 128), w1 (ix3 0 q l) = ws (K + q.val) (128 + l.val))
    (h00 : ∀ (r : Fin 256) (l : Fin 128), s0 (ix4 0 0 r ⟨(p0 (ix2 r l)).toNat % 128, Nat.mod_lt _ (by decide)⟩) = ss (K + 2 * r.val) l.val)
    (h01 : ∀ (r : Fin 256) (l : Fin 128), s0 (ix4 0 0 r ⟨(p1 (ix2 r l)).toNat % 128, Nat.mod_lt _ (by decide)⟩) = ss (K + 2 * r.val) (128 + l.val))
    (h10 : ∀ (r : Fin 256) (l : Fin 128), s1 (ix4 0 0 r ⟨(p0 (ix2 r l)).toNat % 128, Nat.mod_lt _ (by decide)⟩) = ss (K + 2 * r.val + 1) l.val)
    (h11 : ∀ (r : Fin 256) (l : Fin 128), s1 (ix4 0 0 r ⟨(p1 (ix2 r l)).toNat % 128, Nat.mod_lt _ (by decide)⟩) = ss (K + 2 * r.val + 1) (128 + l.val))
    (ha : ∀ (tok : Fin 48) (c : Fin 256), acc.1 (ix2 tok c) = ∑ k ∈ Finset.range K, term xs ws ss 0 tok.val c.val k
      ∧ acc.2 (ix2 tok c) = ∑ k ∈ Finset.range K, term xs ws ss 1 tok.val c.val k) (tok : Fin 48) (c : Fin 256) :
    (gstep v1 v3 p0 p1 w0 w1 s0 s1 x0 x1 acc).1 (ix2 tok c) = ∑ k ∈ Finset.range (K + 512), term xs ws ss 0 tok.val c.val k
      ∧ (gstep v1 v3 p0 p1 w0 w1 s0 s1 x0 x1 acc).2 (ix2 tok c) = ∑ k ∈ Finset.range (K + 512), term xs ws ss 1 tok.val c.val k := by
  have pe : ∀ (ix : IVec S128x128 32) (s : Vec Ideal S1x1x256x128 .bf16) (p : IVec S256x128 32) (r : Fin 256) (l : Fin 128),
      pieceE (F := Ideal) v1 v3 ix s p (ix2 r l) = FloatOps.ofBits (F := Ideal) .bf16 (look v3 ix (ix2 (⟨2 * r.val, by omega⟩ : Fin 512) l) ++ look v1 ix (ix2 (⟨2 * r.val, by omega⟩ : Fin 512) l) : BitVec 16)
        * s (ix4 0 0 r ⟨(p (ix2 r l)).toNat % 128, Nat.mod_lt _ (by decide)⟩) := fun ix s p r l => by
    show evenV (F := Ideal) _ _ (ix2 r l) * sclV (F := Ideal) s p (ix2 r l) = _
    rw [even_apply, scl_apply]
  have po : ∀ (ix : IVec S128x128 32) (s : Vec Ideal S1x1x256x128 .bf16) (p : IVec S256x128 32) (r : Fin 256) (l : Fin 128),
      pieceO (F := Ideal) v1 v3 ix s p (ix2 r l) = FloatOps.ofBits (F := Ideal) .bf16 (look v3 ix (ix2 (⟨2 * r.val + 1, by omega⟩ : Fin 512) l) ++ look v1 ix (ix2 (⟨2 * r.val + 1, by omega⟩ : Fin 512) l) : BitVec 16)
        * s (ix4 0 0 r ⟨(p (ix2 r l)).toNat % 128, Nat.mod_lt _ (by decide)⟩) := fun ix s p r l => by
    show oddV (F := Ideal) _ _ (ix2 r l) * sclV (F := Ideal) s p (ix2 r l) = _
    rw [odd_apply, scl_apply]
  have col : ∀ (a b : FVec Ideal S256x128 .bf16) (n K' : ℕ) (x : Vec Ideal S1x48x256 .bf16)
      (hx : ∀ r : Fin 256, x (ix3 0 tok r) = xs tok.val (K' + 2 * r.val))
      (h1 : ∀ (r : Fin 256) (l : Fin 128), a (ix2 r l) = nf (nib n (ws (K' + 2 * r.val) l.val)) * ss (K' + 2 * r.val) l.val)
      (h2 : ∀ (r : Fin 256) (l : Fin 128), b (ix2 r l) = nf (nib n (ws (K' + 2 * r.val) (128 + l.val))) * ss (K' + 2 * r.val) (128 + l.val)),
      mmT (F := Ideal) x (side a b) (ix2 tok c) = ∑ r : Fin 256, term xs ws ss n tok.val c.val (K' + 2 * r.val) := by
    intro a b n K' x hx h1 h2
    rw [mmT_apply]
    refine Finset.sum_congr rfl fun r _ => ?_
    unfold term
    rw [hx, side_apply]
    by_cases h : c.val < 128
    · rw [dif_pos h, h1]
    · rw [dif_neg h, h2, show 128 + (⟨c.val - 128, by omega⟩ : Fin 128).val = c.val by dsimp only; omega]
  have odd : ∀ (n : ℕ), (∑ r : Fin 256, term xs ws ss n tok.val c.val (K + 2 * r.val + 1)) = ∑ r : Fin 256, term xs ws ss n tok.val c.val (K + 1 + 2 * r.val) :=
    fun n => Finset.sum_congr rfl fun r _ => by rw [Nat.add_right_comm]
  constructor
  · show acc.1 (ix2 tok c) + mmT (F := Ideal) _ _ (ix2 tok c) + mmT (F := Ideal) _ _ (ix2 tok c) = _
    rw [sum_512, (ha tok c).1, odd]
    congr 1
    · congr 1
      refine col _ _ 0 K x0 (hx0 tok) (fun r l => ?_) (fun r l => ?_)
      · rw [pe, look_hi hT, hw0, h00]
      · rw [pe, look_hi hT, hw1, h01]
    · refine col _ _ 0 (K + 1) x1 (fun r => by rw [hx1, Nat.add_right_comm]) (fun r l => ?_) (fun r l => ?_)
      · rw [po, look_hi hT, hw0, h10, Nat.add_right_comm K 1]; rfl
      · rw [po, look_hi hT, hw1, h11, Nat.add_right_comm K 1]; rfl
  · show acc.2 (ix2 tok c) + mmT (F := Ideal) _ _ (ix2 tok c) + mmT (F := Ideal) _ _ (ix2 tok c) = _
    rw [sum_512, (ha tok c).2, odd]
    congr 1
    · congr 1
      refine col _ _ 1 K x0 (hx0 tok) (fun r l => ?_) (fun r l => ?_)
      · rw [pe, look_lo hT, hw0, h00]
      · rw [pe, look_lo hT, hw1, h01]
    · refine col _ _ 1 (K + 1) x1 (fun r => by rw [hx1, Nat.add_right_comm]) (fun r l => ?_) (fun r l => ?_)
      · rw [po, look_lo hT, hw0, h10, Nat.add_right_comm K 1]; rfl
      · rw [po, look_lo hT, hw1, h11, Nat.add_right_comm K 1]; rfl

end Cert.KernelIdeal.Hand

end
-- ==== Proof.Ideal.Values.lean ====
/-
  The sums the loops of the body leave, idealized: the two projections of a hidden tile, the hidden values, and the
  partial sums of the down projection.
-/
module

public import proofs.«01_k».proof.Proof.Ideal.Project

@[expose] public section

set_option maxRecDepth 8192
set_option maxHeartbeats 1000000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

section generic
variable {sig' : RefSig} {κ : Kind} {sp : Space}

/-- A unit load at an offset reads the shifted element. -/
theorem read_at {s : Shape} {e : EltTy} (v : View sig' κ sp s e) (f : v.ty.Contents (Elt Ideal)) (off size : Fin s.rank → ℕ) (inb)
    (x : (Rect.unit (s := s) off size inb).shape.Idx) (y : s.Idx) (h : ∀ a, (y a).val = off a + (x a).val) :
    v.readAt (Elt Ideal) (Rect.unit (s := s) off size inb).toLoadRect f x = v.read (Elt Ideal) f y :=
  congrArg (v.read (Elt Ideal) f) (funext fun a => Fin.ext (by
    show off a + 1 * (x a).val = (y a).val
    rw [h a, Nat.one_mul]))

end generic

/-- The sums after `k` trips of `k0_t7`. -/
theorem loop7 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (k0_t6 : Fin k0_t6_loop.trips) (v72 : BitVec 32) (X_arg3 : BufTy.Contents (Elt Ideal) arg3.view.ty) (X_arg7 : BufTy.Contents (Elt Ideal) arg7.view.ty) (X_arg17 : BufTy.Contents (Elt Ideal) arg17.view.ty)
    (e1 : arg1 = BitVec.ofNat 32 (i 1).val) (e2 : v28 = k0_pay419) (hT : TabOK v1 v3) (xs : ℕ → ℕ → EReal) (ws : ℕ → ℕ → BitVec 8) (ss : ℕ → ℕ → EReal)
    (hX : ∀ (p : Fin 2) (tok : Fin 48) (r : Fin 1536), arg3.view.read (Elt Ideal) X_arg3 (ix3 p tok r) = xs tok.val (2 * r.val + p.val))
    (hW : ∀ (k : Fin 3072) (cc : Fin 512), arg7.view.read (Elt Ideal) X_arg7 (ix3 (0 : Fin 1) k cc) = ws k.val cc.val)
    (hS : ∀ (p : Fin 2) (r : Fin 1536) (l : Fin 128), 128 * ((i 1).val / 8) + l.val < 224 → arg17.view.read (Elt Ideal) X_arg17 (ix4 p (⟨(i 1).val / 8, by have h : (i 1).val < 14 := (i 1).isLt; omega⟩ : Fin 2) r l) = ss (2 * r.val + p.val) (128 * ((i 1).val / 8) + l.val)) :
    ∀ k ≤ 6, ∀ (tok : Fin 48) (cc : Fin 256),
      (st_k0_t7 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg7 X_arg17 (k0_pay6, k0_pay6) k).1 (ix2 tok cc)
          = ∑ q ∈ Finset.range (512 * k), term xs ws (fun k c => ss k (16 * (i 1).val + c / 32)) 0 tok.val (256 * k0_t6.val + cc.val) q
      ∧ (st_k0_t7 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg7 X_arg17 (k0_pay6, k0_pay6) k).2 (ix2 tok cc)
          = ∑ q ∈ Finset.range (512 * k), term xs ws (fun k c => ss k (16 * (i 1).val + c / 32)) 1 tok.val (256 * k0_t6.val + cc.val) q := by
  have ht : k0_t6.val < 2 := Nat.lt_of_lt_of_eq k0_t6.isLt trips_6
  have hj : (i 1).val < 14 := (i 1).isLt
  have sh : ∀ (n tok c q : ℕ), term xs ws (fun k c => ss k (16 * (i 1).val + c / 32)) n tok (256 * k0_t6.val + c) q
      = term xs (fun k c => ws k (256 * k0_t6.val + c)) (fun k c => ss k (16 * (i 1).val + (256 * k0_t6.val + c) / 32)) n tok c q := fun _ _ _ _ => rfl
  simp only [sh]
  intro k
  induction k with
  | zero =>
    intro _ tok cc
    constructor <;> exact Ideal.ofBits_zero_f32
  | succ k ih =>
    intro hk tok cc
    have hkt : k < k0_t7_loop.trips := by rw [trips_7]; omega
    have es := (st_k0_t7_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg7 X_arg17 (k0_pay6, k0_pay6) ⟨k, hkt⟩).trans (trip7_eq (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg7 X_arg17 ⟨k, hkt⟩ _)
    have es' : st_k0_t7 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg7 X_arg17 (k0_pay6, k0_pay6) (k + 1) = _ := es
    rw [es', show 512 * (k + 1) = 512 * k + 512 by ring]
    refine gstep_apply hT _ _ _ _ _ _ _ _ _ xs _ _ (512 * k) ?_ ?_ ?_ ?_ ?_ ?_ ?_ ?_ (ih (by omega)) tok cc
    · intro tok r
      refine (read_at arg3.view _ _ _ _ _ (ix3 (0 : Fin 2) tok (⟨256 * k + r.val, by omega⟩ : Fin 1536)) (fun a => ?_)).trans ((hX _ _ _).trans ?_)
      · rw [off20_eq]; match a with
        | ⟨0, _⟩ => rfl
        | ⟨1, _⟩ => exact (Nat.zero_add _).symm
        | ⟨2, _⟩ => rfl
      · congr 1; show 2 * (256 * k + r.val) + 0 = _; omega
    · intro tok r
      refine (read_at arg3.view _ _ _ _ _ (ix3 (1 : Fin 2) tok (⟨256 * k + r.val, by omega⟩ : Fin 1536)) (fun a => ?_)).trans ((hX _ _ _).trans ?_)
      · rw [off21_eq]; match a with
        | ⟨0, _⟩ => rfl
        | ⟨1, _⟩ => exact (Nat.zero_add _).symm
        | ⟨2, _⟩ => rfl
      · congr 1; show 2 * (256 * k + r.val) + 1 = _; omega
    · intro q l
      refine (read_at arg7.view _ _ _ _ _ (ix3 (0 : Fin 1) (⟨512 * k + q.val, by omega⟩ : Fin 3072) (⟨256 * k0_t6.val + l.val, by omega⟩ : Fin 512)) (fun a => ?_)).trans (hW _ _)
      rw [(off17_eq _ _ a).1]; match a with
        | ⟨0, _⟩ => rfl
        | ⟨1, _⟩ => rfl
        | ⟨2, _⟩ => rfl
    · intro q l
      refine (read_at arg7.view _ _ _ _ _ (ix3 (0 : Fin 1) (⟨512 * k + q.val, by omega⟩ : Fin 3072) (⟨256 * k0_t6.val + (128 + l.val), by omega⟩ : Fin 512)) (fun a => ?_)).trans (hW _ _)
      rw [(off17_eq _ _ a).2]; match a with
        | ⟨0, _⟩ => rfl
        | ⟨1, _⟩ => rfl
        | ⟨2, _⟩ => exact (Nat.add_assoc _ _ _).symm
    · intro r l
      have hl := l.isLt
      have pt := (pat_up ⟨(i 1).val, hj⟩ k0_t6 r l).1
      subst e1 e2
      refine (read_at arg17.view _ _ _ _ _ (ix4 (0 : Fin 2) (⟨(i 1).val / 8, by omega⟩ : Fin 2) (⟨256 * k + r.val, by omega⟩ : Fin 1536) (⟨(k0_pay4 (BitVec.ofNat 32 (i 1).val) k0_pay419 k0_t6 (ix2 r l)).toNat % 128, Nat.mod_lt _ (by decide)⟩ : Fin 128)) (fun a => ?_)).trans ((hS _ _ _ ?_).trans ?_)
      · rw [off18_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 0 = _; omega
        · omega
    · intro r l
      have hl := l.isLt
      have pt := (pat_up ⟨(i 1).val, hj⟩ k0_t6 r l).2
      subst e1 e2
      refine (read_at arg17.view _ _ _ _ _ (ix4 (0 : Fin 2) (⟨(i 1).val / 8, by omega⟩ : Fin 2) (⟨256 * k + r.val, by omega⟩ : Fin 1536) (⟨(k0_pay5 (BitVec.ofNat 32 (i 1).val) k0_pay419 k0_t6 (ix2 r l)).toNat % 128, Nat.mod_lt _ (by decide)⟩ : Fin 128)) (fun a => ?_)).trans ((hS _ _ _ ?_).trans ?_)
      · rw [off18_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 0 = _; omega
        · omega
    · intro r l
      have hl := l.isLt
      have pt := (pat_up ⟨(i 1).val, hj⟩ k0_t6 r l).1
      subst e1 e2
      refine (read_at arg17.view _ _ _ _ _ (ix4 (1 : Fin 2) (⟨(i 1).val / 8, by omega⟩ : Fin 2) (⟨256 * k + r.val, by omega⟩ : Fin 1536) (⟨(k0_pay4 (BitVec.ofNat 32 (i 1).val) k0_pay419 k0_t6 (ix2 r l)).toNat % 128, Nat.mod_lt _ (by decide)⟩ : Fin 128)) (fun a => ?_)).trans ((hS _ _ _ ?_).trans ?_)
      · rw [off19_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 1 = _; omega
        · omega
    · intro r l
      have hl := l.isLt
      have pt := (pat_up ⟨(i 1).val, hj⟩ k0_t6 r l).2
      subst e1 e2
      refine (read_at arg17.view _ _ _ _ _ (ix4 (1 : Fin 2) (⟨(i 1).val / 8, by omega⟩ : Fin 2) (⟨256 * k + r.val, by omega⟩ : Fin 1536) (⟨(k0_pay5 (BitVec.ofNat 32 (i 1).val) k0_pay419 k0_t6 (ix2 r l)).toNat % 128, Nat.mod_lt _ (by decide)⟩ : Fin 128)) (fun a => ?_)).trans ((hS _ _ _ ?_).trans ?_)
      · rw [off19_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 1 = _; omega
        · omega

/-- The sums after `k` trips of `k0_t8`. -/
theorem loop8 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (k0_t6 : Fin k0_t6_loop.trips) (v72 : BitVec 32) (X_arg3 : BufTy.Contents (Elt Ideal) arg3.view.ty) (X_arg9 : BufTy.Contents (Elt Ideal) arg9.view.ty) (X_arg18 : BufTy.Contents (Elt Ideal) arg18.view.ty)
    (e1 : arg1 = BitVec.ofNat 32 (i 1).val) (e2 : v28 = k0_pay419) (hT : TabOK v1 v3) (xs : ℕ → ℕ → EReal) (ws : ℕ → ℕ → BitVec 8) (ss : ℕ → ℕ → EReal)
    (hX : ∀ (p : Fin 2) (tok : Fin 48) (r : Fin 1536), arg3.view.read (Elt Ideal) X_arg3 (ix3 p tok r) = xs tok.val (2 * r.val + p.val))
    (hW : ∀ (k : Fin 3072) (cc : Fin 512), arg9.view.read (Elt Ideal) X_arg9 (ix3 (0 : Fin 1) k cc) = ws k.val cc.val)
    (hS : ∀ (p : Fin 2) (r : Fin 1536) (l : Fin 128), 128 * ((i 1).val / 8) + l.val < 224 → arg18.view.read (Elt Ideal) X_arg18 (ix4 p (⟨(i 1).val / 8, by have h : (i 1).val < 14 := (i 1).isLt; omega⟩ : Fin 2) r l) = ss (2 * r.val + p.val) (128 * ((i 1).val / 8) + l.val)) :
    ∀ k ≤ 6, ∀ (tok : Fin 48) (cc : Fin 256),
      (st_k0_t8 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg9 X_arg18 (k0_pay9, k0_pay9) k).1 (ix2 tok cc)
          = ∑ q ∈ Finset.range (512 * k), term xs ws (fun k c => ss k (16 * (i 1).val + c / 32)) 0 tok.val (256 * k0_t6.val + cc.val) q
      ∧ (st_k0_t8 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg9 X_arg18 (k0_pay9, k0_pay9) k).2 (ix2 tok cc)
          = ∑ q ∈ Finset.range (512 * k), term xs ws (fun k c => ss k (16 * (i 1).val + c / 32)) 1 tok.val (256 * k0_t6.val + cc.val) q := by
  have ht : k0_t6.val < 2 := Nat.lt_of_lt_of_eq k0_t6.isLt trips_6
  have hj : (i 1).val < 14 := (i 1).isLt
  have sh : ∀ (n tok c q : ℕ), term xs ws (fun k c => ss k (16 * (i 1).val + c / 32)) n tok (256 * k0_t6.val + c) q
      = term xs (fun k c => ws k (256 * k0_t6.val + c)) (fun k c => ss k (16 * (i 1).val + (256 * k0_t6.val + c) / 32)) n tok c q := fun _ _ _ _ => rfl
  simp only [sh]
  intro k
  induction k with
  | zero =>
    intro _ tok cc
    constructor <;> exact Ideal.ofBits_zero_f32
  | succ k ih =>
    intro hk tok cc
    have hkt : k < k0_t8_loop.trips := by rw [trips_8]; omega
    have es := (st_k0_t8_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg9 X_arg18 (k0_pay9, k0_pay9) ⟨k, hkt⟩).trans (trip8_eq (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg9 X_arg18 ⟨k, hkt⟩ _)
    have es' : st_k0_t8 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 k0_t6 v72 X_arg3 X_arg9 X_arg18 (k0_pay9, k0_pay9) (k + 1) = _ := es
    rw [es', show 512 * (k + 1) = 512 * k + 512 by ring]
    refine gstep_apply hT _ _ _ _ _ _ _ _ _ xs _ _ (512 * k) ?_ ?_ ?_ ?_ ?_ ?_ ?_ ?_ (ih (by omega)) tok cc
    · intro tok r
      refine (read_at arg3.view _ _ _ _ _ (ix3 (0 : Fin 2) tok (⟨256 * k + r.val, by omega⟩ : Fin 1536)) (fun a => ?_)).trans ((hX _ _ _).trans ?_)
      · rw [off25_eq]; match a with
        | ⟨0, _⟩ => rfl
        | ⟨1, _⟩ => exact (Nat.zero_add _).symm
        | ⟨2, _⟩ => rfl
      · congr 1; show 2 * (256 * k + r.val) + 0 = _; omega
    · intro tok r
      refine (read_at arg3.view _ _ _ _ _ (ix3 (1 : Fin 2) tok (⟨256 * k + r.val, by omega⟩ : Fin 1536)) (fun a => ?_)).trans ((hX _ _ _).trans ?_)
      · rw [off26_eq]; match a with
        | ⟨0, _⟩ => rfl
        | ⟨1, _⟩ => exact (Nat.zero_add _).symm
        | ⟨2, _⟩ => rfl
      · congr 1; show 2 * (256 * k + r.val) + 1 = _; omega
    · intro q l
      refine (read_at arg9.view _ _ _ _ _ (ix3 (0 : Fin 1) (⟨512 * k + q.val, by omega⟩ : Fin 3072) (⟨256 * k0_t6.val + l.val, by omega⟩ : Fin 512)) (fun a => ?_)).trans (hW _ _)
      rw [(off22_eq _ _ a).1]; match a with
        | ⟨0, _⟩ => rfl
        | ⟨1, _⟩ => rfl
        | ⟨2, _⟩ => rfl
    · intro q l
      refine (read_at arg9.view _ _ _ _ _ (ix3 (0 : Fin 1) (⟨512 * k + q.val, by omega⟩ : Fin 3072) (⟨256 * k0_t6.val + (128 + l.val), by omega⟩ : Fin 512)) (fun a => ?_)).trans (hW _ _)
      rw [(off22_eq _ _ a).2]; match a with
        | ⟨0, _⟩ => rfl
        | ⟨1, _⟩ => rfl
        | ⟨2, _⟩ => exact (Nat.add_assoc _ _ _).symm
    · intro r l
      have hl := l.isLt
      have pt := (pat_up ⟨(i 1).val, hj⟩ k0_t6 r l).1
      subst e1 e2
      refine (read_at arg18.view _ _ _ _ _ (ix4 (0 : Fin 2) (⟨(i 1).val / 8, by omega⟩ : Fin 2) (⟨256 * k + r.val, by omega⟩ : Fin 1536) (⟨(k0_pay4 (BitVec.ofNat 32 (i 1).val) k0_pay419 k0_t6 (ix2 r l)).toNat % 128, Nat.mod_lt _ (by decide)⟩ : Fin 128)) (fun a => ?_)).trans ((hS _ _ _ ?_).trans ?_)
      · rw [off23_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 0 = _; omega
        · omega
    · intro r l
      have hl := l.isLt
      have pt := (pat_up ⟨(i 1).val, hj⟩ k0_t6 r l).2
      subst e1 e2
      refine (read_at arg18.view _ _ _ _ _ (ix4 (0 : Fin 2) (⟨(i 1).val / 8, by omega⟩ : Fin 2) (⟨256 * k + r.val, by omega⟩ : Fin 1536) (⟨(k0_pay5 (BitVec.ofNat 32 (i 1).val) k0_pay419 k0_t6 (ix2 r l)).toNat % 128, Nat.mod_lt _ (by decide)⟩ : Fin 128)) (fun a => ?_)).trans ((hS _ _ _ ?_).trans ?_)
      · rw [off23_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 0 = _; omega
        · omega
    · intro r l
      have hl := l.isLt
      have pt := (pat_up ⟨(i 1).val, hj⟩ k0_t6 r l).1
      subst e1 e2
      refine (read_at arg18.view _ _ _ _ _ (ix4 (1 : Fin 2) (⟨(i 1).val / 8, by omega⟩ : Fin 2) (⟨256 * k + r.val, by omega⟩ : Fin 1536) (⟨(k0_pay4 (BitVec.ofNat 32 (i 1).val) k0_pay419 k0_t6 (ix2 r l)).toNat % 128, Nat.mod_lt _ (by decide)⟩ : Fin 128)) (fun a => ?_)).trans ((hS _ _ _ ?_).trans ?_)
      · rw [off24_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 1 = _; omega
        · omega
    · intro r l
      have hl := l.isLt
      have pt := (pat_up ⟨(i 1).val, hj⟩ k0_t6 r l).2
      subst e1 e2
      refine (read_at arg18.view _ _ _ _ _ (ix4 (1 : Fin 2) (⟨(i 1).val / 8, by omega⟩ : Fin 2) (⟨256 * k + r.val, by omega⟩ : Fin 1536) (⟨(k0_pay5 (BitVec.ofNat 32 (i 1).val) k0_pay419 k0_t6 (ix2 r l)).toNat % 128, Nat.mod_lt _ (by decide)⟩ : Fin 128)) (fun a => ?_)).trans ((hS _ _ _ ?_).trans ?_)
      · rw [off24_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 1 = _; omega
        · omega

/-- The sums after `k` trips of `k0_t10`. -/
theorem loop10 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (k0_t9 : Fin k0_t9_loop.trips) (v70 : BitVec 32) (X_arg11 : BufTy.Contents (Elt Ideal) arg11.view.ty) (X_arg14 : BufTy.Contents (Elt Ideal) arg14.view.ty) (X_arg19 : BufTy.Contents (Elt Ideal) arg19.view.ty)
    (e2 : v28 = k0_pay419) (hT : TabOK v1 v3) (xs : ℕ → ℕ → EReal) (ws : ℕ → ℕ → BitVec 8) (ss : ℕ → ℕ → EReal)
    (hX : ∀ (p : Fin 2) (tok : Fin 48) (r : Fin 512), arg14.view.read (Elt Ideal) X_arg14 (ix3 p tok r) = xs tok.val (2 * r.val + p.val))
    (hW : ∀ (k : Fin 1024) (cc : Fin 1536), arg11.view.read (Elt Ideal) X_arg11 (ix3 (0 : Fin 1) k cc) = ws k.val cc.val)
    (hS : ∀ (p : Fin 2) (r : Fin 512) (l : Fin 128), l.val < 48 → arg19.view.read (Elt Ideal) X_arg19 (ix4 p (0 : Fin 1) r l) = ss (2 * r.val + p.val) l.val) :
    ∀ k ≤ 2, ∀ (tok : Fin 48) (cc : Fin 256),
      (st_k0_t10 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k0_t9 v70 X_arg11 X_arg14 X_arg19 (k0_pay16, k0_pay16) k).1 (ix2 tok cc)
          = ∑ q ∈ Finset.range (512 * k), term xs ws (fun k c => ss k (c / 32)) 0 tok.val (256 * k0_t9.val + cc.val) q
      ∧ (st_k0_t10 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k0_t9 v70 X_arg11 X_arg14 X_arg19 (k0_pay16, k0_pay16) k).2 (ix2 tok cc)
          = ∑ q ∈ Finset.range (512 * k), term xs ws (fun k c => ss k (c / 32)) 1 tok.val (256 * k0_t9.val + cc.val) q := by
  have ht : k0_t9.val < 6 := Nat.lt_of_lt_of_eq k0_t9.isLt trips_9
  have sh : ∀ (n tok c q : ℕ), term xs ws (fun k c => ss k (c / 32)) n tok (256 * k0_t9.val + c) q
      = term xs (fun k c => ws k (256 * k0_t9.val + c)) (fun k c => ss k ((256 * k0_t9.val + c) / 32)) n tok c q := fun _ _ _ _ => rfl
  simp only [sh]
  intro k
  induction k with
  | zero =>
    intro _ tok cc
    constructor <;> exact Ideal.ofBits_zero_f32
  | succ k ih =>
    intro hk tok cc
    have hkt : k < k0_t10_loop.trips := by rw [trips_10]; omega
    have es := (st_k0_t10_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k0_t9 v70 X_arg11 X_arg14 X_arg19 (k0_pay16, k0_pay16) ⟨k, hkt⟩).trans (trip10_eq (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k0_t9 v70 X_arg11 X_arg14 X_arg19 ⟨k, hkt⟩ _)
    have es' : st_k0_t10 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 k0_t9 v70 X_arg11 X_arg14 X_arg19 (k0_pay16, k0_pay16) (k + 1) = _ := es
    rw [es', show 512 * (k + 1) = 512 * k + 512 by ring]
    refine gstep_apply hT _ _ _ _ _ _ _ _ _ xs _ _ (512 * k) ?_ ?_ ?_ ?_ ?_ ?_ ?_ ?_ (ih (by omega)) tok cc
    · intro tok r
      refine (read_at arg14.view _ _ _ _ _ (ix3 (0 : Fin 2) tok (⟨256 * k + r.val, by omega⟩ : Fin 512)) (fun a => ?_)).trans ((hX _ _ _).trans ?_)
      · rw [off32_eq]; match a with
        | ⟨0, _⟩ => rfl
        | ⟨1, _⟩ => exact (Nat.zero_add _).symm
        | ⟨2, _⟩ => rfl
      · congr 1; show 2 * (256 * k + r.val) + 0 = _; omega
    · intro tok r
      refine (read_at arg14.view _ _ _ _ _ (ix3 (1 : Fin 2) tok (⟨256 * k + r.val, by omega⟩ : Fin 512)) (fun a => ?_)).trans ((hX _ _ _).trans ?_)
      · rw [off33_eq]; match a with
        | ⟨0, _⟩ => rfl
        | ⟨1, _⟩ => exact (Nat.zero_add _).symm
        | ⟨2, _⟩ => rfl
      · congr 1; show 2 * (256 * k + r.val) + 1 = _; omega
    · intro q l
      refine (read_at arg11.view _ _ _ _ _ (ix3 (0 : Fin 1) (⟨512 * k + q.val, by omega⟩ : Fin 1024) (⟨256 * k0_t9.val + l.val, by omega⟩ : Fin 1536)) (fun a => ?_)).trans (hW _ _)
      rw [(off29_eq _ _ a).1]; match a with
        | ⟨0, _⟩ => rfl
        | ⟨1, _⟩ => rfl
        | ⟨2, _⟩ => rfl
    · intro q l
      refine (read_at arg11.view _ _ _ _ _ (ix3 (0 : Fin 1) (⟨512 * k + q.val, by omega⟩ : Fin 1024) (⟨256 * k0_t9.val + (128 + l.val), by omega⟩ : Fin 1536)) (fun a => ?_)).trans (hW _ _)
      rw [(off29_eq _ _ a).2]; match a with
        | ⟨0, _⟩ => rfl
        | ⟨1, _⟩ => rfl
        | ⟨2, _⟩ => exact (Nat.add_assoc _ _ _).symm
    · intro r l
      have hl := l.isLt
      have pt := (pat_down k0_t9 r l).1
      subst e2
      refine (read_at arg19.view _ _ _ _ _ (ix4 (0 : Fin 2) (0 : Fin 1) (⟨256 * k + r.val, by omega⟩ : Fin 512) (⟨(k0_pay14 k0_pay419 k0_t9 (ix2 r l)).toNat % 128, Nat.mod_lt _ (by decide)⟩ : Fin 128)) (fun a => ?_)).trans ((hS _ _ _ ?_).trans ?_)
      · rw [off30_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 0 = _; omega
        · omega
    · intro r l
      have hl := l.isLt
      have pt := (pat_down k0_t9 r l).2
      subst e2
      refine (read_at arg19.view _ _ _ _ _ (ix4 (0 : Fin 2) (0 : Fin 1) (⟨256 * k + r.val, by omega⟩ : Fin 512) (⟨(k0_pay15 k0_pay419 k0_t9 (ix2 r l)).toNat % 128, Nat.mod_lt _ (by decide)⟩ : Fin 128)) (fun a => ?_)).trans ((hS _ _ _ ?_).trans ?_)
      · rw [off30_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 0 = _; omega
        · omega
    · intro r l
      have hl := l.isLt
      have pt := (pat_down k0_t9 r l).1
      subst e2
      refine (read_at arg19.view _ _ _ _ _ (ix4 (1 : Fin 2) (0 : Fin 1) (⟨256 * k + r.val, by omega⟩ : Fin 512) (⟨(k0_pay14 k0_pay419 k0_t9 (ix2 r l)).toNat % 128, Nat.mod_lt _ (by decide)⟩ : Fin 128)) (fun a => ?_)).trans ((hS _ _ _ ?_).trans ?_)
      · rw [off31_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 1 = _; omega
        · omega
    · intro r l
      have hl := l.isLt
      have pt := (pat_down k0_t9 r l).2
      subst e2
      refine (read_at arg19.view _ _ _ _ _ (ix4 (1 : Fin 2) (0 : Fin 1) (⟨256 * k + r.val, by omega⟩ : Fin 512) (⟨(k0_pay15 k0_pay419 k0_t9 (ix2 r l)).toNat % 128, Nat.mod_lt _ (by decide)⟩ : Fin 128)) (fun a => ?_)).trans ((hS _ _ _ ?_).trans ?_)
      · rw [off31_eq]; match a with
        | ⟨0, _⟩ => rfl
        | ⟨1, _⟩ => rfl
        | ⟨2, _⟩ => rfl
        | ⟨3, _⟩ => exact (Nat.zero_add _).symm
      · dsimp only at pt ⊢; rw [pt]; omega
      · dsimp only at pt ⊢; rw [pt]; congr 1
        · show 2 * (256 * k + r.val) + 1 = _; omega
        · omega

end Cert.KernelIdeal.Hand

end
-- ==== Proof.Ideal.Contents.lean ====
/-
  What the two tile loops of the body leave in the scratch buffers, idealized.
-/
module

public import proofs.«01_k».proof.Proof.Ideal.Values
public import proofs.«01_k».proof.Proof.Ideal.Tiles

@[expose] public section

set_option maxRecDepth 8192
set_option maxHeartbeats 1000000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

section generic
variable {sig' : RefSig} {κ : Kind} {sp : Space}

/-- A loop that writes, trip by trip, 256 columns of both halves. -/
theorem tile_all {N : ℕ} {e : EltTy} (v : View sig' κ sp (⟨3, ![2, 48, N]⟩ : Shape) e) (G : v.ty.Contents (Elt Ideal))
    (P : ℕ → List (View.Piece (Elt Ideal) (⟨3, ![2, 48, N]⟩ : Shape) e)) (n : ℕ) (val : Fin 2 → ℕ → ℕ → Elt Ideal e) (h0 : P 0 = [])
    (hs : ∀ k < n, (∀ (p : Fin 2) (tok : Fin 48) (c : Fin N), 256 * k ≤ c.val →
        v.read (Elt Ideal) (v.writes (Elt Ideal) G (P k)) (ix3 p tok c) = v.read (Elt Ideal) G (ix3 p tok c)) →
      ∃ (oA oB : Fin 3 → ℕ) (iA : _) (iB : _)
      (wA : (Rect.unit (s := (⟨3, ![2, 48, N]⟩ : Shape)) oA ![1, 48, 256] iA).shape.Idx → Elt Ideal e)
      (wB : (Rect.unit (s := (⟨3, ![2, 48, N]⟩ : Shape)) oB ![1, 48, 256] iB).shape.Idx → Elt Ideal e),
      P (k + 1) = ⟨Rect.unit oB ![1, 48, 256] iB, wB⟩ :: ⟨Rect.unit oA ![1, 48, 256] iA, wA⟩ :: P k
      ∧ oA = ![0, 0, 256 * k] ∧ oB = ![1, 0, 256 * k]
      ∧ (∀ (tok : Fin 48) (c : Fin 256), wA (ix3 (0 : Fin 1) tok c) = val 0 tok.val (256 * k + c.val))
      ∧ (∀ (tok : Fin 48) (c : Fin 256), wB (ix3 (0 : Fin 1) tok c) = val 1 tok.val (256 * k + c.val))) :
    ∀ k ≤ n, (∀ (p : Fin 2) (tok : Fin 48) (c : Fin N), c.val < 256 * k →
        v.read (Elt Ideal) (v.writes (Elt Ideal) G (P k)) (ix3 p tok c) = val p tok.val c.val)
      ∧ (∀ (p : Fin 2) (tok : Fin 48) (c : Fin N), 256 * k ≤ c.val →
        v.read (Elt Ideal) (v.writes (Elt Ideal) G (P k)) (ix3 p tok c) = v.read (Elt Ideal) G (ix3 p tok c)) := by
  intro k
  induction k with
  | zero =>
    intro _
    exact ⟨fun p tok c h => absurd h (by omega), fun p tok c _ => by rw [h0]; rfl⟩
  | succ k ih =>
    intro hk
    obtain ⟨ih1, ih2⟩ := ih (by omega)
    obtain ⟨oA, oB, iA, iB, wA, wB, hP, hA, hB, hwA, hwB⟩ := hs k (by omega) ih2
    rw [hP]
    constructor
    · intro p tok c hc
      by_cases hc' : c.val < 256 * k
      · rw [View.read_writes_cons_unit_of_not_mem v G iB wB _ _ hB 2 (Or.inl (by show c.val < 256 * k; exact hc')),
          View.read_writes_cons_unit_of_not_mem v G iA wA _ _ hA 2 (Or.inl (by show c.val < 256 * k; exact hc'))]
        exact ih1 p tok c hc'
      · by_cases hp : p.val = 1
        · rw [View.read_writes_cons_unit_of_mem v G iB wB _ _ (ix3 (0 : Fin 1) tok (⟨c.val - 256 * k, by omega⟩ : Fin 256)) hB (fun b => by
            match b with
            | ⟨0, _⟩ => exact hp
            | ⟨1, _⟩ => exact (Nat.zero_add _).symm
            | ⟨2, _⟩ => show c.val = 256 * k + (c.val - 256 * k); omega), hwB]
          obtain rfl : p = 1 := Fin.ext hp
          congr 1
          dsimp only; omega
        · have hp0 : p.val = 0 := by omega
          rw [View.read_writes_cons_unit_of_not_mem v G iB wB _ _ hB 0 (Or.inl (by show p.val < 1; omega)),
            View.read_writes_cons_unit_of_mem v G iA wA _ _ (ix3 (0 : Fin 1) tok (⟨c.val - 256 * k, by omega⟩ : Fin 256)) hA (fun b => by
            match b with
            | ⟨0, _⟩ => exact hp0
            | ⟨1, _⟩ => exact (Nat.zero_add _).symm
            | ⟨2, _⟩ => show c.val = 256 * k + (c.val - 256 * k); omega), hwA]
          obtain rfl : p = 0 := Fin.ext hp0
          congr 1
          dsimp only; omega
    · intro p tok c hc
      rw [View.read_writes_cons_unit_of_not_mem v G iB wB _ _ hB 2 (Or.inr (by show 256 * k + 256 ≤ c.val; omega)),
        View.read_writes_cons_unit_of_not_mem v G iA wA _ _ hA 2 (Or.inr (by show 256 * k + 256 ≤ c.val; omega))]
      exact ih2 p tok c (by omega)

theorem cast_blk {α : Type} (x : S48x256.Idx → α) (h) (tok : Fin 48) (c : Fin 256) :
    shapeCast S1x48x256 x h (ix3 (0 : Fin 1) tok c) = x (ix2 tok c) :=
  shapeCast_apply _ _ _ (ix2 tok c) (by
    rw [Shape.rowMajor_val_three, Shape.rowMajor_val_two]
    show tok.val * 256 + c.val = (0 * 48 + tok.val) * 256 + c.val
    omega)

theorem cast_blk' {α : Type} (x : S1x48x256.Idx → α) (h) (tok : Fin 48) (c : Fin 256) :
    shapeCast S48x256 x h (ix2 tok c) = x (ix3 (0 : Fin 1) tok c) :=
  shapeCast_apply _ _ _ (ix3 (0 : Fin 1) tok c) (by
    rw [Shape.rowMajor_val_three, Shape.rowMajor_val_two]
    show (0 * 48 + tok.val) * 256 + c.val = tok.val * 256 + c.val
    omega)

end generic

/-- The sum of the first `m` terms of a projection. -/
def proj (xs : ℕ → ℕ → EReal) (ws : ℕ → ℕ → BitVec 8) (ss : ℕ → ℕ → EReal) (m n tok c : ℕ) : EReal :=
  ∑ q ∈ Finset.range m, term xs ws ss n tok c q

/-- The gated product of two numbers. -/
def gated (g u : EReal) : EReal := g * Ideal.logistic g * u

/-- A hidden value: the gated product of the two projections. -/
def hid (xs : ℕ → ℕ → EReal) (wg : ℕ → ℕ → BitVec 8) (sg : ℕ → ℕ → EReal) (wu : ℕ → ℕ → BitVec 8) (su : ℕ → ℕ → EReal) (n tok c : ℕ) : EReal :=
  gated (proj xs wg sg 3072 n tok c) (proj xs wu su 3072 n tok c)

/-- The hidden values `k0_t6` leaves. -/
theorem hidden_t6 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt Ideal) arg3.view.ty) (X_arg7 : BufTy.Contents (Elt Ideal) arg7.view.ty) (X_arg9 : BufTy.Contents (Elt Ideal) arg9.view.ty) (X_arg17 : BufTy.Contents (Elt Ideal) arg17.view.ty) (X_arg18 : BufTy.Contents (Elt Ideal) arg18.view.ty) (G_arg14 : BufTy.Contents (Elt Ideal) arg14.view.ty)
    (e1 : arg1 = BitVec.ofNat 32 (i 1).val) (e2 : v28 = k0_pay419) (hT : TabOK v1 v3)
    (xs : ℕ → ℕ → EReal) (wg : ℕ → ℕ → BitVec 8) (sg : ℕ → ℕ → EReal) (wu : ℕ → ℕ → BitVec 8) (su : ℕ → ℕ → EReal)
    (hX : ∀ (p : Fin 2) (tok : Fin 48) (r : Fin 1536), arg3.view.read (Elt Ideal) X_arg3 (ix3 p tok r) = xs tok.val (2 * r.val + p.val))
    (hWg : ∀ (k : Fin 3072) (cc : Fin 512), arg7.view.read (Elt Ideal) X_arg7 (ix3 (0 : Fin 1) k cc) = wg k.val cc.val)
    (hSg : ∀ (p : Fin 2) (r : Fin 1536) (l : Fin 128), 128 * ((i 1).val / 8) + l.val < 224 → arg17.view.read (Elt Ideal) X_arg17 (ix4 p (⟨(i 1).val / 8, by have h : (i 1).val < 14 := (i 1).isLt; omega⟩ : Fin 2) r l) = sg (2 * r.val + p.val) (128 * ((i 1).val / 8) + l.val))
    (hWu : ∀ (k : Fin 3072) (cc : Fin 512), arg9.view.read (Elt Ideal) X_arg9 (ix3 (0 : Fin 1) k cc) = wu k.val cc.val)
    (hSu : ∀ (p : Fin 2) (r : Fin 1536) (l : Fin 128), 128 * ((i 1).val / 8) + l.val < 224 → arg18.view.read (Elt Ideal) X_arg18 (ix4 p (⟨(i 1).val / 8, by have h : (i 1).val < 14 := (i 1).isLt; omega⟩ : Fin 2) r l) = su (2 * r.val + p.val) (128 * ((i 1).val / 8) + l.val)) (p : Fin 2) (tok : Fin 48) (cc : Fin 512) :
    arg14.view.read (Elt Ideal) (arg14.view.writes (Elt Ideal) G_arg14 (pb_k0_t6 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G_arg14 2)) (ix3 p tok cc)
      = hid xs wg (fun k c => sg k (16 * (i 1).val + c / 32)) wu (fun k c => su k (16 * (i 1).val + c / 32)) p.val tok.val cc.val := by
  refine (tile_all (N := 512) (e := .bf16) arg14.view G_arg14 (fun k => pb_k0_t6 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G_arg14 k) 2
    (fun p tok cc => hid xs wg (fun k c => sg k (16 * (i 1).val + c / 32)) wu (fun k c => su k (16 * (i 1).val + c / 32)) p.val tok cc) rfl ?_ 2 le_rfl).1 p tok cc (by omega)
  intro k hk _
  have hkt : k < k0_t6_loop.trips := by rw [trips_6]; exact hk
  iterate 6 apply Exists.intro
  refine ⟨?_, funext (off27_eq ⟨k, hkt⟩), funext (off28_eq ⟨k, hkt⟩), ?_, ?_⟩
  · refine (pb_k0_t6_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G_arg14 ⟨k, hkt⟩).trans ?_
    unfold trip_k0_t6
    rfl
  · intro tok c0
    unfold k0_pay12
    refine (cast_blk _ shapeCasts_S48x256_S1x48x256 tok c0).trans ?_
    exact congrArg₂ gated (loop7 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 ⟨k, hkt⟩ _ X_arg3 X_arg7 X_arg17 e1 e2 hT xs wg sg hX hWg hSg 6 le_rfl tok c0).1 (loop8 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 ⟨k, hkt⟩ _ X_arg3 X_arg9 X_arg18 e1 e2 hT xs wu su hX hWu hSu 6 le_rfl tok c0).1
  · intro tok c0
    unfold k0_pay13
    refine (cast_blk _ shapeCasts_S48x256_S1x48x256 tok c0).trans ?_
    exact congrArg₂ gated (loop7 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 ⟨k, hkt⟩ _ X_arg3 X_arg7 X_arg17 e1 e2 hT xs wg sg hX hWg hSg 6 le_rfl tok c0).2 (loop8 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 ⟨k, hkt⟩ _ X_arg3 X_arg9 X_arg18 e1 e2 hT xs wu su hX hWu hSu 6 le_rfl tok c0).2

/-- The sums `k0_t9` leaves: the old ones and the chunk's. -/
theorem down_t9 (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole) (v1 : IVec S32x128 8) (v3 : IVec S32x128 8) (v28 : IVec S256x128 32) (X_arg11 : BufTy.Contents (Elt Ideal) arg11.view.ty) (X_arg14 : BufTy.Contents (Elt Ideal) arg14.view.ty) (X_arg19 : BufTy.Contents (Elt Ideal) arg19.view.ty) (G_arg15 : BufTy.Contents (Elt Ideal) arg15.view.ty)
    (e2 : v28 = k0_pay419) (hT : TabOK v1 v3)
    (xs : ℕ → ℕ → EReal) (ws : ℕ → ℕ → BitVec 8) (ss : ℕ → ℕ → EReal)
    (hX : ∀ (p : Fin 2) (tok : Fin 48) (r : Fin 512), arg14.view.read (Elt Ideal) X_arg14 (ix3 p tok r) = xs tok.val (2 * r.val + p.val))
    (hW : ∀ (k : Fin 1024) (cc : Fin 1536), arg11.view.read (Elt Ideal) X_arg11 (ix3 (0 : Fin 1) k cc) = ws k.val cc.val)
    (hS : ∀ (p : Fin 2) (r : Fin 512) (l : Fin 128), l.val < 48 → arg19.view.read (Elt Ideal) X_arg19 (ix4 p (0 : Fin 1) r l) = ss (2 * r.val + p.val) l.val)
    (p : Fin 2) (tok : Fin 48) (cc : Fin 1536) :
    arg15.view.read (Elt Ideal) (arg15.view.writes (Elt Ideal) G_arg15 (pb_k0_t9 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G_arg15 6)) (ix3 p tok cc)
      = arg15.view.read (Elt Ideal) G_arg15 (ix3 p tok cc) + proj xs ws (fun k c => ss k (c / 32)) 1024 p.val tok.val cc.val := by
  have main := (tile_all (N := 1536) (e := .f32) arg15.view G_arg15 (fun k => pb_k0_t9 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G_arg15 k) 6
    (fun p tok cc => if h : tok < 48 ∧ cc < 1536 then arg15.view.read (Elt Ideal) G_arg15 (ix3 p (⟨tok, h.1⟩ : Fin 48) (⟨cc, h.2⟩ : Fin 1536)) + proj xs ws (fun k c => ss k (c / 32)) 1024 p.val tok cc else (0 : EReal)) rfl ?_ 6 le_rfl).1 p tok cc (by omega)
  · exact main.trans (dif_pos ⟨tok.isLt, cc.isLt⟩)
  intro k hk hold
  have hkt : k < k0_t9_loop.trips := by rw [trips_9]; exact hk
  iterate 6 apply Exists.intro
  refine ⟨?_, funext (off34_eq ⟨k, hkt⟩), funext (off35_eq ⟨k, hkt⟩), ?_, ?_⟩
  · refine (pb_k0_t9_succ (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 X_arg14 X_arg19 G_arg15 ⟨k, hkt⟩).trans ?_
    unfold trip_k0_t9
    rfl
  · intro tok c0
    have hc := c0.isLt
    unfold k0_pay19
    refine (cast_blk _ shapeCasts_S48x256_S1x48x256 tok c0).trans ?_
    refine Eq.trans ?_ (dif_pos ⟨tok.isLt, by omega⟩).symm
    refine congrArg₂ (· + ·) ((cast_blk' _ shapeCasts_S1x48x256_S48x256 tok c0).trans ?_) (loop10 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 ⟨k, hkt⟩ _ X_arg11 X_arg14 X_arg19 e2 hT xs ws ss hX hW hS 2 le_rfl tok c0).1
    refine (read_at arg15.view _ _ _ _ _ (ix3 (0 : Fin 2) tok (⟨256 * k + c0.val, by omega⟩ : Fin 1536)) (fun a => ?_)).trans (hold _ _ _ (Nat.le_add_right _ _))
    rw [off34_eq]; match a with
      | ⟨0, _⟩ => rfl
      | ⟨1, _⟩ => exact (Nat.zero_add _).symm
      | ⟨2, _⟩ => rfl
  · intro tok c0
    have hc := c0.isLt
    unfold k0_pay20
    refine (cast_blk _ shapeCasts_S48x256_S1x48x256 tok c0).trans ?_
    refine Eq.trans ?_ (dif_pos ⟨tok.isLt, by omega⟩).symm
    refine congrArg₂ (· + ·) ((cast_blk' _ shapeCasts_S1x48x256_S48x256 tok c0).trans ?_) (loop10 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 ⟨k, hkt⟩ _ X_arg11 X_arg14 X_arg19 e2 hT xs ws ss hX hW hS 2 le_rfl tok c0).2
    refine (read_at arg15.view _ _ _ _ _ (ix3 (1 : Fin 2) tok (⟨256 * k + c0.val, by omega⟩ : Fin 1536)) (fun a => ?_)).trans ?_
    · rw [off35_eq]; match a with
      | ⟨0, _⟩ => rfl
      | ⟨1, _⟩ => exact (Nat.zero_add _).symm
      | ⟨2, _⟩ => rfl
    · exact hold _ _ _ (Nat.le_add_right _ _)

end Cert.KernelIdeal.Hand

end
-- ==== Proof.Ideal.Chunk.lean ====
/-
  What one grid point leaves, idealized: the repacked scales, and the partial sums of the down projection.
-/
module

public import proofs.«01_k».proof.Proof.Ideal.Contents
public import proofs.«01_k».proof.Proof.Ideal.Body

@[expose] public section

set_option maxRecDepth 8192
set_option maxHeartbeats 1000000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

/-- The hidden values, the two halves interleaved. -/
def hseq (xs : ℕ → ℕ → EReal) (wg : ℕ → ℕ → BitVec 8) (sg : ℕ → ℕ → EReal) (wu : ℕ → ℕ → BitVec 8) (su : ℕ → ℕ → EReal) (j tok q : ℕ) : EReal :=
  hid xs wg (fun k c => sg k (16 * j + c / 32)) wu (fun k c => su k (16 * j + c / 32)) (q % 2) tok (q / 2)

/-- What a chunk adds to a partial sum. -/
def chunkSum (xs : ℕ → ℕ → EReal) (wg : ℕ → ℕ → BitVec 8) (sg : ℕ → ℕ → EReal) (wu : ℕ → ℕ → BitVec 8) (su : ℕ → ℕ → EReal)
    (wd : ℕ → ℕ → BitVec 8) (sd : ℕ → ℕ → EReal) (j n tok c : ℕ) : EReal :=
  proj (hseq xs wg sg wu su j) wd (fun k c => sd k (c / 32)) 1024 n tok c

/-- The partial sums after a chunk. -/
theorem chunk (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (arg1 : BitVec 32) (v1 : IVec S32x128 8) (v3 : IVec S32x128 8) (v28 : IVec S256x128 32) (v55 : BitVec 32) (X_arg3 : BufTy.Contents (Elt Ideal) arg3.view.ty) (X_arg7 : BufTy.Contents (Elt Ideal) arg7.view.ty) (X_arg9 : BufTy.Contents (Elt Ideal) arg9.view.ty) (X_arg17 : BufTy.Contents (Elt Ideal) arg17.view.ty) (X_arg18 : BufTy.Contents (Elt Ideal) arg18.view.ty) (G_arg14 : BufTy.Contents (Elt Ideal) arg14.view.ty) (X_arg11 : BufTy.Contents (Elt Ideal) arg11.view.ty) (G_arg15 : BufTy.Contents (Elt Ideal) arg15.view.ty) (X_arg12 : BufTy.Contents (Elt Ideal) arg12.view.ty) (G_arg16 : BufTy.Contents (Elt Ideal) arg16.view.ty) (G_arg19 : BufTy.Contents (Elt Ideal) arg19.view.ty)
    (e1 : arg1 = BitVec.ofNat 32 (i 1).val) (e2 : v28 = k0_pay419) (hT : TabOK v1 v3)
    (xs : ℕ → ℕ → EReal) (wg : ℕ → ℕ → BitVec 8) (sg : ℕ → ℕ → EReal) (wu : ℕ → ℕ → BitVec 8) (su : ℕ → ℕ → EReal) (wd : ℕ → ℕ → BitVec 8) (sd : ℕ → ℕ → EReal)
    (hX : ∀ (p : Fin 2) (tok : Fin 48) (r : Fin 1536), arg3.view.read (Elt Ideal) X_arg3 (ix3 p tok r) = xs tok.val (2 * r.val + p.val))
    (hWg : ∀ (k : Fin 3072) (cc : Fin 512), arg7.view.read (Elt Ideal) X_arg7 (ix3 (0 : Fin 1) k cc) = wg k.val cc.val)
    (hWu : ∀ (k : Fin 3072) (cc : Fin 512), arg9.view.read (Elt Ideal) X_arg9 (ix3 (0 : Fin 1) k cc) = wu k.val cc.val)
    (hWd : ∀ (k : Fin 1024) (cc : Fin 1536), arg11.view.read (Elt Ideal) X_arg11 (ix3 (0 : Fin 1) k cc) = wd k.val cc.val)
    (hAd : ∀ (k : Fin 1024) (cc : Fin 48), arg12.view.read (Elt Ideal) X_arg12 (ix3 (0 : Fin 1) k cc) = sd k.val cc.val)
    (hSg : ∀ (p : Fin 2) (r : Fin 1536) (l : Fin 128), 128 * ((i 1).val / 8) + l.val < 224 → arg17.view.read (Elt Ideal) X_arg17 (ix4 p (⟨(i 1).val / 8, by have h : (i 1).val < 14 := (i 1).isLt; omega⟩ : Fin 2) r l) = sg (2 * r.val + p.val) (128 * ((i 1).val / 8) + l.val))
    (hSu : ∀ (p : Fin 2) (r : Fin 1536) (l : Fin 128), 128 * ((i 1).val / 8) + l.val < 224 → arg18.view.read (Elt Ideal) X_arg18 (ix4 p (⟨(i 1).val / 8, by have h : (i 1).val < 14 := (i 1).isLt; omega⟩ : Fin 2) r l) = su (2 * r.val + p.val) (128 * ((i 1).val / 8) + l.val))
    (n5 n6 n9 : ℕ) (h5 : n5 = 32) (h6 : n6 = 2) (h9 : n9 = 6) (p : Fin 2) (tok : Fin 48) (cc : Fin 1536) :
    arg15.view.read (Elt Ideal) (arg15.view.writes (Elt Ideal) G_arg15 (pb_k0_t9 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 (arg14.view.writes (Elt Ideal) G_arg14 (pb_k0_t6 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G_arg14 n6)) (arg19.view.writes (Elt Ideal) G_arg19 (pb_k0_t5 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 G_arg16 G_arg19 n5).2) G_arg15 n9)) (ix3 p tok cc)
      = arg15.view.read (Elt Ideal) G_arg15 (ix3 p tok cc) + chunkSum xs wg sg wu su wd sd (i 1).val p.val tok.val cc.val := by
  subst h5 h6 h9
  refine down_t9 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 v1 v3 v28 X_arg11 _ _ G_arg15 e2 hT (hseq xs wg sg wu su (i 1).val) wd sd ?_ hWd ?_ p tok cc
  · intro p tok r
    refine (hidden_t6 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg1 v1 v3 v28 v55 X_arg3 X_arg7 X_arg9 X_arg17 X_arg18 G_arg14 e1 e2 hT xs wg sg wu su hX hWg hSg hWu hSu p tok r).trans ?_
    unfold hseq
    rw [show (2 * r.val + p.val) % 2 = p.val by omega, show (2 * r.val + p.val) / 2 = r.val by omega]
  · intro p r l hl
    exact ((packed_t5 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 X_arg12 G_arg16 G_arg19).1 p r l hl).trans ((hAd _ _).trans (by congr 1; exact Nat.zero_add _))

/-- The scales repacked by `k0_t1` and `k0_t3`. -/
theorem packed_17 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (k0_h2 : k0_cond2 i = 1#1) (X_arg8 : BufTy.Contents (Elt Ideal) arg8.view.ty) (G_arg16 : BufTy.Contents (Elt Ideal) arg16.view.ty) (G_arg17 : BufTy.Contents (Elt Ideal) arg17.view.ty) (G' : BufTy.Contents (Elt Ideal) arg16.view.ty) (ss : ℕ → ℕ → EReal)
    (hA : ∀ (k : Fin 3072) (cc : Fin 224), arg8.view.read (Elt Ideal) X_arg8 (ix3 (0 : Fin 1) k cc) = ss k.val cc.val)
    (n1 n3 : ℕ) (h1 : n1 = 96) (h3 : n3 = 96) (p : Fin 2) (t : Fin 2) (r : Fin 1536) (l : Fin 128) (hl : 128 * t.val + l.val < 224) :
    arg17.view.read (Elt Ideal) (arg17.view.writes (Elt Ideal) G_arg17 ((pb_k0_t3 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G' (arg17.view.writes (Elt Ideal) G_arg17 (pb_k0_t1 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 n1).2) n3).2 ++ (pb_k0_t1 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 n1).2)) (ix4 p t r l)
      = ss (2 * r.val + p.val) (128 * t.val + l.val) := by
  subst h1 h3
  rw [View.writes_append]
  have h3 := packed_t3 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G' (arg17.view.writes (Elt Ideal) G_arg17 (pb_k0_t1 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17 96).2)
  have h1 := packed_t1 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg8 G_arg16 G_arg17
  by_cases ht : t = 1
  · subst ht
    exact (h3.1 p r l (by have : ((1 : Fin 2).val = 1) := rfl; omega)).trans (hA _ _)
  · refine (h3.2 p t r l ht).trans ?_
    obtain rfl : t = 0 := by omega
    exact (h1.1 p r l l.isLt).trans (hA _ _)

/-- The scales repacked by `k0_t2` and `k0_t4`. -/
theorem packed_18 (𝒱 : Variants) (c : Dev nD) (bd : Option 𝒱.V) (b : grid0.Bounds) (i : grid0.Static) (arg0 : BitVec 32) (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole) (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole) (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole) (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole) (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole) (arg18 : Memref sig .tc .vmem S2x2x1536x128 .bf16) (harg18 : arg18.IsWhole) (arg19 : Memref sig .tc .vmem S2x1x512x128 .bf16) (harg19 : arg19.IsWhole) (k0_h2 : k0_cond2 i = 1#1) (X_arg10 : BufTy.Contents (Elt Ideal) arg10.view.ty) (G_arg16 : BufTy.Contents (Elt Ideal) arg16.view.ty) (G_arg18 : BufTy.Contents (Elt Ideal) arg18.view.ty) (G' : BufTy.Contents (Elt Ideal) arg16.view.ty) (ss : ℕ → ℕ → EReal)
    (hA : ∀ (k : Fin 3072) (cc : Fin 224), arg10.view.read (Elt Ideal) X_arg10 (ix3 (0 : Fin 1) k cc) = ss k.val cc.val)
    (n1 n3 : ℕ) (h1 : n1 = 96) (h3 : n3 = 96) (p : Fin 2) (t : Fin 2) (r : Fin 1536) (l : Fin 128) (hl : 128 * t.val + l.val < 224) :
    arg18.view.read (Elt Ideal) (arg18.view.writes (Elt Ideal) G_arg18 ((pb_k0_t4 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G' (arg18.view.writes (Elt Ideal) G_arg18 (pb_k0_t2 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 n1).2) n3).2 ++ (pb_k0_t2 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 n1).2)) (ix4 p t r l)
      = ss (2 * r.val + p.val) (128 * t.val + l.val) := by
  subst h1 h3
  rw [View.writes_append]
  have h3 := packed_t4 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G' (arg18.view.writes (Elt Ideal) G_arg18 (pb_k0_t2 (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18 96).2)
  have h1 := packed_t2 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 k0_h2 X_arg10 G_arg16 G_arg18
  by_cases ht : t = 1
  · subst ht
    exact (h3.1 p r l (by have : ((1 : Fin 2).val = 1) := rfl; omega)).trans (hA _ _)
  · refine (h3.2 p t r l ht).trans ?_
    obtain rfl : t = 0 := by omega
    exact (h1.1 p r l l.isLt).trans (hA _ _)

end Cert.KernelIdeal.Hand

end
-- ==== Proof.Ideal.Weights.lean ====
/-
  The routing weights, idealized: the weight of a token for an expert is the sum of the probabilities of its two
  choices that name the expert; a token no choice of which names it adds nothing.
-/
module

public import proofs.«01_k».proof.Proof.Ideal.Chunk

@[expose] public section

set_option maxRecDepth 8192
set_option maxHeartbeats 400000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

/-- The weight of a token for expert `e`. -/
def wgt (ids : ℕ → Fin 2 → BitVec 32) (pw : ℕ → Fin 2 → EReal) (e : BitVec 32) (tok : ℕ) : EReal :=
  ∑ a : Fin 2, if ids tok a = e then pw tok a else 0

theorem pay412_apply (ids : Vec Ideal S48x2 .i32) (e : BitVec 32) (tok : Fin 48) (a : Fin 2) :
    k0_pay412 (F := Ideal) ids e (ix2 tok a) = BitVec.ofBool (decide (ids (ix2 tok a) = e)) := by
  unfold k0_pay412
  show IntOp.cmpi .eq (shapeCast S48x2 ids shapeCasts_S48x2_S48x2 (ix2 tok a)) e = _
  rw [shapeCast_apply _ _ _ (ix2 tok a) rfl]
  rfl

theorem lift_48 (h : S48x2.Reduces [1] S48) (tok : Fin 48) (k : Fin 2) : h.lift (ix1 tok) k = ix2 tok k :=
  funext fun b => match b with
    | ⟨0, _⟩ => rfl
    | ⟨1, _⟩ => rfl

theorem pay413_apply (ids : Vec Ideal S48x2 .i32) (e : BitVec 32) (pw : Vec Ideal S48x2 .f32) (tok : Fin 48) :
    k0_pay413 (F := Ideal) ids e pw (ix2 tok (0 : Fin 1)) = ∑ a : Fin 2, if ids (ix2 tok a) = e then pw (ix2 tok a) else 0 := by
  unfold k0_pay413
  refine (shapeCast_apply _ _ _ (ix1 tok) (by
    rw [Shape.rowMajor_val_two, Shape.rowMajor_val_one]
    show tok.val = tok.val * 1 + 0
    omega)).trans ?_
  refine (Ideal.multiReduction_add_single _ _ _ _ _ _).trans (Finset.sum_congr rfl fun (a : Fin 2) _ => ?_)
  refine (congrArg _ (lift_48 reduces_S48x2_S48 tok a)).trans ?_
  show Scalar.select (k0_pay412 (F := Ideal) ids e (ix2 tok a)) (shapeCast S48x2 pw shapeCasts_S48x2_S48x2 (ix2 tok a)) (FloatOps.ofBits (F := Ideal) .f32 0x00000000#32) = _
  rw [pay412_apply, shapeCast_apply _ _ _ (ix2 tok a) rfl]
  by_cases h : ids (ix2 tok a) = e
  · rw [if_pos h, decide_eq_true h]; rfl
  · rw [if_neg h, decide_eq_false h]; exact Ideal.ofBits_zero_f32

theorem pay414_apply (ids : Vec Ideal S48x2 .i32) (e : BitVec 32) (tok : Fin 48) :
    k0_pay414 (F := Ideal) ids e (ix2 tok (0 : Fin 1)) = BitVec.ofBool (decide (∃ a : Fin 2, ids (ix2 tok a) = e)) := by
  have one : FloatOps.ofBits (F := Ideal) .f32 0x3F800000#32 = (1 : EReal) := Ideal.ofBits_one_f32
  have zero : FloatOps.ofBits (F := Ideal) .f32 0x00000000#32 = (0 : EReal) := Ideal.ofBits_zero_f32
  have bot : FloatOps.ofBits (F := Ideal) .f32 0xFF800000#32 = (⊥ : EReal) := by
    show Ideal.ofBits .f32 0xFF800000#32 = ⊥
    simp [Ideal.ofBits, Ideal.ieee]
  unfold k0_pay414
  show Ideal.cmp .ogt (shapeCast S48x1 _ shapeCasts_S48_S48x1 (ix2 tok (0 : Fin 1))) (FloatOps.ofBits (F := Ideal) .f32 0x00000000#32) = _
  rw [shapeCast_apply _ _ _ (ix1 tok) (by
    rw [Shape.rowMajor_val_two, Shape.rowMajor_val_one]
    show tok.val = tok.val * 1 + 0
    omega)]
  refine (congrArg (fun x => Ideal.cmp .ogt x (FloatOps.ofBits (F := Ideal) .f32 0x00000000#32)) (Ideal.multiReduction_maximumf_single _ _ _ _ _ _)).trans ?_
  unfold Ideal.cmp
  rw [bot]
  dsimp only
  have el : ∀ a : Fin 2, select (k0_pay412 (F := Ideal) ids e) (broadcast S48x2 (Scalar.ofBits (F := Ideal) .f32 0x3F800000#32)) (broadcast S48x2 (Scalar.ofBits (F := Ideal) .f32 0x00000000#32)) (ix2 tok a)
      = if ids (ix2 tok a) = e then (1 : EReal) else 0 := fun a => by
    show Scalar.select (k0_pay412 (F := Ideal) ids e (ix2 tok a)) (FloatOps.ofBits (F := Ideal) .f32 0x3F800000#32) (FloatOps.ofBits (F := Ideal) .f32 0x00000000#32) = _
    rw [pay412_apply, one, zero]
    by_cases h : ids (ix2 tok a) = e
    · rw [if_pos h, decide_eq_true h]; rfl
    · rw [if_neg h, decide_eq_false h]; rfl
  congr 1
  rw [decide_eq_decide, Finset.lt_fold_max]
  constructor
  · rintro (h | ⟨(a : Fin 2), _, h⟩)
    · exact absurd h not_lt_bot
    · refine ⟨a, ?_⟩
      by_contra hn
      have e' := (congrArg _ (lift_48 reduces_S48x2_S48 tok a)).trans (el a)
      rw [if_neg hn] at e'
      exact lt_irrefl _ (lt_of_eq_of_lt zero.symm (lt_of_lt_of_eq h e'))
  · rintro ⟨a, h⟩
    refine Or.inr ⟨a, Finset.mem_univ _, ?_⟩
    have e' := (congrArg _ (lift_48 reduces_S48x2_S48 tok a)).trans (el a)
    rw [if_pos h] at e'
    exact lt_of_eq_of_lt zero (lt_of_lt_of_eq zero_lt_one e'.symm)

theorem cast_row {α : Type} (x : S48x1536.Idx → α) (h) (tok : Fin 48) (c : Fin 1536) :
    shapeCast S1x48x1536 x h (ix3 (0 : Fin 1) tok c) = x (ix2 tok c) :=
  shapeCast_apply _ _ _ (ix2 tok c) (by
    rw [Shape.rowMajor_val_three, Shape.rowMajor_val_two]
    show tok.val * 1536 + c.val = (0 * 48 + tok.val) * 1536 + c.val
    omega)

theorem cast_row' {α : Type} (x : S1x48x1536.Idx → α) (h) (tok : Fin 48) (c : Fin 1536) :
    shapeCast S48x1536 x h (ix2 tok c) = x (ix3 (0 : Fin 1) tok c) :=
  shapeCast_apply _ _ _ (ix3 (0 : Fin 1) tok c) (by
    rw [Shape.rowMajor_val_three, Shape.rowMajor_val_two]
    show (0 * 48 + tok.val) * 1536 + c.val = tok.val * 1536 + c.val
    omega)

theorem bcol {α : Type} (x : S48x1.Idx → α) (h) (tok : Fin 48) (c : Fin 1536) :
    broadcastTo S48x1536 x h (ix2 tok c) = x (ix2 tok (0 : Fin 1)) :=
  congrArg x (funext fun b => match b with
    | ⟨0, _⟩ => rfl
    | ⟨1, _⟩ => rfl)

/-- The contribution selected by the routing mask. -/
theorem sel_apply (ids : Vec Ideal S48x2 .i32) (e : BitVec 32) (pw : Vec Ideal S48x2 .f32) (d : EReal) (tok : Fin 48) :
    Scalar.select (k0_pay414 (F := Ideal) ids e (ix2 tok (0 : Fin 1))) (d * k0_pay413 (F := Ideal) ids e pw (ix2 tok (0 : Fin 1))) (0 : EReal)
      = d * ∑ a : Fin 2, if ids (ix2 tok a) = e then pw (ix2 tok a) else 0 := by
  rw [pay414_apply, pay413_apply]
  by_cases h : ∃ a : Fin 2, ids (ix2 tok a) = e
  · rw [decide_eq_true h]; rfl
  · rw [decide_eq_false h]
    have h0 : (∑ a : Fin 2, if ids (ix2 tok a) = e then pw (ix2 tok a) else 0) = (0 : EReal) :=
      Finset.sum_eq_zero fun a _ => if_neg fun ha => h ⟨a, ha⟩
    rw [h0, mul_zero]; rfl

theorem pay415_apply (ids : Vec Ideal S48x2 .i32) (e : BitVec 32) (pw : Vec Ideal S48x2 .f32) (o d : Vec Ideal S1x48x1536 .f32) (tok : Fin 48) (c : Fin 1536) :
    k0_pay415 (F := Ideal) ids e pw o d (ix3 (0 : Fin 1) tok c)
      = o (ix3 (0 : Fin 1) tok c) + d (ix3 (0 : Fin 1) tok c) * ∑ a : Fin 2, if ids (ix2 tok a) = e then pw (ix2 tok a) else 0 := by
  unfold k0_pay415
  refine (cast_row _ shapeCasts_S48x1536_S1x48x1536 tok c).trans ?_
  rw [← sel_apply ids e pw]
  show shapeCast S48x1536 o shapeCasts_S1x48x1536_S48x1536 (ix2 tok c)
    + Scalar.select (broadcastTo S48x1536 (shapeCast S48x1 (k0_pay414 (F := Ideal) ids e) shapeCasts_S48x1_S48x1) broadcasts_S48x1_S48x1536 (ix2 tok c))
      (shapeCast S48x1536 d shapeCasts_S1x48x1536_S48x1536 (ix2 tok c) * broadcastTo S48x1536 (k0_pay413 (F := Ideal) ids e pw) broadcasts_S48x1_S48x1536 (ix2 tok c))
      (FloatOps.ofBits (F := Ideal) .f32 0x00000000#32) = _
  rw [cast_row', cast_row', bcol, bcol, shapeCast_apply _ _ _ (ix2 tok (0 : Fin 1)) rfl, show FloatOps.ofBits (F := Ideal) .f32 0x00000000#32 = (0 : EReal) from Ideal.ofBits_zero_f32]

theorem pay21_apply (ids : Vec Ideal S48x2 .i32) (e : BitVec 32) (pw : Vec Ideal S48x2 .f32) (o d : Vec Ideal S1x48x1536 .f32) (tok : Fin 48) (c : Fin 1536) :
    k0_pay21 (F := Ideal) (k0_pay413 (F := Ideal) ids e pw) (k0_pay414 (F := Ideal) ids e) (k0_pay416 (F := Ideal) o) d (ix3 (0 : Fin 1) tok c)
      = o (ix3 (0 : Fin 1) tok c) + d (ix3 (0 : Fin 1) tok c) * ∑ a : Fin 2, if ids (ix2 tok a) = e then pw (ix2 tok a) else 0 :=
  pay415_apply ids e pw o d tok c

end Cert.KernelIdeal.Hand

end
-- ==== Proof.Ideal.Shapes.lean ====
/-
  What a grid point of each of the four shapes leaves, idealized.
-/
module

public import proofs.«01_k».proof.Proof.Ideal.Weights

@[expose] public section

set_option maxRecDepth 8192
set_option maxHeartbeats 1000000

noncomputable section

namespace Cert.KernelIdeal.Hand

open Cert.KernelIdeal Cert.KernelIdeal.Gen
open Idealize.ShloMosaic hiding ix1 ix2 ix3 ix4
open Idealize.ShloMosaic.TcCoe Idealize.ShloMosaic.ValueIdx

section generic
variable {sig' : RefSig} {κ : Kind} {sp : Space}

/-- The table as the body loads it. -/
theorem tabOK (v : View sig' κ sp S2x32x128 .i8) (X : v.ty.Contents (Elt Ideal))
    (h : ∀ (a : Fin 16) (l : Fin 128), (v.read (Elt Ideal) X (ix3 (1 : Fin 2) (⟨a.val, by omega⟩ : Fin 32) l) ++ v.read (Elt Ideal) X (ix3 (0 : Fin 2) (⟨a.val, by omega⟩ : Fin 32) l) : BitVec 16) = nfBits a) :
    TabOK (k0_pay417 (v.readAt (Elt Ideal) (Rect.unit (s := S2x32x128) ![0, 0, 0] S1x32x128.size inb_S2x32x128_S1x32x128_0_0_0).toLoadRect X))
      (k0_pay418 (v.readAt (Elt Ideal) (Rect.unit (s := S2x32x128) ![1, 0, 0] S1x32x128.size inb_S2x32x128_S1x32x128_1_0_0).toLoadRect X)) := by
  have sc : ∀ (x : S1x32x128.Idx → BitVec 8) (a : Fin 32) (l : Fin 128), shapeCast S32x128 x shapeCasts_S1x32x128_S32x128 (ix2 a l) = x (ix3 (0 : Fin 1) a l) := fun x a l =>
    shapeCast_apply _ _ _ (ix3 (0 : Fin 1) a l) (by
      rw [Shape.rowMajor_val_three, Shape.rowMajor_val_two]
      show (0 * 32 + a.val) * 128 + l.val = a.val * 128 + l.val
      simp)
  intro a l
  rw [← h a l]
  refine congrArg₂ (fun x y : BitVec 8 => (x ++ y : BitVec 16)) ((sc _ _ _).trans (read_at v X _ _ _ _ _ fun b => ?_)) ((sc _ _ _).trans (read_at v X _ _ _ _ _ fun b => ?_))
  · match b with
    | ⟨0, _⟩ => rfl
    | ⟨1, _⟩ => exact (Nat.zero_add _).symm
    | ⟨2, _⟩ => exact (Nat.zero_add _).symm
  · match b with
    | ⟨0, _⟩ => rfl
    | ⟨1, _⟩ => exact (Nat.zero_add _).symm
    | ⟨2, _⟩ => exact (Nat.zero_add _).symm

/-- A buffer filled with zeros. -/
theorem zeros_read (v : View sig' κ sp S2x48x1536 .f32) (f : v.ty.Contents (Elt Ideal)) (w : FVec Ideal S2x48x1536 .f32) (hw : ∀ y, w y = 0)
    (inb) (p : Fin 2) (tok : Fin 48) (cc : Fin 1536) :
    v.read (Elt Ideal) (v.writes (Elt Ideal) f [⟨Rect.unit (s := S2x48x1536) ![0, 0, 0] S2x48x1536.size inb, w⟩]) (ix3 p tok cc) = 0 :=
  (View.read_writes_cons_unit_of_mem v f inb w [] _ (ix3 p tok cc) rfl (fun b => by
    match b with
    | ⟨0, _⟩ => exact (Nat.zero_add _).symm
    | ⟨1, _⟩ => exact (Nat.zero_add _).symm
    | ⟨2, _⟩ => exact (Nat.zero_add _).symm)).trans (hw _)

theorem row_read (v : View sig' κ sp S2x48x1536 .f32) (f : v.ty.Contents (Elt Ideal)) (p : Fin 2) (inb) (tok : Fin 48) (cc : Fin 1536) :
    v.readAt (Elt Ideal) (Rect.unit (s := S2x48x1536) ![p.val, 0, 0] S1x48x1536.size inb).toLoadRect f (ix3 (0 : Fin 1) tok cc)
      = v.read (Elt Ideal) f (ix3 p tok cc) :=
  read_at v f _ _ _ _ _ fun b => by
    match b with
    | ⟨0, _⟩ => rfl
    | ⟨1, _⟩ => exact (Nat.zero_add _).symm
    | ⟨2, _⟩ => exact (Nat.zero_add _).symm

theorem pair_read {e : EltTy} (v : View sig' κ sp S48x2 e) (f : v.ty.Contents (Elt Ideal)) (inb) (tok : Fin 48) (a : Fin 2) :
    v.readAt (Elt Ideal) (Rect.unit (s := S48x2) ![0, 0] S48x2.size inb).toLoadRect f (ix2 tok a) = v.read (Elt Ideal) f (ix2 tok a) :=
  read_at v f _ _ _ _ _ fun b => by
    match b with
    | ⟨0, _⟩ => exact (Nat.zero_add _).symm
    | ⟨1, _⟩ => exact (Nat.zero_add _).symm

end generic

theorem val_A (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : k0_cond1 i arg0 = 1#1) (h2 : k0_cond2 i = 1#1) (h3 : ¬ k0_cond3 i = 1#1)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (f_arg16 : BufTy.Contents (Elt Ideal) arg16.view.ty) (f_arg17 : BufTy.Contents (Elt Ideal) arg17.view.ty) (f_arg18 : BufTy.Contents (Elt Ideal) arg18.view.ty) (f_arg19 : BufTy.Contents (Elt Ideal) arg19.view.ty)
    (hTab : ∀ (a : Fin 16) (l : Fin 128), (arg6.view.read (Elt Ideal) X_arg6 (ix3 (1 : Fin 2) (⟨a.val, by omega⟩ : Fin 32) l) ++ arg6.view.read (Elt Ideal) X_arg6 (ix3 (0 : Fin 2) (⟨a.val, by omega⟩ : Fin 32) l) : BitVec 16) = nfBits a)
    (xs : ℕ → ℕ → EReal) (wg : ℕ → ℕ → BitVec 8) (sg : ℕ → ℕ → EReal) (wu : ℕ → ℕ → BitVec 8) (su : ℕ → ℕ → EReal) (wd : ℕ → ℕ → BitVec 8) (sd : ℕ → ℕ → EReal)
    (hX : ∀ (p : Fin 2) (tok : Fin 48) (r : Fin 1536), arg3.view.read (Elt Ideal) X_arg3 (ix3 p tok r) = xs tok.val (2 * r.val + p.val))
    (hWg : ∀ (k : Fin 3072) (cc : Fin 512), arg7.view.read (Elt Ideal) X_arg7 (ix3 (0 : Fin 1) k cc) = wg k.val cc.val)
    (hWu : ∀ (k : Fin 3072) (cc : Fin 512), arg9.view.read (Elt Ideal) X_arg9 (ix3 (0 : Fin 1) k cc) = wu k.val cc.val)
    (hWd : ∀ (k : Fin 1024) (cc : Fin 1536), arg11.view.read (Elt Ideal) X_arg11 (ix3 (0 : Fin 1) k cc) = wd k.val cc.val)
    (hAd : ∀ (k : Fin 1024) (cc : Fin 48), arg12.view.read (Elt Ideal) X_arg12 (ix3 (0 : Fin 1) k cc) = sd k.val cc.val)
    (hAg : ∀ (k : Fin 3072) (cc : Fin 224), arg8.view.read (Elt Ideal) X_arg8 (ix3 (0 : Fin 1) k cc) = sg k.val cc.val)
    (hAu : ∀ (k : Fin 3072) (cc : Fin 224), arg10.view.read (Elt Ideal) X_arg10 (ix3 (0 : Fin 1) k cc) = su k.val cc.val) :
    (∀ (p : Fin 2) (tok : Fin 48) (cc : Fin 1536), arg13.view.read (Elt Ideal) ((bodyRun_A (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) (ix3 p tok cc) = 0)
    ∧ (∀ (p : Fin 2) (tok : Fin 48) (cc : Fin 1536), arg15.view.read (Elt Ideal) ((bodyRun_A (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) (ix3 p tok cc) = chunkSum xs wg sg wu su wd sd (i 1).val p.val tok.val cc.val)
    ∧ (∀ (p t : Fin 2) (r : Fin 1536) (l : Fin 128), 128 * t.val + l.val < 224 → arg17.view.read (Elt Ideal) ((bodyRun_A (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) (ix4 p t r l) = sg (2 * r.val + p.val) (128 * t.val + l.val))
    ∧ (∀ (p t : Fin 2) (r : Fin 1536) (l : Fin 128), 128 * t.val + l.val < 224 → arg18.view.read (Elt Ideal) ((bodyRun_A (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) (ix4 p t r l) = su (2 * r.val + p.val) (128 * t.val + l.val)) := by
  unfold bodyRun_A
  dsimp only
  refine ⟨fun p tok cc => ?_, fun p tok cc => ?_, fun p t r l hl => ?_, fun p t r l hl => ?_⟩
  · exact zeros_read arg13.view _ _ (fun _ => Ideal.ofBits_zero_f32) _ p tok cc
  · refine (congrArg (fun f => arg15.view.read (Elt Ideal) f (ix3 p tok cc)) (View.writes_append _ _ _ _)).trans ?_
    refine (chunk _ _ _ _ _ _ _ _ _ _ _ _ _ _ _ _ _ _ _ _ _ _ _ _ _ _ _ _ _ _ _ _ _ _ _ _ _ _ _ _ _ _ _ _ _ _ _ _ _ _ _ _ _ _ _ _ _ _ rfl rfl (tabOK arg6.view X_arg6 hTab) xs wg sg wu su wd sd hX hWg hWu hWd hAd (fun p r l hl => ?_) (fun p r l hl => ?_) _ _ _ (by decide +kernel) (by decide +kernel) (by decide +kernel) p tok cc).trans ?_
    · exact packed_17 _ _ _ _ _ _ _ _ _ _ _ _ _ _ _ _ _ _ _ _ _ _ _ _ _ _ _ _ _ _ _ _ _ _ _ _ _ _ _ _ _ _ _ _ _ _ _ sg hAg _ _ (by decide +kernel) (by decide +kernel) p _ r l hl
    · exact packed_18 _ _ _ _ _ _ _ _ _ _ _ _ _ _ _ _ _ _ _ _ _ _ _ _ _ _ _ _ _ _ _ _ _ _ _ _ _ _ _ _ _ _ _ _ _ _ _ su hAu _ _ (by decide +kernel) (by decide +kernel) p _ r l hl
    · exact (congrArg (· + _) (zeros_read arg15.view _ _ (fun _ => Ideal.ofBits_zero_f32) _ p tok cc)).trans (zero_add _)
  · exact packed_17 _ _ _ _ _ _ _ _ _ _ _ _ _ _ _ _ _ _ _ _ _ _ _ _ _ _ _ _ _ _ _ _ _ _ _ _ _ _ _ _ _ _ _ _ _ _ _ sg hAg _ _ (by decide +kernel) (by decide +kernel) p _ r l hl
  · exact packed_18 _ _ _ _ _ _ _ _ _ _ _ _ _ _ _ _ _ _ _ _ _ _ _ _ _ _ _ _ _ _ _ _ _ _ _ _ _ _ _ _ _ _ _ _ _ _ _ su hAu _ _ (by decide +kernel) (by decide +kernel) p _ r l hl

theorem val_B (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : k0_cond2 i = 1#1) (h3 : ¬ k0_cond3 i = 1#1)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (f_arg16 : BufTy.Contents (Elt Ideal) arg16.view.ty) (f_arg17 : BufTy.Contents (Elt Ideal) arg17.view.ty) (f_arg18 : BufTy.Contents (Elt Ideal) arg18.view.ty) (f_arg19 : BufTy.Contents (Elt Ideal) arg19.view.ty)
    (hTab : ∀ (a : Fin 16) (l : Fin 128), (arg6.view.read (Elt Ideal) X_arg6 (ix3 (1 : Fin 2) (⟨a.val, by omega⟩ : Fin 32) l) ++ arg6.view.read (Elt Ideal) X_arg6 (ix3 (0 : Fin 2) (⟨a.val, by omega⟩ : Fin 32) l) : BitVec 16) = nfBits a)
    (xs : ℕ → ℕ → EReal) (wg : ℕ → ℕ → BitVec 8) (sg : ℕ → ℕ → EReal) (wu : ℕ → ℕ → BitVec 8) (su : ℕ → ℕ → EReal) (wd : ℕ → ℕ → BitVec 8) (sd : ℕ → ℕ → EReal)
    (hX : ∀ (p : Fin 2) (tok : Fin 48) (r : Fin 1536), arg3.view.read (Elt Ideal) X_arg3 (ix3 p tok r) = xs tok.val (2 * r.val + p.val))
    (hWg : ∀ (k : Fin 3072) (cc : Fin 512), arg7.view.read (Elt Ideal) X_arg7 (ix3 (0 : Fin 1) k cc) = wg k.val cc.val)
    (hWu : ∀ (k : Fin 3072) (cc : Fin 512), arg9.view.read (Elt Ideal) X_arg9 (ix3 (0 : Fin 1) k cc) = wu k.val cc.val)
    (hWd : ∀ (k : Fin 1024) (cc : Fin 1536), arg11.view.read (Elt Ideal) X_arg11 (ix3 (0 : Fin 1) k cc) = wd k.val cc.val)
    (hAd : ∀ (k : Fin 1024) (cc : Fin 48), arg12.view.read (Elt Ideal) X_arg12 (ix3 (0 : Fin 1) k cc) = sd k.val cc.val)
    (hAg : ∀ (k : Fin 3072) (cc : Fin 224), arg8.view.read (Elt Ideal) X_arg8 (ix3 (0 : Fin 1) k cc) = sg k.val cc.val)
    (hAu : ∀ (k : Fin 3072) (cc : Fin 224), arg10.view.read (Elt Ideal) X_arg10 (ix3 (0 : Fin 1) k cc) = su k.val cc.val) :
    (∀ (p : Fin 2) (tok : Fin 48) (cc : Fin 1536), arg13.view.read (Elt Ideal) ((bodyRun_B (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) (ix3 p tok cc) = arg13.view.read (Elt Ideal) f_arg13 (ix3 p tok cc))
    ∧ (∀ (p : Fin 2) (tok : Fin 48) (cc : Fin 1536), arg15.view.read (Elt Ideal) ((bodyRun_B (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) (ix3 p tok cc) = chunkSum xs wg sg wu su wd sd (i 1).val p.val tok.val cc.val)
    ∧ (∀ (p t : Fin 2) (r : Fin 1536) (l : Fin 128), 128 * t.val + l.val < 224 → arg17.view.read (Elt Ideal) ((bodyRun_B (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) (ix4 p t r l) = sg (2 * r.val + p.val) (128 * t.val + l.val))
    ∧ (∀ (p t : Fin 2) (r : Fin 1536) (l : Fin 128), 128 * t.val + l.val < 224 → arg18.view.read (Elt Ideal) ((bodyRun_B (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) (ix4 p t r l) = su (2 * r.val + p.val) (128 * t.val + l.val)) := by
  unfold bodyRun_B
  dsimp only
  refine ⟨fun p tok cc => ?_, fun p tok cc => ?_, fun p t r l hl => ?_, fun p t r l hl => ?_⟩
  · rfl
  · refine (congrArg (fun f => arg15.view.read (Elt Ideal) f (ix3 p tok cc)) (View.writes_append _ _ _ _)).trans ?_
    refine (chunk _ _ _ _ _ _ _ _ _ _ _ _ _ _ _ _ _ _ _ _ _ _ _ _ _ _ _ _ _ _ _ _ _ _ _ _ _ _ _ _ _ _ _ _ _ _ _ _ _ _ _ _ _ _ _ _ _ _ rfl rfl (tabOK arg6.view X_arg6 hTab) xs wg sg wu su wd sd hX hWg hWu hWd hAd (fun p r l hl => ?_) (fun p r l hl => ?_) _ _ _ (by decide +kernel) (by decide +kernel) (by decide +kernel) p tok cc).trans ?_
    · exact packed_17 _ _ _ _ _ _ _ _ _ _ _ _ _ _ _ _ _ _ _ _ _ _ _ _ _ _ _ _ _ _ _ _ _ _ _ _ _ _ _ _ _ _ _ _ _ _ _ sg hAg _ _ (by decide +kernel) (by decide +kernel) p _ r l hl
    · exact packed_18 _ _ _ _ _ _ _ _ _ _ _ _ _ _ _ _ _ _ _ _ _ _ _ _ _ _ _ _ _ _ _ _ _ _ _ _ _ _ _ _ _ _ _ _ _ _ _ su hAu _ _ (by decide +kernel) (by decide +kernel) p _ r l hl
    · exact (congrArg (· + _) (zeros_read arg15.view _ _ (fun _ => Ideal.ofBits_zero_f32) _ p tok cc)).trans (zero_add _)
  · exact packed_17 _ _ _ _ _ _ _ _ _ _ _ _ _ _ _ _ _ _ _ _ _ _ _ _ _ _ _ _ _ _ _ _ _ _ _ _ _ _ _ _ _ _ _ _ _ _ _ sg hAg _ _ (by decide +kernel) (by decide +kernel) p _ r l hl
  · exact packed_18 _ _ _ _ _ _ _ _ _ _ _ _ _ _ _ _ _ _ _ _ _ _ _ _ _ _ _ _ _ _ _ _ _ _ _ _ _ _ _ _ _ _ _ _ _ _ _ su hAu _ _ (by decide +kernel) (by decide +kernel) p _ r l hl

theorem val_C (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : ¬ k0_cond2 i = 1#1) (h3 : ¬ k0_cond3 i = 1#1)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (f_arg16 : BufTy.Contents (Elt Ideal) arg16.view.ty) (f_arg17 : BufTy.Contents (Elt Ideal) arg17.view.ty) (f_arg18 : BufTy.Contents (Elt Ideal) arg18.view.ty) (f_arg19 : BufTy.Contents (Elt Ideal) arg19.view.ty)
    (hTab : ∀ (a : Fin 16) (l : Fin 128), (arg6.view.read (Elt Ideal) X_arg6 (ix3 (1 : Fin 2) (⟨a.val, by omega⟩ : Fin 32) l) ++ arg6.view.read (Elt Ideal) X_arg6 (ix3 (0 : Fin 2) (⟨a.val, by omega⟩ : Fin 32) l) : BitVec 16) = nfBits a)
    (xs : ℕ → ℕ → EReal) (wg : ℕ → ℕ → BitVec 8) (sg : ℕ → ℕ → EReal) (wu : ℕ → ℕ → BitVec 8) (su : ℕ → ℕ → EReal) (wd : ℕ → ℕ → BitVec 8) (sd : ℕ → ℕ → EReal)
    (hX : ∀ (p : Fin 2) (tok : Fin 48) (r : Fin 1536), arg3.view.read (Elt Ideal) X_arg3 (ix3 p tok r) = xs tok.val (2 * r.val + p.val))
    (hWg : ∀ (k : Fin 3072) (cc : Fin 512), arg7.view.read (Elt Ideal) X_arg7 (ix3 (0 : Fin 1) k cc) = wg k.val cc.val)
    (hWu : ∀ (k : Fin 3072) (cc : Fin 512), arg9.view.read (Elt Ideal) X_arg9 (ix3 (0 : Fin 1) k cc) = wu k.val cc.val)
    (hWd : ∀ (k : Fin 1024) (cc : Fin 1536), arg11.view.read (Elt Ideal) X_arg11 (ix3 (0 : Fin 1) k cc) = wd k.val cc.val)
    (hAd : ∀ (k : Fin 1024) (cc : Fin 48), arg12.view.read (Elt Ideal) X_arg12 (ix3 (0 : Fin 1) k cc) = sd k.val cc.val)
    (hSg : ∀ (p t : Fin 2) (r : Fin 1536) (l : Fin 128), 128 * t.val + l.val < 224 → arg17.view.read (Elt Ideal) f_arg17 (ix4 p t r l) = sg (2 * r.val + p.val) (128 * t.val + l.val))
    (hSu : ∀ (p t : Fin 2) (r : Fin 1536) (l : Fin 128), 128 * t.val + l.val < 224 → arg18.view.read (Elt Ideal) f_arg18 (ix4 p t r l) = su (2 * r.val + p.val) (128 * t.val + l.val)) :
    (∀ (p : Fin 2) (tok : Fin 48) (cc : Fin 1536), arg13.view.read (Elt Ideal) ((bodyRun_C (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) (ix3 p tok cc) = arg13.view.read (Elt Ideal) f_arg13 (ix3 p tok cc))
    ∧ (∀ (p : Fin 2) (tok : Fin 48) (cc : Fin 1536), arg15.view.read (Elt Ideal) ((bodyRun_C (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) (ix3 p tok cc) = arg15.view.read (Elt Ideal) f_arg15 (ix3 p tok cc) + chunkSum xs wg sg wu su wd sd (i 1).val p.val tok.val cc.val)
    ∧ (∀ (p t : Fin 2) (r : Fin 1536) (l : Fin 128), 128 * t.val + l.val < 224 → arg17.view.read (Elt Ideal) ((bodyRun_C (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) (ix4 p t r l) = sg (2 * r.val + p.val) (128 * t.val + l.val))
    ∧ (∀ (p t : Fin 2) (r : Fin 1536) (l : Fin 128), 128 * t.val + l.val < 224 → arg18.view.read (Elt Ideal) ((bodyRun_C (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) (ix4 p t r l) = su (2 * r.val + p.val) (128 * t.val + l.val)) := by
  unfold bodyRun_C
  dsimp only
  exact ⟨fun p tok cc => rfl, fun p tok cc => (chunk _ _ _ _ _ _ _ _ _ _ _ _ _ _ _ _ _ _ _ _ _ _ _ _ _ _ _ _ _ _ _ _ _ _ _ _ _ _ _ _ _ _ _ _ _ _ _ _ _ _ _ _ _ _ _ _ _ _ rfl rfl (tabOK arg6.view X_arg6 hTab) xs wg sg wu su wd sd hX hWg hWu hWd hAd (fun p r l hl => hSg p _ r l hl) (fun p r l hl => hSu p _ r l hl) _ _ _ (by decide +kernel) (by decide +kernel) (by decide +kernel) p tok cc), hSg, hSu⟩

theorem val_D (𝒱 : Variants) (c : Dev nD) (bd : Option 𝒱.V) (b : grid0.Bounds) (i : grid0.Static) (arg0 : BitVec 32)
    (arg2 : Memref sig .tc .smem S4 .i32) (harg2 : arg2.IsWhole) (arg3 : Memref sig .tc .vmem S2x48x1536 .bf16) (harg3 : arg3.IsWhole) (arg4 : Memref sig .tc .vmem S48x2 .i32) (harg4 : arg4.IsWhole) (arg5 : Memref sig .tc .vmem S48x2 .f32) (harg5 : arg5.IsWhole)
    (arg6 : Memref sig .tc .vmem S2x32x128 .i8) (harg6 : arg6.IsWhole) (arg7 : Memref sig .tc .vmem S1x3072x512 .i8) (harg7 : arg7.IsWhole) (arg8 : Memref sig .tc .vmem S1x3072x224 .f32) (harg8 : arg8.IsWhole)
    (arg9 : Memref sig .tc .vmem S1x3072x512 .i8) (harg9 : arg9.IsWhole) (arg10 : Memref sig .tc .vmem S1x3072x224 .f32) (harg10 : arg10.IsWhole) (arg11 : Memref sig .tc .vmem S1x1024x1536 .i8) (harg11 : arg11.IsWhole)
    (arg12 : Memref sig .tc .vmem S1x1024x48 .f32) (harg12 : arg12.IsWhole) (arg13 : Memref sig .tc .vmem S2x48x1536 .f32) (harg13 : arg13.IsWhole) (arg14 : Memref sig .tc .vmem S2x48x512 .bf16) (harg14 : arg14.IsWhole)
    (arg15 : Memref sig .tc .vmem S2x48x1536 .f32) (harg15 : arg15.IsWhole) (arg16 : Memref sig .tc .vmem S32x128 .f32) (harg16 : arg16.IsWhole) (arg17 : Memref sig .tc .vmem S2x2x1536x128 .bf16) (harg17 : arg17.IsWhole)
    (arg18 : Memref sig .tc .vmem S2x2x1536x128 .bf16) (harg18 : arg18.IsWhole) (arg19 : Memref sig .tc .vmem S2x1x512x128 .bf16) (harg19 : arg19.IsWhole)
    (hchk : k0_chk1 i arg0) (h1 : ¬ k0_cond1 i arg0 = 1#1) (h2 : ¬ k0_cond2 i = 1#1) (h3 : k0_cond3 i = 1#1)
    (X_arg2 : BufTy.Contents (Elt Ideal) arg2.view.ty) (X_arg3 : BufTy.Contents (Elt Ideal) arg3.view.ty) (X_arg4 : BufTy.Contents (Elt Ideal) arg4.view.ty) (X_arg5 : BufTy.Contents (Elt Ideal) arg5.view.ty) (X_arg6 : BufTy.Contents (Elt Ideal) arg6.view.ty) (X_arg7 : BufTy.Contents (Elt Ideal) arg7.view.ty) (X_arg8 : BufTy.Contents (Elt Ideal) arg8.view.ty) (X_arg9 : BufTy.Contents (Elt Ideal) arg9.view.ty) (X_arg10 : BufTy.Contents (Elt Ideal) arg10.view.ty) (X_arg11 : BufTy.Contents (Elt Ideal) arg11.view.ty) (X_arg12 : BufTy.Contents (Elt Ideal) arg12.view.ty) (f_arg13 : BufTy.Contents (Elt Ideal) arg13.view.ty) (f_arg14 : BufTy.Contents (Elt Ideal) arg14.view.ty) (f_arg15 : BufTy.Contents (Elt Ideal) arg15.view.ty) (f_arg16 : BufTy.Contents (Elt Ideal) arg16.view.ty) (f_arg17 : BufTy.Contents (Elt Ideal) arg17.view.ty) (f_arg18 : BufTy.Contents (Elt Ideal) arg18.view.ty) (f_arg19 : BufTy.Contents (Elt Ideal) arg19.view.ty)
    (hTab : ∀ (a : Fin 16) (l : Fin 128), (arg6.view.read (Elt Ideal) X_arg6 (ix3 (1 : Fin 2) (⟨a.val, by omega⟩ : Fin 32) l) ++ arg6.view.read (Elt Ideal) X_arg6 (ix3 (0 : Fin 2) (⟨a.val, by omega⟩ : Fin 32) l) : BitVec 16) = nfBits a)
    (xs : ℕ → ℕ → EReal) (wg : ℕ → ℕ → BitVec 8) (sg : ℕ → ℕ → EReal) (wu : ℕ → ℕ → BitVec 8) (su : ℕ → ℕ → EReal) (wd : ℕ → ℕ → BitVec 8) (sd : ℕ → ℕ → EReal)
    (hX : ∀ (p : Fin 2) (tok : Fin 48) (r : Fin 1536), arg3.view.read (Elt Ideal) X_arg3 (ix3 p tok r) = xs tok.val (2 * r.val + p.val))
    (hWg : ∀ (k : Fin 3072) (cc : Fin 512), arg7.view.read (Elt Ideal) X_arg7 (ix3 (0 : Fin 1) k cc) = wg k.val cc.val)
    (hWu : ∀ (k : Fin 3072) (cc : Fin 512), arg9.view.read (Elt Ideal) X_arg9 (ix3 (0 : Fin 1) k cc) = wu k.val cc.val)
    (hWd : ∀ (k : Fin 1024) (cc : Fin 1536), arg11.view.read (Elt Ideal) X_arg11 (ix3 (0 : Fin 1) k cc) = wd k.val cc.val)
    (hAd : ∀ (k : Fin 1024) (cc : Fin 48), arg12.view.read (Elt Ideal) X_arg12 (ix3 (0 : Fin 1) k cc) = sd k.val cc.val)
    (hSg : ∀ (p t : Fin 2) (r : Fin 1536) (l : Fin 128), 128 * t.val + l.val < 224 → arg17.view.read (Elt Ideal) f_arg17 (ix4 p t r l) = sg (2 * r.val + p.val) (128 * t.val + l.val))
    (hSu : ∀ (p t : Fin 2) (r : Fin 1536) (l : Fin 128), 128 * t.val + l.val < 224 → arg18.view.read (Elt Ideal) f_arg18 (ix4 p t r l) = su (2 * r.val + p.val) (128 * t.val + l.val))
    (ids : ℕ → Fin 2 → BitVec 32) (pw : ℕ → Fin 2 → EReal) (e : BitVec 32)
    (hI : ∀ (tok : Fin 48) (a : Fin 2), arg4.view.read (Elt Ideal) X_arg4 (ix2 tok a) = ids tok.val a)
    (hP : ∀ (tok : Fin 48) (a : Fin 2), arg5.view.read (Elt Ideal) X_arg5 (ix2 tok a) = pw tok.val a)
    (hE : ∀ inb x, View.readAt (Elt Ideal) arg2.view (Rect.unit (s := S4) (k0_off36 arg0) S1.size inb).toLoadRect X_arg2 x = e) :
    (∀ (p : Fin 2) (tok : Fin 48) (cc : Fin 1536), arg13.view.read (Elt Ideal) ((bodyRun_D (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).1 f_arg13 f_arg14 f_arg15 f_arg16 f_arg17 f_arg18 f_arg19) (ix3 p tok cc) = arg13.view.read (Elt Ideal) f_arg13 (ix3 p tok cc) + (arg15.view.read (Elt Ideal) f_arg15 (ix3 p tok cc) + chunkSum xs wg sg wu su wd sd (i 1).val p.val tok.val cc.val) * wgt ids pw e tok.val)
    ∧ (∀ (p : Fin 2) (tok : Fin 48) (cc : Fin 1536), arg15.view.read (Elt Ideal) ((bodyRun_D (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.1 f_arg13 f_arg14 f_arg15 f_arg16 f_arg17 f_arg18 f_arg19) (ix3 p tok cc) = arg15.view.read (Elt Ideal) f_arg15 (ix3 p tok cc) + chunkSum xs wg sg wu su wd sd (i 1).val p.val tok.val cc.val)
    ∧ (∀ (p t : Fin 2) (r : Fin 1536) (l : Fin 128), 128 * t.val + l.val < 224 → arg17.view.read (Elt Ideal) ((bodyRun_D (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.1 f_arg13 f_arg14 f_arg15 f_arg16 f_arg17 f_arg18 f_arg19) (ix4 p t r l) = sg (2 * r.val + p.val) (128 * t.val + l.val))
    ∧ (∀ (p t : Fin 2) (r : Fin 1536) (l : Fin 128), 128 * t.val + l.val < 224 → arg18.view.read (Elt Ideal) ((bodyRun_D (F := Ideal) 𝒱 c bd b i arg0 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hchk h1 h2 h3 X_arg2 X_arg3 X_arg4 X_arg5 X_arg6 X_arg7 X_arg8 X_arg9 X_arg10 X_arg11 X_arg12).2.2.2.2.2.1 f_arg13 f_arg14 f_arg15 f_arg16 f_arg17 f_arg18 f_arg19) (ix4 p t r l) = su (2 * r.val + p.val) (128 * t.val + l.val)) := by
  unfold bodyRun_D
  dsimp only
  refine ⟨fun p tok cc => ?_, fun p tok cc => (chunk _ _ _ _ _ _ _ _ _ _ _ _ _ _ _ _ _ _ _ _ _ _ _ _ _ _ _ _ _ _ _ _ _ _ _ _ _ _ _ _ _ _ _ _ _ _ _ _ _ _ _ _ _ _ _ _ _ _ rfl rfl (tabOK arg6.view X_arg6 hTab) xs wg sg wu su wd sd hX hWg hWu hWd hAd (fun p r l hl => hSg p _ r l hl) (fun p r l hl => hSu p _ r l hl) _ _ _ (by decide +kernel) (by decide +kernel) (by decide +kernel) p tok cc), hSg, hSu⟩
  have hw : ∀ (u : Vec Ideal S48x2 .i32) (v : Vec Ideal S48x2 .f32) (q : BitVec 32), (∀ a : Fin 2, u (ix2 tok a) = ids tok.val a) → (∀ a : Fin 2, v (ix2 tok a) = pw tok.val a) → q = e →
      (∑ a : Fin 2, if u (ix2 tok a) = q then v (ix2 tok a) else 0) = wgt ids pw e tok.val := by
    intro u v q hu hv hq
    unfold wgt
    exact Finset.sum_congr rfl fun a _ => by rw [hu, hv, hq]
  by_cases hp : p.val = 1
  · obtain rfl : p = 1 := Fin.ext hp
    refine (View.read_writes_cons_unit_of_mem arg13.view f_arg13 _ _ _ _ (ix3 (0 : Fin 1) tok cc) rfl (fun b => by
      match b with
      | ⟨0, _⟩ => rfl
      | ⟨1, _⟩ => exact (Nat.zero_add _).symm
      | ⟨2, _⟩ => exact (Nat.zero_add _).symm)).trans ((pay21_apply _ _ _ _ _ tok cc).trans ?_)
    refine congrArg₂ (· + ·) (row_read arg13.view f_arg13 1 _ tok cc) (congrArg₂ (· * ·) ((row_read arg15.view _ 1 _ tok cc).trans ?_) (hw _ _ _ (fun a => (pair_read arg4.view _ _ tok a).trans (hI tok a)) (fun a => (pair_read arg5.view _ _ tok a).trans (hP tok a)) (hE _ _)))
    exact (chunk _ _ _ _ _ _ _ _ _ _ _ _ _ _ _ _ _ _ _ _ _ _ _ _ _ _ _ _ _ _ _ _ _ _ _ _ _ _ _ _ _ _ _ _ _ _ _ _ _ _ _ _ _ _ _ _ _ _ rfl rfl (tabOK arg6.view X_arg6 hTab) xs wg sg wu su wd sd hX hWg hWu hWd hAd (fun p r l hl => hSg p _ r l hl) (fun p r l hl => hSu p _ r l hl) _ _ _ (by decide +kernel) (by decide +kernel) (by decide +kernel) 1 tok cc)
  · obtain rfl : p = 0 := Fin.ext (by have := p.isLt; omega)
    refine (View.read_writes_cons_unit_of_not_mem arg13.view f_arg13 _ _ _ _ rfl 0 (Or.inl Nat.zero_lt_one)).trans ?_
    refine (View.read_writes_cons_unit_of_mem arg13.view f_arg13 _ _ _ _ (ix3 (0 : Fin 1) tok cc) rfl (fun b => by
      match b with
      | ⟨0, _⟩ => rfl
      | ⟨1, _⟩ => exact (Nat.zero_add _).symm
      | ⟨2, _⟩ => exact (Nat.zero_add _).symm)).trans ((pay415_apply _ _ _ _ _ tok cc).trans ?_)
    refine congrArg₂ (· + ·) (row_read arg13.view f_arg13 0 _ tok cc) (congrArg₂ (· * ·) ((row_read arg15.view _ 0 _ tok cc).trans ?_) (hw _ _ _ (fun a => (pair_read arg4.view _ _ tok a).trans (hI tok a)) (fun a => (pair_read arg5.view _ _ tok a).trans (hP tok a)) (hE _ _)))
    exact (chunk _ _ _ _ _ _ _ _ _ _ _ _ _ _ _ _ _ _ _ _ _ _ _ _ _ _ _ _ _ _ _ _ _ _ _ _ _ _ _ _ _ _ _ _ _ _ _ _ _ _ _ _ _ _ _ _ _ _ rfl rfl (tabOK arg6.view X_arg6 hTab) xs wg sg wu su wd sd hX hWg hWu hWd hAd (fun p r l hl => hSg p _ r l hl) (fun p r l hl => hSu p _ r l hl) _ _ _ (by decide +kernel) (by decide +kernel) (by decide +kernel) 0 tok cc)

end Cert.KernelIdeal.Hand

end
-- ==== Proof.Ideal.Windows.lean ====
/-
  What the kernel's input windows hold at each grid point: the part of the array that the point's chunk and its expert
  select.
-/
module

public import proofs.«01_k».proof.Proof.Ideal.Run
public import proofs.«01_k».proof.Proof.Ideal.Shapes

@[expose] public section
set_option maxHeartbeats 400000
noncomputable section
namespace Cert.KernelIdeal.Hand
open Cert.KernelIdeal Cert.KernelIdeal.Gen
open Idealize.ShloMosaic hiding ix1 ix2 ix3 ix4
open Idealize.ShloMosaic.TcCoe Idealize.ShloMosaic.ValueIdx
variable (m : (ℓ : Loc nD τ sig) → Buf (Elt Ideal) ℓ)
variable (Inv : ℕ → SBuf (F := Ideal) cc0_scratch0 → SBuf (F := Ideal) cc0_scratch1 → SBuf (F := Ideal) cc0_scratch2 → SBuf (F := Ideal) cc0_scratch3 → SBuf (F := Ideal) cc0_scratch4 → SBuf (F := Ideal) cc0_scratch5 → Prop) (aft : ℕ → (S2x48x1536.Idx → Elt Ideal .f32) → (S2x48x1536.Idx → Elt Ideal .f32) → Prop)

/-- The number of the expert that a grid point works on, as an index. -/
abbrev ex (t : Fin (cfgA m).N) : Fin 4 := expert m ((cfgA m).grid.coords t 0).val
/-- The chunk that a grid point works on. -/
abbrev ch (t : Fin (cfgA m).N) : ℕ := ((cfgA m).grid.coords t 1).val
theorem ch_lt (t : Fin (cfgA m).N) : ch m t < 14 := coord1 _

attribute [local irreducible] cc0_transform_4 cc0_transform_5 cc0_transform_6 cc0_transform_7 cc0_transform_8 cc0_transform_9

/-- Window 0 holds its whole array at every point. -/
theorem at_0 (c : Dev nD) (t : Fin (cfgA m).N) (Y : ((cfgA m).win 0).block.Idx → Elt Ideal ((cfgA m).win 0).elt)
    (h : (rdat m Inv aft c).Finds 0 t Y) (u : Fin 2) (v : Fin 48) (y : Fin 1536) : Y (ix3 u v y) = V m c main_v2 (ix3 u v y) := by
  obtain ⟨d, rfl⟩ := (rdat m Inv aft c).finds_in_eq_fetched 0 rfl (fun _ _ _ => rfl) (fun _ _ _ h => h) t Y h
  show V m c main_v2 _ = V m c main_v2 _
  congr 1
  funext q
  apply Fin.ext
  fin_cases q
  · show 0 * 2 + 1 * u.val = u.val; omega
  · show 0 * 48 + 1 * v.val = v.val; omega
  · show 0 * 1536 + 1 * y.val = y.val; omega

/-- Window 1 holds its whole array at every point. -/
theorem at_1 (c : Dev nD) (t : Fin (cfgA m).N) (Y : ((cfgA m).win 1).block.Idx → Elt Ideal ((cfgA m).win 1).elt)
    (h : (rdat m Inv aft c).Finds 1 t Y) (u : Fin 48) (v : Fin 2) : Y (ix2 u v) = V m c main_v3 (ix2 u v) := by
  obtain ⟨d, rfl⟩ := (rdat m Inv aft c).finds_in_eq_fetched 1 rfl (fun _ _ _ => rfl) (fun _ _ _ h => h) t Y h
  show V m c main_v3 _ = V m c main_v3 _
  congr 1
  funext q
  apply Fin.ext
  fin_cases q
  · show 0 * 48 + 1 * u.val = u.val; omega
  · show 0 * 2 + 1 * v.val = v.val; omega

/-- Window 2 holds its whole array at every point. -/
theorem at_2 (c : Dev nD) (t : Fin (cfgA m).N) (Y : ((cfgA m).win 2).block.Idx → Elt Ideal ((cfgA m).win 2).elt)
    (h : (rdat m Inv aft c).Finds 2 t Y) (u : Fin 48) (v : Fin 2) : Y (ix2 u v) = V m c main_v15 (ix2 u v) := by
  obtain ⟨d, rfl⟩ := (rdat m Inv aft c).finds_in_eq_fetched 2 rfl (fun _ _ _ => rfl) (fun _ _ _ h => h) t Y h
  show V m c main_v15 _ = V m c main_v15 _
  congr 1
  funext q
  apply Fin.ext
  fin_cases q
  · show 0 * 48 + 1 * u.val = u.val; omega
  · show 0 * 2 + 1 * v.val = v.val; omega

/-- Window 3 holds its whole array at every point. -/
theorem at_3 (c : Dev nD) (t : Fin (cfgA m).N) (Y : ((cfgA m).win 3).block.Idx → Elt Ideal ((cfgA m).win 3).elt)
    (h : (rdat m Inv aft c).Finds 3 t Y) (u : Fin 2) (v : Fin 32) (y : Fin 128) : Y (ix3 u v y) = V m c main_v0 (ix3 u v y) := by
  obtain ⟨d, rfl⟩ := (rdat m Inv aft c).finds_in_eq_fetched 3 rfl (fun _ _ _ => rfl) (fun _ _ _ h => h) t Y h
  show V m c main_v0 _ = V m c main_v0 _
  congr 1
  funext q
  apply Fin.ext
  fin_cases q
  · show 0 * 2 + 1 * u.val = u.val; omega
  · show 0 * 32 + 1 * v.val = v.val; omega
  · show 0 * 128 + 1 * y.val = y.val; omega

/-- Window 4 holds the point's part of its expert's slab. -/
theorem at_4 (c : Dev nD) (t : Fin (cfgA m).N) (Y : ((cfgA m).win 4).block.Idx → Elt Ideal ((cfgA m).win 4).elt)
    (h : (rdat m Inv aft c).Finds 4 t Y) (a : Fin 3072) (b : Fin 512) :
    Y (ix3 (0 : Fin 1) a b) = V m c main_arg3 (ix3 (ex m t) a (⟨512 * ch m t + b.val, by have := ch_lt m t; omega⟩ : Fin 7168)) := by
  obtain ⟨d, rfl⟩ := (rdat m Inv aft c).finds_in_eq_fetched 4 rfl (fun _ _ _ => rfl) (fun _ _ _ h => h) t Y h
  show V m c main_arg3 _ = V m c main_arg3 _
  congr 1
  funext q
  apply Fin.ext
  have ht := tr4 m (dynb_pf m) ((cfgA m).grid.coords t)
  fin_cases q
  · show cc0_transform_4 (pf m) (dynb0 (pf m)) ((cfgA m).grid.coords t) 0 * 1 + 1 * 0 = _
    rw [ht]; show (ex m t).val * 1 + 1 * 0 = (ex m t).val; omega
  · show cc0_transform_4 (pf m) (dynb0 (pf m)) ((cfgA m).grid.coords t) 1 * 3072 + 1 * a.val = _
    rw [ht]; show 0 * 3072 + 1 * a.val = a.val; omega
  · show cc0_transform_4 (pf m) (dynb0 (pf m)) ((cfgA m).grid.coords t) 2 * 512 + 1 * b.val = _
    rw [ht]; show ch m t * 512 + 1 * b.val = 512 * ch m t + b.val; omega

/-- Window 5 holds the point's part of its expert's slab. -/
theorem at_5 (c : Dev nD) (t : Fin (cfgA m).N) (Y : ((cfgA m).win 5).block.Idx → Elt Ideal ((cfgA m).win 5).elt)
    (h : (rdat m Inv aft c).Finds 5 t Y) (a : Fin 3072) (b : Fin 224) :
    Y (ix3 (0 : Fin 1) a b) = V m c main_arg4 (ix3 (ex m t) a b) := by
  obtain ⟨d, rfl⟩ := (rdat m Inv aft c).finds_in_eq_fetched 5 rfl (fun _ _ _ => rfl) (fun _ _ _ h => h) t Y h
  show V m c main_arg4 _ = V m c main_arg4 _
  congr 1
  funext q
  apply Fin.ext
  have ht := tr5 m (dynb_pf m) ((cfgA m).grid.coords t)
  fin_cases q
  · show cc0_transform_5 (pf m) (dynb0 (pf m)) ((cfgA m).grid.coords t) 0 * 1 + 1 * 0 = _
    rw [ht]; show (ex m t).val * 1 + 1 * 0 = (ex m t).val; omega
  · show cc0_transform_5 (pf m) (dynb0 (pf m)) ((cfgA m).grid.coords t) 1 * 3072 + 1 * a.val = _
    rw [ht]; show 0 * 3072 + 1 * a.val = a.val; omega
  · show cc0_transform_5 (pf m) (dynb0 (pf m)) ((cfgA m).grid.coords t) 2 * 224 + 1 * b.val = _
    rw [ht]; show 0 * 224 + 1 * b.val = b.val; omega

/-- Window 6 holds the point's part of its expert's slab. -/
theorem at_6 (c : Dev nD) (t : Fin (cfgA m).N) (Y : ((cfgA m).win 6).block.Idx → Elt Ideal ((cfgA m).win 6).elt)
    (h : (rdat m Inv aft c).Finds 6 t Y) (a : Fin 3072) (b : Fin 512) :
    Y (ix3 (0 : Fin 1) a b) = V m c main_arg5 (ix3 (ex m t) a (⟨512 * ch m t + b.val, by have := ch_lt m t; omega⟩ : Fin 7168)) := by
  obtain ⟨d, rfl⟩ := (rdat m Inv aft c).finds_in_eq_fetched 6 rfl (fun _ _ _ => rfl) (fun _ _ _ h => h) t Y h
  show V m c main_arg5 _ = V m c main_arg5 _
  congr 1
  funext q
  apply Fin.ext
  have ht := tr6 m (dynb_pf m) ((cfgA m).grid.coords t)
  fin_cases q
  · show cc0_transform_6 (pf m) (dynb0 (pf m)) ((cfgA m).grid.coords t) 0 * 1 + 1 * 0 = _
    rw [ht]; show (ex m t).val * 1 + 1 * 0 = (ex m t).val; omega
  · show cc0_transform_6 (pf m) (dynb0 (pf m)) ((cfgA m).grid.coords t) 1 * 3072 + 1 * a.val = _
    rw [ht]; show 0 * 3072 + 1 * a.val = a.val; omega
  · show cc0_transform_6 (pf m) (dynb0 (pf m)) ((cfgA m).grid.coords t) 2 * 512 + 1 * b.val = _
    rw [ht]; show ch m t * 512 + 1 * b.val = 512 * ch m t + b.val; omega

/-- Window 7 holds the point's part of its expert's slab. -/
theorem at_7 (c : Dev nD) (t : Fin (cfgA m).N) (Y : ((cfgA m).win 7).block.Idx → Elt Ideal ((cfgA m).win 7).elt)
    (h : (rdat m Inv aft c).Finds 7 t Y) (a : Fin 3072) (b : Fin 224) :
    Y (ix3 (0 : Fin 1) a b) = V m c main_arg6 (ix3 (ex m t) a b) := by
  obtain ⟨d, rfl⟩ := (rdat m Inv aft c).finds_in_eq_fetched 7 rfl (fun _ _ _ => rfl) (fun _ _ _ h => h) t Y h
  show V m c main_arg6 _ = V m c main_arg6 _
  congr 1
  funext q
  apply Fin.ext
  have ht := tr7 m (dynb_pf m) ((cfgA m).grid.coords t)
  fin_cases q
  · show cc0_transform_7 (pf m) (dynb0 (pf m)) ((cfgA m).grid.coords t) 0 * 1 + 1 * 0 = _
    rw [ht]; show (ex m t).val * 1 + 1 * 0 = (ex m t).val; omega
  · show cc0_transform_7 (pf m) (dynb0 (pf m)) ((cfgA m).grid.coords t) 1 * 3072 + 1 * a.val = _
    rw [ht]; show 0 * 3072 + 1 * a.val = a.val; omega
  · show cc0_transform_7 (pf m) (dynb0 (pf m)) ((cfgA m).grid.coords t) 2 * 224 + 1 * b.val = _
    rw [ht]; show 0 * 224 + 1 * b.val = b.val; omega

/-- Window 8 holds the point's part of its expert's slab. -/
theorem at_8 (c : Dev nD) (t : Fin (cfgA m).N) (Y : ((cfgA m).win 8).block.Idx → Elt Ideal ((cfgA m).win 8).elt)
    (h : (rdat m Inv aft c).Finds 8 t Y) (a : Fin 1024) (b : Fin 1536) :
    Y (ix3 (0 : Fin 1) a b) = V m c main_arg7 (ix3 (ex m t) (⟨1024 * ch m t + a.val, by have := ch_lt m t; omega⟩ : Fin 14336) b) := by
  obtain ⟨d, rfl⟩ := (rdat m Inv aft c).finds_in_eq_fetched 8 rfl (fun _ _ _ => rfl) (fun _ _ _ h => h) t Y h
  show V m c main_arg7 _ = V m c main_arg7 _
  congr 1
  funext q
  apply Fin.ext
  have ht := tr8 m (dynb_pf m) ((cfgA m).grid.coords t)
  fin_cases q
  · show cc0_transform_8 (pf m) (dynb0 (pf m)) ((cfgA m).grid.coords t) 0 * 1 + 1 * 0 = _
    rw [ht]; show (ex m t).val * 1 + 1 * 0 = (ex m t).val; omega
  · show cc0_transform_8 (pf m) (dynb0 (pf m)) ((cfgA m).grid.coords t) 1 * 1024 + 1 * a.val = _
    rw [ht]; show ch m t * 1024 + 1 * a.val = 1024 * ch m t + a.val; omega
  · show cc0_transform_8 (pf m) (dynb0 (pf m)) ((cfgA m).grid.coords t) 2 * 1536 + 1 * b.val = _
    rw [ht]; show 0 * 1536 + 1 * b.val = b.val; omega

/-- Window 9 holds the point's part of its expert's slab. -/
theorem at_9 (c : Dev nD) (t : Fin (cfgA m).N) (Y : ((cfgA m).win 9).block.Idx → Elt Ideal ((cfgA m).win 9).elt)
    (h : (rdat m Inv aft c).Finds 9 t Y) (a : Fin 1024) (b : Fin 48) :
    Y (ix3 (0 : Fin 1) a b) = V m c main_arg8 (ix3 (ex m t) (⟨1024 * ch m t + a.val, by have := ch_lt m t; omega⟩ : Fin 14336) b) := by
  obtain ⟨d, rfl⟩ := (rdat m Inv aft c).finds_in_eq_fetched 9 rfl (fun _ _ _ => rfl) (fun _ _ _ h => h) t Y h
  show V m c main_arg8 _ = V m c main_arg8 _
  congr 1
  funext q
  apply Fin.ext
  have ht := tr9 m (dynb_pf m) ((cfgA m).grid.coords t)
  fin_cases q
  · show cc0_transform_9 (pf m) (dynb0 (pf m)) ((cfgA m).grid.coords t) 0 * 1 + 1 * 0 = _
    rw [ht]; show (ex m t).val * 1 + 1 * 0 = (ex m t).val; omega
  · show cc0_transform_9 (pf m) (dynb0 (pf m)) ((cfgA m).grid.coords t) 1 * 1024 + 1 * a.val = _
    rw [ht]; show ch m t * 1024 + 1 * a.val = 1024 * ch m t + a.val; omega
  · show cc0_transform_9 (pf m) (dynb0 (pf m)) ((cfgA m).grid.coords t) 2 * 48 + 1 * b.val = _
    rw [ht]; show 0 * 48 + 1 * b.val = b.val; omega

end Cert.KernelIdeal.Hand
-- ==== Proof.Ideal.Track.lean ====
/-
  What is followed from grid point to grid point: the arrays as functions of natural numbers, one chunk's part of an
  expert's projection, and the relations on the scratch buffers and on the output block.
-/
module

public import proofs.«01_k».proof.Proof.Ideal.Windows

@[expose] public section
noncomputable section
namespace Cert.KernelIdeal.Hand
open Cert.KernelIdeal Cert.KernelIdeal.Gen
open Idealize.ShloMosaic hiding ix1 ix2 ix3 ix4
open Idealize.ShloMosaic.TcCoe Idealize.ShloMosaic.ValueIdx

/-- An array of rank three as a function of natural numbers. -/
def at3 {α : Type} {A B C : ℕ} (x : (⟨3, ![A, B, C]⟩ : Shape).Idx → α) (d : α) (a b c : ℕ) : α :=
  if h : a < A ∧ b < B ∧ c < C then x (ix3 ⟨a, h.1⟩ ⟨b, h.2.1⟩ ⟨c, h.2.2⟩) else d

theorem at3_eq {α : Type} {A B C : ℕ} (x : (⟨3, ![A, B, C]⟩ : Shape).Idx → α) (d : α) {a b c : ℕ} (ha : a < A) (hb : b < B) (hc : c < C) :
    at3 x d a b c = x (ix3 ⟨a, ha⟩ ⟨b, hb⟩ ⟨c, hc⟩) := dif_pos ⟨ha, hb, hc⟩

variable (m : (ℓ : Loc nD τ sig) → Buf (Elt Ideal) ℓ)

/-- The tokens' activations. -/
def gx (tok k : ℕ) : EReal := at3 (A := 2) (B := 48) (C := 1536) (V m 0 main_v2) 0 (k % 2) tok (k / 2)
/-- The gate weights' packed codes. -/
def gwg (e k c : ℕ) : BitVec 8 := at3 (A := 4) (B := 3072) (C := 7168) (V m 0 main_arg3) 0 e k c
/-- The gate weights' scales. -/
def gsg (e k c : ℕ) : EReal := at3 (A := 4) (B := 3072) (C := 224) (V m 0 main_arg4) 0 e k c
/-- The up weights' packed codes. -/
def gwu (e k c : ℕ) : BitVec 8 := at3 (A := 4) (B := 3072) (C := 7168) (V m 0 main_arg5) 0 e k c
/-- The up weights' scales. -/
def gsu (e k c : ℕ) : EReal := at3 (A := 4) (B := 3072) (C := 224) (V m 0 main_arg6) 0 e k c
/-- The down weights' packed codes. -/
def gwd (e k c : ℕ) : BitVec 8 := at3 (A := 4) (B := 14336) (C := 1536) (V m 0 main_arg7) 0 e k c
/-- The down weights' scales. -/
def gsd (e k c : ℕ) : EReal := at3 (A := 4) (B := 14336) (C := 48) (V m 0 main_arg8) 0 e k c
/-- The tokens' expert numbers. -/
def gid (tok : ℕ) (a : Fin 2) : BitVec 32 := if h : tok < 48 then V m 0 main_v3 (ix2 ⟨tok, h⟩ a) else 0
/-- The tokens' expert weights. -/
def gpw (tok : ℕ) (a : Fin 2) : EReal := if h : tok < 48 then V m 0 main_v15 (ix2 ⟨tok, h⟩ a) else 0

/-- What chunk `j` adds to expert `e`'s projection. -/
def dn (e j p tok cc : ℕ) : EReal :=
  chunkSum (gx m) (fun k c => gwg m e k (512 * j + c)) (gsg m e) (fun k c => gwu m e k (512 * j + c)) (gsu m e)
    (fun k c => gwd m e (1024 * j + k) c) (fun k c => gsd m e (1024 * j + k) c) j p tok cc
/-- The weight of expert `e` for a token. -/
def gw (e tok : ℕ) : EReal := wgt (gid m) (gpw m) (BitVec.ofNat 32 e) tok

/-- Before a point that is not an expert's first: the scratch buffers hold the expert's scales and the sum of its
    earlier chunks. -/
def Inv (t : ℕ) (_f0 : SBuf (F := Ideal) cc0_scratch0) (f1 : SBuf (F := Ideal) cc0_scratch1) (_f2 : SBuf (F := Ideal) cc0_scratch2)
    (f3 : SBuf (F := Ideal) cc0_scratch3) (f4 : SBuf (F := Ideal) cc0_scratch4) (_f5 : SBuf (F := Ideal) cc0_scratch5) : Prop :=
  t % 14 ≠ 0 →
    (∀ (p u : Fin 2) (r : Fin 1536) (l : Fin 128), 128 * u.val + l.val < 224 →
      (Memref.whole cc0_scratch3).view.read (Elt Ideal) f3 (ix4 p u r l) = gsg m (expert m (t / 14)).val (2 * r.val + p.val) (128 * u.val + l.val))
    ∧ (∀ (p u : Fin 2) (r : Fin 1536) (l : Fin 128), 128 * u.val + l.val < 224 →
      (Memref.whole cc0_scratch4).view.read (Elt Ideal) f4 (ix4 p u r l) = gsu m (expert m (t / 14)).val (2 * r.val + p.val) (128 * u.val + l.val))
    ∧ ∀ (p : Fin 2) (tok : Fin 48) (cc : Fin 1536),
      (Memref.whole cc0_scratch1).view.read (Elt Ideal) f1 (ix3 p tok cc) = ∑ j ∈ Finset.range (t % 14), dn m (expert m (t / 14)).val j p.val tok.val cc.val

/-- What a point leaves in the output block: zeros at the first point, and at an expert's last chunk the expert's
    weighted projection added. -/
def aft (t : ℕ) (Y X : S2x48x1536.Idx → Elt Ideal .f32) : Prop :=
  ∀ (p : Fin 2) (tok : Fin 48) (cc : Fin 1536), X (ix3 p tok cc) = (if t = 0 then (0 : EReal) else Y (ix3 p tok cc))
    + (if t % 14 = 13 then (∑ j ∈ Finset.range 14, dn m (expert m (t / 14)).val j p.val tok.val cc.val) * gw m (expert m (t / 14)).val tok.val else 0)

/-- The number of grid points. -/
theorem N_eq : (cfgA m).N = cnt m * 14 := by
  show Pipeline.Grid.N (grid0.at (dynb0 (pf m))) = _
  rw [dynb_pf]
  show ∏ a : Fin 2, _ = _
  rw [Fin.prod_univ_two]; rfl

theorem co_1 (t : Fin (cfgA m).N) : ((cfgA m).grid.coords t 1).val = t.val % 14 := by
  have h := Pipeline.Grid.coords_val (G := (cfgA m).grid) t 1 (S := 1) (B := 14) (by rfl) (by rfl)
  rw [h, Nat.div_one]

theorem co_0 (t : Fin (cfgA m).N) : ((cfgA m).grid.coords t 0).val = t.val / 14 := by
  have h := Pipeline.Grid.coords_val (G := (cfgA m).grid) t 0 (S := 14) (B := cnt m) (by rfl) (by exact congrFun (dynb_pf m) 0)
  rw [h]
  have : t.val < cnt m * 14 := lt_of_lt_of_eq t.isLt (N_eq m)
  exact Nat.mod_eq_of_lt (by omega)

theorem conds : ∀ (i : grid0.Static) (n : Fin 4), (k0_cond1 i (BitVec.ofNat 32 n.val) = 1#1 ↔ n.val = 0 ∧ (i 1).val = 0)
    ∧ (k0_cond2 i = 1#1 ↔ (i 1).val = 0) ∧ (k0_cond3 i = 1#1 ↔ (i 1).val = 13) := by
  unfold k0_cond1 k0_cond2 k0_cond3
  decide +kernel

/-- A byte of the kernel's table. -/
def tabByte (p : Fin 2) (a : Fin 32) (l : Fin 128) : BitVec 8 := V m 0 main_v0 (ix3 p a l)

/-- The kernel's table holds the bits of the sixteen values, the high byte in one plane and the low byte in the other. -/
theorem tab_eq (a : Fin 16) (l : Fin 128) : (tabByte m 1 ⟨a.val, by omega⟩ l ++ tabByte m 0 ⟨a.val, by omega⟩ l : BitVec 16) = nfBits a := by
  unfold tabByte
  rw [V_v0]
  have h : ∀ a : Fin 16, ((lit0 (S2x32.rowMajor (ix2 (1 : Fin 2) (⟨a.val, by omega⟩ : Fin 32))) : BitVec 8) ++ (lit0 (S2x32.rowMajor (ix2 (0 : Fin 2) (⟨a.val, by omega⟩ : Fin 32))) : BitVec 8) : BitVec 16) = nfBits a := by
    decide +kernel
  have e : ∀ p : Fin 2, broadcastInDim S2x32x128 ![0, 1] bcast_S2x32_S2x32x128_0_1 (fun i => lit0 (S2x32.rowMajor i)) (ix3 p (⟨a.val, by omega⟩ : Fin 32) l)
      = lit0 (S2x32.rowMajor (ix2 p (⟨a.val, by omega⟩ : Fin 32))) :=
    fun p => congrArg (fun i => lit0 (S2x32.rowMajor i)) (funext fun ax => by fin_cases ax <;> rfl)
  exact (congrArg₂ (fun (x y : BitVec 8) => (x ++ y : BitVec 16)) (e 1) (e 0)).trans (h a)

theorem ord_word (t : Fin (cfgA m).N) (inb) (x) :
    View.readAt (Elt Ideal) (Memref.whole main_v12 (sig := sig)).view (Rect.unit (s := S4) (k0_off36 (bv0 m t)) S1.size inb).toLoadRect (pf m 1) x = BitVec.ofNat 32 (ex m t).val := by
  have h := dyn_lt m t
  have hp := ord_flags (wants m 0) ⟨_, h⟩
  rw [show (ex m t) = _ from expert_eq m h, ← hp, ← act_eq, ← V_v12]
  show V m 0 main_v12 _ = V m 0 main_v12 _
  congr 1
  funext ax
  apply Fin.ext
  fin_cases ax
  have hx : (x 0).val = 0 := by have : (x 0).val < 1 := (x 0).isLt; omega
  show k0_off36 (bv0 m t) 0 + 1 * (x 0).val = ((cfgA m).grid.coords t 0).val
  rw [hx]
  unfold k0_off36
  exact idx_toNat h

end Cert.KernelIdeal.Hand
-- ==== Proof.Ideal.Steps.lean ====
/-
  What every grid point does to the scratch buffers and to the output block, in the terms of `Inv` and `aft`.
-/
module

public import proofs.«01_k».proof.Proof.Ideal.Track

@[expose] public section
set_option maxRecDepth 8192
set_option maxHeartbeats 8000000
noncomputable section
namespace Cert.KernelIdeal.Hand
open Cert.KernelIdeal Cert.KernelIdeal.Gen
open Idealize.ShloMosaic hiding ix1 ix2 ix3 ix4
open Idealize.ShloMosaic.TcCoe Idealize.ShloMosaic.ValueIdx

variable (m : (ℓ : Loc nD τ sig) → Buf (Elt Ideal) ℓ)

/-- The activations' array as a function of natural numbers. -/
theorem x_eq (p : Fin 2) (tok : Fin 48) (r : Fin 1536) : V m 0 main_v2 (ix3 p tok r) = gx m tok.val (2 * r.val + p.val) := by
  unfold gx
  rw [at3_eq _ _ (by omega) tok.isLt (by omega)]
  have h1 : (⟨(2 * r.val + p.val) % 2, by omega⟩ : Fin 2) = p := Fin.ext (by show (2 * r.val + p.val) % 2 = p.val; omega)
  have h2 : (⟨(2 * r.val + p.val) / 2, by omega⟩ : Fin 1536) = r := Fin.ext (by show (2 * r.val + p.val) / 2 = r.val; omega)
  rw [h1, h2]

/-- The table's bytes, joined, wherever they are read. -/
theorem tab_stage (f : S2x32x128.Idx → BitVec 8) (h : ∀ (p : Fin 2) (a : Fin 32) (l : Fin 128), f (ix3 p a l) = tabByte m p a l) (a : Fin 16) (l : Fin 128) :
    (f (ix3 (1 : Fin 2) (⟨a.val, by omega⟩ : Fin 32) l) ++ f (ix3 (0 : Fin 2) (⟨a.val, by omega⟩ : Fin 32) l) : BitVec 16) = nfBits a := by
  rw [h, h]; exact tab_eq m a l

/-- The expert numbers as a function of natural numbers. -/
theorem gid_eq (tok : Fin 48) (a : Fin 2) : gid m tok.val a = V m 0 main_v3 (ix2 tok a) := by
  unfold gid; exact dif_pos tok.isLt

/-- The expert weights as a function of natural numbers. -/
theorem gpw_eq (tok : Fin 48) (a : Fin 2) : gpw m tok.val a = V m 0 main_v15 (ix2 tok a) := by
  unfold gpw; exact dif_pos tok.isLt

/-- What the output block holds after the first point. -/
theorem aft_start {t : ℕ} {y x s : EReal} (h0 : t = 0) (h : ¬ t % 14 = 13) (e : x = 0) :
    x = (if t = 0 then 0 else y) + (if t % 14 = 13 then s else 0) := by
  rw [if_pos h0, if_neg h, e, add_zero]

/-- What the output block holds after a point that leaves it alone. -/
theorem aft_stay {t : ℕ} {y x s : EReal} (h0 : t ≠ 0) (h : ¬ t % 14 = 13) (e : x = y) :
    x = (if t = 0 then 0 else y) + (if t % 14 = 13 then s else 0) := by
  rw [if_neg h0, if_neg h, e, add_zero]

/-- What the output block holds after an expert's last chunk. -/
theorem aft_last {t : ℕ} {y x s : EReal} (h0 : t ≠ 0) (h : t % 14 = 13) (e : x = y + s) :
    x = (if t = 0 then 0 else y) + (if t % 14 = 13 then s else 0) := by
  rw [if_neg h0, if_pos h, e]

/-- A chunk's part at a point's own chunk number, as `dn` states it. -/
theorem dn_at {j n : ℕ} (h : j = n) (e p tok cc : ℕ) : chunkSum (gx m) (fun k c => gwg m e k (512 * j + c)) (gsg m e) (fun k c => gwu m e k (512 * j + c)) (gsu m e)
    (fun k c => gwd m e (1024 * j + k) c) (fun k c => gsd m e (1024 * j + k) c) j p tok cc = dn m e n p tok cc := by
  subst h; rfl

/-- The sum of the chunks after an expert's first chunk. -/
theorem sum_start {j n : ℕ} (h : j = n) (h0 : n = 0) (e p tok cc : ℕ) : chunkSum (gx m) (fun k c => gwg m e k (512 * j + c)) (gsg m e) (fun k c => gwu m e k (512 * j + c)) (gsu m e)
    (fun k c => gwd m e (1024 * j + k) c) (fun k c => gsd m e (1024 * j + k) c) j p tok cc = ∑ q ∈ Finset.range (n + 1), dn m e q p tok cc := by
  rw [dn_at m h, h0, zero_add, Finset.sum_range_one]

/-- The sum of the chunks after a later chunk. -/
theorem sum_next {j n : ℕ} (h : j = n) {e p tok cc : ℕ} {x : EReal} (hx : x = ∑ q ∈ Finset.range n, dn m e q p tok cc) :
    x + chunkSum (gx m) (fun k c => gwg m e k (512 * j + c)) (gsg m e) (fun k c => gwu m e k (512 * j + c)) (gsu m e)
      (fun k c => gwd m e (1024 * j + k) c) (fun k c => gsd m e (1024 * j + k) c) j p tok cc = ∑ q ∈ Finset.range (n + 1), dn m e q p tok cc := by
  rw [dn_at m h, Finset.sum_range_succ, hx]

/-- The sum of the chunks after the last chunk. -/
theorem sum_last {j n : ℕ} (h : j = n) (h13 : n = 13) {e p tok cc : ℕ} {x : EReal} (hx : x = ∑ q ∈ Finset.range n, dn m e q p tok cc) :
    x + chunkSum (gx m) (fun k c => gwg m e k (512 * j + c)) (gsg m e) (fun k c => gwu m e k (512 * j + c)) (gsu m e)
      (fun k c => gwd m e (1024 * j + k) c) (fun k c => gsd m e (1024 * j + k) c) j p tok cc = ∑ q ∈ Finset.range 14, dn m e q p tok cc := by
  rw [sum_next m h hx, h13]

/-- Every grid point keeps the relations. -/
theorem steps (c : Dev nD) : Steps m (Inv m) (aft m) c := by
  obtain rfl : c = 0 := Subsingleton.elim _ _
  intro t Y hY X0 X1 X2 X3 X4 X5 X6 X7 X8 X9 g10 f0 f1 f2 f3 f4 f5 e0 e1 e2 e3 e4 e5 e6 e7 e8 e9 e10 hInv
  have hj := ch_lt m t
  have q1 : ch m t = t.val % 14 := co_1 m t
  have q2 : ((cfgA m).grid.coords t 0).val = t.val / 14 := co_0 m t
  have qe : ex m t = expert m (t.val / 14) := by unfold ex; rw [q2]
  obtain ⟨c1, c2, c3⟩ := conds (stat m t) ⟨_, dyn_lt m t⟩
  have c1 : k0_cond1 (stat m t) (bv0 m t) = 1#1 ↔ t.val / 14 = 0 ∧ t.val % 14 = 0 := by rw [← q1, ← q2]; exact c1
  have c2 : k0_cond2 (stat m t) = 1#1 ↔ t.val % 14 = 0 := by rw [← q1]; exact c2
  have c3 : k0_cond3 (stat m t) = 1#1 ↔ t.val % 14 = 13 := by rw [← q1]; exact c3
  have hX : ∀ (p : Fin 2) (tok : Fin 48) (r : Fin 1536), (spec0_0.stage ((cfgA m).slots t 0)).view.read (Elt Ideal) X0 (ix3 p tok r) = gx m tok.val (2 * r.val + p.val) :=
    fun p tok r => (congrFun e0 _).trans ((at_0 m _ _ 0 t _ (hY 0) p tok r).trans (x_eq m p tok r))
  have hTab := tab_stage m ((spec0_3.stage ((cfgA m).slots t 3)).view.read (Elt Ideal) X3)
    (fun p a l => (congrFun e3 _).trans (at_3 m _ _ 0 t _ (hY 3) p a l))
  have hI : ∀ (tok : Fin 48) (a : Fin 2), (spec0_1.stage ((cfgA m).slots t 1)).view.read (Elt Ideal) X1 (ix2 tok a) = gid m tok.val a :=
    fun tok a => (congrFun e1 _).trans ((at_1 m _ _ 0 t _ (hY 1) tok a).trans (gid_eq m tok a).symm)
  have hP : ∀ (tok : Fin 48) (a : Fin 2), (spec0_2.stage ((cfgA m).slots t 2)).view.read (Elt Ideal) X2 (ix2 tok a) = gpw m tok.val a :=
    fun tok a => (congrFun e2 _).trans ((at_2 m _ _ 0 t _ (hY 2) tok a).trans (gpw_eq m tok a).symm)
  have hWg : ∀ (k : Fin 3072) (cc : Fin 512), (spec0_4.stage ((cfgA m).slots t 4)).view.read (Elt Ideal) X4 (ix3 (0 : Fin 1) k cc) = gwg m (ex m t).val k.val (512 * ch m t + cc.val) :=
    fun k cc => (congrFun e4 _).trans ((at_4 m _ _ 0 t _ (hY 4) k cc).trans (at3_eq _ _ (ex m t).isLt (by omega) (by omega)).symm)
  have hAg : ∀ (k : Fin 3072) (cc : Fin 224), (spec0_5.stage ((cfgA m).slots t 5)).view.read (Elt Ideal) X5 (ix3 (0 : Fin 1) k cc) = gsg m (ex m t).val k.val cc.val :=
    fun k cc => (congrFun e5 _).trans ((at_5 m _ _ 0 t _ (hY 5) k cc).trans (at3_eq _ _ (ex m t).isLt (by omega) (by omega)).symm)
  have hWu : ∀ (k : Fin 3072) (cc : Fin 512), (spec0_6.stage ((cfgA m).slots t 6)).view.read (Elt Ideal) X6 (ix3 (0 : Fin 1) k cc) = gwu m (ex m t).val k.val (512 * ch m t + cc.val) :=
    fun k cc => (congrFun e6 _).trans ((at_6 m _ _ 0 t _ (hY 6) k cc).trans (at3_eq _ _ (ex m t).isLt (by omega) (by omega)).symm)
  have hAu : ∀ (k : Fin 3072) (cc : Fin 224), (spec0_7.stage ((cfgA m).slots t 7)).view.read (Elt Ideal) X7 (ix3 (0 : Fin 1) k cc) = gsu m (ex m t).val k.val cc.val :=
    fun k cc => (congrFun e7 _).trans ((at_7 m _ _ 0 t _ (hY 7) k cc).trans (at3_eq _ _ (ex m t).isLt (by omega) (by omega)).symm)
  have hWd : ∀ (k : Fin 1024) (cc : Fin 1536), (spec0_8.stage ((cfgA m).slots t 8)).view.read (Elt Ideal) X8 (ix3 (0 : Fin 1) k cc) = gwd m (ex m t).val (1024 * ch m t + k.val) cc.val :=
    fun k cc => (congrFun e8 _).trans ((at_8 m _ _ 0 t _ (hY 8) k cc).trans (at3_eq _ _ (ex m t).isLt (by omega) (by omega)).symm)
  have hAd : ∀ (k : Fin 1024) (cc : Fin 48), (spec0_9.stage ((cfgA m).slots t 9)).view.read (Elt Ideal) X9 (ix3 (0 : Fin 1) k cc) = gsd m (ex m t).val (1024 * ch m t + k.val) cc.val :=
    fun k cc => (congrFun e9 _).trans ((at_9 m _ _ 0 t _ (hY 9) k cc).trans (at3_eq _ _ (ex m t).isLt (by omega) (by omega)).symm)
  have q3 : (stat m t 1).val = t.val % 14 := q1
  have h10 : ∀ i, (spec0_10.stage ((cfgA m).slots t 10)).view.read (Elt Ideal) g10 i = Y 10 i := congrFun e10
  refine { A := ?_, B := ?_, C := ?_, D := ?_ }
  · intro h1 h2 h3
    have k1 := c1.1 h1
    have k2 := c2.1 h2
    have k3 := fun h => h3 (c3.2 h)
    obtain ⟨v1, v2, v3, v4⟩ := val_A Variants.none 0 none (dynb0 (pf m)) (stat m t) (bv0 m t) (Memref.whole main_v12) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (chk m t) h1 h2 h3 (pf m 1) X0 X1 X2 X3 X4 X5 X6 X7 X8 X9 g10 f0 f1 f2 f3 f4 f5 hTab (gx m) (fun k cc => gwg m (ex m t).val k (512 * ch m t + cc)) (gsg m (ex m t).val) (fun k cc => gwu m (ex m t).val k (512 * ch m t + cc)) (gsu m (ex m t).val) (fun k cc => gwd m (ex m t).val (1024 * ch m t + k) cc) (fun k cc => gsd m (ex m t).val (1024 * ch m t + k) cc) hX hWg hWu hWd hAd hAg hAu
    refine ⟨fun p tok cc => aft_start (by omega) k3 (v1 p tok cc), fun _ => ?_⟩
    have a1 : (t.val + 1) / 14 = t.val / 14 := by omega
    have a2 : (t.val + 1) % 14 = t.val % 14 + 1 := by omega
    rw [a1, a2, ← qe]
    exact ⟨v3, v4, fun p tok cc => (v2 p tok cc).trans (sum_start m q1 k2 _ _ _ _)⟩
  · intro h1 h2 h3
    have k1 : ¬ (t.val / 14 = 0 ∧ t.val % 14 = 0) := fun h => h1 (c1.2 h)
    have k2 := c2.1 h2
    have k3 := fun h => h3 (c3.2 h)
    obtain ⟨v1, v2, v3, v4⟩ := val_B Variants.none 0 none (dynb0 (pf m)) (stat m t) (bv0 m t) (Memref.whole main_v12) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (chk m t) h1 h2 h3 (pf m 1) X0 X1 X2 X3 X4 X5 X6 X7 X8 X9 g10 f0 f1 f2 f3 f4 f5 hTab (gx m) (fun k cc => gwg m (ex m t).val k (512 * ch m t + cc)) (gsg m (ex m t).val) (fun k cc => gwu m (ex m t).val k (512 * ch m t + cc)) (gsu m (ex m t).val) (fun k cc => gwd m (ex m t).val (1024 * ch m t + k) cc) (fun k cc => gsd m (ex m t).val (1024 * ch m t + k) cc) hX hWg hWu hWd hAd hAg hAu
    refine ⟨fun p tok cc => aft_stay (by omega) k3 ((v1 p tok cc).trans (h10 _)), fun _ => ?_⟩
    have a1 : (t.val + 1) / 14 = t.val / 14 := by omega
    have a2 : (t.val + 1) % 14 = t.val % 14 + 1 := by omega
    rw [a1, a2, ← qe]
    exact ⟨v3, v4, fun p tok cc => (v2 p tok cc).trans (sum_start m q1 k2 _ _ _ _)⟩
  · intro h1 h2 h3
    have k1 : ¬ (t.val / 14 = 0 ∧ t.val % 14 = 0) := fun h => h1 (c1.2 h)
    have k2 := fun h => h2 (c2.2 h)
    have k3 := fun h => h3 (c3.2 h)
    have hn : t.val % 14 ≠ 0 := k2
    have hInv : Inv m t.val f0 f1 f2 f3 f4 f5 := hInv
    unfold Inv at hInv
    rw [← qe] at hInv
    obtain ⟨v1, v2, v3, v4⟩ := val_C Variants.none 0 none (dynb0 (pf m)) (stat m t) (bv0 m t) (Memref.whole main_v12) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (chk m t) h1 h2 h3 (pf m 1) X0 X1 X2 X3 X4 X5 X6 X7 X8 X9 g10 f0 f1 f2 f3 f4 f5 hTab (gx m) (fun k cc => gwg m (ex m t).val k (512 * ch m t + cc)) (gsg m (ex m t).val) (fun k cc => gwu m (ex m t).val k (512 * ch m t + cc)) (gsu m (ex m t).val) (fun k cc => gwd m (ex m t).val (1024 * ch m t + k) cc) (fun k cc => gsd m (ex m t).val (1024 * ch m t + k) cc) hX hWg hWu hWd hAd (hInv hn).1 (hInv hn).2.1
    refine ⟨fun p tok cc => aft_stay (by omega) k3 ((v1 p tok cc).trans (h10 _)), fun _ => ?_⟩
    have a1 : (t.val + 1) / 14 = t.val / 14 := by omega
    have a2 : (t.val + 1) % 14 = t.val % 14 + 1 := by omega
    rw [a1, a2, ← qe]
    exact ⟨v3, v4, fun p tok cc => (v2 p tok cc).trans (sum_next m q1 ((hInv hn).2.2 p tok cc))⟩
  · intro h1 h2 h3
    have k1 : ¬ (t.val / 14 = 0 ∧ t.val % 14 = 0) := fun h => h1 (c1.2 h)
    have k2 := fun h => h2 (c2.2 h)
    have k3 := c3.1 h3
    have hn : t.val % 14 ≠ 0 := k2
    have hInv : Inv m t.val f0 f1 f2 f3 f4 f5 := hInv
    unfold Inv at hInv
    rw [← qe] at hInv
    obtain ⟨v1, v2, v3, v4⟩ := val_D Variants.none 0 none (dynb0 (pf m)) (stat m t) (bv0 m t) (Memref.whole main_v12) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) (spec0_8.stage ((cfgA m).slots t 8)) (hstage0_8 (((cfgA m).slots t 8).cast nbuf0_8)) (spec0_9.stage ((cfgA m).slots t 9)) (hstage0_9 (((cfgA m).slots t 9).cast nbuf0_9)) (spec0_10.stage ((cfgA m).slots t 10)) (hstage0_10 (((cfgA m).slots t 10).cast nbuf0_10)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (chk m t) h1 h2 h3 (pf m 1) X0 X1 X2 X3 X4 X5 X6 X7 X8 X9 g10 f0 f1 f2 f3 f4 f5 hTab (gx m) (fun k cc => gwg m (ex m t).val k (512 * ch m t + cc)) (gsg m (ex m t).val) (fun k cc => gwu m (ex m t).val k (512 * ch m t + cc)) (gsu m (ex m t).val) (fun k cc => gwd m (ex m t).val (1024 * ch m t + k) cc) (fun k cc => gsd m (ex m t).val (1024 * ch m t + k) cc) hX hWg hWu hWd hAd (hInv hn).1 (hInv hn).2.1 (gid m) (gpw m) (BitVec.ofNat 32 (ex m t).val) hI hP (fun inb x => ord_word m t inb x)
    refine ⟨fun p tok cc => aft_last (by omega) k3 ((v1 p tok cc).trans ?_), fun h => absurd (show (t.val + 1) % 14 = 0 by omega) h⟩
    rw [← qe]
    exact congrArg₂ (· + ·) (h10 _) (congrArg (· * _) (sum_last m q1 k3 ((hInv hn).2.2 p tok cc)))

end Cert.KernelIdeal.Hand
-- ==== Proof.Ideal.Final.lean ====
/-
  What the output array holds at the end: the weighted projections of the wanted experts, added in the kernel's order,
  and so over all experts, the weight of an expert that no token wants being zero.
-/
module

public import proofs.«01_k».proof.Proof.Ideal.Steps
public import Idealize.ShloMosaic.Lib.Pipeline.ArrRel

@[expose] public section
set_option maxRecDepth 8192
noncomputable section
namespace Cert.KernelIdeal.Hand
open Cert.KernelIdeal Cert.KernelIdeal.Gen
open Idealize.ShloMosaic hiding ix1 ix2 ix3 ix4
open Idealize.ShloMosaic.TcCoe Idealize.ShloMosaic.ValueIdx

variable (m : (ℓ : Loc nD τ sig) → Buf (Elt Ideal) ℓ)

/-- Expert `e`'s projection times its weight. -/
def tot (e p tok cc : ℕ) : EReal := (∑ j ∈ Finset.range 14, dn m e j p tok cc) * gw m e tok

/-- The proof data with the relations that the steps keep. -/
abbrev rd (c : Dev nD) := rdat m (Inv m) (aft m) c

/-- The output window keeps its block at every point. -/
theorem idx_out (i i' : Fin (cfgA m).N) : ((cfgA m).win 10).index i = ((cfgA m).win 10).index i' := rfl

/-- What the output block may hold after a point. -/
theorem leaves_out (t : Fin (cfgA m).N) (X) (h : (rd m 0).Leaves 10 t X) (p : Fin 2) (tok : Fin 48) (cc : Fin 1536) :
    (X (ix3 p tok cc) : EReal) = ∑ i ∈ Finset.range ((t.val + 1) / 14), tot m (expert m i).val p.val tok.val cc.val := by
  induction hn : t.val using Nat.strong_induction_on generalizing t X with
  | _ n ih =>
    subst hn
    obtain ⟨Y, hY, hA⟩ := h
    have hA : aft m t.val Y X := hA
    rw [hA p tok cc]
    have key : (if t.val = 0 then (0 : EReal) else Y (ix3 p tok cc)) = ∑ i ∈ Finset.range (t.val / 14), tot m (expert m i).val p.val tok.val cc.val := by
      by_cases h0 : t.val = 0
      · exact (if_pos h0).trans (by rw [h0]; rfl)
      · refine (if_neg h0).trans ?_
        have hf : ((cfgA m).win 10).fetch t = false := Pipeline.Window.fetch_out _ rfl t
        rcases ((rd m 0).finds_of_pos hf h0 Y).mp hY with hfl | hL
        · exfalso
          rcases (Pipeline.Window.flush_out _ rfl _).mp hfl with h1 | ⟨h1, h2⟩
          · have h1 : t.val - 1 + 1 = (cfgA m).N := h1
            have := t.isLt
            omega
          · exact h2 (idx_out m _ _)
        · have := ih (t.val - 1) (by omega) _ Y hL rfl
          have e : t.val - 1 + 1 = t.val := by omega
          exact this.trans (by rw [e])
    rw [key]
    by_cases h13 : t.val % 14 = 13
    · rw [if_pos h13, show (t.val + 1) / 14 = t.val / 14 + 1 by omega]
      exact (Finset.sum_range_succ (fun i => tot m (expert m i).val p.val tok.val cc.val) (t.val / 14)).symm
    · rw [if_neg h13, show (t.val + 1) / 14 = t.val / 14 by omega, add_zero]

/-- What the output array holds at the end, if some expert is wanted. -/
theorem out_arr (hc : 0 < cnt m) (G) (hG : (rd m 0).ArrAt 10 (cfgA m).N G) (p : Fin 2) (tok : Fin 48) (cc : Fin 1536) :
    ((G : S2x48x1536.Idx → EReal) (ix3 p tok cc)) = ∑ i ∈ Finset.range (cnt m), tot m (expert m i).val p.val tok.val cc.val := by
  have hN := N_eq m
  let t₀ : Fin (cfgA m).N := ⟨(cfgA m).N - 1, by omega⟩
  have hw : ((cfgA m).win 10).WholeAt t₀ := by
    refine ⟨(Pipeline.Window.flush_out _ rfl _).mpr (.inl (by show (cfgA m).N - 1 + 1 = (cfgA m).N; omega)), fun t ht => ?_, fun a => ?_⟩
    · rcases (Pipeline.Window.flush_out _ rfl _).mp ht with h1 | ⟨h1, h2⟩
      · exact Fin.ext (by show t.val = (cfgA m).N - 1; have h1 : t.val + 1 = (cfgA m).N := h1; omega)
      · exact absurd (idx_out m _ _) h2
    · fin_cases a <;> exact ⟨rfl, rfl⟩
  obtain ⟨X, hX, he⟩ := hG.emb_eq_of_wholeAt hw
  have hl := leaves_out m t₀ X hX p tok cc
  rw [show (t₀.val + 1) / 14 = cnt m by show ((cfgA m).N - 1 + 1) / 14 = cnt m; omega] at hl
  refine Eq.trans ?_ hl
  exact he (ix3 p tok cc)

end Cert.KernelIdeal.Hand
-- ==== Proof.Ideal.Wants.lean ====
/-
  Which experts are wanted: those some token names.
-/
module

public import proofs.«01_k».proof.Proof.Ideal.Track
public import Idealize.ShloMosaic.Lib.Routing.OpsOrder

@[expose] public section
set_option maxRecDepth 8192
set_option maxHeartbeats 1000000
noncomputable section
namespace Cert.KernelIdeal.Hand
open Cert.KernelIdeal Cert.KernelIdeal.Gen
open Idealize.ShloMosaic hiding ix1 ix2 ix3 ix4
open Idealize.ShloMosaic.TcCoe Idealize.ShloMosaic.ValueIdx

variable (m : (ℓ : Loc nD τ sig) → Buf (Elt Ideal) ℓ)

/-- Whether row `r` of the ids names expert `e`. -/
def asks (c : Dev nD) : S96x4.Idx → BitVec 1 :=
  cmpi CmpIPredicate.eq (broadcastInDim S96x4 ![0, 1] bcast_S96x1_S96x4_0_1 (shapeCast S96x1 (ids m c) shapeCasts_S48x2_S96x1))
      (broadcastInDim S96x4 ![0, 1] bcast_S1x4_S96x4_0_1 (broadcastInDim S1x4 ![1] bcast_S4_S1x4_1 (iotaInDim S4 32 0)))

/-- The comparison at an index. -/
theorem asks_apply (c : Dev nD) (tok : Fin 48) (a : Fin 2) (e : Fin 4) :
    asks m c (ix2 ⟨tok.val * 2 + a.val, by omega⟩ e) = IntOp.cmpi .eq (ids m c (ix2 tok a)) (BitVec.ofNat 32 e.val) := by
  have h1 : broadcastInDim S96x4 ![0, 1] bcast_S96x1_S96x4_0_1 (shapeCast S96x1 (ids m c) shapeCasts_S48x2_S96x1) (ix2 (⟨tok.val * 2 + a.val, by omega⟩ : Fin 96) e)
      = ids m c (ix2 tok a) :=
    (broadcastInDim_apply _ bcast_S96x1_S96x4_0_1 _ _ (ix2 (⟨tok.val * 2 + a.val, by omega⟩ : Fin 96) (0 : Fin 1)) (fun a => match a with
      | ⟨0, _⟩ => rfl
      | ⟨1, _⟩ => rfl)).trans
    (shapeCast_apply _ shapeCasts_S48x2_S96x1 _ (ix2 tok a) (by
      rw [Shape.rowMajor_val_two, Shape.rowMajor_val_two]
      show tok.val * 2 + a.val = (tok.val * 2 + a.val) * 1 + 0
      omega))
  have h2 : broadcastInDim S96x4 ![0, 1] bcast_S1x4_S96x4_0_1 (broadcastInDim S1x4 ![1] bcast_S4_S1x4_1 (iotaInDim S4 32 0)) (ix2 (⟨tok.val * 2 + a.val, by omega⟩ : Fin 96) e)
      = BitVec.ofNat 32 e.val :=
    (broadcastInDim_apply _ bcast_S1x4_S96x4_0_1 _ _ (ix2 (0 : Fin 1) e) (fun a => match a with
      | ⟨0, _⟩ => rfl
      | ⟨1, _⟩ => rfl)).trans
    ((broadcastInDim_apply _ bcast_S4_S1x4_1 _ _ (ix1 e) (fun a => match a with
      | ⟨0, _⟩ => rfl)).trans rfl)
  exact congrArg₂ (IntOp.cmpi .eq) h1 h2

/-- An index whose expert is `e` drops to `e`. -/
theorem drop_rows (r : Fin 96) (e : Fin 4) : reducesTo_S96x4_S4_d0.drop (ix2 r e) = Shape.Idx.ofFin e :=
  funext fun a => Fin.ext (by fin_cases a; rfl)

/-- An expert no token wants is named by no token. -/
theorem not_wanted (e : Fin 4) (h : wants m 0 e = false) (tok : Fin 48) (a : Fin 2) : ids m 0 (ix2 tok a) ≠ BitVec.ofNat 32 e.val := by
  intro hc
  have h1 : act m 0 (Shape.Idx.ofFin e) = 1#1 := by
    show Host.reduce IntOp.ori (asks m 0) (constantI S_ 1 0#1) reducesTo_S96x4_S4_d0 h_S_ (Shape.Idx.ofFin e) = 1#1
    rw [Host.reduce_eq_fold]
    refine (Routing.fold_ori _ _).mpr ⟨ix2 (⟨tok.val * 2 + a.val, by omega⟩ : Fin 96) e, ?_, ?_⟩
    · exact Finset.mem_filter.mpr ⟨Finset.mem_univ _, drop_rows _ e⟩
    · rw [asks_apply, hc]
      show BitVec.ofBool (decide (BitVec.ofNat 32 e.val = BitVec.ofNat 32 e.val)) = 1#1
      rw [decide_eq_true rfl]; rfl
  unfold wants at h
  rw [h1] at h
  exact absurd h (by decide)

/-- An expert no token wants has weight zero everywhere. -/
theorem gw_zero (e : Fin 4) (h : wants m 0 e = false) (tok : Fin 48) : gw m e.val tok.val = 0 := by
  unfold gw wgt
  refine Finset.sum_eq_zero fun a _ => ?_
  refine if_neg ?_
  unfold gid
  rw [dif_pos tok.isLt, V_v3]
  exact not_wanted m e h tok a

/-- If some id names an expert, some expert is wanted. -/
theorem cnt_pos (hr : S96x4.ReducesTo [0, 1] S_) (hs : 0 < S_.numel) (h : Host.reduce IntOp.ori (asks m 0) (constantI S_ 1 0#1) hr hs (fun a => a.elim0) = 1#1) : 0 < cnt m := by
  rw [Host.reduce_eq_fold] at h
  obtain ⟨i, -, hi⟩ := (Routing.fold_ori _ _).mp h
  have hw : wants m 0 (i 1) = true := by
    unfold wants
    have h1 : act m 0 (Shape.Idx.ofFin (i 1)) = 1#1 := by
      show Host.reduce IntOp.ori (asks m 0) (constantI S_ 1 0#1) reducesTo_S96x4_S4_d0 h_S_ _ = 1#1
      rw [Host.reduce_eq_fold]
      refine (Routing.fold_ori _ _).mpr ⟨i, ?_, hi⟩
      refine Finset.mem_filter.mpr ⟨Finset.mem_univ _, ?_⟩
      have e : i = ix2 (i 0) (i 1) := funext fun b => match b with
        | ⟨0, _⟩ => rfl
        | ⟨1, _⟩ => rfl
      rw [e]
      exact drop_rows _ _
    rw [h1]; rfl
  obtain ⟨k, hk⟩ := (Finite.injective_iff_surjective.mp (perm_injective (wants m 0))) (i 1)
  have := ((cnt_flags (wants m 0)).2 k).mpr (hk ▸ hw)
  exact lt_of_le_of_lt (Nat.zero_le _) this

/-- A sum over the wanted experts in their order is the sum over all experts, when the others add nothing. -/
theorem sum_wanted (f : Fin 4 → EReal) (h : ∀ e, wants m 0 e = false → f e = 0) :
    ∑ i ∈ Finset.range (cnt m), f (expert m i) = ∑ e : Fin 4, f e := by
  have h4 : ∑ i ∈ Finset.range (cnt m), f (expert m i) = ∑ i ∈ Finset.range 4, f (expert m i) := by
    refine Finset.sum_subset (Finset.range_subset_range.mpr (cnt_le m)) fun i hi hn => ?_
    have h1 := Finset.mem_range.mp hi
    refine h _ ?_
    rw [expert_eq m h1]
    refine Bool.eq_false_iff.mpr fun ht => hn (Finset.mem_range.mpr ?_)
    exact ((cnt_flags (wants m 0)).2 ⟨i, h1⟩).mpr ht
  rw [h4, Finset.sum_range]
  have he : ∀ i : Fin 4, f (expert m i.val) = f (perm (wants m 0) i) := fun i => by rw [expert_eq m i.isLt]
  rw [Finset.sum_congr rfl fun i _ => he i]
  exact Function.Bijective.sum_comp ((Finite.injective_iff_bijective).mp (perm_injective (wants m 0))) f

end Cert.KernelIdeal.Hand
-- ==== Proof.Ideal.RefCodes.lean ====
/-
  The reference's values, read at an index: the codes of a packed byte, their sixteen values, the scaled weights.
-/
module

public import proofs.«01_k».proof.Proof.Gen.ReferenceIdeal.Read
public import proofs.«01_k».proof.Proof.Ideal.Chunk
public import proofs.«01_k».proof.Proof.Ideal.Weights
public import Idealize.ShloMosaic.Lib.Pipeline.ValueKit.Tiles

@[expose] public section
set_option maxRecDepth 8192
set_option maxHeartbeats 1000000
noncomputable section
namespace Cert.ReferenceIdeal.Hand
open Cert.ReferenceIdeal Cert.ReferenceIdeal.Gen Cert.ReferenceIdeal.Read
open Idealize.ShloMosaic hiding ix1 ix2 ix3 ix4
open Idealize.ShloMosaic.TcCoe Idealize.ShloMosaic.ValueIdx
open Cert.KernelIdeal.Hand (nf nib nfBits)

/-- The high code of a byte, as the reference shifts it out. -/
theorem hi_code : ∀ w : BitVec 8, IntOp.shrsi .host (w.setWidth 32) 4#32 = BitVec.ofNat 32 (nib 0 w) := by
  unfold nib; decide +kernel

/-- The low code of a byte, as the reference masks it out. -/
theorem lo_code : ∀ w : BitVec 8, IntOp.andi (w.setWidth 32) 15#32 = BitVec.ofNat 32 (nib 1 w) := by
  unfold nib; decide +kernel

/-- A code is one of sixteen. -/
theorem nib_lt (n : Fin 2) : ∀ w : BitVec 8, nib n.val w < 16 := by
  unfold nib; revert n; decide +kernel

/-- The codes, the high ones before the low ones. -/
theorem code_g (x3 : (⟨S4x3072x7168, .i8⟩ : BufTy).Contents (Elt Ideal)) (n : Fin 2) (e : Fin 4) (k : Fin 3072) (c : Fin 7168) :
    val_main_v9 (F := Ideal) x3 (ix4 n e k c) = BitVec.ofNat 32 (nib n.val (x3 (ix3 e k c))) := by
  unfold val_main_v9
  refine concatenate_unit_eq _ _ _ _ _ rfl ⟨fun h hr i hi hb => ?_, fun h hr i hi hb => ?_, trivial⟩
  · have hn : n.val = 0 := h
    have hv : idx_main_v7 i = ix3 e k c := funext fun a => Fin.ext (by
      match a with
      | ⟨0, _⟩ => exact hb 1 (by decide)
      | ⟨1, _⟩ => exact hb 2 (by decide)
      | ⟨2, _⟩ => exact hb 3 (by decide))
    show val_main_v7 (F := Ideal) x3 i = _
    rw [val_main_v7_apply, hv, hn]
    exact hi_code _
  · have hn : n.val = 1 := h
    have hv : idx_main_v8 i = ix3 e k c := funext fun a => Fin.ext (by
      match a with
      | ⟨0, _⟩ => exact hb 1 (by decide)
      | ⟨1, _⟩ => exact hb 2 (by decide)
      | ⟨2, _⟩ => exact hb 3 (by decide))
    show val_main_v8 (F := Ideal) x3 i = _
    rw [val_main_v8_apply, hv, hn]
    exact lo_code _

/-- The sixteen values by the four bits of the code. -/
theorem tree_g (x3 : (⟨S4x3072x7168, .i8⟩ : BufTy).Contents (Elt Ideal)) (i : S2x4x3072x7168.Idx) (n : Fin 16)
    (h : val_main_v9 (F := Ideal) x3 i = BitVec.ofNat 32 n.val) : val_main_v40 (F := Ideal) x3 i = nf n.val := by
  simp only [val_main_c_1_apply, val_main_v10_apply, val_main_v11_apply, val_main_c_2_apply, val_main_v12_apply, val_main_v13_apply, val_main_c_3_apply, val_main_v14_apply, val_main_v15_apply, val_main_c_4_apply, val_main_v16_apply, val_main_v17_apply, val_main_c_5_apply, val_main_v18_apply, val_main_v19_apply, val_main_c_6_apply, val_main_v20_apply, val_main_v21_apply, val_main_c_7_apply, val_main_v22_apply, val_main_v23_apply, val_main_c_8_apply, val_main_v24_apply, val_main_v25_apply, val_main_cst_apply, val_main_cst_9_apply, val_main_call0_v0_apply, val_main_call0_v1_apply, val_main_v26_apply, val_main_cst_10_apply, val_main_cst_11_apply, val_main_call1_v0_apply, val_main_call1_v1_apply, val_main_v27_apply, val_main_v28_apply, val_main_cst_12_apply, val_main_cst_13_apply, val_main_call3_v0_apply, val_main_call3_v1_apply, val_main_v29_apply, val_main_cst_14_apply, val_main_cst_15_apply, val_main_call4_v0_apply, val_main_call4_v1_apply, val_main_v30_apply, val_main_v31_apply, val_main_v32_apply, val_main_cst_16_apply, val_main_cst_17_apply, val_main_call7_v0_apply, val_main_call7_v1_apply, val_main_v33_apply, val_main_cst_18_apply, val_main_cst_19_apply, val_main_call8_v0_apply, val_main_call8_v1_apply, val_main_v34_apply, val_main_v35_apply, val_main_cst_20_apply, val_main_cst_21_apply, val_main_call10_v0_apply, val_main_call10_v1_apply, val_main_v36_apply, val_main_cst_22_apply, val_main_cst_23_apply, val_main_call11_v0_apply, val_main_call11_v1_apply, val_main_v37_apply, val_main_v38_apply, val_main_v39_apply, val_main_v40_apply, h]
  fin_cases n <;> rfl

/-- A scaled weight. -/
theorem deq_g (x3 : (⟨S4x3072x7168, .i8⟩ : BufTy).Contents (Elt Ideal)) (x4 : (⟨S4x3072x224, .f32⟩ : BufTy).Contents (Elt Ideal)) (n : Fin 2) (e : Fin 4) (k : Fin 3072) (c : Fin 7168) :
    val_main_v47 (F := Ideal) x3 x4 (ix4 n e k c) = (nf (nib n.val (x3 (ix3 e k c))) * x4 (ix3 e k ⟨c.val / 32, by omega⟩) : EReal) := by
  rw [val_main_v47_apply, val_main_v46_apply, val_main_v45_apply, val_main_v44_apply, val_main_v43_apply, val_main_v42_apply, val_main_v41_apply]
  have e1 : idx_main_v41 (idx_main_v47 (ix4 n e k c)) = ix4 n e k c := funext fun a => Fin.ext (by
    have h0 := n.isLt; have h1 := e.isLt; have h2 := k.isLt; have h3 := c.isLt
    match a with
    | ⟨0, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) / 88080384 = n.val; omega
    | ⟨1, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) / 22020096 % 4 = e.val; omega
    | ⟨2, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) / 7168 % 3072 = k.val; omega
    | ⟨3, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) % 7168 = c.val; omega)
  have e2 : idx_main_v43 (idx_main_v44 (idx_main_v45 (idx_main_v47 (ix4 n e k c)))) = ix3 e k ⟨c.val / 32, by omega⟩ := funext fun a => Fin.ext (by
    have h0 := n.isLt; have h1 := e.isLt; have h2 := k.isLt; have h3 := c.isLt
    match a with
    | ⟨0, _⟩ => show ((((n.val * 4 + e.val) * 3072 + k.val) * 7168 + c.val) / 22020096 % 4) = e.val; omega
    | ⟨1, _⟩ => show ((((n.val * 4 + e.val) * 3072 + k.val) * 7168 + c.val) / 7168 % 3072) = k.val; omega
    | ⟨2, _⟩ => show ((((n.val * 4 + e.val) * 3072 + k.val) * 7168 + c.val) / 32 % 224) = c.val / 32; omega)
  rw [e1, e2]
  have ht := tree_g x3 (ix4 n e k c) ⟨_, nib_lt n (x3 (ix3 e k c))⟩ (code_g x3 n e k c)
  rw [ht]
  rfl

/-- The codes, the high ones before the low ones. -/
theorem code_u (x5 : (⟨S4x3072x7168, .i8⟩ : BufTy).Contents (Elt Ideal)) (n : Fin 2) (e : Fin 4) (k : Fin 3072) (c : Fin 7168) :
    val_main_v56 (F := Ideal) x5 (ix4 n e k c) = BitVec.ofNat 32 (nib n.val (x5 (ix3 e k c))) := by
  unfold val_main_v56
  refine concatenate_unit_eq _ _ _ _ _ rfl ⟨fun h hr i hi hb => ?_, fun h hr i hi hb => ?_, trivial⟩
  · have hn : n.val = 0 := h
    have hv : idx_main_v54 i = ix3 e k c := funext fun a => Fin.ext (by
      match a with
      | ⟨0, _⟩ => exact hb 1 (by decide)
      | ⟨1, _⟩ => exact hb 2 (by decide)
      | ⟨2, _⟩ => exact hb 3 (by decide))
    show val_main_v54 (F := Ideal) x5 i = _
    rw [val_main_v54_apply, hv, hn]
    exact hi_code _
  · have hn : n.val = 1 := h
    have hv : idx_main_v55 i = ix3 e k c := funext fun a => Fin.ext (by
      match a with
      | ⟨0, _⟩ => exact hb 1 (by decide)
      | ⟨1, _⟩ => exact hb 2 (by decide)
      | ⟨2, _⟩ => exact hb 3 (by decide))
    show val_main_v55 (F := Ideal) x5 i = _
    rw [val_main_v55_apply, hv, hn]
    exact lo_code _

/-- The sixteen values by the four bits of the code. -/
theorem tree_u (x5 : (⟨S4x3072x7168, .i8⟩ : BufTy).Contents (Elt Ideal)) (i : S2x4x3072x7168.Idx) (n : Fin 16)
    (h : val_main_v56 (F := Ideal) x5 i = BitVec.ofNat 32 n.val) : val_main_v87 (F := Ideal) x5 i = nf n.val := by
  simp only [val_main_c_26_apply, val_main_v57_apply, val_main_v58_apply, val_main_c_27_apply, val_main_v59_apply, val_main_v60_apply, val_main_c_28_apply, val_main_v61_apply, val_main_v62_apply, val_main_c_29_apply, val_main_v63_apply, val_main_v64_apply, val_main_c_30_apply, val_main_v65_apply, val_main_v66_apply, val_main_c_31_apply, val_main_v67_apply, val_main_v68_apply, val_main_c_32_apply, val_main_v69_apply, val_main_v70_apply, val_main_c_33_apply, val_main_v71_apply, val_main_v72_apply, val_main_cst_34_apply, val_main_cst_35_apply, val_main_call15_v0_apply, val_main_call15_v1_apply, val_main_v73_apply, val_main_cst_36_apply, val_main_cst_37_apply, val_main_call16_v0_apply, val_main_call16_v1_apply, val_main_v74_apply, val_main_v75_apply, val_main_cst_38_apply, val_main_cst_39_apply, val_main_call18_v0_apply, val_main_call18_v1_apply, val_main_v76_apply, val_main_cst_40_apply, val_main_cst_41_apply, val_main_call19_v0_apply, val_main_call19_v1_apply, val_main_v77_apply, val_main_v78_apply, val_main_v79_apply, val_main_cst_42_apply, val_main_cst_43_apply, val_main_call22_v0_apply, val_main_call22_v1_apply, val_main_v80_apply, val_main_cst_44_apply, val_main_cst_45_apply, val_main_call23_v0_apply, val_main_call23_v1_apply, val_main_v81_apply, val_main_v82_apply, val_main_cst_46_apply, val_main_cst_47_apply, val_main_call25_v0_apply, val_main_call25_v1_apply, val_main_v83_apply, val_main_cst_48_apply, val_main_cst_49_apply, val_main_call26_v0_apply, val_main_call26_v1_apply, val_main_v84_apply, val_main_v85_apply, val_main_v86_apply, val_main_v87_apply, h]
  fin_cases n <;> rfl

/-- A scaled weight. -/
theorem deq_u (x5 : (⟨S4x3072x7168, .i8⟩ : BufTy).Contents (Elt Ideal)) (x6 : (⟨S4x3072x224, .f32⟩ : BufTy).Contents (Elt Ideal)) (n : Fin 2) (e : Fin 4) (k : Fin 3072) (c : Fin 7168) :
    val_main_v94 (F := Ideal) x5 x6 (ix4 n e k c) = (nf (nib n.val (x5 (ix3 e k c))) * x6 (ix3 e k ⟨c.val / 32, by omega⟩) : EReal) := by
  rw [val_main_v94_apply, val_main_v93_apply, val_main_v92_apply, val_main_v91_apply, val_main_v90_apply, val_main_v89_apply, val_main_v88_apply]
  have e1 : idx_main_v88 (idx_main_v94 (ix4 n e k c)) = ix4 n e k c := funext fun a => Fin.ext (by
    have h0 := n.isLt; have h1 := e.isLt; have h2 := k.isLt; have h3 := c.isLt
    match a with
    | ⟨0, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) / 88080384 = n.val; omega
    | ⟨1, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) / 22020096 % 4 = e.val; omega
    | ⟨2, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) / 7168 % 3072 = k.val; omega
    | ⟨3, _⟩ => show ((((((((n.val * 4 + e.val) * 3072 + k.val) * 7168 + c.val) / 88080384) * 4 + ((((n.val * 4 + e.val) * 3072 + k.val) * 7168 + c.val) / 22020096 % 4)) * 3072 + ((((n.val * 4 + e.val) * 3072 + k.val) * 7168 + c.val) / 7168 % 3072)) * 224 + ((((n.val * 4 + e.val) * 3072 + k.val) * 7168 + c.val) / 32 % 224)) * 32 + ((((n.val * 4 + e.val) * 3072 + k.val) * 7168 + c.val) % 32)) % 7168 = c.val; omega)
  have e2 : idx_main_v90 (idx_main_v91 (idx_main_v92 (idx_main_v94 (ix4 n e k c)))) = ix3 e k ⟨c.val / 32, by omega⟩ := funext fun a => Fin.ext (by
    have h0 := n.isLt; have h1 := e.isLt; have h2 := k.isLt; have h3 := c.isLt
    match a with
    | ⟨0, _⟩ => show ((((n.val * 4 + e.val) * 3072 + k.val) * 7168 + c.val) / 22020096 % 4) = e.val; omega
    | ⟨1, _⟩ => show ((((n.val * 4 + e.val) * 3072 + k.val) * 7168 + c.val) / 7168 % 3072) = k.val; omega
    | ⟨2, _⟩ => show ((((n.val * 4 + e.val) * 3072 + k.val) * 7168 + c.val) / 32 % 224) = c.val / 32; omega)
  rw [e1, e2]
  have ht := tree_u x5 (ix4 n e k c) ⟨_, nib_lt n (x5 (ix3 e k c))⟩ (code_u x5 n e k c)
  rw [ht]
  rfl

/-- The codes, the high ones before the low ones. -/
theorem code_d (x7 : (⟨S4x14336x1536, .i8⟩ : BufTy).Contents (Elt Ideal)) (n : Fin 2) (e : Fin 4) (k : Fin 14336) (c : Fin 1536) :
    val_main_v108 (F := Ideal) x7 (ix4 n e k c) = BitVec.ofNat 32 (nib n.val (x7 (ix3 e k c))) := by
  unfold val_main_v108
  refine concatenate_unit_eq _ _ _ _ _ rfl ⟨fun h hr i hi hb => ?_, fun h hr i hi hb => ?_, trivial⟩
  · have hn : n.val = 0 := h
    have hv : idx_main_v106 i = ix3 e k c := funext fun a => Fin.ext (by
      match a with
      | ⟨0, _⟩ => exact hb 1 (by decide)
      | ⟨1, _⟩ => exact hb 2 (by decide)
      | ⟨2, _⟩ => exact hb 3 (by decide))
    show val_main_v106 (F := Ideal) x7 i = _
    rw [val_main_v106_apply, hv, hn]
    exact hi_code _
  · have hn : n.val = 1 := h
    have hv : idx_main_v107 i = ix3 e k c := funext fun a => Fin.ext (by
      match a with
      | ⟨0, _⟩ => exact hb 1 (by decide)
      | ⟨1, _⟩ => exact hb 2 (by decide)
      | ⟨2, _⟩ => exact hb 3 (by decide))
    show val_main_v107 (F := Ideal) x7 i = _
    rw [val_main_v107_apply, hv, hn]
    exact lo_code _

/-- The sixteen values by the four bits of the code. -/
theorem tree_d (x7 : (⟨S4x14336x1536, .i8⟩ : BufTy).Contents (Elt Ideal)) (i : S2x4x14336x1536.Idx) (n : Fin 16)
    (h : val_main_v108 (F := Ideal) x7 i = BitVec.ofNat 32 n.val) : val_main_v139 (F := Ideal) x7 i = nf n.val := by
  simp only [val_main_c_52_apply, val_main_v109_apply, val_main_v110_apply, val_main_c_53_apply, val_main_v111_apply, val_main_v112_apply, val_main_c_54_apply, val_main_v113_apply, val_main_v114_apply, val_main_c_55_apply, val_main_v115_apply, val_main_v116_apply, val_main_c_56_apply, val_main_v117_apply, val_main_v118_apply, val_main_c_57_apply, val_main_v119_apply, val_main_v120_apply, val_main_c_58_apply, val_main_v121_apply, val_main_v122_apply, val_main_c_59_apply, val_main_v123_apply, val_main_v124_apply, val_main_cst_60_apply, val_main_cst_61_apply, val_main_call31_v0_apply, val_main_call31_v1_apply, val_main_v125_apply, val_main_cst_62_apply, val_main_cst_63_apply, val_main_call32_v0_apply, val_main_call32_v1_apply, val_main_v126_apply, val_main_v127_apply, val_main_cst_64_apply, val_main_cst_65_apply, val_main_call34_v0_apply, val_main_call34_v1_apply, val_main_v128_apply, val_main_cst_66_apply, val_main_cst_67_apply, val_main_call35_v0_apply, val_main_call35_v1_apply, val_main_v129_apply, val_main_v130_apply, val_main_v131_apply, val_main_cst_68_apply, val_main_cst_69_apply, val_main_call38_v0_apply, val_main_call38_v1_apply, val_main_v132_apply, val_main_cst_70_apply, val_main_cst_71_apply, val_main_call39_v0_apply, val_main_call39_v1_apply, val_main_v133_apply, val_main_v134_apply, val_main_cst_72_apply, val_main_cst_73_apply, val_main_call41_v0_apply, val_main_call41_v1_apply, val_main_v135_apply, val_main_cst_74_apply, val_main_cst_75_apply, val_main_call42_v0_apply, val_main_call42_v1_apply, val_main_v136_apply, val_main_v137_apply, val_main_v138_apply, val_main_v139_apply, h]
  fin_cases n <;> rfl

/-- A scaled weight. -/
theorem deq_d (x7 : (⟨S4x14336x1536, .i8⟩ : BufTy).Contents (Elt Ideal)) (x8 : (⟨S4x14336x48, .f32⟩ : BufTy).Contents (Elt Ideal)) (n : Fin 2) (e : Fin 4) (k : Fin 14336) (c : Fin 1536) :
    val_main_v146 (F := Ideal) x7 x8 (ix4 n e k c) = (nf (nib n.val (x7 (ix3 e k c))) * x8 (ix3 e k ⟨c.val / 32, by omega⟩) : EReal) := by
  rw [val_main_v146_apply, val_main_v145_apply, val_main_v144_apply, val_main_v143_apply, val_main_v142_apply, val_main_v141_apply, val_main_v140_apply]
  have e1 : idx_main_v140 (idx_main_v146 (ix4 n e k c)) = ix4 n e k c := funext fun a => Fin.ext (by
    have h0 := n.isLt; have h1 := e.isLt; have h2 := k.isLt; have h3 := c.isLt
    match a with
    | ⟨0, _⟩ => show ((((((((n.val * 4 + e.val) * 14336 + k.val) * 1536 + c.val) / 88080384) * 4 + ((((n.val * 4 + e.val) * 14336 + k.val) * 1536 + c.val) / 22020096 % 4)) * 14336 + ((((n.val * 4 + e.val) * 14336 + k.val) * 1536 + c.val) / 1536 % 14336)) * 48 + ((((n.val * 4 + e.val) * 14336 + k.val) * 1536 + c.val) / 32 % 48)) * 32 + ((((n.val * 4 + e.val) * 14336 + k.val) * 1536 + c.val) % 32)) / 88080384 = n.val; omega
    | ⟨1, _⟩ => show ((((((((n.val * 4 + e.val) * 14336 + k.val) * 1536 + c.val) / 88080384) * 4 + ((((n.val * 4 + e.val) * 14336 + k.val) * 1536 + c.val) / 22020096 % 4)) * 14336 + ((((n.val * 4 + e.val) * 14336 + k.val) * 1536 + c.val) / 1536 % 14336)) * 48 + ((((n.val * 4 + e.val) * 14336 + k.val) * 1536 + c.val) / 32 % 48)) * 32 + ((((n.val * 4 + e.val) * 14336 + k.val) * 1536 + c.val) % 32)) / 22020096 % 4 = e.val; omega
    | ⟨2, _⟩ => show ((((((((n.val * 4 + e.val) * 14336 + k.val) * 1536 + c.val) / 88080384) * 4 + ((((n.val * 4 + e.val) * 14336 + k.val) * 1536 + c.val) / 22020096 % 4)) * 14336 + ((((n.val * 4 + e.val) * 14336 + k.val) * 1536 + c.val) / 1536 % 14336)) * 48 + ((((n.val * 4 + e.val) * 14336 + k.val) * 1536 + c.val) / 32 % 48)) * 32 + ((((n.val * 4 + e.val) * 14336 + k.val) * 1536 + c.val) % 32)) / 1536 % 14336 = k.val; omega
    | ⟨3, _⟩ => show ((((((((n.val * 4 + e.val) * 14336 + k.val) * 1536 + c.val) / 88080384) * 4 + ((((n.val * 4 + e.val) * 14336 + k.val) * 1536 + c.val) / 22020096 % 4)) * 14336 + ((((n.val * 4 + e.val) * 14336 + k.val) * 1536 + c.val) / 1536 % 14336)) * 48 + ((((n.val * 4 + e.val) * 14336 + k.val) * 1536 + c.val) / 32 % 48)) * 32 + ((((n.val * 4 + e.val) * 14336 + k.val) * 1536 + c.val) % 32)) % 1536 = c.val; omega)
  have e2 : idx_main_v142 (idx_main_v143 (idx_main_v144 (idx_main_v146 (ix4 n e k c)))) = ix3 e k ⟨c.val / 32, by omega⟩ := funext fun a => Fin.ext (by
    have h0 := n.isLt; have h1 := e.isLt; have h2 := k.isLt; have h3 := c.isLt
    match a with
    | ⟨0, _⟩ => show ((((n.val * 4 + e.val) * 14336 + k.val) * 1536 + c.val) / 22020096 % 4) = e.val; omega
    | ⟨1, _⟩ => show ((((n.val * 4 + e.val) * 14336 + k.val) * 1536 + c.val) / 1536 % 14336) = k.val; omega
    | ⟨2, _⟩ => show ((((n.val * 4 + e.val) * 14336 + k.val) * 1536 + c.val) / 32 % 48) = c.val / 32; omega)
  rw [e1, e2]
  have ht := tree_d x7 (ix4 n e k c) ⟨_, nib_lt n (x7 (ix3 e k c))⟩ (code_d x7 n e k c)
  rw [ht]
  rfl

end Cert.ReferenceIdeal.Hand
-- ==== Proof.Ideal.RefVal.lean ====
/-
  The reference's value: per expert the sum of its chunks' down projections, weighted, and the experts added.
-/
module

public import proofs.«01_k».proof.Proof.Ideal.RefCodes
public import proofs.«01_k».proof.Proof.Ideal.Track

@[expose] public section
set_option maxRecDepth 8192
set_option maxHeartbeats 1000000
noncomputable section
namespace Cert.ReferenceIdeal.Hand
open Cert.ReferenceIdeal Cert.ReferenceIdeal.Gen Cert.ReferenceIdeal.Read
open Idealize.ShloMosaic hiding ix1 ix2 ix3 ix4
open Idealize.ShloMosaic.TcCoe Idealize.ShloMosaic.ValueIdx
open Cert.KernelIdeal.Hand (nf nib nfBits term proj gated hid hseq chunkSum wgt)

/-- What a chunk adds to an expert's projection. -/
def fdn (fx : ℕ → ℕ → EReal) (wg : ℕ → ℕ → BitVec 8) (sg : ℕ → ℕ → EReal) (wu : ℕ → ℕ → BitVec 8) (su : ℕ → ℕ → EReal)
    (wd : ℕ → ℕ → BitVec 8) (sd : ℕ → ℕ → EReal) (j p tok cc : ℕ) : EReal :=
  chunkSum fx (fun k c => wg k (512 * j + c)) sg (fun k c => wu k (512 * j + c)) su
    (fun k c => wd (1024 * j + k) c) (fun k c => sd (1024 * j + k) c) j p tok cc

/-- A hidden value by its place among all the hidden values. -/
def hall (fx : ℕ → ℕ → EReal) (wg : ℕ → ℕ → BitVec 8) (sg : ℕ → ℕ → EReal) (wu : ℕ → ℕ → BitVec 8) (su : ℕ → ℕ → EReal) (tok K : ℕ) : EReal :=
  hid fx wg (fun k c => sg k (c / 32)) wu (fun k c => su k (c / 32)) (K % 2) tok (K / 2)

/-- A summand of the whole down projection. -/
def dterm (fx : ℕ → ℕ → EReal) (wg : ℕ → ℕ → BitVec 8) (sg : ℕ → ℕ → EReal) (wu : ℕ → ℕ → BitVec 8) (su : ℕ → ℕ → EReal)
    (wd : ℕ → ℕ → BitVec 8) (sd : ℕ → ℕ → EReal) (p tok cc K : ℕ) : EReal :=
  hall fx wg sg wu su tok K * (nf (nib p (wd K cc)) * sd K (cc / 32))

/-- A chunk's hidden values are the whole's at the chunk's place. -/
theorem hseq_hall (fx : ℕ → ℕ → EReal) (wg : ℕ → ℕ → BitVec 8) (sg : ℕ → ℕ → EReal) (wu : ℕ → ℕ → BitVec 8) (su : ℕ → ℕ → EReal) (j tok q : ℕ) :
    hseq fx (fun k c => wg k (512 * j + c)) sg (fun k c => wu k (512 * j + c)) su j tok q = hall fx wg sg wu su tok (1024 * j + q) := by
  have a1 : (1024 * j + q) % 2 = q % 2 := by omega
  have a2 : (1024 * j + q) / 2 = 512 * j + q / 2 := by omega
  have a3 : 16 * j + q / 2 / 32 = (512 * j + q / 2) / 32 := by omega
  unfold hseq hall hid proj term
  rw [a1, a2]
  simp only [a3]

/-- A chunk's contribution as a sum. -/
theorem fdn_eq (fx : ℕ → ℕ → EReal) (wg : ℕ → ℕ → BitVec 8) (sg : ℕ → ℕ → EReal) (wu : ℕ → ℕ → BitVec 8) (su : ℕ → ℕ → EReal)
    (wd : ℕ → ℕ → BitVec 8) (sd : ℕ → ℕ → EReal) (j p tok cc : ℕ) :
    fdn fx wg sg wu su wd sd j p tok cc = ∑ q ∈ Finset.range 1024, dterm fx wg sg wu su wd sd p tok cc (1024 * j + q) := by
  unfold fdn chunkSum proj term dterm
  refine Finset.sum_congr rfl fun q _ => ?_
  rw [hseq_hall]

/-- A sum by chunks is the sum. -/
theorem sum_chunks (f : ℕ → EReal) (n : ℕ) : ∑ j ∈ Finset.range n, ∑ q ∈ Finset.range 1024, f (1024 * j + q) = ∑ k ∈ Finset.range (1024 * n), f k := by
  induction n with
  | zero => rfl
  | succ n ih =>
    rw [Finset.sum_range_succ, ih, Nat.mul_succ]
    exact (Finset.sum_range_add f (1024 * n) 1024).symm

/-- The chunks' contributions add up to the whole down projection. -/
theorem sum_fdn (fx : ℕ → ℕ → EReal) (wg : ℕ → ℕ → BitVec 8) (sg : ℕ → ℕ → EReal) (wu : ℕ → ℕ → BitVec 8) (su : ℕ → ℕ → EReal)
    (wd : ℕ → ℕ → BitVec 8) (sd : ℕ → ℕ → EReal) (p tok cc : ℕ) :
    ∑ j ∈ Finset.range 14, fdn fx wg sg wu su wd sd j p tok cc = ∑ k ∈ Finset.range 14336, dterm fx wg sg wu su wd sd p tok cc k :=
  (Finset.sum_congr rfl fun j _ => fdn_eq fx wg sg wu su wd sd j p tok cc).trans (sum_chunks _ 14)

section
variable (x0 : (⟨S48x1x3072, .bf16⟩ : BufTy).Contents (Elt Ideal)) (x1 : (⟨S48x1x2, .i32⟩ : BufTy).Contents (Elt Ideal)) (x2 : (⟨S48x1x2, .f32⟩ : BufTy).Contents (Elt Ideal))
  (x3 : (⟨S4x3072x7168, .i8⟩ : BufTy).Contents (Elt Ideal)) (x4 : (⟨S4x3072x224, .f32⟩ : BufTy).Contents (Elt Ideal)) (x5 : (⟨S4x3072x7168, .i8⟩ : BufTy).Contents (Elt Ideal)) (x6 : (⟨S4x3072x224, .f32⟩ : BufTy).Contents (Elt Ideal))
  (x7 : (⟨S4x14336x1536, .i8⟩ : BufTy).Contents (Elt Ideal)) (x8 : (⟨S4x14336x48, .f32⟩ : BufTy).Contents (Elt Ideal))
  (fx : ℕ → ℕ → EReal) (fid : ℕ → Fin 2 → BitVec 32) (fpw : ℕ → Fin 2 → EReal)
  (fwg : ℕ → ℕ → ℕ → BitVec 8) (fsg : ℕ → ℕ → ℕ → EReal) (fwu : ℕ → ℕ → ℕ → BitVec 8) (fsu : ℕ → ℕ → ℕ → EReal) (fwd : ℕ → ℕ → ℕ → BitVec 8) (fsd : ℕ → ℕ → ℕ → EReal)

/-- The arguments as functions of natural numbers. -/
structure Args : Prop where
  x : ∀ (tok : Fin 48) (k : Fin 3072), x0 (ix3 tok (0 : Fin 1) k) = fx tok.val k.val
  id : ∀ (tok : Fin 48) (a : Fin 2), x1 (ix3 tok (0 : Fin 1) a) = fid tok.val a
  pw : ∀ (tok : Fin 48) (a : Fin 2), x2 (ix3 tok (0 : Fin 1) a) = fpw tok.val a
  wg : ∀ (e : Fin 4) (k : Fin 3072) (c : Fin 7168), x3 (ix3 e k c) = fwg e.val k.val c.val
  sg : ∀ (e : Fin 4) (k : Fin 3072) (c : Fin 224), x4 (ix3 e k c) = fsg e.val k.val c.val
  wu : ∀ (e : Fin 4) (k : Fin 3072) (c : Fin 7168), x5 (ix3 e k c) = fwu e.val k.val c.val
  su : ∀ (e : Fin 4) (k : Fin 3072) (c : Fin 224), x6 (ix3 e k c) = fsu e.val k.val c.val
  wd : ∀ (e : Fin 4) (k : Fin 14336) (c : Fin 1536), x7 (ix3 e k c) = fwd e.val k.val c.val
  sd : ∀ (e : Fin 4) (k : Fin 14336) (c : Fin 48), x8 (ix3 e k c) = fsd e.val k.val c.val

variable {x0 x1 x2 x3 x4 x5 x6 x7 x8 fx fid fpw fwg fsg fwu fsu fwd fsd}
variable (A : Args x0 x1 x2 x3 x4 x5 x6 x7 x8 fx fid fpw fwg fsg fwu fsu fwd fsd)
include A

/-- The gate projection. -/
theorem ref_gate (e : Fin 4) (tok : Fin 48) (n : Fin 2) (c : Fin 7168) :
    val_main_v48 (F := Ideal) x0 x3 x4 (ix4 e tok n c) = proj fx (fwg e.val) (fun k c => fsg e.val k (c / 32)) 3072 n.val tok.val c.val := by
  rw [val_main_v48_apply]
  unfold proj
  rw [Finset.sum_range]
  refine Finset.sum_congr rfl fun k _ => ?_
  have e1 : lidx_main_v48 (ix4 e tok n c) k = ix3 e tok k := funext fun a => by
    match a with
    | ⟨0, _⟩ => rfl
    | ⟨1, _⟩ => rfl
    | ⟨2, _⟩ => rfl
  have e2 : ridx_main_v48 (ix4 e tok n c) k = ix4 n e k c := funext fun a => by
    match a with
    | ⟨0, _⟩ => rfl
    | ⟨1, _⟩ => rfl
    | ⟨2, _⟩ => rfl
    | ⟨3, _⟩ => rfl
  have e3 : idx_main_v0 (idx_main_v1 (ix3 e tok k)) = ix3 tok (0 : Fin 1) k := funext fun a => Fin.ext (by
    have h1 := tok.isLt; have h2 := k.isLt
    match a with
    | ⟨0, _⟩ => show ((0 * 48 + tok.val) * 3072 + k.val) / 3072 = tok.val; omega
    | ⟨1, _⟩ => rfl
    | ⟨2, _⟩ => show ((0 * 48 + tok.val) * 3072 + k.val) % 3072 = k.val; omega)
  rw [e1, e2, val_main_v1_apply, val_main_v0_apply, e3, deq_g, A.x, A.wg, A.sg]
  rfl

/-- The up projection. -/
theorem ref_up (e : Fin 4) (tok : Fin 48) (n : Fin 2) (c : Fin 7168) :
    val_main_v95 (F := Ideal) x0 x5 x6 (ix4 e tok n c) = proj fx (fwu e.val) (fun k c => fsu e.val k (c / 32)) 3072 n.val tok.val c.val := by
  rw [val_main_v95_apply]
  unfold proj
  rw [Finset.sum_range]
  refine Finset.sum_congr rfl fun k _ => ?_
  have e1 : lidx_main_v95 (ix4 e tok n c) k = ix3 e tok k := funext fun a => by
    match a with
    | ⟨0, _⟩ => rfl
    | ⟨1, _⟩ => rfl
    | ⟨2, _⟩ => rfl
  have e2 : ridx_main_v95 (ix4 e tok n c) k = ix4 n e k c := funext fun a => by
    match a with
    | ⟨0, _⟩ => rfl
    | ⟨1, _⟩ => rfl
    | ⟨2, _⟩ => rfl
    | ⟨3, _⟩ => rfl
  have e3 : idx_main_v0 (idx_main_v1 (ix3 e tok k)) = ix3 tok (0 : Fin 1) k := funext fun a => Fin.ext (by
    have h1 := tok.isLt; have h2 := k.isLt
    match a with
    | ⟨0, _⟩ => show ((0 * 48 + tok.val) * 3072 + k.val) / 3072 = tok.val; omega
    | ⟨1, _⟩ => rfl
    | ⟨2, _⟩ => show ((0 * 48 + tok.val) * 3072 + k.val) % 3072 = k.val; omega)
  rw [e1, e2, val_main_v1_apply, val_main_v0_apply, e3, deq_u, A.x, A.wu, A.su]
  rfl

/-- A hidden value. -/
theorem ref_hidden (e : Fin 4) (tok : Fin 48) (K : Fin 14336) :
    val_main_v100 (F := Ideal) x0 x3 x4 x5 x6 (ix3 e tok K) = hall fx (fwg e.val) (fsg e.val) (fwu e.val) (fsu e.val) tok.val K.val := by
  have e1 : idx_main_v99 (idx_main_v100 (ix3 e tok K)) = ix4 e tok (⟨K.val % 2, by omega⟩ : Fin 2) (⟨K.val / 2, by omega⟩ : Fin 7168) := funext fun a => Fin.ext (by
    have h0 := e.isLt; have h1 := tok.isLt; have h2 := K.isLt
    match a with
    | ⟨0, _⟩ => show ((e.val * 48 + tok.val) * 14336 + K.val) / 688128 = e.val; omega
    | ⟨1, _⟩ => show ((e.val * 48 + tok.val) * 14336 + K.val) / 14336 % 48 = tok.val; omega
    | ⟨2, _⟩ => show ((e.val * 48 + tok.val) * 14336 + K.val) % 2 = K.val % 2; omega
    | ⟨3, _⟩ => show ((e.val * 48 + tok.val) * 14336 + K.val) / 2 % 7168 = K.val / 2; omega)
  rw [val_main_v100_apply, val_main_v99_apply, e1, val_main_v98_apply, val_main_v97_apply, val_main_v96_apply, val_main_call30_v5_apply,
    val_main_call30_v4_apply, val_main_call30_v3_apply, val_main_call30_v2_apply, val_main_call30_v1_apply, val_main_call30_v0_apply,
    val_main_call30_cst_apply, val_main_call30_cst_0_apply, ref_gate A, ref_up A]
  unfold hall hid gated Ideal.logistic
  have h1 : FloatOps.ofBits (F := Ideal) .f32 0x3F800000#32 = (1 : EReal) := Ideal.ofBits_one_f32
  rw [h1]
  rfl

/-- The whole down projection. -/
theorem ref_down (e : Fin 4) (tok : Fin 48) (p : Fin 2) (cc : Fin 1536) :
    val_main_v147 (F := Ideal) x0 x3 x4 x5 x6 x7 x8 (ix4 e tok p cc)
      = ∑ j ∈ Finset.range 14, fdn fx (fwg e.val) (fsg e.val) (fwu e.val) (fsu e.val) (fwd e.val) (fsd e.val) j p.val tok.val cc.val := by
  rw [sum_fdn, val_main_v147_apply, Finset.sum_range]
  refine Finset.sum_congr rfl fun k _ => ?_
  have e1 : lidx_main_v147 (ix4 e tok p cc) k = ix3 e tok k := funext fun a => by
    match a with
    | ⟨0, _⟩ => rfl
    | ⟨1, _⟩ => rfl
    | ⟨2, _⟩ => rfl
  have e2 : ridx_main_v147 (ix4 e tok p cc) k = ix4 p e k cc := funext fun a => by
    match a with
    | ⟨0, _⟩ => rfl
    | ⟨1, _⟩ => rfl
    | ⟨2, _⟩ => rfl
    | ⟨3, _⟩ => rfl
  rw [e1, e2, ref_hidden A, deq_d, A.wd, A.sd]
  rfl

/-- The weight of an expert for a token. -/
theorem ref_weight (e : Fin 4) (tok : Fin 48) :
    val_main_v156 (F := Ideal) x1 x2 (ix2 e tok) = wgt fid fpw (BitVec.ofNat 32 e.val) tok.val := by
  rw [val_main_v156_apply]
  have h0 : (val_main_cst_77 (F := Ideal)) (Shape.Idx.first h_S_) = (0 : EReal) := Ideal.ofBits_zero_f32
  rw [h0, zero_add]
  unfold wgt
  refine Finset.sum_congr rfl fun a _ => ?_
  have e1 : idx_main_v156 (ix2 e tok) a = ix3 e tok a := funext fun b => by
    match b with
    | ⟨0, _⟩ => rfl
    | ⟨1, _⟩ => rfl
    | ⟨2, _⟩ => rfl
  have e2 : idx_main_v150 (idx_main_v151 (ix3 e tok a)) = ix3 tok (0 : Fin 1) a := funext fun b => Fin.ext (by
    have h1 := tok.isLt; have h2 := a.isLt
    match b with
    | ⟨0, _⟩ => show ((0 * 48 + tok.val) * 2 + a.val) / 2 = tok.val; omega
    | ⟨1, _⟩ => rfl
    | ⟨2, _⟩ => show ((0 * 48 + tok.val) * 2 + a.val) % 2 = a.val; omega)
  have e3 : idx_main_v154 (idx_main_call46_v1 (ix3 e tok a)) = ix3 tok (0 : Fin 1) a := e2
  have hz : FloatOps.ofBits (F := Ideal) .f32 0x00000000#32 = (0 : EReal) := Ideal.ofBits_zero_f32
  have hi : val_main_v148 (F := Ideal) (idx_main_v149 (idx_main_v152 (ix3 e tok a))) = BitVec.ofNat 32 e.val := by
    rw [val_main_v148_apply]
    refine congrArg (BitVec.ofNat 32) ?_
    show (e.val * 1 + 0) * 1 + 0 = e.val
    omega
  rw [e1, val_main_v155_apply, val_main_v153_apply, val_main_v151_apply, val_main_v150_apply, e2, val_main_v152_apply, val_main_v149_apply, hi,
    val_main_call46_v1_apply, val_main_v154_apply, e3, val_main_call46_v2_apply, val_main_call46_v0_apply, val_main_cst_76_apply, hz, A.id, A.pw]
  by_cases h : fid tok.val a = BitVec.ofNat 32 e.val
  · rw [if_pos h]
    show Scalar.select (BitVec.ofBool (decide (fid tok.val a = BitVec.ofNat 32 e.val))) _ _ = _
    rw [decide_eq_true h]; rfl
  · rw [if_neg h]
    show Scalar.select (BitVec.ofBool (decide (fid tok.val a = BitVec.ofNat 32 e.val))) _ _ = _
    rw [decide_eq_false h]; rfl

/-- The reference's result. -/
theorem ref_value (p : Fin 2) (tok : Fin 48) (cc : Fin 1536) :
    val_main_v161 (F := Ideal) x0 x1 x2 x3 x4 x5 x6 x7 x8 (ix3 p tok cc)
      = ∑ e : Fin 4, (∑ j ∈ Finset.range 14, fdn fx (fwg e.val) (fsg e.val) (fwu e.val) (fsu e.val) (fwd e.val) (fsd e.val) j p.val tok.val cc.val)
        * wgt fid fpw (BitVec.ofNat 32 e.val) tok.val := by
  have h0 : (val_main_cst_78 (F := Ideal)) (Shape.Idx.first h_S_) = (0 : EReal) := Ideal.ofBits_zero_f32
  have e0 : idx_main_v161 (ix3 p tok cc) = ix3 tok p cc := funext fun b => by
    match b with
    | ⟨0, _⟩ => rfl
    | ⟨1, _⟩ => rfl
    | ⟨2, _⟩ => rfl
  rw [val_main_v161_apply, e0, val_main_v160_apply, h0, zero_add]
  refine Finset.sum_congr rfl fun e _ => ?_
  have e1 : idx_main_v160 (ix3 tok p cc) e = ix4 e tok p cc := funext fun b => by
    match b with
    | ⟨0, _⟩ => rfl
    | ⟨1, _⟩ => rfl
    | ⟨2, _⟩ => rfl
    | ⟨3, _⟩ => rfl
  have e2 : idx_main_v157 (idx_main_v158 (ix4 e tok p cc)) = ix2 e tok := funext fun b => by
    match b with
    | ⟨0, _⟩ => rfl
    | ⟨1, _⟩ => rfl
  rw [e1, val_main_v159_apply, val_main_v158_apply, val_main_v157_apply, e2, ref_down A, ref_weight A]
  rfl
end

end Cert.ReferenceIdeal.Hand
-- ==== Proof.Ideal.Join.lean ====
/-
  The kernel's result is the reference's: both are, per entry, the sum over the experts of the weighted down projection.
-/
module

public import proofs.«01_k».proof.Defs
public import proofs.«01_k».proof.Proof.Ideal.Final
public import proofs.«01_k».proof.Proof.Ideal.Wants
public import proofs.«01_k».proof.Proof.Ideal.RefVal
public import proofs.«01_k».proof.Proof.Ideal.Frame
public import Idealize.ShloMosaic.Lib.Pointwise.Reshape

@[expose] public section
set_option maxRecDepth 8192
set_option maxHeartbeats 1000000
noncomputable section
namespace Cert.KernelIdeal.Hand
open Cert.KernelIdeal Cert.KernelIdeal.Gen
open Idealize.ShloMosaic hiding ix1 ix2 ix3 ix4
open Idealize.ShloMosaic.TcCoe Idealize.ShloMosaic.ValueIdx Idealize.SL.Sem

/-- The facts the precondition's function states. -/
theorem preFacts : Cert.Pre_some_choice.Facts where
  shapeCasts_S48x1x2_S96x1 := by decide
  bcast_S4_S1x4_1 := by decide
  bcast_S96x1_S96x4_0_1 := by decide
  bcast_S1x4_S96x4_0_1 := by decide
  reducesTo_S96x4_S_d0_1 := by decide
  h_S_ := by decide

variable (m : (ℓ : Loc nD τ sig) → Buf (Elt Ideal) ℓ)

/-- The reference's result at the kernel's arguments. -/
def refOf (c : Dev nD) : S2x48x1536.Idx → EReal :=
  Cert.ReferenceIdeal.Read.val_main_v161 (F := Ideal) (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5)) (m ((c.tc : Thread nD τ).loc main_arg6)) (m ((c.tc : Thread nD τ).loc main_arg7))
    (m ((c.tc : Thread nD τ).loc main_arg8))

/-- The activations, through the host's reshape and transpose. -/
theorem arg_x (tok : Fin 48) (k : Fin 3072) :
    (m (((0 : Dev nD).tc : Thread nD τ).loc main_arg0) : S48x1x3072.Idx → EReal) (ix3 tok (0 : Fin 1) k) = gx m tok.val k.val := by
  unfold gx
  rw [at3_eq _ _ (by omega : k.val % 2 < 2) tok.isLt (by omega : k.val / 2 < 1536), V_v2]
  refine ((transpose_apply [2, 0, 1] _ transposes_S48x1536x2_S2x48x1536_2_0_1 _
    (ix3 tok (⟨k.val / 2, by omega⟩ : Fin 1536) (⟨k.val % 2, by omega⟩ : Fin 2)) (fun b => match b with
      | ⟨0, _⟩ => rfl
      | ⟨1, _⟩ => rfl
      | ⟨2, _⟩ => rfl)).trans ?_).symm
  exact shapeCast_apply _ shapeCasts_S48x1x3072_S48x1536x2 _ (ix3 tok (0 : Fin 1) k) (by
    rw [Shape.rowMajor_val_three, Shape.rowMajor_val_three]
    show (tok.val * 1 + 0) * 3072 + k.val = (tok.val * 1536 + k.val / 2) * 2 + k.val % 2
    omega)

/-- The expert numbers, through the host's reshape. -/
theorem arg_id (tok : Fin 48) (a : Fin 2) :
    (m (((0 : Dev nD).tc : Thread nD τ).loc main_arg1) : S48x1x2.Idx → BitVec 32) (ix3 tok (0 : Fin 1) a) = gid m tok.val a := by
  unfold gid
  rw [dif_pos tok.isLt, V_v3]
  unfold ids
  exact (shapeCast_apply _ shapeCasts_S48x1x2_S48x2 _ (ix3 tok (0 : Fin 1) a) (by
    rw [Shape.rowMajor_val_three, Shape.rowMajor_val_two]
    show (tok.val * 1 + 0) * 2 + a.val = tok.val * 2 + a.val
    omega)).symm

/-- The expert weights, through the host's reshape. -/
theorem arg_pw (tok : Fin 48) (a : Fin 2) :
    (m (((0 : Dev nD).tc : Thread nD τ).loc main_arg2) : S48x1x2.Idx → EReal) (ix3 tok (0 : Fin 1) a) = gpw m tok.val a := by
  unfold gpw
  rw [dif_pos tok.isLt, V_v15]
  exact (shapeCast_apply _ shapeCasts_S48x1x2_S48x2 _ (ix3 tok (0 : Fin 1) a) (by
    rw [Shape.rowMajor_val_three, Shape.rowMajor_val_two]
    show (tok.val * 1 + 0) * 2 + a.val = tok.val * 2 + a.val
    omega)).symm

/-- The arguments, as the kernel's and the reference's values name them. -/
theorem args : Cert.ReferenceIdeal.Hand.Args (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3)) (m (((0 : Dev nD).tc : Thread nD τ).loc main_arg4))
    (m (((0 : Dev nD).tc : Thread nD τ).loc main_arg5)) (m (((0 : Dev nD).tc : Thread nD τ).loc main_arg6)) (m (((0 : Dev nD).tc : Thread nD τ).loc main_arg7))
    (m (((0 : Dev nD).tc : Thread nD τ).loc main_arg8)) (gx m) (gid m) (gpw m) (gwg m) (gsg m) (gwu m) (gsu m) (gwd m) (gsd m) where
  x := arg_x m
  id := arg_id m
  pw := arg_pw m
  wg e k c := by unfold gwg; rw [at3_eq _ _ e.isLt k.isLt c.isLt, V_arg3]
  sg e k c := by unfold gsg; rw [at3_eq _ _ e.isLt k.isLt c.isLt, V_arg4]
  wu e k c := by unfold gwu; rw [at3_eq _ _ e.isLt k.isLt c.isLt, V_arg5]
  su e k c := by unfold gsu; rw [at3_eq _ _ e.isLt k.isLt c.isLt, V_arg6]
  wd e k c := by unfold gwd; rw [at3_eq _ _ e.isLt k.isLt c.isLt, V_arg7]
  sd e k c := by unfold gsd; rw [at3_eq _ _ e.isLt k.isLt c.isLt, V_arg8]

/-- The kernel's sum over the experts it visits is the reference's over all. -/
theorem out_ref (p : Fin 2) (tok : Fin 48) (cc : Fin 1536) :
    ∑ i ∈ Finset.range (cnt m), tot m (expert m i).val p.val tok.val cc.val = refOf m 0 (ix3 p tok cc) := by
  refine (sum_wanted m (fun e => tot m e.val p.val tok.val cc.val) (fun e h => ?_)).trans ?_
  · unfold tot
    rw [gw_zero m e h tok, mul_zero]
  · exact (Cert.ReferenceIdeal.Hand.ref_value (args m) p tok cc).symm

/-- Under the precondition some expert is wanted. -/
theorem cnt_pos_of_pre (h : Cert.Pre_KernelIdeal_some_choice (hPre_some_choice := preFacts) m) : 0 < cnt m := by
  refine cnt_pos m preFacts.reducesTo_S96x4_S_d0_1 preFacts.h_S_ ?_
  have h0 := congrFun (h 0) (fun a => a.elim0)
  have hx : shapeCast S96x1 (ids m 0) shapeCasts_S48x2_S96x1
      = shapeCast S96x1 (m (((0 : Dev nD).tc : Thread nD τ).loc main_arg1)) preFacts.shapeCasts_S48x1x2_S96x1 := by
    unfold ids
    exact shapeCast_comp _ _ _
  unfold asks
  rw [hx]
  exact h0

/-- The kernel's run, its result the reference's. -/
theorem run_value (g : Dev nD → PrngReg) (hc : 0 < cnt m) :
    θ_run (defs (F := Ideal)) (onTc (τ := τ) (main (F := Ideal))) ⟨m, fun _ => 0, g⟩ (fun r => ∀ c : Dev nD,
      r.2.mem ((c.tc : Thread nD τ).loc main_v16) = refOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run _ _ _).mono (fun r (h : _ ∧ _) c => ⟨?_, args_kept h.1 c⟩)
    (run_main m (Inv m) (aft m) g (fun _ _ _ _ _ _ h => absurd rfl h) (steps m))
  obtain rfl : c = 0 := Subsingleton.elim c 0
  have ho := out_arr m hc _ ((h.1 0).1 10)
  refine funext fun (i : S2x48x1536.Idx) => ?_
  have hi : i = ix3 (i 0) (i 1) (i 2) := funext fun b => match b with
    | ⟨0, _⟩ => rfl
    | ⟨1, _⟩ => rfl
    | ⟨2, _⟩ => rfl
  rw [hi]
  exact (ho (i 0) (i 1) (i 2)).trans (out_ref m (i 0) (i 1) (i 2))

end Cert.KernelIdeal.Hand
-- ==== Proof.lean ====
/- The proof of the certificate's claims, assembled from the modules under Proof/. -/
module

public import proofs.«01_k».proof.Defs
public import proofs.«01_k».proof.Proof.Ideal.Frame
public import proofs.«01_k».proof.Proof.Bits.Frame
public import proofs.«01_k».proof.Proof.Ideal.Join
public import proofs.«01_k».proof.Proof.Gen.ReferenceIdeal.Read

@[expose] public section

set_option maxRecDepth 8192

noncomputable section

namespace Cert.Proof

open Idealize.ShloMosaic Idealize.SL.Sem

/-- The reference runs to its end with its arguments unchanged; it declares no semaphore. -/
theorem frame_ref : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference end with equal results. -/
theorem algebraic : Cert.algebraic_KernelIdeal_ReferenceIdeal_pre_some_choice (hPre_some_choice := Cert.KernelIdeal.Hand.preFacts) := by
  intro m g m' g' hp ha
  refine ⟨Cert.KernelIdeal.Hand.refOf m, Cert.KernelIdeal.Hand.run_value m g (Cert.KernelIdeal.Hand.cnt_pos_of_pre m hp), ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v161_eq (StableHlo.launchContents m' c))).trans ?_
  obtain ⟨a0, a1, a2, a3, a4, a5, a6, a7, a8⟩ := ha c
  show Cert.ReferenceIdeal.Read.val_main_v161 (F := Ideal)
    (m' ((c.tc : Thread Cert.ReferenceIdeal.nD Cert.ReferenceIdeal.τ).loc Cert.ReferenceIdeal.main_arg0))
    (m' ((c.tc : Thread Cert.ReferenceIdeal.nD Cert.ReferenceIdeal.τ).loc Cert.ReferenceIdeal.main_arg1))
    (m' ((c.tc : Thread Cert.ReferenceIdeal.nD Cert.ReferenceIdeal.τ).loc Cert.ReferenceIdeal.main_arg2))
    (m' ((c.tc : Thread Cert.ReferenceIdeal.nD Cert.ReferenceIdeal.τ).loc Cert.ReferenceIdeal.main_arg3))
    (m' ((c.tc : Thread Cert.ReferenceIdeal.nD Cert.ReferenceIdeal.τ).loc Cert.ReferenceIdeal.main_arg4))
    (m' ((c.tc : Thread Cert.ReferenceIdeal.nD Cert.ReferenceIdeal.τ).loc Cert.ReferenceIdeal.main_arg5))
    (m' ((c.tc : Thread Cert.ReferenceIdeal.nD Cert.ReferenceIdeal.τ).loc Cert.ReferenceIdeal.main_arg6))
    (m' ((c.tc : Thread Cert.ReferenceIdeal.nD Cert.ReferenceIdeal.τ).loc Cert.ReferenceIdeal.main_arg7))
    (m' ((c.tc : Thread Cert.ReferenceIdeal.nD Cert.ReferenceIdeal.τ).loc Cert.ReferenceIdeal.main_arg8)) = _
  rw [a0, a1, a2, a3, a4, a5, a6, a7, a8]
  rfl

/-- Everything the certificate claims. -/
theorem claim : Cert.Claim := ⟨Cert.Kernel.Gen.facts, Cert.KernelIdeal.Gen.facts, Cert.ReferenceIdeal.Gen.facts, Cert.KernelIdeal.Hand.preFacts,
  fun m g _ => Cert.Kernel.Hand.frame_all m g, fun m g _ => Cert.KernelIdeal.Hand.frame_all m g,
  fun m g _ => Cert.KernelIdeal.Hand.frame_all m g, frame_ref, fun m g _ => frame_ref m g trivial, trivial, algebraic⟩

end Cert.Proof

end
